-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v39_0)) (v1 : (c : Dev Cert.Kernel3Ideal.nD) → Buf (Elt Ideal) ((c.tc : Thread Cert.Kernel3Ideal.nD Cert.Kernel3Ideal.τ).loc Cert.Kernel3Ideal.main_v39_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v39_0) = v0 c
          ∧ r.2.mem ((c.tc : Thread Cert.Kernel3Ideal.nD Cert.Kernel3Ideal.τ).loc Cert.Kernel3Ideal.main_v39_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v367) = v0 c
          ∧ r.2.mem ((c.tc : Thread Cert.Reference3Ideal.nD Cert.Reference3Ideal.τ).loc Cert.Reference3Ideal.main_v368) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S12288x1024 : Shape := ⟨2, ![12288, 1024]⟩
abbrev S8x9216 : Shape := ⟨2, ![8, 9216]⟩
abbrev S1x3x1024 : Shape := ⟨3, ![1, 3, 1024]⟩
abbrev S1x1024x5632 : Shape := ⟨3, ![1, 1024, 5632]⟩
abbrev S1x2816x1024 : Shape := ⟨3, ![1, 2816, 1024]⟩
abbrev S1024 : Shape := ⟨1, ![1024]⟩
abbrev S8x9x1024 : Shape := ⟨3, ![8, 9, 1024]⟩
abbrev S3x1024 : Shape := ⟨2, ![3, 1024]⟩
abbrev S1x1024 : Shape := ⟨2, ![1, 1024]⟩
abbrev S1024x5632 : Shape := ⟨2, ![1024, 5632]⟩
abbrev S2816x1024 : Shape := ⟨2, ![2816, 1024]⟩
abbrev S4096x1024 : Shape := ⟨2, ![4096, 1024]⟩
abbrev S8192x1024 : Shape := ⟨2, ![8192, 1024]⟩
abbrev S512x1024 : Shape := ⟨2, ![512, 1024]⟩
abbrev S1x9x1024 : Shape := ⟨3, ![1, 9, 1024]⟩
abbrev S1x1x1024 : Shape := ⟨3, ![1, 1, 1024]⟩
abbrev S512 : Shape := ⟨1, ![512]⟩
abbrev S512x1 : Shape := ⟨2, ![512, 1]⟩
abbrev S4x1024x256 : Shape := ⟨3, ![4, 1024, 256]⟩
abbrev S4x256x1024 : Shape := ⟨3, ![4, 256, 1024]⟩
abbrev S3x4 : Shape := ⟨2, ![3, 4]⟩
abbrev S1x1 : Shape := ⟨2, ![1, 1]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S512x256 : Shape := ⟨2, ![512, 256]⟩

abbrev nBuf : Space → Nat
  | .hbm => 13
  | .vmem => 15
  | .smem => 0
  | _ => 0

abbrev bufTy : (tb : Table) → Fin (tcTables nBuf tb) → BufTy
  | .hbm, ⟨0, _⟩ => ⟨S12288x1024, .f32⟩
  | .hbm, ⟨1, _⟩ => ⟨S8x9216, .f32⟩
  | .hbm, ⟨2, _⟩ => ⟨S1x3x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S8x9x1024, .f32⟩
  | .hbm, ⟨7, _⟩ => ⟨S3x1024, .f32⟩
  | .hbm, ⟨8, _⟩ => ⟨S1x1024, .f32⟩
  | .hbm, ⟨9, _⟩ => ⟨S1024x5632, .f32⟩
  | .hbm, ⟨10, _⟩ => ⟨S2816x1024, .f32⟩
  | .hbm, ⟨11, _⟩ => ⟨S4096x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x5632, .bf16⟩
  | .local _ .vmem, ⟨11, _⟩ => ⟨S2816x1024, .bf16⟩
  | .local _ .vmem, ⟨12, _⟩ => ⟨S4x1024x256, .f32⟩
  | .local _ .vmem, ⟨13, _⟩ => ⟨S4x1024x256, .f32⟩
  | .local _ .vmem, ⟨14, _⟩ => ⟨S4x256x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scoped0 : Ref sig .tc := ⟨.vmem, 12, rfl⟩
abbrev cc0_scoped1 : Ref sig .tc := ⟨.vmem, 13, rfl⟩
abbrev cc0_scoped2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_9 : BitVec 32 := 0#32
  let v27 : BitVec 1 := Scalar.cmpi .ne v26 c0_i32_9
  v27

def k0_cond2 (i : grid0.Coords) : BitVec 1 :=
  let arg0 : BitVec 32 := BitVec.ofNat 32 (i 0).val
  let c8_i32_r0 : BitVec 32 := 8#32
  let v767_r0 : BitVec 1 := Scalar.cmpi .slt arg0 c8_i32_r0
  let v768_r0 : BitVec 32 := Scalar.extui v767_r0
  let c0_i32_734_r0 : BitVec 32 := 0#32
  let v769_r0 : BitVec 1 := Scalar.cmpi .ne v768_r0 c0_i32_734_r0
  v769_r0

def k0_cond4 (i : grid0.Coords) : BitVec 1 :=
  let arg0 : BitVec 32 := BitVec.ofNat 32 (i 0).val
  let c0_i32_10 : BitVec 32 := 0#32
  let v28 : BitVec 1 := Scalar.cmpi .sgt arg0 c0_i32_10
  let v29 : BitVec 32 := Scalar.extui v28
  let c0_i32_11 : BitVec 32 := 0#32
  let v30 : BitVec 1 := Scalar.cmpi .ne v29 c0_i32_11
  v30

def k0_cond5 (i : grid0.Coords) : BitVec 1 :=
  let arg0 : BitVec 32 := BitVec.ofNat 32 (i 0).val
  let c8_i32 : BitVec 32 := 8#32
  let v238 : BitVec 1 := Scalar.cmpi .slt arg0 c8_i32
  let v239 : BitVec 32 := Scalar.extui v238
  let c0_i32_131 : BitVec 32 := 0#32
  let v240 : BitVec 1 := Scalar.cmpi .ne v239 c0_i32_131
  v240

def k0_cond3 (i : grid0.Coords) : BitVec 1 :=
  let arg0 : BitVec 32 := BitVec.ofNat 32 (i 0).val
  let c8_i32_735_r0 : BitVec 32 := 8#32
  let v770_r0 : BitVec 1 := Scalar.cmpi .sge arg0 c8_i32_735_r0
  let v771_r0 : BitVec 32 := Scalar.extui v770_r0
  let c0_i32_736_r0 : BitVec 32 := 0#32
  let v772_r0 : BitVec 1 := Scalar.cmpi .ne v771_r0 c0_i32_736_r0
  v772_r0

def k0_cond6 (i : grid0.Coords) : BitVec 1 :=
  let arg0 : BitVec 32 := BitVec.ofNat 32 (i 0).val
  let c8_i32_132 : BitVec 32 := 8#32
  let v241 : BitVec 1 := Scalar.cmpi .sge arg0 c8_i32_132
  let v242 : BitVec 32 := Scalar.extui v241
  let c0_i32_133 : BitVec 32 := 0#32
  let v243 : BitVec 1 := Scalar.cmpi .ne v242 c0_i32_133
  v243

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 1 := Scalar.cmpi .slt arg0 c8_i32
  let c512_i32 : BitVec 32 := 512#32
  let v1 : BitVec 32 := Scalar.muli arg0 c512_i32
  let c4096_i32 : BitVec 32 := 4096#32
  let v2 : BitVec 32 := Scalar.subi v1 c4096_i32
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2048_i32 c0_i32_1
  let v10 : BitVec 32 := Scalar.extui v9
  let c0_i32_2 : BitVec 32 := 0#32
  let v11 : BitVec 1 := Scalar.cmpi .slt c2048_i32 c0_i32_2
  let v12 : BitVec 32 := Scalar.extui v11
  let v13 : BitVec 32 := Scalar.subi v10 v12
  let v14 : BitVec 1 := Scalar.cmpi .ne v8 v13
  let v15 : BitVec 32 := Scalar.remsi v2 c2048_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi c1_i32_4 v19
  let c0_i32_5 : BitVec 32 := 0#32
  let v21 : BitVec 32 := Scalar.select v0 c0_i32_5 v20
  let c0_i32_6 : BitVec 32 := 0#32
  let c0_i32_7 : BitVec 32 := 0#32
  let c0_i32_8 : BitVec 32 := 0#32
  ![v21.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S12288x1024 : Shape := ⟨2, ![12288, 1024]⟩
abbrev S8x9216 : Shape := ⟨2, ![8, 9216]⟩
abbrev S1x3x1024 : Shape := ⟨3, ![1, 3, 1024]⟩
abbrev S1x1024x5632 : Shape := ⟨3, ![1, 1024, 5632]⟩
abbrev S1x2816x1024 : Shape := ⟨3, ![1, 2816, 1024]⟩
abbrev S1024 : Shape := ⟨1, ![1024]⟩
abbrev S4096x1024 : Shape := ⟨2, ![4096, 1024]⟩
abbrev S16x256x1024 : Shape := ⟨3, ![16, 256, 1024]⟩
abbrev S8192x1024 : Shape := ⟨2, ![8192, 1024]⟩
abbrev S4x2048x1024 : Shape := ⟨3, ![4, 2048, 1024]⟩
abbrev S1x9216 : Shape := ⟨2, ![1, 9216]⟩
abbrev S9216 : Shape := ⟨1, ![9216]⟩
abbrev S1x1x9216 : Shape := ⟨3, ![1, 1, 9216]⟩
abbrev S4x9216 : Shape := ⟨2, ![4, 9216]⟩
abbrev S4x1x9216 : Shape := ⟨3, ![4, 1, 9216]⟩
abbrev S3x1024 : Shape := ⟨2, ![3, 1024]⟩
abbrev S1x1x1024 : Shape := ⟨3, ![1, 1, 1024]⟩
abbrev S_ : Shape := ⟨0, ![]⟩
abbrev S1x1024 : Shape := ⟨2, ![1, 1024]⟩
abbrev S16x256 : Shape := ⟨2, ![16, 256]⟩
abbrev S16x256x1 : Shape := ⟨3, ![16, 256, 1]⟩
abbrev S1024x5632 : Shape := ⟨2, ![1024, 5632]⟩
abbrev S2816x1024 : Shape := ⟨2, ![2816, 1024]⟩
abbrev S16x256x5632 : Shape := ⟨3, ![16, 256, 5632]⟩
abbrev S16x256x2816 : Shape := ⟨3, ![16, 256, 2816]⟩
abbrev S4x1x1024 : Shape := ⟨3, ![4, 1, 1024]⟩
abbrev S4x2048 : Shape := ⟨2, ![4, 2048]⟩
abbrev S4x2048x1 : Shape := ⟨3, ![4, 2048, 1]⟩
abbrev S4x2048x5632 : Shape := ⟨3, ![4, 2048, 5632]⟩
abbrev S4x2048x2816 : Shape := ⟨3, ![4, 2048, 2816]⟩

abbrev nBuf : Space → Nat
  | .hbm => 162
  | .vmem => 0
  | .smem => 0
  | _ => 0

abbrev hbmTy0_0 (i : Nat) : BufTy := match i % 128 with
  | 0 => ⟨S12288x1024, .f32⟩
  | 1 => ⟨S8x9216, .f32⟩
  | 2 => ⟨S1x3x1024, .f32⟩
  | 3 => ⟨S1x1024x5632, .f32⟩
  | 4 => ⟨S1x2816x1024, .f32⟩
  | 5 => ⟨S1024, .f32⟩
  | 6 => ⟨S4096x1024, .f32⟩
  | 7 => ⟨S16x256x1024, .f32⟩
  | 8 => ⟨S8192x1024, .f32⟩
  | 9 => ⟨S4x2048x1024, .f32⟩
  | 10 => ⟨S1x9216, .f32⟩
  | 11 => ⟨S9216, .f32⟩
  | 12 => ⟨S1x1x9216, .f32⟩
  | 13 => ⟨S4x9216, .f32⟩
  | 14 => ⟨S4x1x9216, .f32⟩
  | 15 => ⟨S3x1024, .f32⟩
  | 16 => ⟨S1x1x1024, .f32⟩
  | 17 => ⟨S1x1x1024, .f32⟩
  | 18 => ⟨S1x1x1024, .f32⟩
  | 19 => ⟨S1x1x1024, .f32⟩
  | 20 => ⟨S1x1x1024, .f32⟩
  | 21 => ⟨S1x1x1024, .f32⟩
  | 22 => ⟨S1x1x1024, .f32⟩
  | 23 => ⟨S1x1x1024, .f32⟩
  | 24 => ⟨S1x1x1024, .f32⟩
  | 25 => ⟨S_, .f32⟩
  | 26 => ⟨S1x1x1024, .f32⟩
  | 27 => ⟨S1x1x1024, .f32⟩
  | 28 => ⟨S1x1024, .f32⟩
  | 29 => ⟨S1024, .f32⟩
  | 30 => ⟨S16x256x1024, .f32⟩
  | 31 => ⟨S_, .f32⟩
  | 32 => ⟨S16x256, .f32⟩
  | 33 => ⟨S16x256x1, .f32⟩
  | 34 => ⟨S_, .f32⟩
  | 35 => ⟨S16x256x1, .f32⟩
  | 36 => ⟨S16x256x1, .f32⟩
  | 37 => ⟨S_, .f32⟩
  | 38 => ⟨S16x256x1, .f32⟩
  | 39 => ⟨S16x256x1, .f32⟩
  | 40 => ⟨S16x256x1, .f32⟩
  | 41 => ⟨S16x256x1024, .f32⟩
  | 42 => ⟨S16x256x1024, .f32⟩
  | 43 => ⟨S1x1x1024, .f32⟩
  | 44 => ⟨S16x256x1024, .f32⟩
  | 45 => ⟨S16x256x1024, .f32⟩
  | 46 => ⟨S_, .f32⟩
  | 47 => ⟨S1x1x1024, .f32⟩
  | 48 => ⟨S1x1x1024, .f32⟩
  | 49 => ⟨S16x256x1024, .f32⟩
  | 50 => ⟨S16x256x1024, .f32⟩
  | 51 => ⟨S16x256x1024, .f32⟩
  | 52 => ⟨S16x256x1024, .f32⟩
  | 53 => ⟨S1024x5632, .f32⟩
  | 54 => ⟨S2816x1024, .f32⟩
  | 55 => ⟨S16x256x5632, .f32⟩
  | 56 => ⟨S16x256x2816, .f32⟩
  | 57 => ⟨S16x256x2816, .f32⟩
  | 58 => ⟨S16x256x2816, .f32⟩
  | 59 => ⟨S16x256x2816, .f32⟩
  | 60 => ⟨S_, .f32⟩
  | 61 => ⟨S16x256x2816, .f32⟩
  | 62 => ⟨S16x256x2816, .f32⟩
  | 63 => ⟨S_, .f32⟩
  | 64 => ⟨S16x256x2816, .f32⟩
  | 65 => ⟨S16x256x2816, .f32⟩
  | 66 => ⟨S16x256x2816, .f32⟩
  | 67 => ⟨S16x256x2816, .f32⟩
  | 68 => ⟨S16x256x1024, .f32⟩
  | 69 => ⟨S16x256x1024, .f32⟩
  | 70 => ⟨S16x256x1024, .f32⟩
  | 71 => ⟨S16x256x1024, .f32⟩
  | 72 => ⟨S16x256x1024, .f32⟩
  | 73 => ⟨S_, .f32⟩
  | 74 => ⟨S16x256, .f32⟩
  | 75 => ⟨S16x256x1, .f32⟩
  | 76 => ⟨S_, .f32⟩
  | 77 => ⟨S16x256x1, .f32⟩
  | 78 => ⟨S16x256x1, .f32⟩
  | 79 => ⟨S_, .f32⟩
  | 80 => ⟨S16x256x1, .f32⟩
  | 81 => ⟨S16x256x1, .f32⟩
  | 82 => ⟨S16x256x1, .f32⟩
  | 83 => ⟨S16x256x1024, .f32⟩
  | 84 => ⟨S16x256x1024, .f32⟩
  | 85 => ⟨S1x1x1024, .f32⟩
  | 86 => ⟨S16x256x1024, .f32⟩
  | 87 => ⟨S16x256x1024, .f32⟩
  | 88 => ⟨S4096x1024, .f32⟩
  | 89 => ⟨S4x1x1024, .f32⟩
  | 90 => ⟨S4x1x1024, .f32⟩
  | 91 => ⟨S4x1x1024, .f32⟩
  | 92 => ⟨S4x1x1024, .f32⟩
  | 93 => ⟨S4x1x1024, .f32⟩
  | 94 => ⟨S4x1x1024, .f32⟩
  | 95 => ⟨S4x1x1024, .f32⟩
  | 96 => ⟨S4x1x1024, .f32⟩
  | 97 => ⟨S4x1x1024, .f32⟩
  | 98 => ⟨S_, .f32⟩
  | 99 => ⟨S4x1x1024, .f32⟩
  | 100 => ⟨S4x1x1024, .f32⟩
  | 101 => ⟨S1x1024, .f32⟩
  | 102 => ⟨S1024, .f32⟩
  | 103 => ⟨S4x2048x1024, .f32⟩
  | 104 => ⟨S_, .f32⟩
  | 105 => ⟨S4x2048, .f32⟩
  | 106 => ⟨S4x2048x1, .f32⟩
  | 107 => ⟨S_, .f32⟩
  | 108 => ⟨S4x2048x1, .f32⟩
  | 109 => ⟨S4x2048x1, .f32⟩
  | 110 => ⟨S_, .f32⟩
  | 111 => ⟨S4x2048x1, .f32⟩
  | 112 => ⟨S4x2048x1, .f32⟩
  | 113 => ⟨S4x2048x1, .f32⟩
  | 114 => ⟨S4x2048x1024, .f32⟩
  | 115 => ⟨S4x2048x1024, .f32⟩
  | 116 => ⟨S1x1x1024, .f32⟩
  | 117 => ⟨S4x2048x1024, .f32⟩
  | 118 => ⟨S4x2048x1024, .f32⟩
  | 119 => ⟨S_, .f32⟩
  | 120 => ⟨S4x1x1024, .f32⟩
  | 121 => ⟨S4x1x1024, .f32⟩
  | 122 => ⟨S4x2048x1024, .f32⟩
  | 123 => ⟨S4x2048x1024, .f32⟩
  | 124 => ⟨S4x2048x1024, .f32⟩
  | 125 => ⟨S4x2048x1024, .f32⟩
  | 126 => ⟨S1024x5632, .f32⟩
  | 127 => ⟨S2816x1024, .f32⟩
  | _ => ⟨S12288x1024, .f32⟩

abbrev hbmTy0_1 (i : Nat) : BufTy := match i % 128 with
  | 0 => ⟨S4x2048x5632, .f32⟩
  | 1 => ⟨S4x2048x2816, .f32⟩
  | 2 => ⟨S4x2048x2816, .f32⟩
  | 3 => ⟨S4x2048x2816, .f32⟩
  | 4 => ⟨S4x2048x2816, .f32⟩
  | 5 => ⟨S_, .f32⟩
  | 6 => ⟨S4x2048x2816, .f32⟩
  | 7 => ⟨S4x2048x2816, .f32⟩
  | 8 => ⟨S_, .f32⟩
  | 9 => ⟨S4x2048x2816, .f32⟩
  | 10 => ⟨S4x2048x2816, .f32⟩
  | 11 => ⟨S4x2048x2816, .f32⟩
  | 12 => ⟨S4x2048x2816, .f32⟩
  | 13 => ⟨S4x2048x1024, .f32⟩
  | 14 => ⟨S4x2048x1024, .f32⟩
  | 15 => ⟨S4x2048x1024, .f32⟩
  | 16 => ⟨S4x2048x1024, .f32⟩
  | 17 => ⟨S4x2048x1024, .f32⟩
  | 18 => ⟨S_, .f32⟩
  | 19 => ⟨S4x2048, .f32⟩
  | 20 => ⟨S4x2048x1, .f32⟩
  | 21 => ⟨S_, .f32⟩
  | 22 => ⟨S4x2048x1, .f32⟩
  | 23 => ⟨S4x2048x1, .f32⟩
  | 24 => ⟨S_, .f32⟩
  | 25 => ⟨S4x2048x1, .f32⟩
  | 26 => ⟨S4x2048x1, .f32⟩
  | 27 => ⟨S4x2048x1, .f32⟩
  | 28 => ⟨S4x2048x1024, .f32⟩
  | 29 => ⟨S4x2048x1024, .f32⟩
  | 30 => ⟨S1x1x1024, .f32⟩
  | 31 => ⟨S4x2048x1024, .f32⟩
  | 32 => ⟨S4x2048x1024, .f32⟩
  | 33 => ⟨S8192x1024, .f32⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_4 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_7 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_8 : Ref sig .tc := ⟨.hbm, 104, rfl⟩
abbrev main_v81 : Ref sig .tc := ⟨.hbm, 105, rfl⟩
abbrev main_v82 : Ref sig .tc := ⟨.hbm, 106, rfl⟩
abbrev main_cst_9 : Ref sig .tc := ⟨.hbm, 107, rfl⟩
abbrev main_v83 : Ref sig .tc := ⟨.hbm, 108, rfl⟩
abbrev main_v84 : Ref sig .tc := ⟨.hbm, 109, rfl⟩
abbrev main_cst_10 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_11 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_call1_v0 : Ref sig .tc := ⟨.hbm, 131, rfl⟩
abbrev main_call1_v1 : Ref sig .tc := ⟨.hbm, 132, rfl⟩
abbrev main_call1_cst : Ref sig .tc := ⟨.hbm, 133, rfl⟩
abbrev main_call1_v2 : Ref sig .tc := ⟨.hbm, 134, rfl⟩
abbrev main_call1_v3 : Ref sig .tc := ⟨.hbm, 135, rfl⟩
abbrev main_call1_cst_0 : Ref sig .tc := ⟨.hbm, 136, rfl⟩
abbrev main_call1_v4 : Ref sig .tc := ⟨.hbm, 137, rfl⟩
abbrev main_call1_v5 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_12 : Ref sig .tc := ⟨.hbm, 146, rfl⟩
abbrev main_v111 : Ref sig .tc := ⟨.hbm, 147, rfl⟩
abbrev main_v112 : Ref sig .tc := ⟨.hbm, 148, rfl⟩
abbrev main_cst_13 : Ref sig .tc := ⟨.hbm, 149, rfl⟩
abbrev main_v113 : Ref sig .tc := ⟨.hbm, 150, rfl⟩
abbrev main_v114 : Ref sig .tc := ⟨.hbm, 151, rfl⟩
abbrev main_cst_14 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩

abbrev nD : Nat := 1
abbrev τ : Topo := Topo.v7x

variable {F : FTy → Type} [FloatOps F]
-- ==== Kernel2.lean ====
abbrev S16x256x1024 : Shape := ⟨3, ![16, 256, 1024]⟩
abbrev S4x2048x1024 : Shape := ⟨3, ![4, 2048, 1024]⟩
abbrev S8x9216 : Shape := ⟨2, ![8, 9216]⟩
abbrev S1x3x1024 : Shape := ⟨3, ![1, 3, 1024]⟩
abbrev S1x1024x5632 : Shape := ⟨3, ![1, 1024, 5632]⟩
abbrev S1x2816x1024 : Shape := ⟨3, ![1, 2816, 1024]⟩
abbrev S1024 : Shape := ⟨1, ![1024]⟩
abbrev S8x9x1024 : Shape := ⟨3, ![8, 9, 1024]⟩
abbrev S3x1024 : Shape := ⟨2, ![3, 1024]⟩
abbrev S1x1024 : Shape := ⟨2, ![1, 1024]⟩
abbrev S4096x1024 : Shape := ⟨2, ![4096, 1024]⟩
abbrev S8192x1024 : Shape := ⟨2, ![8192, 1024]⟩
abbrev S1024x5632 : Shape := ⟨2, ![1024, 5632]⟩
abbrev S2816x1024 : Shape := ⟨2, ![2816, 1024]⟩
abbrev S12288x1024 : Shape := ⟨2, ![12288, 1024]⟩
abbrev S512x1024 : Shape := ⟨2, ![512, 1024]⟩
abbrev S1x9x1024 : Shape := ⟨3, ![1, 9, 1024]⟩
abbrev S1x1x1024 : Shape := ⟨3, ![1, 1, 1024]⟩
abbrev S512 : Shape := ⟨1, ![512]⟩
abbrev S512x1 : Shape := ⟨2, ![512, 1]⟩
abbrev S4x1024x256 : Shape := ⟨3, ![4, 1024, 256]⟩
abbrev S4x256x1024 : Shape := ⟨3, ![4, 256, 1024]⟩
abbrev S3x4 : Shape := ⟨2, ![3, 4]⟩
abbrev S1x1 : Shape := ⟨2, ![1, 1]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S512x256 : Shape := ⟨2, ![512, 256]⟩

abbrev nBuf : Space → Nat
  | .hbm => 15
  | .vmem => 15
  | .smem => 0
  | _ => 0

abbrev bufTy : (tb : Table) → Fin (tcTables nBuf tb) → BufTy
  | .hbm, ⟨0, _⟩ => ⟨S16x256x1024, .f32⟩
  | .hbm, ⟨1, _⟩ => ⟨S4x2048x1024, .f32⟩
  | .hbm, ⟨2, _⟩ => ⟨S8x9216, .f32⟩
  | .hbm, ⟨3, _⟩ => ⟨S1x3x1024, .f32⟩
  | .hbm, ⟨4, _⟩ => ⟨S1x1024x5632, .f32⟩
  | .hbm, ⟨5, _⟩ => ⟨S1x2816x1024, .f32⟩
  | .hbm, ⟨6, _⟩ => ⟨S1024, .f32⟩
  | .hbm, ⟨7, _⟩ => ⟨S8x9x1024, .f32⟩
  | .hbm, ⟨8, _⟩ => ⟨S3x1024, .f32⟩
  | .hbm, ⟨9, _⟩ => ⟨S1x1024, .f32⟩
  | .hbm, ⟨10, _⟩ => ⟨S4096x1024, .f32⟩
  | .hbm, ⟨11, _⟩ => ⟨S8192x1024, .f32⟩
  | .hbm, ⟨12, _⟩ => ⟨S1024x5632, .f32⟩
  | .hbm, ⟨13, _⟩ => ⟨S2816x1024, .f32⟩
  | .hbm, ⟨14, _⟩ => ⟨S12288x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x9x1024, .f32⟩
  | .local _ .vmem, ⟨5, _⟩ => ⟨S1x9x1024, .f32⟩
  | .local _ .vmem, ⟨6, _⟩ => ⟨S3x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1024x5632, .bf16⟩
  | .local _ .vmem, ⟨11, _⟩ => ⟨S2816x1024, .bf16⟩
  | .local _ .vmem, ⟨12, _⟩ => ⟨S4x1024x256, .f32⟩
  | .local _ .vmem, ⟨13, _⟩ => ⟨S4x1024x256, .f32⟩
  | .local _ .vmem, ⟨14, _⟩ => ⟨S4x256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scoped0 : Ref sig .tc := ⟨.vmem, 12, rfl⟩
abbrev cc0_scoped1 : Ref sig .tc := ⟨.vmem, 13, rfl⟩
abbrev cc0_scoped2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_13 : BitVec 32 := 0#32
  let v32 : BitVec 1 := Scalar.cmpi .ne v31 c0_i32_13
  v32

def k0_cond2 (i : grid0.Coords) : BitVec 1 :=
  let arg0 : BitVec 32 := BitVec.ofNat 32 (i 0).val
  let c0_i32_14 : BitVec 32 := 0#32
  let v33 : BitVec 1 := Scalar.cmpi .sgt arg0 c0_i32_14
  let v34 : BitVec 32 := Scalar.extui v33
  let c0_i32_15 : BitVec 32 := 0#32
  let v35 : BitVec 1 := Scalar.cmpi .ne v34 c0_i32_15
  v35

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c8_i32 : BitVec 32 := 8#32
  let v0 : BitVec 1 := Scalar.cmpi .slt arg0 c8_i32
  let c512_i32 : BitVec 32 := 512#32
  let v1 : BitVec 32 := Scalar.muli arg0 c512_i32
  let c4096_i32 : BitVec 32 := 4096#32
  let v2 : BitVec 32 := Scalar.subi v1 c4096_i32
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2048_i32 c0_i32_1
  let v10 : BitVec 32 := Scalar.extui v9
  let c0_i32_2 : BitVec 32 := 0#32
  let v11 : BitVec 1 := Scalar.cmpi .slt c2048_i32 c0_i32_2
  let v12 : BitVec 32 := Scalar.extui v11
  let v13 : BitVec 32 := Scalar.subi v10 v12
  let v14 : BitVec 1 := Scalar.cmpi .ne v8 v13
  let v15 : BitVec 32 := Scalar.remsi v2 c2048_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi c1_i32_4 v19
  let c0_i32_5 : BitVec 32 := 0#32
  let v21 : BitVec 32 := Scalar.select v0 c0_i32_5 v20
  let c0_i32_6 : BitVec 32 := 0#32
  let c0_i32_7 : BitVec 32 := 0#32
  let c0_i32_8 : BitVec 32 := 0#32
  ![v21.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x256x1024 : Shape := ⟨3, ![16, 256, 1024]⟩
abbrev S4x2048x1024 : Shape := ⟨3, ![4, 2048, 1024]⟩
abbrev S8x9216 : Shape := ⟨2, ![8, 9216]⟩
abbrev S1x3x1024 : Shape := ⟨3, ![1, 3, 1024]⟩
abbrev S1x1024x5632 : Shape := ⟨3, ![1, 1024, 5632]⟩
abbrev S1x2816x1024 : Shape := ⟨3, ![1, 2816, 1024]⟩
abbrev S1024 : Shape := ⟨1, ![1024]⟩
abbrev S1x9216 : Shape := ⟨2, ![1, 9216]⟩
abbrev S9216 : Shape := ⟨1, ![9216]⟩
abbrev S1x1x9216 : Shape := ⟨3, ![1, 1, 9216]⟩
abbrev S4x9216 : Shape := ⟨2, ![4, 9216]⟩
abbrev S4x1x9216 : Shape := ⟨3, ![4, 1, 9216]⟩
abbrev S3x1024 : Shape := ⟨2, ![3, 1024]⟩
abbrev S1x1x1024 : Shape := ⟨3, ![1, 1, 1024]⟩
abbrev S_ : Shape := ⟨0, ![]⟩
abbrev S1x1024 : Shape := ⟨2, ![1, 1024]⟩
abbrev S16x256 : Shape := ⟨2, ![16, 256]⟩
abbrev S16x256x1 : Shape := ⟨3, ![16, 256, 1]⟩
abbrev S1024x5632 : Shape := ⟨2, ![1024, 5632]⟩
abbrev S2816x1024 : Shape := ⟨2, ![2816, 1024]⟩
abbrev S16x256x5632 : Shape := ⟨3, ![16, 256, 5632]⟩
abbrev S16x256x2816 : Shape := ⟨3, ![16, 256, 2816]⟩
abbrev S4096x1024 : Shape := ⟨2, ![4096, 1024]⟩
abbrev S4x1x1024 : Shape := ⟨3, ![4, 1, 1024]⟩
abbrev S4x2048 : Shape := ⟨2, ![4, 2048]⟩
abbrev S4x2048x1 : Shape := ⟨3, ![4, 2048, 1]⟩
abbrev S4x2048x5632 : Shape := ⟨3, ![4, 2048, 5632]⟩
abbrev S4x2048x2816 : Shape := ⟨3, ![4, 2048, 2816]⟩
abbrev S8192x1024 : Shape := ⟨2, ![8192, 1024]⟩
abbrev S12288x1024 : Shape := ⟨2, ![12288, 1024]⟩

abbrev nBuf : Space → Nat
  | .hbm => 128
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S4x2048x1024, .f32⟩
  | .hbm, ⟨2, _⟩ => ⟨S8x9216, .f32⟩
  | .hbm, ⟨3, _⟩ => ⟨S1x3x1024, .f32⟩
  | .hbm, ⟨4, _⟩ => ⟨S1x1024x5632, .f32⟩
  | .hbm, ⟨5, _⟩ => ⟨S1x2816x1024, .f32⟩
  | .hbm, ⟨6, _⟩ => ⟨S1024, .f32⟩
  | .hbm, ⟨7, _⟩ => ⟨S1x9216, .f32⟩
  | .hbm, ⟨8, _⟩ => ⟨S9216, .f32⟩
  | .hbm, ⟨9, _⟩ => ⟨S1x1x9216, .f32⟩
  | .hbm, ⟨10, _⟩ => ⟨S4x9216, .f32⟩
  | .hbm, ⟨11, _⟩ => ⟨S4x1x9216, .f32⟩
  | .hbm, ⟨12, _⟩ => ⟨S3x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S1x1024, .f32⟩
  | .hbm, ⟨26, _⟩ => ⟨S1024, .f32⟩
  | .hbm, ⟨27, _⟩ => ⟨S16x256x1024, .f32⟩
  | .hbm, ⟨28, _⟩ => ⟨S_, .f32⟩
  | .hbm, ⟨29, _⟩ => ⟨S16x256, .f32⟩
  | .hbm, ⟨30, _⟩ => ⟨S16x256x1, .f32⟩
  | .hbm, ⟨31, _⟩ => ⟨S_, .f32⟩
  | .hbm, ⟨32, _⟩ => ⟨S16x256x1, .f32⟩
  | .hbm, ⟨33, _⟩ => ⟨S16x256x1, .f32⟩
  | .hbm, ⟨34, _⟩ => ⟨S_, .f32⟩
  | .hbm, ⟨35, _⟩ => ⟨S16x256x1, .f32⟩
  | .hbm, ⟨36, _⟩ => ⟨S16x256x1, .f32⟩
  | .hbm, ⟨37, _⟩ => ⟨S16x256x1, .f32⟩
  | .hbm, ⟨38, _⟩ => ⟨S16x256x1024, .f32⟩
  | .hbm, ⟨39, _⟩ => ⟨S16x256x1024, .f32⟩
  | .hbm, ⟨40, _⟩ => ⟨S1x1x1024, .f32⟩
  | .hbm, ⟨41, _⟩ => ⟨S16x256x1024, .f32⟩
  | .hbm, ⟨42, _⟩ => ⟨S16x256x1024, .f32⟩
  | .hbm, ⟨43, _⟩ => ⟨S_, .f32⟩
  | .hbm, ⟨44, _⟩ => ⟨S1x1x1024, .f32⟩
  | .hbm, ⟨45, _⟩ => ⟨S1x1x1024, .f32⟩
  | .hbm, ⟨46, _⟩ => ⟨S16x256x1024, .f32⟩
  | .hbm, ⟨47, _⟩ => ⟨S16x256x1024, .f32⟩
  | .hbm, ⟨48, _⟩ => ⟨S16x256x1024, .f32⟩
  | .hbm, ⟨49, _⟩ => ⟨S16x256x1024, .f32⟩
  | .hbm, ⟨50, _⟩ => ⟨S1024x5632, .f32⟩
  | .hbm, ⟨51, _⟩ => ⟨S2816x1024, .f32⟩
  | .hbm, ⟨52, _⟩ => ⟨S16x256x5632, .f32⟩
  | .hbm, ⟨53, _⟩ => ⟨S16x256x2816, .f32⟩
  | .hbm, ⟨54, _⟩ => ⟨S16x256x2816, .f32⟩
  | .hbm, ⟨55, _⟩ => ⟨S16x256x2816, .f32⟩
  | .hbm, ⟨56, _⟩ => ⟨S16x256x2816, .f32⟩
  | .hbm, ⟨57, _⟩ => ⟨S_, .f32⟩
  | .hbm, ⟨58, _⟩ => ⟨S16x256x2816, .f32⟩
  | .hbm, ⟨59, _⟩ => ⟨S16x256x2816, .f32⟩
  | .hbm, ⟨60, _⟩ => ⟨S_, .f32⟩
  | .hbm, ⟨61, _⟩ => ⟨S16x256x2816, .f32⟩
  | .hbm, ⟨62, _⟩ => ⟨S16x256x2816, .f32⟩
  | .hbm, ⟨63, _⟩ => ⟨S16x256x2816, .f32⟩
  | .hbm, ⟨64, _⟩ => ⟨S16x256x2816, .f32⟩
  | .hbm, ⟨65, _⟩ => ⟨S16x256x1024, .f32⟩
  | .hbm, ⟨66, _⟩ => ⟨S16x256x1024, .f32⟩
  | .hbm, ⟨67, _⟩ => ⟨S16x256x1024, .f32⟩
  | .hbm, ⟨68, _⟩ => ⟨S16x256x1024, .f32⟩
  | .hbm, ⟨69, _⟩ => ⟨S4096x1024, .f32⟩
  | .hbm, ⟨70, _⟩ => ⟨S4x1x1024, .f32⟩
  | .hbm, ⟨71, _⟩ => ⟨S4x1x1024, .f32⟩
  | .hbm, ⟨72, _⟩ => ⟨S4x1x1024, .f32⟩
  | .hbm, ⟨73, _⟩ => ⟨S4x1x1024, .f32⟩
  | .hbm, ⟨74, _⟩ => ⟨S4x1x1024, .f32⟩
  | .hbm, ⟨75, _⟩ => ⟨S4x1x1024, .f32⟩
  | .hbm, ⟨76, _⟩ => ⟨S4x1x1024, .f32⟩
  | .hbm, ⟨77, _⟩ => ⟨S4x1x1024, .f32⟩
  | .hbm, ⟨78, _⟩ => ⟨S4x1x1024, .f32⟩
  | .hbm, ⟨79, _⟩ => ⟨S_, .f32⟩
  | .hbm, ⟨80, _⟩ => ⟨S4x1x1024, .f32⟩
  | .hbm, ⟨81, _⟩ => ⟨S4x1x1024, .f32⟩
  | .hbm, ⟨82, _⟩ => ⟨S1x1024, .f32⟩
  | .hbm, ⟨83, _⟩ => ⟨S1024, .f32⟩
  | .hbm, ⟨84, _⟩ => ⟨S4x2048x1024, .f32⟩
  | .hbm, ⟨85, _⟩ => ⟨S_, .f32⟩
  | .hbm, ⟨86, _⟩ => ⟨S4x2048, .f32⟩
  | .hbm, ⟨87, _⟩ => ⟨S4x2048x1, .f32⟩
  | .hbm, ⟨88, _⟩ => ⟨S_, .f32⟩
  | .hbm, ⟨89, _⟩ => ⟨S4x2048x1, .f32⟩
  | .hbm, ⟨90, _⟩ => ⟨S4x2048x1, .f32⟩
  | .hbm, ⟨91, _⟩ => ⟨S_, .f32⟩
  | .hbm, ⟨92, _⟩ => ⟨S4x2048x1, .f32⟩
  | .hbm, ⟨93, _⟩ => ⟨S4x2048x1, .f32⟩
  | .hbm, ⟨94, _⟩ => ⟨S4x2048x1, .f32⟩
  | .hbm, ⟨95, _⟩ => ⟨S4x2048x1024, .f32⟩
  | .hbm, ⟨96, _⟩ => ⟨S4x2048x1024, .f32⟩
  | .hbm, ⟨97, _⟩ => ⟨S1x1x1024, .f32⟩
  | .hbm, ⟨98, _⟩ => ⟨S4x2048x1024, .f32⟩
  | .hbm, ⟨99, _⟩ => ⟨S4x2048x1024, .f32⟩
  | .hbm, ⟨100, _⟩ => ⟨S_, .f32⟩
  | .hbm, ⟨101, _⟩ => ⟨S4x1x1024, .f32⟩
  | .hbm, ⟨102, _⟩ => ⟨S4x1x1024, .f32⟩
  | .hbm, ⟨103, _⟩ => ⟨S4x2048x1024, .f32⟩
  | .hbm, ⟨104, _⟩ => ⟨S4x2048x1024, .f32⟩
  | .hbm, ⟨105, _⟩ => ⟨S4x2048x1024, .f32⟩
  | .hbm, ⟨106, _⟩ => ⟨S4x2048x1024, .f32⟩
  | .hbm, ⟨107, _⟩ => ⟨S1024x5632, .f32⟩
  | .hbm, ⟨108, _⟩ => ⟨S2816x1024, .f32⟩
  | .hbm, ⟨109, _⟩ => ⟨S4x2048x5632, .f32⟩
  | .hbm, ⟨110, _⟩ => ⟨S4x2048x2816, .f32⟩
  | .hbm, ⟨111, _⟩ => ⟨S4x2048x2816, .f32⟩
  | .hbm, ⟨112, _⟩ => ⟨S4x2048x2816, .f32⟩
  | .hbm, ⟨113, _⟩ => ⟨S4x2048x2816, .f32⟩
  | .hbm, ⟨114, _⟩ => ⟨S_, .f32⟩
  | .hbm, ⟨115, _⟩ => ⟨S4x2048x2816, .f32⟩
  | .hbm, ⟨116, _⟩ => ⟨S4x2048x2816, .f32⟩
  | .hbm, ⟨117, _⟩ => ⟨S_, .f32⟩
  | .hbm, ⟨118, _⟩ => ⟨S4x2048x2816, .f32⟩
  | .hbm, ⟨119, _⟩ => ⟨S4x2048x2816, .f32⟩
  | .hbm, ⟨120, _⟩ => ⟨S4x2048x2816, .f32⟩
  | .hbm, ⟨121, _⟩ => ⟨S4x2048x2816, .f32⟩
  | .hbm, ⟨122, _⟩ => ⟨S4x2048x1024, .f32⟩
  | .hbm, ⟨123, _⟩ => ⟨S4x2048x1024, .f32⟩
  | .hbm, ⟨124, _⟩ => ⟨S4x2048x1024, .f32⟩
  | .hbm, ⟨125, _⟩ => ⟨S4x2048x1024, .f32⟩
  | .hbm, ⟨126, _⟩ => ⟨S8192x1024, .f32⟩
  | .hbm, ⟨127, _⟩ => ⟨S12288x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_4 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_5 : Ref sig .tc := ⟨.hbm, 85, rfl⟩
abbrev main_v64 : Ref sig .tc := ⟨.hbm, 86, rfl⟩
abbrev main_v65 : Ref sig .tc := ⟨.hbm, 87, rfl⟩
abbrev main_cst_6 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_8 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_call1_v0 : Ref sig .tc := ⟨.hbm, 112, rfl⟩
abbrev main_call1_v1 : Ref sig .tc := ⟨.hbm, 113, rfl⟩
abbrev main_call1_cst : Ref sig .tc := ⟨.hbm, 114, rfl⟩
abbrev main_call1_v2 : Ref sig .tc := ⟨.hbm, 115, rfl⟩
abbrev main_call1_v3 : Ref sig .tc := ⟨.hbm, 116, rfl⟩
abbrev main_call1_cst_0 : Ref sig .tc := ⟨.hbm, 117, rfl⟩
abbrev main_call1_v4 : Ref sig .tc := ⟨.hbm, 118, rfl⟩
abbrev main_call1_v5 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]
-- ==== Kernel3.lean ====
abbrev S12288x1024 : Shape := ⟨2, ![12288, 1024]⟩
abbrev S8x9216 : Shape := ⟨2, ![8, 9216]⟩
abbrev S1x3x1024 : Shape := ⟨3, ![1, 3, 1024]⟩
abbrev S2x2x1024 : Shape := ⟨3, ![2, 2, 1024]⟩
abbrev S1x1024x10240 : Shape := ⟨3, ![1, 1024, 10240]⟩
abbrev S8x9x1024 : Shape := ⟨3, ![8, 9, 1024]⟩
abbrev S3x1024 : Shape := ⟨2, ![3, 1024]⟩
abbrev S1024x10240 : Shape := ⟨2, ![1024, 10240]⟩
abbrev S32x64 : Shape := ⟨2, ![32, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S512x128 : Shape := ⟨2, ![512, 128]⟩
abbrev S2560x128 : Shape := ⟨2, ![2560, 128]⟩
abbrev S12288x8192 : Shape := ⟨2, ![12288, 8192]⟩
abbrev S12288x2048 : Shape := ⟨2, ![12288, 2048]⟩
abbrev S512x1024 : Shape := ⟨2, ![512, 1024]⟩
abbrev S1x9x1024 : Shape := ⟨3, ![1, 9, 1024]⟩
abbrev S512x8192 : Shape := ⟨2, ![512, 8192]⟩
abbrev S512x2048 : Shape := ⟨2, ![512, 2048]⟩
abbrev S4x16x10240 : Shape := ⟨3, ![4, 16, 10240]⟩
abbrev S4 : Shape := ⟨1, ![4]⟩
abbrev S1 : Shape := ⟨1, ![1]⟩
abbrev S1x16x10240 : Shape := ⟨3, ![1, 16, 10240]⟩
abbrev S16x10240 : Shape := ⟨2, ![16, 10240]⟩
abbrev S1x1024 : Shape := ⟨2, ![1, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x2x256 : Shape := ⟨3, ![1, 2, 256]⟩
abbrev S2x256 : Shape := ⟨2, ![2, 256]⟩
abbrev S256 : Shape := ⟨1, ![256]⟩
abbrev S1x256 : Shape := ⟨2, ![1, 256]⟩

abbrev nBuf : Space → Nat
  | .hbm => 50
  | .vmem => 16
  | .smem => 0
  | _ => 0

abbrev bufTy : (tb : Table) → Fin (tcTables nBuf tb) → BufTy
  | .hbm, ⟨0, _⟩ => ⟨S12288x1024, .f32⟩
  | .hbm, ⟨1, _⟩ => ⟨S8x9216, .f32⟩
  | .hbm, ⟨2, _⟩ => ⟨S1x3x1024, .f32⟩
  | .hbm, ⟨3, _⟩ => ⟨S2x2x1024, .f32⟩
  | .hbm, ⟨4, _⟩ => ⟨S1x1024x10240, .f32⟩
  | .hbm, ⟨5, _⟩ => ⟨S8x9x1024, .f32⟩
  | .hbm, ⟨6, _⟩ => ⟨S3x1024, .f32⟩
  | .hbm, ⟨7, _⟩ => ⟨S1024x10240, .f32⟩
  | .hbm, ⟨8, _⟩ => ⟨S32x64, .i32⟩
  | .hbm, ⟨9, _⟩ => ⟨S2048, .i32⟩
  | .hbm, ⟨10, _⟩ => ⟨S2048, .f32⟩
  | .hbm, ⟨11, _⟩ => ⟨S32x64, .i32⟩
  | .hbm, ⟨12, _⟩ => ⟨S2048, .i32⟩
  | .hbm, ⟨13, _⟩ => ⟨S2048, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x1, .f32⟩
  | .hbm, ⟨28, _⟩ => ⟨S1x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x128, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x128, .f32⟩
  | .hbm, ⟨42, _⟩ => ⟨S_, .f32⟩
  | .hbm, ⟨43, _⟩ => ⟨S512x128, .f32⟩
  | .hbm, ⟨44, _⟩ => ⟨S2560x128, .f32⟩
  | .hbm, ⟨45, _⟩ => ⟨S_, .f32⟩
  | .hbm, ⟨46, _⟩ => ⟨S512x128, .f32⟩
  | .hbm, ⟨47, _⟩ => ⟨S2560x128, .f32⟩
  | .hbm, ⟨48, _⟩ => ⟨S12288x8192, .bf16⟩
  | .hbm, ⟨49, _⟩ => ⟨S12288x2048, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S2x2x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x8192, .bf16⟩
  | .local _ .vmem, ⟨11, _⟩ => ⟨S512x8192, .bf16⟩
  | .local _ .vmem, ⟨12, _⟩ => ⟨S512x2048, .f32⟩
  | .local _ .vmem, ⟨13, _⟩ => ⟨S512x2048, .f32⟩
  | .local _ .vmem, ⟨14, _⟩ => ⟨S1024x10240, .bf16⟩
  | .local _ .vmem, ⟨15, _⟩ => ⟨S4x16x10240, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39_0 : Ref sig .tc := ⟨.hbm, 48, rfl⟩
abbrev main_v39_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scoped0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_389_r0 : BitVec 32 := 0#32
  let c64_i32_r0 : BitVec 32 := 64#32
  let v689_r0 : BitVec 32 := Scalar.addi c0_i32_389_r0 c64_i32_r0
  let c1_i32_390_r0 : BitVec 32 := 1#32
  ⟨c0_i32_389_r0, v689_r0, c1_i32_390_r0⟩
def k0_cond2 (k0_t1 : Fin k0_t1_loop.trips) : BitVec 1 :=
  let c0_i32_389_r0 : BitVec 32 := 0#32
  let c1_i32_390_r0 : BitVec 32 := 1#32
  let arg11_r0 : BitVec 32 := Scf.iv c0_i32_389_r0 c1_i32_390_r0 k0_t1
  let c3_i32_r0 : BitVec 32 := 3#32
  let v690_r0 : BitVec 32 := Scalar.addi arg11_r0 c3_i32_r0
  let c64_i32_392_r0 : BitVec 32 := 64#32
  let v691_r0 : BitVec 1 := Scalar.cmpi .slt v690_r0 c64_i32_392_r0
  let v692_r0 : BitVec 32 := Scalar.extui v691_r0
  let c0_i32_393_r0 : BitVec 32 := 0#32
  let v693_r0 : BitVec 1 := Scalar.cmpi .ne v692_r0 c0_i32_393_r0
  v693_r0

def k0_off1 (k0_t1 : Fin k0_t1_loop.trips) : Fin 1 → Nat :=
  let c0_i32_389_r0 : BitVec 32 := 0#32
  let c1_i32_390_r0 : BitVec 32 := 1#32
  let arg11_r0 : BitVec 32 := Scf.iv c0_i32_389_r0 c1_i32_390_r0 k0_t1
  let c3_i32_413_r0 : BitVec 32 := 3#32
  let v730_r0 : BitVec 32 := Scalar.addi arg11_r0 c3_i32_413_r0
  let c4_i32_414_r0 : BitVec 32 := 4#32
  let c0_i32_415_r0 : BitVec 32 := 0#32
  let v731_r0 : BitVec 1 := Scalar.cmpi .eq c4_i32_414_r0 c0_i32_415_r0
  let c1_i32_416_r0 : BitVec 32 := 1#32
  let v732_r0 : BitVec 32 := Scalar.select v731_r0 c1_i32_416_r0 c4_i32_414_r0
  let v733_r0 : BitVec 32 := Scalar.remsi v730_r0 v732_r0
  let c0_i32_418_r0 : BitVec 32 := 0#32
  let v735_r0 : BitVec 1 := Scalar.cmpi .slt v733_r0 c0_i32_418_r0
  let c0_i32_419_r0 : BitVec 32 := 0#32
  let v736_r0 : BitVec 1 := Scalar.cmpi .slt v732_r0 c0_i32_419_r0
  let v737_r0 : BitVec 1 := Scalar.xori v735_r0 v736_r0
  let c0_i32_417_r0 : BitVec 32 := 0#32
  let v734_r0 : BitVec 1 := Scalar.cmpi .ne v733_r0 c0_i32_417_r0
  let v738_r0 : BitVec 1 := Scalar.andi v737_r0 v734_r0
  let v739_r0 : BitVec 32 := Scalar.addi v733_r0 v732_r0
  let v740_r0 : BitVec 32 := Scalar.select v738_r0 v739_r0 v733_r0
  ![v740_r0.toNat]
def k0_off2 (k0_t1 : Fin k0_t1_loop.trips) : Fin 3 → Nat :=
  let c0_i32_389_r0 : BitVec 32 := 0#32
  let c1_i32_390_r0 : BitVec 32 := 1#32
  let arg11_r0 : BitVec 32 := Scf.iv c0_i32_389_r0 c1_i32_390_r0 k0_t1
  let c3_i32_413_r0 : BitVec 32 := 3#32
  let v730_r0 : BitVec 32 := Scalar.addi arg11_r0 c3_i32_413_r0
  let c4_i32_414_r0 : BitVec 32 := 4#32
  let c0_i32_415_r0 : BitVec 32 := 0#32
  let v731_r0 : BitVec 1 := Scalar.cmpi .eq c4_i32_414_r0 c0_i32_415_r0
  let c1_i32_416_r0 : BitVec 32 := 1#32
  let v732_r0 : BitVec 32 := Scalar.select v731_r0 c1_i32_416_r0 c4_i32_414_r0
  let v733_r0 : BitVec 32 := Scalar.remsi v730_r0 v732_r0
  let c0_i32_418_r0 : BitVec 32 := 0#32
  let v735_r0 : BitVec 1 := Scalar.cmpi .slt v733_r0 c0_i32_418_r0
  let c0_i32_419_r0 : BitVec 32 := 0#32
  let v736_r0 : BitVec 1 := Scalar.cmpi .slt v732_r0 c0_i32_419_r0
  let v737_r0 : BitVec 1 := Scalar.xori v735_r0 v736_r0
  let c0_i32_417_r0 : BitVec 32 := 0#32
  let v734_r0 : BitVec 1 := Scalar.cmpi .ne v733_r0 c0_i32_417_r0
  let v738_r0 : BitVec 1 := Scalar.andi v737_r0 v734_r0
  let v739_r0 : BitVec 32 := Scalar.addi v733_r0 v732_r0
  let v740_r0 : BitVec 32 := Scalar.select v738_r0 v739_r0 v733_r0
  let c0_i32_421_r0 : BitVec 32 := 0#32
  let c0_i32_422_r0 : BitVec 32 := 0#32
  ![v740_r0.toNat, 0, 0]
def k0_off3 (k0_t1 : Fin k0_t1_loop.trips) : Fin 2 → Nat :=
  let c0_i32_389_r0 : BitVec 32 := 0#32
  let c1_i32_390_r0 : BitVec 32 := 1#32
  let arg11_r0 : BitVec 32 := Scf.iv c0_i32_389_r0 c1_i32_390_r0 k0_t1
  let c3_i32_413_r0 : BitVec 32 := 3#32
  let v730_r0 : BitVec 32 := Scalar.addi arg11_r0 c3_i32_413_r0
  let c16_i32_420_r0 : BitVec 32 := 16#32
  let v741_r0 : BitVec 32 := Scalar.muli v730_r0 c16_i32_420_r0
  let c0_i32_423_r0 : BitVec 32 := 0#32
  ![v741_r0.toNat, 0]
def k0_off4 (k0_t1 : Fin k0_t1_loop.trips) : Fin 1 → Nat :=
  let c0_i32_389_r0 : BitVec 32 := 0#32
  let c1_i32_390_r0 : BitVec 32 := 1#32
  let arg11_r0 : BitVec 32 := Scf.iv c0_i32_389_r0 c1_i32_390_r0 k0_t1
  let c4_i32_r0 : BitVec 32 := 4#32
  let c0_i32_394_r0 : BitVec 32 := 0#32
  let v694_r0 : BitVec 1 := Scalar.cmpi .eq c4_i32_r0 c0_i32_394_r0
  let c1_i32_395_r0 : BitVec 32 := 1#32
  let v695_r0 : BitVec 32 := Scalar.select v694_r0 c1_i32_395_r0 c4_i32_r0
  let v696_r0 : BitVec 32 := Scalar.remsi arg11_r0 v695_r0
  let c0_i32_397_r0 : BitVec 32 := 0#32
  let v698_r0 : BitVec 1 := Scalar.cmpi .slt v696_r0 c0_i32_397_r0
  let c0_i32_398_r0 : BitVec 32 := 0#32
  let v699_r0 : BitVec 1 := Scalar.cmpi .slt v695_r0 c0_i32_398_r0
  let v700_r0 : BitVec 1 := Scalar.xori v698_r0 v699_r0
  let c0_i32_396_r0 : BitVec 32 := 0#32
  let v697_r0 : BitVec 1 := Scalar.cmpi .ne v696_r0 c0_i32_396_r0
  let v701_r0 : BitVec 1 := Scalar.andi v700_r0 v697_r0
  let v702_r0 : BitVec 32 := Scalar.addi v696_r0 v695_r0
  let v703_r0 : BitVec 32 := Scalar.select v701_r0 v702_r0 v696_r0
  ![v703_r0.toNat]
def k0_off5 (k0_t1 : Fin k0_t1_loop.trips) : Fin 3 → Nat :=
  let c0_i32_389_r0 : BitVec 32 := 0#32
  let c1_i32_390_r0 : BitVec 32 := 1#32
  let arg11_r0 : BitVec 32 := Scf.iv c0_i32_389_r0 c1_i32_390_r0 k0_t1
  let c4_i32_r0 : BitVec 32 := 4#32
  let c0_i32_394_r0 : BitVec 32 := 0#32
  let v694_r0 : BitVec 1 := Scalar.cmpi .eq c4_i32_r0 c0_i32_394_r0
  let c1_i32_395_r0 : BitVec 32 := 1#32
  let v695_r0 : BitVec 32 := Scalar.select v694_r0 c1_i32_395_r0 c4_i32_r0
  let v696_r0 : BitVec 32 := Scalar.remsi arg11_r0 v695_r0
  let c0_i32_397_r0 : BitVec 32 := 0#32
  let v698_r0 : BitVec 1 := Scalar.cmpi .slt v696_r0 c0_i32_397_r0
  let c0_i32_398_r0 : BitVec 32 := 0#32
  let v699_r0 : BitVec 1 := Scalar.cmpi .slt v695_r0 c0_i32_398_r0
  let v700_r0 : BitVec 1 := Scalar.xori v698_r0 v699_r0
  let c0_i32_396_r0 : BitVec 32 := 0#32
  let v697_r0 : BitVec 1 := Scalar.cmpi .ne v696_r0 c0_i32_396_r0
  let v701_r0 : BitVec 1 := Scalar.andi v700_r0 v697_r0
  let v702_r0 : BitVec 32 := Scalar.addi v696_r0 v695_r0
  let v703_r0 : BitVec 32 := Scalar.select v701_r0 v702_r0 v696_r0
  let c0_i32_400_r0 : BitVec 32 := 0#32
  let c0_i32_401_r0 : BitVec 32 := 0#32
  ![v703_r0.toNat, 0, 0]
def k0_off6 (k0_t1 : Fin k0_t1_loop.trips) : Fin 2 → Nat :=
  let c0_i32_389_r0 : BitVec 32 := 0#32
  let c1_i32_390_r0 : BitVec 32 := 1#32
  let arg11_r0 : BitVec 32 := Scf.iv c0_i32_389_r0 c1_i32_390_r0 k0_t1
  let c16_i32_399_r0 : BitVec 32 := 16#32
  let v704_r0 : BitVec 32 := Scalar.muli arg11_r0 c16_i32_399_r0
  let c0_i32_402_r0 : BitVec 32 := 0#32
  ![v704_r0.toNat, 0]
def k0_off7 (k0_t1 : Fin k0_t1_loop.trips) : Fin 3 → Nat :=
  let c0_i32_389_r0 : BitVec 32 := 0#32
  let c1_i32_390_r0 : BitVec 32 := 1#32
  let arg11_r0 : BitVec 32 := Scf.iv c0_i32_389_r0 c1_i32_390_r0 k0_t1
  let c4_i32_403_r0 : BitVec 32 := 4#32
  let c0_i32_404_r0 : BitVec 32 := 0#32
  let v710_r0 : BitVec 1 := Scalar.cmpi .eq c4_i32_403_r0 c0_i32_404_r0
  let c1_i32_405_r0 : BitVec 32 := 1#32
  let v711_r0 : BitVec 32 := Scalar.select v710_r0 c1_i32_405_r0 c4_i32_403_r0
  let v712_r0 : BitVec 32 := Scalar.remsi arg11_r0 v711_r0
  let c0_i32_407_r0 : BitVec 32 := 0#32
  let v714_r0 : BitVec 1 := Scalar.cmpi .slt v712_r0 c0_i32_407_r0
  let c0_i32_408_r0 : BitVec 32 := 0#32
  let v715_r0 : BitVec 1 := Scalar.cmpi .slt v711_r0 c0_i32_408_r0
  let v716_r0 : BitVec 1 := Scalar.xori v714_r0 v715_r0
  let c0_i32_406_r0 : BitVec 32 := 0#32
  let v713_r0 : BitVec 1 := Scalar.cmpi .ne v712_r0 c0_i32_406_r0
  let v717_r0 : BitVec 1 := Scalar.andi v716_r0 v713_r0
  let v718_r0 : BitVec 32 := Scalar.addi v712_r0 v711_r0
  let v719_r0 : BitVec 32 := Scalar.select v717_r0 v718_r0 v712_r0
  let v720_r0 : Index := Scalar.indexCast v719_r0
  let c0_409_r0 : Index := 0#32
  let c0_410_r0 : Index := 0#32
  ![v720_r0.toNat, 0, 0]
def k0_mult1 (k0_t1 : Fin k0_t1_loop.trips) : BitVec 32 :=
  let c0_i32_389_r0 : BitVec 32 := 0#32
  let c1_i32_390_r0 : BitVec 32 := 1#32
  let arg11_r0 : BitVec 32 := Scf.iv c0_i32_389_r0 c1_i32_390_r0 k0_t1
  let c16_i32_411_r0 : BitVec 32 := 16#32
  let v724_r0 : BitVec 32 := Scalar.muli arg11_r0 c16_i32_411_r0
  v724_r0
def k0_off8 (k0_t1 : Fin k0_t1_loop.trips) : Fin 2 → Nat :=
  let c0_i32_389_r0 : BitVec 32 := 0#32
  let c1_i32_390_r0 : BitVec 32 := 1#32
  let arg11_r0 : BitVec 32 := Scf.iv c0_i32_389_r0 c1_i32_390_r0 k0_t1
  let c16_i32_411_r0 : BitVec 32 := 16#32
  let v724_r0 : BitVec 32 := Scalar.muli arg11_r0 c16_i32_411_r0
  let v725_r0 : BitVec 32 := v724_r0
  let v726_r0 : Index := Scalar.indexCast v725_r0
  let c0_412_r0 : Index := 0#32
  ![v726_r0.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 1 := Scalar.cmpi .slt arg0 c8_i32
  let c512_i32 : BitVec 32 := 512#32
  let v1 : BitVec 32 := Scalar.muli arg0 c512_i32
  let c4096_i32 : BitVec 32 := 4096#32
  let v2 : BitVec 32 := Scalar.subi v1 c4096_i32
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2048_i32 c0_i32_1
  let v10 : BitVec 32 := Scalar.extui v9
  let c0_i32_2 : BitVec 32 := 0#32
  let v11 : BitVec 1 := Scalar.cmpi .slt c2048_i32 c0_i32_2
  let v12 : BitVec 32 := Scalar.extui v11
  let v13 : BitVec 32 := Scalar.subi v10 v12
  let v14 : BitVec 1 := Scalar.cmpi .ne v8 v13
  let v15 : BitVec 32 := Scalar.remsi v2 c2048_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi c1_i32_4 v19
  let c0_i32_5 : BitVec 32 := 0#32
  let v21 : BitVec 32 := Scalar.select v0 c0_i32_5 v20
  let c0_i32_6 : BitVec 32 := 0#32
  let c0_i32_7 : BitVec 32 := 0#32
  let c0_i32_8 : BitVec 32 := 0#32
  ![v21.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c4_i32_4 : BitVec 32 := 4#32
  let v12 : BitVec 32 := Scalar.select v0 c4_i32_4 v11
  let c0_i32_5 : BitVec 32 := 0#32
  let c0_i32_6 : BitVec 32 := 0#32
  ![v12.toNat, c0_i32_5.toNat]

def cc0_transform_6 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c4_i32_4 : BitVec 32 := 4#32
  let v12 : BitVec 32 := Scalar.select v0 c4_i32_4 v11
  let c0_i32_5 : BitVec 32 := 0#32
  let c0_i32_6 : BitVec 32 := 0#32
  ![v12.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S12288x1024 : Shape := ⟨2, ![12288, 1024]⟩
abbrev S8x9216 : Shape := ⟨2, ![8, 9216]⟩
abbrev S1x3x1024 : Shape := ⟨3, ![1, 3, 1024]⟩
abbrev S2x2x1024 : Shape := ⟨3, ![2, 2, 1024]⟩
abbrev S1x1024x10240 : Shape := ⟨3, ![1, 1024, 10240]⟩
abbrev S1x9216 : Shape := ⟨2, ![1, 9216]⟩
abbrev S9216 : Shape := ⟨1, ![9216]⟩
abbrev S1x1x9216 : Shape := ⟨3, ![1, 1, 9216]⟩
abbrev S4x9216 : Shape := ⟨2, ![4, 9216]⟩
abbrev S4x1x9216 : Shape := ⟨3, ![4, 1, 9216]⟩
abbrev S3x1024 : Shape := ⟨2, ![3, 1024]⟩
abbrev S_ : Shape := ⟨0, ![]⟩
abbrev S2x1024 : Shape := ⟨2, ![2, 1024]⟩
abbrev S2x1x1024 : Shape := ⟨3, ![2, 1, 1024]⟩
abbrev S4096x1024 : Shape := ⟨2, ![4096, 1024]⟩
abbrev S16x256x1024 : Shape := ⟨3, ![16, 256, 1024]⟩
abbrev S1x1x1024 : Shape := ⟨3, ![1, 1, 1024]⟩
abbrev S1x1024 : Shape := ⟨2, ![1, 1024]⟩
abbrev S1024 : Shape := ⟨1, ![1024]⟩
abbrev S16x256 : Shape := ⟨2, ![16, 256]⟩
abbrev S16x256x1 : Shape := ⟨3, ![16, 256, 1]⟩
abbrev S1024x10240 : Shape := ⟨2, ![1024, 10240]⟩
abbrev S16x256x10240 : Shape := ⟨3, ![16, 256, 10240]⟩
abbrev S16x256x512 : Shape := ⟨3, ![16, 256, 512]⟩
abbrev S16x256x4x128 : Shape := ⟨4, ![16, 256, 4, 128]⟩
abbrev S16x256x8192 : Shape := ⟨3, ![16, 256, 8192]⟩
abbrev S16x256x2048 : Shape := ⟨3, ![16, 256, 2048]⟩
abbrev S4096x8192 : Shape := ⟨2, ![4096, 8192]⟩
abbrev S4096x2048 : Shape := ⟨2, ![4096, 2048]⟩
abbrev S8192x1024 : Shape := ⟨2, ![8192, 1024]⟩
abbrev S4x2048x1024 : Shape := ⟨3, ![4, 2048, 1024]⟩
abbrev S4x1x1024 : Shape := ⟨3, ![4, 1, 1024]⟩
abbrev S4x2048 : Shape := ⟨2, ![4, 2048]⟩
abbrev S4x2048x1 : Shape := ⟨3, ![4, 2048, 1]⟩
abbrev S4x2048x10240 : Shape := ⟨3, ![4, 2048, 10240]⟩
abbrev S4x2048x512 : Shape := ⟨3, ![4, 2048, 512]⟩
abbrev S4x2048x4x128 : Shape := ⟨4, ![4, 2048, 4, 128]⟩
abbrev S32 : Shape := ⟨1, ![32]⟩
abbrev S64 : Shape := ⟨1, ![64]⟩
abbrev S32x64 : Shape := ⟨2, ![32, 64]⟩
abbrev S2048 : Shape := ⟨1, ![2048]⟩
abbrev S4x2048x4x64 : Shape := ⟨4, ![4, 2048, 4, 64]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x4x32 : Shape := ⟨4, ![4, 2048, 4, 32]⟩
abbrev S4x2048x8192 : Shape := ⟨3, ![4, 2048, 8192]⟩
abbrev S4x2048x2048 : Shape := ⟨3, ![4, 2048, 2048]⟩
abbrev S8192x8192 : Shape := ⟨2, ![8192, 8192]⟩
abbrev S8192x2048 : Shape := ⟨2, ![8192, 2048]⟩
abbrev S12288x8192 : Shape := ⟨2, ![12288, 8192]⟩
abbrev S12288x2048 : Shape := ⟨2, ![12288, 2048]⟩

abbrev nBuf : Space → Nat
  | .hbm => 465
  | .vmem => 0
  | .smem => 0
  | _ => 0

abbrev hbmTy0_0 (i : Nat) : BufTy := match i % 128 with
  | 0 => ⟨S12288x1024, .f32⟩
  | 1 => ⟨S8x9216, .f32⟩
  | 2 => ⟨S1x3x1024, .f32⟩
  | 3 => ⟨S2x2x1024, .f32⟩
  | 4 => ⟨S1x1024x10240, .f32⟩
  | 5 => ⟨S1x9216, .f32⟩
  | 6 => ⟨S9216, .f32⟩
  | 7 => ⟨S1x1x9216, .f32⟩
  | 8 => ⟨S4x9216, .f32⟩
  | 9 => ⟨S4x1x9216, .f32⟩
  | 10 => ⟨S3x1024, .f32⟩
  | 11 => ⟨S_, .f32⟩
  | 12 => ⟨S2x1024, .f32⟩
  | 13 => ⟨S_, .f32⟩
  | 14 => ⟨S2x1024, .f32⟩
  | 15 => ⟨S2x1024, .f32⟩
  | 16 => ⟨S2x1x1024, .f32⟩
  | 17 => ⟨S2x2x1024, .f32⟩
  | 18 => ⟨S2x2x1024, .f32⟩
  | 19 => ⟨S2x2x1024, .f32⟩
  | 20 => ⟨S_, .f32⟩
  | 21 => ⟨S2x1024, .f32⟩
  | 22 => ⟨S2x1x1024, .f32⟩
  | 23 => ⟨S2x2x1024, .f32⟩
  | 24 => ⟨S2x2x1024, .f32⟩
  | 25 => ⟨S_, .f32⟩
  | 26 => ⟨S_, .f32⟩
  | 27 => ⟨S2x2x1024, .f32⟩
  | 28 => ⟨S2x1x1024, .f32⟩
  | 29 => ⟨S2x1024, .f32⟩
  | 30 => ⟨S4096x1024, .f32⟩
  | 31 => ⟨S16x256x1024, .f32⟩
  | 32 => ⟨S1x1x1024, .f32⟩
  | 33 => ⟨S1x1x1024, .f32⟩
  | 34 => ⟨S1x1x1024, .f32⟩
  | 35 => ⟨S1x1x1024, .f32⟩
  | 36 => ⟨S1x1x1024, .f32⟩
  | 37 => ⟨S1x1x1024, .f32⟩
  | 38 => ⟨S1x1x1024, .f32⟩
  | 39 => ⟨S1x1x1024, .f32⟩
  | 40 => ⟨S1x1x1024, .f32⟩
  | 41 => ⟨S1x1024, .f32⟩
  | 42 => ⟨S1024, .f32⟩
  | 43 => ⟨S16x256x1024, .f32⟩
  | 44 => ⟨S_, .f32⟩
  | 45 => ⟨S16x256, .f32⟩
  | 46 => ⟨S16x256x1, .f32⟩
  | 47 => ⟨S_, .f32⟩
  | 48 => ⟨S16x256x1, .f32⟩
  | 49 => ⟨S16x256x1, .f32⟩
  | 50 => ⟨S_, .f32⟩
  | 51 => ⟨S16x256x1, .f32⟩
  | 52 => ⟨S16x256x1, .f32⟩
  | 53 => ⟨S16x256x1, .f32⟩
  | 54 => ⟨S16x256x1024, .f32⟩
  | 55 => ⟨S16x256x1024, .f32⟩
  | 56 => ⟨S1x1x1024, .f32⟩
  | 57 => ⟨S16x256x1024, .f32⟩
  | 58 => ⟨S16x256x1024, .f32⟩
  | 59 => ⟨S_, .f32⟩
  | 60 => ⟨S1x1x1024, .f32⟩
  | 61 => ⟨S1x1x1024, .f32⟩
  | 62 => ⟨S16x256x1024, .f32⟩
  | 63 => ⟨S16x256x1024, .f32⟩
  | 64 => ⟨S16x256x1024, .f32⟩
  | 65 => ⟨S16x256x1024, .f32⟩
  | 66 => ⟨S1024x10240, .f32⟩
  | 67 => ⟨S16x256x10240, .f32⟩
  | 68 => ⟨S16x256x512, .f32⟩
  | 69 => ⟨S16x256x512, .f32⟩
  | 70 => ⟨S16x256x1024, .f32⟩
  | 71 => ⟨S16x256x1024, .f32⟩
  | 72 => ⟨S16x256x1024, .f32⟩
  | 73 => ⟨S16x256x1024, .f32⟩
  | 74 => ⟨S16x256x1024, .f32⟩
  | 75 => ⟨S16x256x1024, .f32⟩
  | 76 => ⟨S16x256x1024, .f32⟩
  | 77 => ⟨S16x256x1024, .f32⟩
  | 78 => ⟨S16x256x1024, .f32⟩
  | 79 => ⟨S16x256x4x128, .f32⟩
  | 80 => ⟨S16x256x4x128, .f32⟩
  | 81 => ⟨S_, .f32⟩
  | 82 => ⟨S16x256x4x128, .f32⟩
  | 83 => ⟨S16x256x4x128, .f32⟩
  | 84 => ⟨S16x256x1024, .f32⟩
  | 85 => ⟨S16x256x1024, .f32⟩
  | 86 => ⟨S_, .f32⟩
  | 87 => ⟨S16x256x1024, .f32⟩
  | 88 => ⟨S16x256x1024, .f32⟩
  | 89 => ⟨S_, .f32⟩
  | 90 => ⟨S16x256x1024, .f32⟩
  | 91 => ⟨S16x256x1024, .f32⟩
  | 92 => ⟨S16x256x1024, .f32⟩
  | 93 => ⟨S_, .f32⟩
  | 94 => ⟨S16x256x1024, .f32⟩
  | 95 => ⟨S16x256x1024, .f32⟩
  | 96 => ⟨S1x1024, .f32⟩
  | 97 => ⟨S1024, .f32⟩
  | 98 => ⟨S1x1024, .f32⟩
  | 99 => ⟨S1024, .f32⟩
  | 100 => ⟨S_, .f32⟩
  | 101 => ⟨S1024, .f32⟩
  | 102 => ⟨S1024, .f32⟩
  | 103 => ⟨S16x256x1024, .f32⟩
  | 104 => ⟨S16x256x1024, .f32⟩
  | 105 => ⟨S_, .f32⟩
  | 106 => ⟨S16x256x1024, .f32⟩
  | 107 => ⟨S16x256x1024, .f32⟩
  | 108 => ⟨S_, .f32⟩
  | 109 => ⟨S16x256x1024, .f32⟩
  | 110 => ⟨S16x256x1024, .f32⟩
  | 111 => ⟨S1x1x1024, .f32⟩
  | 112 => ⟨S16x256x1024, .f32⟩
  | 113 => ⟨S16x256x1024, .f32⟩
  | 114 => ⟨S1x1x1024, .f32⟩
  | 115 => ⟨S16x256x1024, .f32⟩
  | 116 => ⟨S16x256x1024, .f32⟩
  | 117 => ⟨S1x1024, .f32⟩
  | 118 => ⟨S1024, .f32⟩
  | 119 => ⟨S1x1024, .f32⟩
  | 120 => ⟨S1024, .f32⟩
  | 121 => ⟨S_, .f32⟩
  | 122 => ⟨S1024, .f32⟩
  | 123 => ⟨S1024, .f32⟩
  | 124 => ⟨S16x256x1024, .f32⟩
  | 125 => ⟨S16x256x1024, .f32⟩
  | 126 => ⟨S_, .f32⟩
  | 127 => ⟨S16x256x1024, .f32⟩
  | _ => ⟨S12288x1024, .f32⟩

abbrev hbmTy0_1 (i : Nat) : BufTy := match i % 128 with
  | 0 => ⟨S16x256x1024, .f32⟩
  | 1 => ⟨S_, .f32⟩
  | 2 => ⟨S16x256x1024, .f32⟩
  | 3 => ⟨S16x256x1024, .f32⟩
  | 4 => ⟨S1x1x1024, .f32⟩
  | 5 => ⟨S16x256x1024, .f32⟩
  | 6 => ⟨S16x256x1024, .f32⟩
  | 7 => ⟨S1x1x1024, .f32⟩
  | 8 => ⟨S16x256x1024, .f32⟩
  | 9 => ⟨S16x256x1024, .f32⟩
  | 10 => ⟨S16x256x512, .f32⟩
  | 11 => ⟨S16x256x512, .f32⟩
  | 12 => ⟨S16x256x1024, .f32⟩
  | 13 => ⟨S16x256x1024, .f32⟩
  | 14 => ⟨S_, .f32⟩
  | 15 => ⟨S16x256x1024, .f32⟩
  | 16 => ⟨S16x256x1024, .f32⟩
  | 17 => ⟨S_, .f32⟩
  | 18 => ⟨S16x256x1024, .f32⟩
  | 19 => ⟨S16x256x1024, .f32⟩
  | 20 => ⟨S16x256x1024, .f32⟩
  | 21 => ⟨S16x256x1024, .f32⟩
  | 22 => ⟨S16x256x1024, .f32⟩
  | 23 => ⟨S_, .f32⟩
  | 24 => ⟨S16x256x1024, .f32⟩
  | 25 => ⟨S16x256x1024, .f32⟩
  | 26 => ⟨S_, .f32⟩
  | 27 => ⟨S16x256x1024, .f32⟩
  | 28 => ⟨S16x256x1024, .f32⟩
  | 29 => ⟨S16x256x1024, .f32⟩
  | 30 => ⟨S16x256x1024, .f32⟩
  | 31 => ⟨S16x256x1024, .f32⟩
  | 32 => ⟨S_, .f32⟩
  | 33 => ⟨S16x256x1024, .f32⟩
  | 34 => ⟨S16x256x1024, .f32⟩
  | 35 => ⟨S_, .f32⟩
  | 36 => ⟨S16x256x1024, .f32⟩
  | 37 => ⟨S16x256x1024, .f32⟩
  | 38 => ⟨S16x256x1024, .f32⟩
  | 39 => ⟨S16x256x1024, .f32⟩
  | 40 => ⟨S_, .f32⟩
  | 41 => ⟨S16x256x1024, .f32⟩
  | 42 => ⟨S16x256x1024, .f32⟩
  | 43 => ⟨S_, .f32⟩
  | 44 => ⟨S16x256x1024, .f32⟩
  | 45 => ⟨S16x256x1024, .f32⟩
  | 46 => ⟨S16x256x8192, .f32⟩
  | 47 => ⟨S16x256x1024, .f32⟩
  | 48 => ⟨S16x256x1024, .f32⟩
  | 49 => ⟨S16x256x2048, .f32⟩
  | 50 => ⟨S_, .f32⟩
  | 51 => ⟨S16x256x2048, .f32⟩
  | 52 => ⟨S16x256x2048, .f32⟩
  | 53 => ⟨S4096x8192, .f32⟩
  | 54 => ⟨S4096x2048, .f32⟩
  | 55 => ⟨S8192x1024, .f32⟩
  | 56 => ⟨S4x2048x1024, .f32⟩
  | 57 => ⟨S4x1x1024, .f32⟩
  | 58 => ⟨S4x1x1024, .f32⟩
  | 59 => ⟨S4x1x1024, .f32⟩
  | 60 => ⟨S4x1x1024, .f32⟩
  | 61 => ⟨S4x1x1024, .f32⟩
  | 62 => ⟨S4x1x1024, .f32⟩
  | 63 => ⟨S4x1x1024, .f32⟩
  | 64 => ⟨S4x1x1024, .f32⟩
  | 65 => ⟨S4x1x1024, .f32⟩
  | 66 => ⟨S1x1024, .f32⟩
  | 67 => ⟨S1024, .f32⟩
  | 68 => ⟨S4x2048x1024, .f32⟩
  | 69 => ⟨S_, .f32⟩
  | 70 => ⟨S4x2048, .f32⟩
  | 71 => ⟨S4x2048x1, .f32⟩
  | 72 => ⟨S_, .f32⟩
  | 73 => ⟨S4x2048x1, .f32⟩
  | 74 => ⟨S4x2048x1, .f32⟩
  | 75 => ⟨S_, .f32⟩
  | 76 => ⟨S4x2048x1, .f32⟩
  | 77 => ⟨S4x2048x1, .f32⟩
  | 78 => ⟨S4x2048x1, .f32⟩
  | 79 => ⟨S4x2048x1024, .f32⟩
  | 80 => ⟨S4x2048x1024, .f32⟩
  | 81 => ⟨S1x1x1024, .f32⟩
  | 82 => ⟨S4x2048x1024, .f32⟩
  | 83 => ⟨S4x2048x1024, .f32⟩
  | 84 => ⟨S_, .f32⟩
  | 85 => ⟨S4x1x1024, .f32⟩
  | 86 => ⟨S4x1x1024, .f32⟩
  | 87 => ⟨S4x2048x1024, .f32⟩
  | 88 => ⟨S4x2048x1024, .f32⟩
  | 89 => ⟨S4x2048x1024, .f32⟩
  | 90 => ⟨S4x2048x1024, .f32⟩
  | 91 => ⟨S1024x10240, .f32⟩
  | 92 => ⟨S4x2048x10240, .f32⟩
  | 93 => ⟨S4x2048x512, .f32⟩
  | 94 => ⟨S4x2048x512, .f32⟩
  | 95 => ⟨S4x2048x1024, .f32⟩
  | 96 => ⟨S4x2048x1024, .f32⟩
  | 97 => ⟨S4x2048x1024, .f32⟩
  | 98 => ⟨S4x2048x1024, .f32⟩
  | 99 => ⟨S4x2048x1024, .f32⟩
  | 100 => ⟨S4x2048x1024, .f32⟩
  | 101 => ⟨S4x2048x1024, .f32⟩
  | 102 => ⟨S4x2048x1024, .f32⟩
  | 103 => ⟨S4x2048x1024, .f32⟩
  | 104 => ⟨S4x2048x4x128, .f32⟩
  | 105 => ⟨S4x2048x4x128, .f32⟩
  | 106 => ⟨S32, .i32⟩
  | 107 => ⟨S64, .i32⟩
  | 108 => ⟨S32x64, .i32⟩
  | 109 => ⟨S32x64, .i32⟩
  | 110 => ⟨S2048, .i32⟩
  | 111 => ⟨S2048, .f32⟩
  | 112 => ⟨S2048, .i32⟩
  | 113 => ⟨S2048, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S4x2048x4x64, .f32⟩
  | 123 => ⟨S2048x1, .f32⟩
  | 124 => ⟨S1x32, .f32⟩
  | 125 => ⟨S2048x32, .f32⟩
  | 126 => ⟨S2048x32, .f32⟩
  | 127 => ⟨S2048x32, .f32⟩
  | _ => ⟨S12288x1024, .f32⟩

abbrev hbmTy0_2 (i : Nat) : BufTy := match i % 128 with
  | 0 => ⟨S2048x32, .f32⟩
  | 1 => ⟨S1x2048x1x32, .f32⟩
  | 2 => ⟨S2048x32, .f32⟩
  | 3 => ⟨S1x2048x1x32, .f32⟩
  | 4 => ⟨S4x2048x4x32, .f32⟩
  | 5 => ⟨S4x2048x4x32, .f32⟩
  | 6 => ⟨S4x2048x4x32, .f32⟩
  | 7 => ⟨S4x2048x4x32, .f32⟩
  | 8 => ⟨S4x2048x4x32, .f32⟩
  | 9 => ⟨S4x2048x4x32, .f32⟩
  | 10 => ⟨S4x2048x4x32, .f32⟩
  | 11 => ⟨S4x2048x4x32, .f32⟩
  | 12 => ⟨S4x2048x4x32, .f32⟩
  | 13 => ⟨S4x2048x4x32, .f32⟩
  | 14 => ⟨S4x2048x4x32, .f32⟩
  | 15 => ⟨S4x2048x4x32, .f32⟩
  | 16 => ⟨S4x2048x4x64, .f32⟩
  | 17 => ⟨S4x2048x4x64, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x32, .f32⟩
  | 24 => ⟨S1x2048x1x32, .f32⟩
  | 25 => ⟨S2048x32, .f32⟩
  | 26 => ⟨S1x2048x1x32, .f32⟩
  | 27 => ⟨S4x2048x4x32, .f32⟩
  | 28 => ⟨S4x2048x4x32, .f32⟩
  | 29 => ⟨S4x2048x4x32, .f32⟩
  | 30 => ⟨S4x2048x4x32, .f32⟩
  | 31 => ⟨S4x2048x4x32, .f32⟩
  | 32 => ⟨S4x2048x4x32, .f32⟩
  | 33 => ⟨S4x2048x4x32, .f32⟩
  | 34 => ⟨S4x2048x4x32, .f32⟩
  | 35 => ⟨S4x2048x4x32, .f32⟩
  | 36 => ⟨S4x2048x4x32, .f32⟩
  | 37 => ⟨S4x2048x4x32, .f32⟩
  | 38 => ⟨S4x2048x4x32, .f32⟩
  | 39 => ⟨S4x2048x4x64, .f32⟩
  | 40 => ⟨S4x2048x4x128, .f32⟩
  | 41 => ⟨S32, .i32⟩
  | 42 => ⟨S64, .i32⟩
  | 43 => ⟨S32x64, .i32⟩
  | 44 => ⟨S32x64, .i32⟩
  | 45 => ⟨S2048, .i32⟩
  | 46 => ⟨S2048, .f32⟩
  | 47 => ⟨S2048, .i32⟩
  | 48 => ⟨S2048, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S4x2048x4x64, .f32⟩
  | 58 => ⟨S2048x1, .f32⟩
  | 59 => ⟨S1x32, .f32⟩
  | 60 => ⟨S2048x32, .f32⟩
  | 61 => ⟨S2048x32, .f32⟩
  | 62 => ⟨S2048x32, .f32⟩
  | 63 => ⟨S2048x32, .f32⟩
  | 64 => ⟨S1x2048x1x32, .f32⟩
  | 65 => ⟨S2048x32, .f32⟩
  | 66 => ⟨S1x2048x1x32, .f32⟩
  | 67 => ⟨S4x2048x4x32, .f32⟩
  | 68 => ⟨S4x2048x4x32, .f32⟩
  | 69 => ⟨S4x2048x4x32, .f32⟩
  | 70 => ⟨S4x2048x4x32, .f32⟩
  | 71 => ⟨S4x2048x4x32, .f32⟩
  | 72 => ⟨S4x2048x4x32, .f32⟩
  | 73 => ⟨S4x2048x4x32, .f32⟩
  | 74 => ⟨S4x2048x4x32, .f32⟩
  | 75 => ⟨S4x2048x4x32, .f32⟩
  | 76 => ⟨S4x2048x4x32, .f32⟩
  | 77 => ⟨S4x2048x4x32, .f32⟩
  | 78 => ⟨S4x2048x4x32, .f32⟩
  | 79 => ⟨S4x2048x4x64, .f32⟩
  | 80 => ⟨S4x2048x4x64, .f32⟩
  | 81 => ⟨S2048x1, .f32⟩
  | 82 => ⟨S1x32, .f32⟩
  | 83 => ⟨S2048x32, .f32⟩
  | 84 => ⟨S2048x32, .f32⟩
  | 85 => ⟨S2048x32, .f32⟩
  | 86 => ⟨S2048x32, .f32⟩
  | 87 => ⟨S1x2048x1x32, .f32⟩
  | 88 => ⟨S2048x32, .f32⟩
  | 89 => ⟨S1x2048x1x32, .f32⟩
  | 90 => ⟨S4x2048x4x32, .f32⟩
  | 91 => ⟨S4x2048x4x32, .f32⟩
  | 92 => ⟨S4x2048x4x32, .f32⟩
  | 93 => ⟨S4x2048x4x32, .f32⟩
  | 94 => ⟨S4x2048x4x32, .f32⟩
  | 95 => ⟨S4x2048x4x32, .f32⟩
  | 96 => ⟨S4x2048x4x32, .f32⟩
  | 97 => ⟨S4x2048x4x32, .f32⟩
  | 98 => ⟨S4x2048x4x32, .f32⟩
  | 99 => ⟨S4x2048x4x32, .f32⟩
  | 100 => ⟨S4x2048x4x32, .f32⟩
  | 101 => ⟨S4x2048x4x32, .f32⟩
  | 102 => ⟨S4x2048x4x64, .f32⟩
  | 103 => ⟨S4x2048x4x128, .f32⟩
  | 104 => ⟨S_, .f32⟩
  | 105 => ⟨S4x2048x4x128, .f32⟩
  | 106 => ⟨S4x2048x4x128, .f32⟩
  | 107 => ⟨S4x2048x1024, .f32⟩
  | 108 => ⟨S4x2048x1024, .f32⟩
  | 109 => ⟨S_, .f32⟩
  | 110 => ⟨S4x2048x1024, .f32⟩
  | 111 => ⟨S4x2048x1024, .f32⟩
  | 112 => ⟨S_, .f32⟩
  | 113 => ⟨S4x2048x1024, .f32⟩
  | 114 => ⟨S4x2048x1024, .f32⟩
  | 115 => ⟨S4x2048x1024, .f32⟩
  | 116 => ⟨S_, .f32⟩
  | 117 => ⟨S4x2048x1024, .f32⟩
  | 118 => ⟨S4x2048x1024, .f32⟩
  | 119 => ⟨S1x1024, .f32⟩
  | 120 => ⟨S1024, .f32⟩
  | 121 => ⟨S1x1024, .f32⟩
  | 122 => ⟨S1024, .f32⟩
  | 123 => ⟨S_, .f32⟩
  | 124 => ⟨S1024, .f32⟩
  | 125 => ⟨S1024, .f32⟩
  | 126 => ⟨S4x2048x1024, .f32⟩
  | 127 => ⟨S4x2048x1024, .f32⟩
  | _ => ⟨S12288x1024, .f32⟩

abbrev hbmTy0_3 (i : Nat) : BufTy := match i % 128 with
  | 0 => ⟨S_, .f32⟩
  | 1 => ⟨S4x2048x1024, .f32⟩
  | 2 => ⟨S4x2048x1024, .f32⟩
  | 3 => ⟨S_, .f32⟩
  | 4 => ⟨S4x2048x1024, .f32⟩
  | 5 => ⟨S4x2048x1024, .f32⟩
  | 6 => ⟨S1x1x1024, .f32⟩
  | 7 => ⟨S4x2048x1024, .f32⟩
  | 8 => ⟨S4x2048x1024, .f32⟩
  | 9 => ⟨S1x1x1024, .f32⟩
  | 10 => ⟨S4x2048x1024, .f32⟩
  | 11 => ⟨S4x2048x1024, .f32⟩
  | 12 => ⟨S1x1024, .f32⟩
  | 13 => ⟨S1024, .f32⟩
  | 14 => ⟨S1x1024, .f32⟩
  | 15 => ⟨S1024, .f32⟩
  | 16 => ⟨S_, .f32⟩
  | 17 => ⟨S1024, .f32⟩
  | 18 => ⟨S1024, .f32⟩
  | 19 => ⟨S4x2048x1024, .f32⟩
  | 20 => ⟨S4x2048x1024, .f32⟩
  | 21 => ⟨S_, .f32⟩
  | 22 => ⟨S4x2048x1024, .f32⟩
  | 23 => ⟨S4x2048x1024, .f32⟩
  | 24 => ⟨S_, .f32⟩
  | 25 => ⟨S4x2048x1024, .f32⟩
  | 26 => ⟨S4x2048x1024, .f32⟩
  | 27 => ⟨S1x1x1024, .f32⟩
  | 28 => ⟨S4x2048x1024, .f32⟩
  | 29 => ⟨S4x2048x1024, .f32⟩
  | 30 => ⟨S1x1x1024, .f32⟩
  | 31 => ⟨S4x2048x1024, .f32⟩
  | 32 => ⟨S4x2048x1024, .f32⟩
  | 33 => ⟨S4x2048x512, .f32⟩
  | 34 => ⟨S4x2048x512, .f32⟩
  | 35 => ⟨S4x2048x1024, .f32⟩
  | 36 => ⟨S4x2048x1024, .f32⟩
  | 37 => ⟨S_, .f32⟩
  | 38 => ⟨S4x2048x1024, .f32⟩
  | 39 => ⟨S4x2048x1024, .f32⟩
  | 40 => ⟨S_, .f32⟩
  | 41 => ⟨S4x2048x1024, .f32⟩
  | 42 => ⟨S4x2048x1024, .f32⟩
  | 43 => ⟨S4x2048x1024, .f32⟩
  | 44 => ⟨S4x2048x1024, .f32⟩
  | 45 => ⟨S4x2048x1024, .f32⟩
  | 46 => ⟨S_, .f32⟩
  | 47 => ⟨S4x2048x1024, .f32⟩
  | 48 => ⟨S4x2048x1024, .f32⟩
  | 49 => ⟨S_, .f32⟩
  | 50 => ⟨S4x2048x1024, .f32⟩
  | 51 => ⟨S4x2048x1024, .f32⟩
  | 52 => ⟨S4x2048x1024, .f32⟩
  | 53 => ⟨S4x2048x1024, .f32⟩
  | 54 => ⟨S4x2048x1024, .f32⟩
  | 55 => ⟨S_, .f32⟩
  | 56 => ⟨S4x2048x1024, .f32⟩
  | 57 => ⟨S4x2048x1024, .f32⟩
  | 58 => ⟨S_, .f32⟩
  | 59 => ⟨S4x2048x1024, .f32⟩
  | 60 => ⟨S4x2048x1024, .f32⟩
  | 61 => ⟨S4x2048x1024, .f32⟩
  | 62 => ⟨S4x2048x1024, .f32⟩
  | 63 => ⟨S_, .f32⟩
  | 64 => ⟨S4x2048x1024, .f32⟩
  | 65 => ⟨S4x2048x1024, .f32⟩
  | 66 => ⟨S_, .f32⟩
  | 67 => ⟨S4x2048x1024, .f32⟩
  | 68 => ⟨S4x2048x1024, .f32⟩
  | 69 => ⟨S4x2048x8192, .f32⟩
  | 70 => ⟨S4x2048x1024, .f32⟩
  | 71 => ⟨S4x2048x1024, .f32⟩
  | 72 => ⟨S4x2048x2048, .f32⟩
  | 73 => ⟨S_, .f32⟩
  | 74 => ⟨S4x2048x2048, .f32⟩
  | 75 => ⟨S4x2048x2048, .f32⟩
  | 76 => ⟨S8192x8192, .f32⟩
  | 77 => ⟨S8192x2048, .f32⟩
  | 78 => ⟨S12288x8192, .f32⟩
  | 79 => ⟨S12288x8192, .bf16⟩
  | 80 => ⟨S12288x2048, .f32⟩
  | _ => ⟨S12288x1024, .f32⟩

abbrev hbmTy (i : Nat) : BufTy := match i / 128 with
  | 0 => hbmTy0_0 i
  | 1 => hbmTy0_1 i
  | 2 => hbmTy0_2 i
  | 3 => hbmTy0_3 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_call0_cst : Ref sig .tc := ⟨.hbm, 25, rfl⟩
abbrev main_call0_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_6 : Ref sig .tc := ⟨.hbm, 81, rfl⟩
abbrev main_v67 : Ref sig .tc := ⟨.hbm, 82, rfl⟩
abbrev main_v68 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v69 : Ref sig .tc := ⟨.hbm, 92, rfl⟩
abbrev main_cst_7 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_8 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_9 : Ref sig .tc := ⟨.hbm, 105, rfl⟩
abbrev main_v80 : Ref sig .tc := ⟨.hbm, 106, rfl⟩
abbrev main_v81 : Ref sig .tc := ⟨.hbm, 107, rfl⟩
abbrev main_cst_10 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_11 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_12 : Ref sig .tc := ⟨.hbm, 126, rfl⟩
abbrev main_v98 : Ref sig .tc := ⟨.hbm, 127, rfl⟩
abbrev main_v99 : Ref sig .tc := ⟨.hbm, 128, rfl⟩
abbrev main_cst_13 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_call2_v0 : Ref sig .tc := ⟨.hbm, 140, rfl⟩
abbrev main_call2_v1 : Ref sig .tc := ⟨.hbm, 141, rfl⟩
abbrev main_call2_cst : Ref sig .tc := ⟨.hbm, 142, rfl⟩
abbrev main_call2_v2 : Ref sig .tc := ⟨.hbm, 143, rfl⟩
abbrev main_call2_v3 : Ref sig .tc := ⟨.hbm, 144, rfl⟩
abbrev main_call2_cst_0 : Ref sig .tc := ⟨.hbm, 145, rfl⟩
abbrev main_call2_v4 : Ref sig .tc := ⟨.hbm, 146, rfl⟩
abbrev main_call2_v5 : Ref sig .tc := ⟨.hbm, 147, rfl⟩
abbrev main_v110 : Ref sig .tc := ⟨.hbm, 148, rfl⟩
abbrev main_call3_v0 : Ref sig .tc := ⟨.hbm, 149, rfl⟩
abbrev main_call3_v1 : Ref sig .tc := ⟨.hbm, 150, rfl⟩
abbrev main_call3_cst : Ref sig .tc := ⟨.hbm, 151, rfl⟩
abbrev main_call3_v2 : Ref sig .tc := ⟨.hbm, 152, rfl⟩
abbrev main_call3_v3 : Ref sig .tc := ⟨.hbm, 153, rfl⟩
abbrev main_call3_cst_0 : Ref sig .tc := ⟨.hbm, 154, rfl⟩
abbrev main_call3_v4 : Ref sig .tc := ⟨.hbm, 155, rfl⟩
abbrev main_call3_v5 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_14 : Ref sig .tc := ⟨.hbm, 160, rfl⟩
abbrev main_v114 : Ref sig .tc := ⟨.hbm, 161, rfl⟩
abbrev main_v115 : Ref sig .tc := ⟨.hbm, 162, rfl⟩
abbrev main_cst_15 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_16 : Ref sig .tc := ⟨.hbm, 168, rfl⟩
abbrev main_v120 : Ref sig .tc := ⟨.hbm, 169, rfl⟩
abbrev main_v121 : Ref sig .tc := ⟨.hbm, 170, rfl⟩
abbrev main_cst_17 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_18 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_19 : Ref sig .tc := ⟨.hbm, 197, rfl⟩
abbrev main_v146 : Ref sig .tc := ⟨.hbm, 198, rfl⟩
abbrev main_v147 : Ref sig .tc := ⟨.hbm, 199, rfl⟩
abbrev main_cst_20 : Ref sig .tc := ⟨.hbm, 200, rfl⟩
abbrev main_v148 : Ref sig .tc := ⟨.hbm, 201, rfl⟩
abbrev main_v149 : Ref sig .tc := ⟨.hbm, 202, rfl⟩
abbrev main_cst_21 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_cst_22 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_cst_23 : Ref sig .tc := ⟨.hbm, 244, rfl⟩
abbrev main_v189 : Ref sig .tc := ⟨.hbm, 245, rfl⟩
abbrev main_v190 : Ref sig .tc := ⟨.hbm, 246, rfl⟩
abbrev main_cst_24 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_cst_25 : Ref sig .tc := ⟨.hbm, 307, rfl⟩
abbrev main_v250 : Ref sig .tc := ⟨.hbm, 308, rfl⟩
abbrev main_v251 : Ref sig .tc := ⟨.hbm, 309, rfl⟩
abbrev main_cst_26 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩
abbrev main_v297 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_cst_27 : Ref sig .tc := ⟨.hbm, 360, rfl⟩
abbrev main_v301 : Ref sig .tc := ⟨.hbm, 361, rfl⟩
abbrev main_v302 : Ref sig .tc := ⟨.hbm, 362, rfl⟩
abbrev main_call4_v0 : Ref sig .tc := ⟨.hbm, 363, rfl⟩
abbrev main_call4_v1 : Ref sig .tc := ⟨.hbm, 364, rfl⟩
abbrev main_call4_cst : Ref sig .tc := ⟨.hbm, 365, rfl⟩
abbrev main_call4_v2 : Ref sig .tc := ⟨.hbm, 366, rfl⟩
abbrev main_call4_v3 : Ref sig .tc := ⟨.hbm, 367, rfl⟩
abbrev main_call4_cst_0 : Ref sig .tc := ⟨.hbm, 368, rfl⟩
abbrev main_call4_v4 : Ref sig .tc := ⟨.hbm, 369, rfl⟩
abbrev main_call4_v5 : Ref sig .tc := ⟨.hbm, 370, rfl⟩
abbrev main_v303 : Ref sig .tc := ⟨.hbm, 371, rfl⟩
abbrev main_cst_28 : Ref sig .tc := ⟨.hbm, 372, rfl⟩
abbrev main_v304 : Ref sig .tc := ⟨.hbm, 373, rfl⟩
abbrev main_v305 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩
abbrev main_cst_29 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_cst_30 : Ref sig .tc := ⟨.hbm, 384, rfl⟩
abbrev main_v314 : Ref sig .tc := ⟨.hbm, 385, rfl⟩
abbrev main_v315 : Ref sig .tc := ⟨.hbm, 386, rfl⟩
abbrev main_cst_31 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_v320 : Ref sig .tc := ⟨.hbm, 392, rfl⟩
abbrev main_v321 : Ref sig .tc := ⟨.hbm, 393, rfl⟩
abbrev main_v322 : Ref sig .tc := ⟨.hbm, 394, rfl⟩
abbrev main_v323 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_v327 : Ref sig .tc := ⟨.hbm, 399, rfl⟩
abbrev main_cst_32 : Ref sig .tc := ⟨.hbm, 400, rfl⟩
abbrev main_v328 : Ref sig .tc := ⟨.hbm, 401, rfl⟩
abbrev main_v329 : Ref sig .tc := ⟨.hbm, 402, rfl⟩
abbrev main_v330 : Ref sig .tc := ⟨.hbm, 403, rfl⟩
abbrev main_v331 : Ref sig .tc := ⟨.hbm, 404, rfl⟩
abbrev main_cst_33 : Ref sig .tc := ⟨.hbm, 405, rfl⟩
abbrev main_v332 : Ref sig .tc := ⟨.hbm, 406, rfl⟩
abbrev main_v333 : Ref sig .tc := ⟨.hbm, 407, rfl⟩
abbrev main_cst_34 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_call5_v0 : Ref sig .tc := ⟨.hbm, 419, rfl⟩
abbrev main_call5_v1 : Ref sig .tc := ⟨.hbm, 420, rfl⟩
abbrev main_call5_cst : Ref sig .tc := ⟨.hbm, 421, rfl⟩
abbrev main_call5_v2 : Ref sig .tc := ⟨.hbm, 422, rfl⟩
abbrev main_call5_v3 : Ref sig .tc := ⟨.hbm, 423, rfl⟩
abbrev main_call5_cst_0 : Ref sig .tc := ⟨.hbm, 424, rfl⟩
abbrev main_call5_v4 : Ref sig .tc := ⟨.hbm, 425, rfl⟩
abbrev main_call5_v5 : Ref sig .tc := ⟨.hbm, 426, rfl⟩
abbrev main_v344 : Ref sig .tc := ⟨.hbm, 427, rfl⟩
abbrev main_call6_v0 : Ref sig .tc := ⟨.hbm, 428, rfl⟩
abbrev main_call6_v1 : Ref sig .tc := ⟨.hbm, 429, rfl⟩
abbrev main_call6_cst : Ref sig .tc := ⟨.hbm, 430, rfl⟩
abbrev main_call6_v2 : Ref sig .tc := ⟨.hbm, 431, rfl⟩
abbrev main_call6_v3 : Ref sig .tc := ⟨.hbm, 432, rfl⟩
abbrev main_call6_cst_0 : Ref sig .tc := ⟨.hbm, 433, rfl⟩
abbrev main_call6_v4 : Ref sig .tc := ⟨.hbm, 434, rfl⟩
abbrev main_call6_v5 : Ref sig .tc := ⟨.hbm, 435, rfl⟩
abbrev main_v345 : Ref sig .tc := ⟨.hbm, 436, rfl⟩
abbrev main_v346 : Ref sig .tc := ⟨.hbm, 437, rfl⟩
abbrev main_v347 : Ref sig .tc := ⟨.hbm, 438, rfl⟩
abbrev main_cst_35 : Ref sig .tc := ⟨.hbm, 439, rfl⟩
abbrev main_v348 : Ref sig .tc := ⟨.hbm, 440, rfl⟩
abbrev main_v349 : Ref sig .tc := ⟨.hbm, 441, rfl⟩
abbrev main_cst_36 : Ref sig .tc := ⟨.hbm, 442, rfl⟩
abbrev main_v350 : Ref sig .tc := ⟨.hbm, 443, rfl⟩
abbrev main_v351 : Ref sig .tc := ⟨.hbm, 444, rfl⟩
abbrev main_v352 : Ref sig .tc := ⟨.hbm, 445, rfl⟩
abbrev main_v353 : Ref sig .tc := ⟨.hbm, 446, rfl⟩
abbrev main_cst_37 : Ref sig .tc := ⟨.hbm, 447, rfl⟩
abbrev main_v354 : Ref sig .tc := ⟨.hbm, 448, rfl⟩
abbrev main_v355 : Ref sig .tc := ⟨.hbm, 449, rfl⟩
abbrev main_cst_38 : Ref sig .tc := ⟨.hbm, 450, rfl⟩
abbrev main_v356 : Ref sig .tc := ⟨.hbm, 451, rfl⟩
abbrev main_v357 : Ref sig .tc := ⟨.hbm, 452, rfl⟩
abbrev main_v358 : Ref sig .tc := ⟨.hbm, 453, rfl⟩
abbrev main_v359 : Ref sig .tc := ⟨.hbm, 454, rfl⟩
abbrev main_v360 : Ref sig .tc := ⟨.hbm, 455, rfl⟩
abbrev main_v361 : Ref sig .tc := ⟨.hbm, 456, rfl⟩
abbrev main_cst_39 : Ref sig .tc := ⟨.hbm, 457, rfl⟩
abbrev main_v362 : Ref sig .tc := ⟨.hbm, 458, rfl⟩
abbrev main_v363 : Ref sig .tc := ⟨.hbm, 459, rfl⟩
abbrev main_v364 : Ref sig .tc := ⟨.hbm, 460, rfl⟩
abbrev main_v365 : Ref sig .tc := ⟨.hbm, 461, rfl⟩
abbrev main_v366 : Ref sig .tc := ⟨.hbm, 462, rfl⟩
abbrev main_v367 : Ref sig .tc := ⟨.hbm, 463, rfl⟩
abbrev main_v368 : Ref sig .tc := ⟨.hbm, 464, rfl⟩

abbrev nD : Nat := 1
abbrev τ : Topo := Topo.v7x

variable {F : FTy → Type} [FloatOps F]
-- ==== Kernel4.lean ====
abbrev S12288x1024 : Shape := ⟨2, ![12288, 1024]⟩
abbrev S8x9216 : Shape := ⟨2, ![8, 9216]⟩
abbrev S4096x1024 : Shape := ⟨2, ![4096, 1024]⟩
abbrev S8192x1024 : Shape := ⟨2, ![8192, 1024]⟩
abbrev S12288x8192 : Shape := ⟨2, ![12288, 8192]⟩
abbrev S1x1024x1024 : Shape := ⟨3, ![1, 1024, 1024]⟩
abbrev S8x9x1024 : Shape := ⟨3, ![8, 9, 1024]⟩
abbrev S1024x1024 : Shape := ⟨2, ![1024, 1024]⟩
abbrev S512x1024 : Shape := ⟨2, ![512, 1024]⟩
abbrev S1x9x1024 : Shape := ⟨3, ![1, 9, 1024]⟩
abbrev S4x512x1024 : Shape := ⟨3, ![4, 512, 1024]⟩
abbrev S4 : Shape := ⟨1, ![4]⟩
abbrev S1 : Shape := ⟨1, ![1]⟩
abbrev S_ : Shape := ⟨0, ![]⟩
abbrev S1x512x1024 : Shape := ⟨3, ![1, 512, 1024]⟩
abbrev S1x1x1024 : Shape := ⟨3, ![1, 1, 1024]⟩
abbrev S1x1024 : Shape := ⟨2, ![1, 1024]⟩

abbrev nBuf : Space → Nat
  | .hbm => 15
  | .vmem => 24
  | .smem => 0
  | _ => 0

abbrev bufTy : (tb : Table) → Fin (tcTables nBuf tb) → BufTy
  | .hbm, ⟨0, _⟩ => ⟨S12288x1024, .f32⟩
  | .hbm, ⟨1, _⟩ => ⟨S8x9216, .f32⟩
  | .hbm, ⟨2, _⟩ => ⟨S4096x1024, .bf16⟩
  | .hbm, ⟨3, _⟩ => ⟨S8192x1024, .bf16⟩
  | .hbm, ⟨4, _⟩ => ⟨S4096x1024, .bf16⟩
  | .hbm, ⟨5, _⟩ => ⟨S8192x1024, .bf16⟩
  | .hbm, ⟨6, _⟩ => ⟨S12288x8192, .bf16⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S8x9x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S12288x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S4x512x1024, .f32⟩
  | .local _ .vmem, ⟨22, _⟩ => ⟨S4x512x1024, .f32⟩
  | .local _ .vmem, ⟨23, _⟩ => ⟨S4x512x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scoped0 : Ref sig .tc := ⟨.vmem, 21, rfl⟩
abbrev cc0_scoped2 : Ref sig .tc := ⟨.vmem, 22, rfl⟩
abbrev cc0_scoped4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_42_r0 : BitVec 32 := 0#32
  let c2_i32_r0 : BitVec 32 := 2#32
  let v49_r0 : BitVec 32 := Scalar.addi c0_i32_42_r0 c2_i32_r0
  let c1_i32_43_r0 : BitVec 32 := 1#32
  ⟨c0_i32_42_r0, v49_r0, c1_i32_43_r0⟩
def k0_cond2 (k0_t1 : Fin k0_t1_loop.trips) : BitVec 1 :=
  let c0_i32_42_r0 : BitVec 32 := 0#32
  let c1_i32_43_r0 : BitVec 32 := 1#32
  let arg16_r0 : BitVec 32 := Scf.iv c0_i32_42_r0 c1_i32_43_r0 k0_t1
  let c3_i32_r0 : BitVec 32 := 3#32
  let v50_r0 : BitVec 32 := Scalar.addi arg16_r0 c3_i32_r0
  let c2_i32_45_r0 : BitVec 32 := 2#32
  let v51_r0 : BitVec 1 := Scalar.cmpi .slt v50_r0 c2_i32_45_r0
  let v52_r0 : BitVec 32 := Scalar.extui v51_r0
  let c0_i32_46_r0 : BitVec 32 := 0#32
  let v53_r0 : BitVec 1 := Scalar.cmpi .ne v52_r0 c0_i32_46_r0
  v53_r0

def k0_off1 (k0_t1 : Fin k0_t1_loop.trips) : Fin 1 → Nat :=
  let c0_i32_42_r0 : BitVec 32 := 0#32
  let c1_i32_43_r0 : BitVec 32 := 1#32
  let arg16_r0 : BitVec 32 := Scf.iv c0_i32_42_r0 c1_i32_43_r0 k0_t1
  let c3_i32_66_r0 : BitVec 32 := 3#32
  let v90_r0 : BitVec 32 := Scalar.addi arg16_r0 c3_i32_66_r0
  let c4_i32_67_r0 : BitVec 32 := 4#32
  let c0_i32_68_r0 : BitVec 32 := 0#32
  let v91_r0 : BitVec 1 := Scalar.cmpi .eq c4_i32_67_r0 c0_i32_68_r0
  let c1_i32_69_r0 : BitVec 32 := 1#32
  let v92_r0 : BitVec 32 := Scalar.select v91_r0 c1_i32_69_r0 c4_i32_67_r0
  let v93_r0 : BitVec 32 := Scalar.remsi v90_r0 v92_r0
  let c0_i32_71_r0 : BitVec 32 := 0#32
  let v95_r0 : BitVec 1 := Scalar.cmpi .slt v93_r0 c0_i32_71_r0
  let c0_i32_72_r0 : BitVec 32 := 0#32
  let v96_r0 : BitVec 1 := Scalar.cmpi .slt v92_r0 c0_i32_72_r0
  let v97_r0 : BitVec 1 := Scalar.xori v95_r0 v96_r0
  let c0_i32_70_r0 : BitVec 32 := 0#32
  let v94_r0 : BitVec 1 := Scalar.cmpi .ne v93_r0 c0_i32_70_r0
  let v98_r0 : BitVec 1 := Scalar.andi v97_r0 v94_r0
  let v99_r0 : BitVec 32 := Scalar.addi v93_r0 v92_r0
  let v100_r0 : BitVec 32 := Scalar.select v98_r0 v99_r0 v93_r0
  ![v100_r0.toNat]
def k0_off2 (k0_t1 : Fin k0_t1_loop.trips) : Fin 3 → Nat :=
  let c0_i32_42_r0 : BitVec 32 := 0#32
  let c1_i32_43_r0 : BitVec 32 := 1#32
  let arg16_r0 : BitVec 32 := Scf.iv c0_i32_42_r0 c1_i32_43_r0 k0_t1
  let c3_i32_66_r0 : BitVec 32 := 3#32
  let v90_r0 : BitVec 32 := Scalar.addi arg16_r0 c3_i32_66_r0
  let c4_i32_67_r0 : BitVec 32 := 4#32
  let c0_i32_68_r0 : BitVec 32 := 0#32
  let v91_r0 : BitVec 1 := Scalar.cmpi .eq c4_i32_67_r0 c0_i32_68_r0
  let c1_i32_69_r0 : BitVec 32 := 1#32
  let v92_r0 : BitVec 32 := Scalar.select v91_r0 c1_i32_69_r0 c4_i32_67_r0
  let v93_r0 : BitVec 32 := Scalar.remsi v90_r0 v92_r0
  let c0_i32_71_r0 : BitVec 32 := 0#32
  let v95_r0 : BitVec 1 := Scalar.cmpi .slt v93_r0 c0_i32_71_r0
  let c0_i32_72_r0 : BitVec 32 := 0#32
  let v96_r0 : BitVec 1 := Scalar.cmpi .slt v92_r0 c0_i32_72_r0
  let v97_r0 : BitVec 1 := Scalar.xori v95_r0 v96_r0
  let c0_i32_70_r0 : BitVec 32 := 0#32
  let v94_r0 : BitVec 1 := Scalar.cmpi .ne v93_r0 c0_i32_70_r0
  let v98_r0 : BitVec 1 := Scalar.andi v97_r0 v94_r0
  let v99_r0 : BitVec 32 := Scalar.addi v93_r0 v92_r0
  let v100_r0 : BitVec 32 := Scalar.select v98_r0 v99_r0 v93_r0
  let c0_i32_74_r0 : BitVec 32 := 0#32
  let c0_i32_75_r0 : BitVec 32 := 0#32
  ![v100_r0.toNat, 0, 0]
def k0_off3 (k0_t1 : Fin k0_t1_loop.trips) : Fin 2 → Nat :=
  let c0_i32_42_r0 : BitVec 32 := 0#32
  let c1_i32_43_r0 : BitVec 32 := 1#32
  let arg16_r0 : BitVec 32 := Scf.iv c0_i32_42_r0 c1_i32_43_r0 k0_t1
  let c3_i32_66_r0 : BitVec 32 := 3#32
  let v90_r0 : BitVec 32 := Scalar.addi arg16_r0 c3_i32_66_r0
  let c512_i32_73_r0 : BitVec 32 := 512#32
  let v101_r0 : BitVec 32 := Scalar.muli v90_r0 c512_i32_73_r0
  let c0_i32_76_r0 : BitVec 32 := 0#32
  ![v101_r0.toNat, 0]
def k0_off4 (k0_t1 : Fin k0_t1_loop.trips) : Fin 1 → Nat :=
  let c0_i32_42_r0 : BitVec 32 := 0#32
  let c1_i32_43_r0 : BitVec 32 := 1#32
  let arg16_r0 : BitVec 32 := Scf.iv c0_i32_42_r0 c1_i32_43_r0 k0_t1
  let c4_i32_r0 : BitVec 32 := 4#32
  let c0_i32_47_r0 : BitVec 32 := 0#32
  let v54_r0 : BitVec 1 := Scalar.cmpi .eq c4_i32_r0 c0_i32_47_r0
  let c1_i32_48_r0 : BitVec 32 := 1#32
  let v55_r0 : BitVec 32 := Scalar.select v54_r0 c1_i32_48_r0 c4_i32_r0
  let v56_r0 : BitVec 32 := Scalar.remsi arg16_r0 v55_r0
  let c0_i32_50_r0 : BitVec 32 := 0#32
  let v58_r0 : BitVec 1 := Scalar.cmpi .slt v56_r0 c0_i32_50_r0
  let c0_i32_51_r0 : BitVec 32 := 0#32
  let v59_r0 : BitVec 1 := Scalar.cmpi .slt v55_r0 c0_i32_51_r0
  let v60_r0 : BitVec 1 := Scalar.xori v58_r0 v59_r0
  let c0_i32_49_r0 : BitVec 32 := 0#32
  let v57_r0 : BitVec 1 := Scalar.cmpi .ne v56_r0 c0_i32_49_r0
  let v61_r0 : BitVec 1 := Scalar.andi v60_r0 v57_r0
  let v62_r0 : BitVec 32 := Scalar.addi v56_r0 v55_r0
  let v63_r0 : BitVec 32 := Scalar.select v61_r0 v62_r0 v56_r0
  ![v63_r0.toNat]
def k0_off5 (k0_t1 : Fin k0_t1_loop.trips) : Fin 3 → Nat :=
  let c0_i32_42_r0 : BitVec 32 := 0#32
  let c1_i32_43_r0 : BitVec 32 := 1#32
  let arg16_r0 : BitVec 32 := Scf.iv c0_i32_42_r0 c1_i32_43_r0 k0_t1
  let c4_i32_r0 : BitVec 32 := 4#32
  let c0_i32_47_r0 : BitVec 32 := 0#32
  let v54_r0 : BitVec 1 := Scalar.cmpi .eq c4_i32_r0 c0_i32_47_r0
  let c1_i32_48_r0 : BitVec 32 := 1#32
  let v55_r0 : BitVec 32 := Scalar.select v54_r0 c1_i32_48_r0 c4_i32_r0
  let v56_r0 : BitVec 32 := Scalar.remsi arg16_r0 v55_r0
  let c0_i32_50_r0 : BitVec 32 := 0#32
  let v58_r0 : BitVec 1 := Scalar.cmpi .slt v56_r0 c0_i32_50_r0
  let c0_i32_51_r0 : BitVec 32 := 0#32
  let v59_r0 : BitVec 1 := Scalar.cmpi .slt v55_r0 c0_i32_51_r0
  let v60_r0 : BitVec 1 := Scalar.xori v58_r0 v59_r0
  let c0_i32_49_r0 : BitVec 32 := 0#32
  let v57_r0 : BitVec 1 := Scalar.cmpi .ne v56_r0 c0_i32_49_r0
  let v61_r0 : BitVec 1 := Scalar.andi v60_r0 v57_r0
  let v62_r0 : BitVec 32 := Scalar.addi v56_r0 v55_r0
  let v63_r0 : BitVec 32 := Scalar.select v61_r0 v62_r0 v56_r0
  let c0_i32_53_r0 : BitVec 32 := 0#32
  let c0_i32_54_r0 : BitVec 32 := 0#32
  ![v63_r0.toNat, 0, 0]
def k0_off6 (k0_t1 : Fin k0_t1_loop.trips) : Fin 2 → Nat :=
  let c0_i32_42_r0 : BitVec 32 := 0#32
  let c1_i32_43_r0 : BitVec 32 := 1#32
  let arg16_r0 : BitVec 32 := Scf.iv c0_i32_42_r0 c1_i32_43_r0 k0_t1
  let c512_i32_52_r0 : BitVec 32 := 512#32
  let v64_r0 : BitVec 32 := Scalar.muli arg16_r0 c512_i32_52_r0
  let c0_i32_55_r0 : BitVec 32 := 0#32
  ![v64_r0.toNat, 0]
def k0_off7 (k0_t1 : Fin k0_t1_loop.trips) : Fin 3 → Nat :=
  let c0_i32_42_r0 : BitVec 32 := 0#32
  let c1_i32_43_r0 : BitVec 32 := 1#32
  let arg16_r0 : BitVec 32 := Scf.iv c0_i32_42_r0 c1_i32_43_r0 k0_t1
  let c4_i32_56_r0 : BitVec 32 := 4#32
  let c0_i32_57_r0 : BitVec 32 := 0#32
  let v70_r0 : BitVec 1 := Scalar.cmpi .eq c4_i32_56_r0 c0_i32_57_r0
  let c1_i32_58_r0 : BitVec 32 := 1#32
  let v71_r0 : BitVec 32 := Scalar.select v70_r0 c1_i32_58_r0 c4_i32_56_r0
  let v72_r0 : BitVec 32 := Scalar.remsi arg16_r0 v71_r0
  let c0_i32_60_r0 : BitVec 32 := 0#32
  let v74_r0 : BitVec 1 := Scalar.cmpi .slt v72_r0 c0_i32_60_r0
  let c0_i32_61_r0 : BitVec 32 := 0#32
  let v75_r0 : BitVec 1 := Scalar.cmpi .slt v71_r0 c0_i32_61_r0
  let v76_r0 : BitVec 1 := Scalar.xori v74_r0 v75_r0
  let c0_i32_59_r0 : BitVec 32 := 0#32
  let v73_r0 : BitVec 1 := Scalar.cmpi .ne v72_r0 c0_i32_59_r0
  let v77_r0 : BitVec 1 := Scalar.andi v76_r0 v73_r0
  let v78_r0 : BitVec 32 := Scalar.addi v72_r0 v71_r0
  let v79_r0 : BitVec 32 := Scalar.select v77_r0 v78_r0 v72_r0
  let v80_r0 : Index := Scalar.indexCast v79_r0
  let c0_62_r0 : Index := 0#32
  let c0_63_r0 : Index := 0#32
  ![v80_r0.toNat, 0, 0]
def k0_mult1 (k0_t1 : Fin k0_t1_loop.trips) : BitVec 32 :=
  let c0_i32_42_r0 : BitVec 32 := 0#32
  let c1_i32_43_r0 : BitVec 32 := 1#32
  let arg16_r0 : BitVec 32 := Scf.iv c0_i32_42_r0 c1_i32_43_r0 k0_t1
  let c512_i32_64_r0 : BitVec 32 := 512#32
  let v84_r0 : BitVec 32 := Scalar.muli arg16_r0 c512_i32_64_r0
  v84_r0
def k0_off8 (k0_t1 : Fin k0_t1_loop.trips) : Fin 2 → Nat :=
  let c0_i32_42_r0 : BitVec 32 := 0#32
  let c1_i32_43_r0 : BitVec 32 := 1#32
  let arg16_r0 : BitVec 32 := Scf.iv c0_i32_42_r0 c1_i32_43_r0 k0_t1
  let c512_i32_64_r0 : BitVec 32 := 512#32
  let v84_r0 : BitVec 32 := Scalar.muli arg16_r0 c512_i32_64_r0
  let v85_r0 : BitVec 32 := v84_r0
  let v86_r0 : Index := Scalar.indexCast v85_r0
  let c0_65_r0 : Index := 0#32
  ![v86_r0.toNat, 0]
def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

@[reducible] def k0_t2_loop : Scf.Loop 32 :=
  let c0_i32_42_r1 : BitVec 32 := 0#32
  let c2_i32_r1 : BitVec 32 := 2#32
  let v49_r1 : BitVec 32 := Scalar.addi c0_i32_42_r1 c2_i32_r1
  let c1_i32_43_r1 : BitVec 32 := 1#32
  ⟨c0_i32_42_r1, v49_r1, c1_i32_43_r1⟩
def k0_cond4 (k0_t2 : Fin k0_t2_loop.trips) : BitVec 1 :=
  let c0_i32_42_r1 : BitVec 32 := 0#32
  let c1_i32_43_r1 : BitVec 32 := 1#32
  let arg16_r1 : BitVec 32 := Scf.iv c0_i32_42_r1 c1_i32_43_r1 k0_t2
  let c3_i32_r1 : BitVec 32 := 3#32
  let v50_r1 : BitVec 32 := Scalar.addi arg16_r1 c3_i32_r1
  let c2_i32_45_r1 : BitVec 32 := 2#32
  let v51_r1 : BitVec 1 := Scalar.cmpi .slt v50_r1 c2_i32_45_r1
  let v52_r1 : BitVec 32 := Scalar.extui v51_r1
  let c0_i32_46_r1 : BitVec 32 := 0#32
  let v53_r1 : BitVec 1 := Scalar.cmpi .ne v52_r1 c0_i32_46_r1
  v53_r1

def k0_off9 (k0_t2 : Fin k0_t2_loop.trips) : Fin 1 → Nat :=
  let c0_i32_42_r1 : BitVec 32 := 0#32
  let c1_i32_43_r1 : BitVec 32 := 1#32
  let arg16_r1 : BitVec 32 := Scf.iv c0_i32_42_r1 c1_i32_43_r1 k0_t2
  let c3_i32_66_r1 : BitVec 32 := 3#32
  let v90_r1 : BitVec 32 := Scalar.addi arg16_r1 c3_i32_66_r1
  let c4_i32_67_r1 : BitVec 32 := 4#32
  let c0_i32_68_r1 : BitVec 32 := 0#32
  let v91_r1 : BitVec 1 := Scalar.cmpi .eq c4_i32_67_r1 c0_i32_68_r1
  let c1_i32_69_r1 : BitVec 32 := 1#32
  let v92_r1 : BitVec 32 := Scalar.select v91_r1 c1_i32_69_r1 c4_i32_67_r1
  let v93_r1 : BitVec 32 := Scalar.remsi v90_r1 v92_r1
  let c0_i32_71_r1 : BitVec 32 := 0#32
  let v95_r1 : BitVec 1 := Scalar.cmpi .slt v93_r1 c0_i32_71_r1
  let c0_i32_72_r1 : BitVec 32 := 0#32
  let v96_r1 : BitVec 1 := Scalar.cmpi .slt v92_r1 c0_i32_72_r1
  let v97_r1 : BitVec 1 := Scalar.xori v95_r1 v96_r1
  let c0_i32_70_r1 : BitVec 32 := 0#32
  let v94_r1 : BitVec 1 := Scalar.cmpi .ne v93_r1 c0_i32_70_r1
  let v98_r1 : BitVec 1 := Scalar.andi v97_r1 v94_r1
  let v99_r1 : BitVec 32 := Scalar.addi v93_r1 v92_r1
  let v100_r1 : BitVec 32 := Scalar.select v98_r1 v99_r1 v93_r1
  ![v100_r1.toNat]
def k0_off10 (k0_t2 : Fin k0_t2_loop.trips) : Fin 3 → Nat :=
  let c0_i32_42_r1 : BitVec 32 := 0#32
  let c1_i32_43_r1 : BitVec 32 := 1#32
  let arg16_r1 : BitVec 32 := Scf.iv c0_i32_42_r1 c1_i32_43_r1 k0_t2
  let c3_i32_66_r1 : BitVec 32 := 3#32
  let v90_r1 : BitVec 32 := Scalar.addi arg16_r1 c3_i32_66_r1
  let c4_i32_67_r1 : BitVec 32 := 4#32
  let c0_i32_68_r1 : BitVec 32 := 0#32
  let v91_r1 : BitVec 1 := Scalar.cmpi .eq c4_i32_67_r1 c0_i32_68_r1
  let c1_i32_69_r1 : BitVec 32 := 1#32
  let v92_r1 : BitVec 32 := Scalar.select v91_r1 c1_i32_69_r1 c4_i32_67_r1
  let v93_r1 : BitVec 32 := Scalar.remsi v90_r1 v92_r1
  let c0_i32_71_r1 : BitVec 32 := 0#32
  let v95_r1 : BitVec 1 := Scalar.cmpi .slt v93_r1 c0_i32_71_r1
  let c0_i32_72_r1 : BitVec 32 := 0#32
  let v96_r1 : BitVec 1 := Scalar.cmpi .slt v92_r1 c0_i32_72_r1
  let v97_r1 : BitVec 1 := Scalar.xori v95_r1 v96_r1
  let c0_i32_70_r1 : BitVec 32 := 0#32
  let v94_r1 : BitVec 1 := Scalar.cmpi .ne v93_r1 c0_i32_70_r1
  let v98_r1 : BitVec 1 := Scalar.andi v97_r1 v94_r1
  let v99_r1 : BitVec 32 := Scalar.addi v93_r1 v92_r1
  let v100_r1 : BitVec 32 := Scalar.select v98_r1 v99_r1 v93_r1
  let c0_i32_74_r1 : BitVec 32 := 0#32
  let c0_i32_75_r1 : BitVec 32 := 0#32
  ![v100_r1.toNat, 0, 0]
def k0_off11 (k0_t2 : Fin k0_t2_loop.trips) : Fin 2 → Nat :=
  let c0_i32_42_r1 : BitVec 32 := 0#32
  let c1_i32_43_r1 : BitVec 32 := 1#32
  let arg16_r1 : BitVec 32 := Scf.iv c0_i32_42_r1 c1_i32_43_r1 k0_t2
  let c3_i32_66_r1 : BitVec 32 := 3#32
  let v90_r1 : BitVec 32 := Scalar.addi arg16_r1 c3_i32_66_r1
  let c512_i32_73_r1 : BitVec 32 := 512#32
  let v101_r1 : BitVec 32 := Scalar.muli v90_r1 c512_i32_73_r1
  let c0_i32_76_r1 : BitVec 32 := 0#32
  ![v101_r1.toNat, 0]
def k0_off12 (k0_t2 : Fin k0_t2_loop.trips) : Fin 1 → Nat :=
  let c0_i32_42_r1 : BitVec 32 := 0#32
  let c1_i32_43_r1 : BitVec 32 := 1#32
  let arg16_r1 : BitVec 32 := Scf.iv c0_i32_42_r1 c1_i32_43_r1 k0_t2
  let c4_i32_r1 : BitVec 32 := 4#32
  let c0_i32_47_r1 : BitVec 32 := 0#32
  let v54_r1 : BitVec 1 := Scalar.cmpi .eq c4_i32_r1 c0_i32_47_r1
  let c1_i32_48_r1 : BitVec 32 := 1#32
  let v55_r1 : BitVec 32 := Scalar.select v54_r1 c1_i32_48_r1 c4_i32_r1
  let v56_r1 : BitVec 32 := Scalar.remsi arg16_r1 v55_r1
  let c0_i32_50_r1 : BitVec 32 := 0#32
  let v58_r1 : BitVec 1 := Scalar.cmpi .slt v56_r1 c0_i32_50_r1
  let c0_i32_51_r1 : BitVec 32 := 0#32
  let v59_r1 : BitVec 1 := Scalar.cmpi .slt v55_r1 c0_i32_51_r1
  let v60_r1 : BitVec 1 := Scalar.xori v58_r1 v59_r1
  let c0_i32_49_r1 : BitVec 32 := 0#32
  let v57_r1 : BitVec 1 := Scalar.cmpi .ne v56_r1 c0_i32_49_r1
  let v61_r1 : BitVec 1 := Scalar.andi v60_r1 v57_r1
  let v62_r1 : BitVec 32 := Scalar.addi v56_r1 v55_r1
  let v63_r1 : BitVec 32 := Scalar.select v61_r1 v62_r1 v56_r1
  ![v63_r1.toNat]
def k0_off13 (k0_t2 : Fin k0_t2_loop.trips) : Fin 3 → Nat :=
  let c0_i32_42_r1 : BitVec 32 := 0#32
  let c1_i32_43_r1 : BitVec 32 := 1#32
  let arg16_r1 : BitVec 32 := Scf.iv c0_i32_42_r1 c1_i32_43_r1 k0_t2
  let c4_i32_r1 : BitVec 32 := 4#32
  let c0_i32_47_r1 : BitVec 32 := 0#32
  let v54_r1 : BitVec 1 := Scalar.cmpi .eq c4_i32_r1 c0_i32_47_r1
  let c1_i32_48_r1 : BitVec 32 := 1#32
  let v55_r1 : BitVec 32 := Scalar.select v54_r1 c1_i32_48_r1 c4_i32_r1
  let v56_r1 : BitVec 32 := Scalar.remsi arg16_r1 v55_r1
  let c0_i32_50_r1 : BitVec 32 := 0#32
  let v58_r1 : BitVec 1 := Scalar.cmpi .slt v56_r1 c0_i32_50_r1
  let c0_i32_51_r1 : BitVec 32 := 0#32
  let v59_r1 : BitVec 1 := Scalar.cmpi .slt v55_r1 c0_i32_51_r1
  let v60_r1 : BitVec 1 := Scalar.xori v58_r1 v59_r1
  let c0_i32_49_r1 : BitVec 32 := 0#32
  let v57_r1 : BitVec 1 := Scalar.cmpi .ne v56_r1 c0_i32_49_r1
  let v61_r1 : BitVec 1 := Scalar.andi v60_r1 v57_r1
  let v62_r1 : BitVec 32 := Scalar.addi v56_r1 v55_r1
  let v63_r1 : BitVec 32 := Scalar.select v61_r1 v62_r1 v56_r1
  let c0_i32_53_r1 : BitVec 32 := 0#32
  let c0_i32_54_r1 : BitVec 32 := 0#32
  ![v63_r1.toNat, 0, 0]
def k0_off14 (k0_t2 : Fin k0_t2_loop.trips) : Fin 2 → Nat :=
  let c0_i32_42_r1 : BitVec 32 := 0#32
  let c1_i32_43_r1 : BitVec 32 := 1#32
  let arg16_r1 : BitVec 32 := Scf.iv c0_i32_42_r1 c1_i32_43_r1 k0_t2
  let c512_i32_52_r1 : BitVec 32 := 512#32
  let v64_r1 : BitVec 32 := Scalar.muli arg16_r1 c512_i32_52_r1
  let c0_i32_55_r1 : BitVec 32 := 0#32
  ![v64_r1.toNat, 0]
def k0_off15 (k0_t2 : Fin k0_t2_loop.trips) : Fin 3 → Nat :=
  let c0_i32_42_r1 : BitVec 32 := 0#32
  let c1_i32_43_r1 : BitVec 32 := 1#32
  let arg16_r1 : BitVec 32 := Scf.iv c0_i32_42_r1 c1_i32_43_r1 k0_t2
  let c4_i32_56_r1 : BitVec 32 := 4#32
  let c0_i32_57_r1 : BitVec 32 := 0#32
  let v70_r1 : BitVec 1 := Scalar.cmpi .eq c4_i32_56_r1 c0_i32_57_r1
  let c1_i32_58_r1 : BitVec 32 := 1#32
  let v71_r1 : BitVec 32 := Scalar.select v70_r1 c1_i32_58_r1 c4_i32_56_r1
  let v72_r1 : BitVec 32 := Scalar.remsi arg16_r1 v71_r1
  let c0_i32_60_r1 : BitVec 32 := 0#32
  let v74_r1 : BitVec 1 := Scalar.cmpi .slt v72_r1 c0_i32_60_r1
  let c0_i32_61_r1 : BitVec 32 := 0#32
  let v75_r1 : BitVec 1 := Scalar.cmpi .slt v71_r1 c0_i32_61_r1
  let v76_r1 : BitVec 1 := Scalar.xori v74_r1 v75_r1
  let c0_i32_59_r1 : BitVec 32 := 0#32
  let v73_r1 : BitVec 1 := Scalar.cmpi .ne v72_r1 c0_i32_59_r1
  let v77_r1 : BitVec 1 := Scalar.andi v76_r1 v73_r1
  let v78_r1 : BitVec 32 := Scalar.addi v72_r1 v71_r1
  let v79_r1 : BitVec 32 := Scalar.select v77_r1 v78_r1 v72_r1
  let v80_r1 : Index := Scalar.indexCast v79_r1
  let c0_62_r1 : Index := 0#32
  let c0_63_r1 : Index := 0#32
  ![v80_r1.toNat, 0, 0]
def k0_mult2 (k0_t2 : Fin k0_t2_loop.trips) : BitVec 32 :=
  let c0_i32_42_r1 : BitVec 32 := 0#32
  let c1_i32_43_r1 : BitVec 32 := 1#32
  let arg16_r1 : BitVec 32 := Scf.iv c0_i32_42_r1 c1_i32_43_r1 k0_t2
  let c512_i32_64_r1 : BitVec 32 := 512#32
  let v84_r1 : BitVec 32 := Scalar.muli arg16_r1 c512_i32_64_r1
  v84_r1
def k0_off16 (k0_t2 : Fin k0_t2_loop.trips) : Fin 2 → Nat :=
  let c0_i32_42_r1 : BitVec 32 := 0#32
  let c1_i32_43_r1 : BitVec 32 := 1#32
  let arg16_r1 : BitVec 32 := Scf.iv c0_i32_42_r1 c1_i32_43_r1 k0_t2
  let c512_i32_64_r1 : BitVec 32 := 512#32
  let v84_r1 : BitVec 32 := Scalar.muli arg16_r1 c512_i32_64_r1
  let v85_r1 : BitVec 32 := v84_r1
  let v86_r1 : Index := Scalar.indexCast v85_r1
  let c0_65_r1 : Index := 0#32
  ![v86_r1.toNat, 0]
def k0_cond5 (i : grid0.Coords) : BitVec 1 :=
  let arg0 : BitVec 32 := BitVec.ofNat 32 (i 0).val
  let c0_i32_3 : BitVec 32 := 0#32
  let v6 : BitVec 1 := Scalar.cmpi .eq arg0 c0_i32_3
  let v7 : BitVec 32 := Scalar.extui v6
  let c0_i32_4 : BitVec 32 := 0#32
  let v8 : BitVec 1 := Scalar.cmpi .ne v7 c0_i32_4
  v8

@[reducible] def k0_t3_loop : Scf.Loop 32 :=
  let c0_i32_42_r2 : BitVec 32 := 0#32
  let c2_i32_r2 : BitVec 32 := 2#32
  let v49_r2 : BitVec 32 := Scalar.addi c0_i32_42_r2 c2_i32_r2
  let c1_i32_43_r2 : BitVec 32 := 1#32
  ⟨c0_i32_42_r2, v49_r2, c1_i32_43_r2⟩
def k0_cond6 (k0_t3 : Fin k0_t3_loop.trips) : BitVec 1 :=
  let c0_i32_42_r2 : BitVec 32 := 0#32
  let c1_i32_43_r2 : BitVec 32 := 1#32
  let arg16_r2 : BitVec 32 := Scf.iv c0_i32_42_r2 c1_i32_43_r2 k0_t3
  let c3_i32_r2 : BitVec 32 := 3#32
  let v50_r2 : BitVec 32 := Scalar.addi arg16_r2 c3_i32_r2
  let c2_i32_45_r2 : BitVec 32 := 2#32
  let v51_r2 : BitVec 1 := Scalar.cmpi .slt v50_r2 c2_i32_45_r2
  let v52_r2 : BitVec 32 := Scalar.extui v51_r2
  let c0_i32_46_r2 : BitVec 32 := 0#32
  let v53_r2 : BitVec 1 := Scalar.cmpi .ne v52_r2 c0_i32_46_r2
  v53_r2

def k0_off17 (k0_t3 : Fin k0_t3_loop.trips) : Fin 1 → Nat :=
  let c0_i32_42_r2 : BitVec 32 := 0#32
  let c1_i32_43_r2 : BitVec 32 := 1#32
  let arg16_r2 : BitVec 32 := Scf.iv c0_i32_42_r2 c1_i32_43_r2 k0_t3
  let c3_i32_66_r2 : BitVec 32 := 3#32
  let v90_r2 : BitVec 32 := Scalar.addi arg16_r2 c3_i32_66_r2
  let c4_i32_67_r2 : BitVec 32 := 4#32
  let c0_i32_68_r2 : BitVec 32 := 0#32
  let v91_r2 : BitVec 1 := Scalar.cmpi .eq c4_i32_67_r2 c0_i32_68_r2
  let c1_i32_69_r2 : BitVec 32 := 1#32
  let v92_r2 : BitVec 32 := Scalar.select v91_r2 c1_i32_69_r2 c4_i32_67_r2
  let v93_r2 : BitVec 32 := Scalar.remsi v90_r2 v92_r2
  let c0_i32_71_r2 : BitVec 32 := 0#32
  let v95_r2 : BitVec 1 := Scalar.cmpi .slt v93_r2 c0_i32_71_r2
  let c0_i32_72_r2 : BitVec 32 := 0#32
  let v96_r2 : BitVec 1 := Scalar.cmpi .slt v92_r2 c0_i32_72_r2
  let v97_r2 : BitVec 1 := Scalar.xori v95_r2 v96_r2
  let c0_i32_70_r2 : BitVec 32 := 0#32
  let v94_r2 : BitVec 1 := Scalar.cmpi .ne v93_r2 c0_i32_70_r2
  let v98_r2 : BitVec 1 := Scalar.andi v97_r2 v94_r2
  let v99_r2 : BitVec 32 := Scalar.addi v93_r2 v92_r2
  let v100_r2 : BitVec 32 := Scalar.select v98_r2 v99_r2 v93_r2
  ![v100_r2.toNat]
def k0_off18 (k0_t3 : Fin k0_t3_loop.trips) : Fin 3 → Nat :=
  let c0_i32_42_r2 : BitVec 32 := 0#32
  let c1_i32_43_r2 : BitVec 32 := 1#32
  let arg16_r2 : BitVec 32 := Scf.iv c0_i32_42_r2 c1_i32_43_r2 k0_t3
  let c3_i32_66_r2 : BitVec 32 := 3#32
  let v90_r2 : BitVec 32 := Scalar.addi arg16_r2 c3_i32_66_r2
  let c4_i32_67_r2 : BitVec 32 := 4#32
  let c0_i32_68_r2 : BitVec 32 := 0#32
  let v91_r2 : BitVec 1 := Scalar.cmpi .eq c4_i32_67_r2 c0_i32_68_r2
  let c1_i32_69_r2 : BitVec 32 := 1#32
  let v92_r2 : BitVec 32 := Scalar.select v91_r2 c1_i32_69_r2 c4_i32_67_r2
  let v93_r2 : BitVec 32 := Scalar.remsi v90_r2 v92_r2
  let c0_i32_71_r2 : BitVec 32 := 0#32
  let v95_r2 : BitVec 1 := Scalar.cmpi .slt v93_r2 c0_i32_71_r2
  let c0_i32_72_r2 : BitVec 32 := 0#32
  let v96_r2 : BitVec 1 := Scalar.cmpi .slt v92_r2 c0_i32_72_r2
  let v97_r2 : BitVec 1 := Scalar.xori v95_r2 v96_r2
  let c0_i32_70_r2 : BitVec 32 := 0#32
  let v94_r2 : BitVec 1 := Scalar.cmpi .ne v93_r2 c0_i32_70_r2
  let v98_r2 : BitVec 1 := Scalar.andi v97_r2 v94_r2
  let v99_r2 : BitVec 32 := Scalar.addi v93_r2 v92_r2
  let v100_r2 : BitVec 32 := Scalar.select v98_r2 v99_r2 v93_r2
  let c0_i32_74_r2 : BitVec 32 := 0#32
  let c0_i32_75_r2 : BitVec 32 := 0#32
  ![v100_r2.toNat, 0, 0]
def k0_off19 (k0_t3 : Fin k0_t3_loop.trips) : Fin 2 → Nat :=
  let c0_i32_42_r2 : BitVec 32 := 0#32
  let c1_i32_43_r2 : BitVec 32 := 1#32
  let arg16_r2 : BitVec 32 := Scf.iv c0_i32_42_r2 c1_i32_43_r2 k0_t3
  let c3_i32_66_r2 : BitVec 32 := 3#32
  let v90_r2 : BitVec 32 := Scalar.addi arg16_r2 c3_i32_66_r2
  let c512_i32_73_r2 : BitVec 32 := 512#32
  let v101_r2 : BitVec 32 := Scalar.muli v90_r2 c512_i32_73_r2
  let c0_i32_76_r2 : BitVec 32 := 0#32
  ![v101_r2.toNat, 0]
def k0_off20 (k0_t3 : Fin k0_t3_loop.trips) : Fin 1 → Nat :=
  let c0_i32_42_r2 : BitVec 32 := 0#32
  let c1_i32_43_r2 : BitVec 32 := 1#32
  let arg16_r2 : BitVec 32 := Scf.iv c0_i32_42_r2 c1_i32_43_r2 k0_t3
  let c4_i32_r2 : BitVec 32 := 4#32
  let c0_i32_47_r2 : BitVec 32 := 0#32
  let v54_r2 : BitVec 1 := Scalar.cmpi .eq c4_i32_r2 c0_i32_47_r2
  let c1_i32_48_r2 : BitVec 32 := 1#32
  let v55_r2 : BitVec 32 := Scalar.select v54_r2 c1_i32_48_r2 c4_i32_r2
  let v56_r2 : BitVec 32 := Scalar.remsi arg16_r2 v55_r2
  let c0_i32_50_r2 : BitVec 32 := 0#32
  let v58_r2 : BitVec 1 := Scalar.cmpi .slt v56_r2 c0_i32_50_r2
  let c0_i32_51_r2 : BitVec 32 := 0#32
  let v59_r2 : BitVec 1 := Scalar.cmpi .slt v55_r2 c0_i32_51_r2
  let v60_r2 : BitVec 1 := Scalar.xori v58_r2 v59_r2
  let c0_i32_49_r2 : BitVec 32 := 0#32
  let v57_r2 : BitVec 1 := Scalar.cmpi .ne v56_r2 c0_i32_49_r2
  let v61_r2 : BitVec 1 := Scalar.andi v60_r2 v57_r2
  let v62_r2 : BitVec 32 := Scalar.addi v56_r2 v55_r2
  let v63_r2 : BitVec 32 := Scalar.select v61_r2 v62_r2 v56_r2
  ![v63_r2.toNat]
def k0_off21 (k0_t3 : Fin k0_t3_loop.trips) : Fin 3 → Nat :=
  let c0_i32_42_r2 : BitVec 32 := 0#32
  let c1_i32_43_r2 : BitVec 32 := 1#32
  let arg16_r2 : BitVec 32 := Scf.iv c0_i32_42_r2 c1_i32_43_r2 k0_t3
  let c4_i32_r2 : BitVec 32 := 4#32
  let c0_i32_47_r2 : BitVec 32 := 0#32
  let v54_r2 : BitVec 1 := Scalar.cmpi .eq c4_i32_r2 c0_i32_47_r2
  let c1_i32_48_r2 : BitVec 32 := 1#32
  let v55_r2 : BitVec 32 := Scalar.select v54_r2 c1_i32_48_r2 c4_i32_r2
  let v56_r2 : BitVec 32 := Scalar.remsi arg16_r2 v55_r2
  let c0_i32_50_r2 : BitVec 32 := 0#32
  let v58_r2 : BitVec 1 := Scalar.cmpi .slt v56_r2 c0_i32_50_r2
  let c0_i32_51_r2 : BitVec 32 := 0#32
  let v59_r2 : BitVec 1 := Scalar.cmpi .slt v55_r2 c0_i32_51_r2
  let v60_r2 : BitVec 1 := Scalar.xori v58_r2 v59_r2
  let c0_i32_49_r2 : BitVec 32 := 0#32
  let v57_r2 : BitVec 1 := Scalar.cmpi .ne v56_r2 c0_i32_49_r2
  let v61_r2 : BitVec 1 := Scalar.andi v60_r2 v57_r2
  let v62_r2 : BitVec 32 := Scalar.addi v56_r2 v55_r2
  let v63_r2 : BitVec 32 := Scalar.select v61_r2 v62_r2 v56_r2
  let c0_i32_53_r2 : BitVec 32 := 0#32
  let c0_i32_54_r2 : BitVec 32 := 0#32
  ![v63_r2.toNat, 0, 0]
def k0_off22 (k0_t3 : Fin k0_t3_loop.trips) : Fin 2 → Nat :=
  let c0_i32_42_r2 : BitVec 32 := 0#32
  let c1_i32_43_r2 : BitVec 32 := 1#32
  let arg16_r2 : BitVec 32 := Scf.iv c0_i32_42_r2 c1_i32_43_r2 k0_t3
  let c512_i32_52_r2 : BitVec 32 := 512#32
  let v64_r2 : BitVec 32 := Scalar.muli arg16_r2 c512_i32_52_r2
  let c0_i32_55_r2 : BitVec 32 := 0#32
  ![v64_r2.toNat, 0]
def k0_off23 (k0_t3 : Fin k0_t3_loop.trips) : Fin 3 → Nat :=
  let c0_i32_42_r2 : BitVec 32 := 0#32
  let c1_i32_43_r2 : BitVec 32 := 1#32
  let arg16_r2 : BitVec 32 := Scf.iv c0_i32_42_r2 c1_i32_43_r2 k0_t3
  let c4_i32_56_r2 : BitVec 32 := 4#32
  let c0_i32_57_r2 : BitVec 32 := 0#32
  let v70_r2 : BitVec 1 := Scalar.cmpi .eq c4_i32_56_r2 c0_i32_57_r2
  let c1_i32_58_r2 : BitVec 32 := 1#32
  let v71_r2 : BitVec 32 := Scalar.select v70_r2 c1_i32_58_r2 c4_i32_56_r2
  let v72_r2 : BitVec 32 := Scalar.remsi arg16_r2 v71_r2
  let c0_i32_60_r2 : BitVec 32 := 0#32
  let v74_r2 : BitVec 1 := Scalar.cmpi .slt v72_r2 c0_i32_60_r2
  let c0_i32_61_r2 : BitVec 32 := 0#32
  let v75_r2 : BitVec 1 := Scalar.cmpi .slt v71_r2 c0_i32_61_r2
  let v76_r2 : BitVec 1 := Scalar.xori v74_r2 v75_r2
  let c0_i32_59_r2 : BitVec 32 := 0#32
  let v73_r2 : BitVec 1 := Scalar.cmpi .ne v72_r2 c0_i32_59_r2
  let v77_r2 : BitVec 1 := Scalar.andi v76_r2 v73_r2
  let v78_r2 : BitVec 32 := Scalar.addi v72_r2 v71_r2
  let v79_r2 : BitVec 32 := Scalar.select v77_r2 v78_r2 v72_r2
  let v80_r2 : Index := Scalar.indexCast v79_r2
  let c0_62_r2 : Index := 0#32
  let c0_63_r2 : Index := 0#32
  ![v80_r2.toNat, 0, 0]
def k0_mult3 (k0_t3 : Fin k0_t3_loop.trips) : BitVec 32 :=
  let c0_i32_42_r2 : BitVec 32 := 0#32
  let c1_i32_43_r2 : BitVec 32 := 1#32
  let arg16_r2 : BitVec 32 := Scf.iv c0_i32_42_r2 c1_i32_43_r2 k0_t3
  let c512_i32_64_r2 : BitVec 32 := 512#32
  let v84_r2 : BitVec 32 := Scalar.muli arg16_r2 c512_i32_64_r2
  v84_r2
def k0_off24 (k0_t3 : Fin k0_t3_loop.trips) : Fin 2 → Nat :=
  let c0_i32_42_r2 : BitVec 32 := 0#32
  let c1_i32_43_r2 : BitVec 32 := 1#32
  let arg16_r2 : BitVec 32 := Scf.iv c0_i32_42_r2 c1_i32_43_r2 k0_t3
  let c512_i32_64_r2 : BitVec 32 := 512#32
  let v84_r2 : BitVec 32 := Scalar.muli arg16_r2 c512_i32_64_r2
  let v85_r2 : BitVec 32 := v84_r2
  let v86_r2 : Index := Scalar.indexCast v85_r2
  let c0_65_r2 : Index := 0#32
  ![v86_r2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 1 := Scalar.cmpi .slt arg0 c8_i32
  let c512_i32 : BitVec 32 := 512#32
  let v1 : BitVec 32 := Scalar.muli arg0 c512_i32
  let c4096_i32 : BitVec 32 := 4096#32
  let v2 : BitVec 32 := Scalar.subi v1 c4096_i32
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c2048_i32 c0_i32_1
  let v10 : BitVec 32 := Scalar.extui v9
  let c0_i32_2 : BitVec 32 := 0#32
  let v11 : BitVec 1 := Scalar.cmpi .slt c2048_i32 c0_i32_2
  let v12 : BitVec 32 := Scalar.extui v11
  let v13 : BitVec 32 := Scalar.subi v10 v12
  let v14 : BitVec 1 := Scalar.cmpi .ne v8 v13
  let v15 : BitVec 32 := Scalar.remsi v2 c2048_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi c1_i32_4 v19
  let c0_i32_5 : BitVec 32 := 0#32
  let v21 : BitVec 32 := Scalar.select v0 c0_i32_5 v20
  let c0_i32_6 : BitVec 32 := 0#32
  let c0_i32_7 : BitVec 32 := 0#32
  let c0_i32_8 : BitVec 32 := 0#32
  ![v21.toNat, c0_i32_6.toNat, c0_i32_7.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S12288x1024 : Shape := ⟨2, ![12288, 1024]⟩
abbrev S8x9216 : Shape := ⟨2, ![8, 9216]⟩
abbrev S4096x1024 : Shape := ⟨2, ![4096, 1024]⟩
abbrev S8192x1024 : Shape := ⟨2, ![8192, 1024]⟩
abbrev S12288x8192 : Shape := ⟨2, ![12288, 8192]⟩
abbrev S1x1024x1024 : Shape := ⟨3, ![1, 1024, 1024]⟩
abbrev S1x9216 : Shape := ⟨2, ![1, 9216]⟩
abbrev S9216 : Shape := ⟨1, ![9216]⟩
abbrev S1x1x9216 : Shape := ⟨3, ![1, 1, 9216]⟩
abbrev S4x9216 : Shape := ⟨2, ![4, 9216]⟩
abbrev S4x1x9216 : Shape := ⟨3, ![4, 1, 9216]⟩
abbrev S16x256x1024 : Shape := ⟨3, ![16, 256, 1024]⟩
abbrev S1x1x1024 : Shape := ⟨3, ![1, 1, 1024]⟩
abbrev S1024x1024 : Shape := ⟨2, ![1024, 1024]⟩
abbrev S4x2048x1024 : Shape := ⟨3, ![4, 2048, 1024]⟩
abbrev S4x1x1024 : Shape := ⟨3, ![4, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S8x9216, .f32⟩
  | .hbm, ⟨2, _⟩ => ⟨S4096x1024, .bf16⟩
  | .hbm, ⟨3, _⟩ => ⟨S8192x1024, .bf16⟩
  | .hbm, ⟨4, _⟩ => ⟨S4096x1024, .bf16⟩
  | .hbm, ⟨5, _⟩ => ⟨S8192x1024, .bf16⟩
  | .hbm, ⟨6, _⟩ => ⟨S12288x8192, .bf16⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x9216, .f32⟩
  | .hbm, ⟨11, _⟩ => ⟨S9216, .f32⟩
  | .hbm, ⟨12, _⟩ => ⟨S1x1x9216, .f32⟩
  | .hbm, ⟨13, _⟩ => ⟨S4x9216, .f32⟩
  | .hbm, ⟨14, _⟩ => ⟨S4x1x9216, .f32⟩
  | .hbm, ⟨15, _⟩ => ⟨S12288x1024, .bf16⟩
  | .hbm, ⟨16, _⟩ => ⟨S12288x1024, .bf16⟩
  | .hbm, ⟨17, _⟩ => ⟨S4096x1024, .f32⟩
  | .hbm, ⟨18, _⟩ => ⟨S16x256x1024, .f32⟩
  | .hbm, ⟨19, _⟩ => ⟨S4096x1024, .f32⟩
  | .hbm, ⟨20, _⟩ => ⟨S16x256x1024, .f32⟩
  | .hbm, ⟨21, _⟩ => ⟨S4096x1024, .f32⟩
  | .hbm, ⟨22, _⟩ => ⟨S16x256x1024, .f32⟩
  | .hbm, ⟨23, _⟩ => ⟨S4096x1024, .bf16⟩
  | .hbm, ⟨24, _⟩ => ⟨S4096x1024, .f32⟩
  | .hbm, ⟨25, _⟩ => ⟨S16x256x1024, .f32⟩
  | .hbm, ⟨26, _⟩ => ⟨S4096x1024, .bf16⟩
  | .hbm, ⟨27, _⟩ => ⟨S4096x1024, .f32⟩
  | .hbm, ⟨28, _⟩ => ⟨S16x256x1024, .f32⟩
  | .hbm, ⟨29, _⟩ => ⟨S1x1x1024, .f32⟩
  | .hbm, ⟨30, _⟩ => ⟨S1x1x1024, .f32⟩
  | .hbm, ⟨31, _⟩ => ⟨S1x1x1024, .f32⟩
  | .hbm, ⟨32, _⟩ => ⟨S1x1x1024, .f32⟩
  | .hbm, ⟨33, _⟩ => ⟨S1x1x1024, .f32⟩
  | .hbm, ⟨34, _⟩ => ⟨S1x1x1024, .f32⟩
  | .hbm, ⟨35, _⟩ => ⟨S1x1x1024, .f32⟩
  | .hbm, ⟨36, _⟩ => ⟨S1x1x1024, .f32⟩
  | .hbm, ⟨37, _⟩ => ⟨S1x1x1024, .f32⟩
  | .hbm, ⟨38, _⟩ => ⟨S1024x1024, .f32⟩
  | .hbm, ⟨39, _⟩ => ⟨S16x256x1024, .f32⟩
  | .hbm, ⟨40, _⟩ => ⟨S16x256x1024, .f32⟩
  | .hbm, ⟨41, _⟩ => ⟨S1024x1024, .f32⟩
  | .hbm, ⟨42, _⟩ => ⟨S16x256x1024, .f32⟩
  | .hbm, ⟨43, _⟩ => ⟨S16x256x1024, .f32⟩
  | .hbm, ⟨44, _⟩ => ⟨S16x256x1024, .f32⟩
  | .hbm, ⟨45, _⟩ => ⟨S1024x1024, .f32⟩
  | .hbm, ⟨46, _⟩ => ⟨S16x256x1024, .f32⟩
  | .hbm, ⟨47, _⟩ => ⟨S16x256x1024, .f32⟩
  | .hbm, ⟨48, _⟩ => ⟨S16x256x1024, .f32⟩
  | .hbm, ⟨49, _⟩ => ⟨S16x256x1024, .f32⟩
  | .hbm, ⟨50, _⟩ => ⟨S4096x1024, .f32⟩
  | .hbm, ⟨51, _⟩ => ⟨S8192x1024, .f32⟩
  | .hbm, ⟨52, _⟩ => ⟨S4x2048x1024, .f32⟩
  | .hbm, ⟨53, _⟩ => ⟨S8192x1024, .f32⟩
  | .hbm, ⟨54, _⟩ => ⟨S4x2048x1024, .f32⟩
  | .hbm, ⟨55, _⟩ => ⟨S8192x1024, .f32⟩
  | .hbm, ⟨56, _⟩ => ⟨S4x2048x1024, .f32⟩
  | .hbm, ⟨57, _⟩ => ⟨S8192x1024, .bf16⟩
  | .hbm, ⟨58, _⟩ => ⟨S8192x1024, .f32⟩
  | .hbm, ⟨59, _⟩ => ⟨S4x2048x1024, .f32⟩
  | .hbm, ⟨60, _⟩ => ⟨S8192x1024, .bf16⟩
  | .hbm, ⟨61, _⟩ => ⟨S8192x1024, .f32⟩
  | .hbm, ⟨62, _⟩ => ⟨S4x2048x1024, .f32⟩
  | .hbm, ⟨63, _⟩ => ⟨S4x1x1024, .f32⟩
  | .hbm, ⟨64, _⟩ => ⟨S4x1x1024, .f32⟩
  | .hbm, ⟨65, _⟩ => ⟨S4x1x1024, .f32⟩
  | .hbm, ⟨66, _⟩ => ⟨S4x1x1024, .f32⟩
  | .hbm, ⟨67, _⟩ => ⟨S4x1x1024, .f32⟩
  | .hbm, ⟨68, _⟩ => ⟨S4x1x1024, .f32⟩
  | .hbm, ⟨69, _⟩ => ⟨S4x1x1024, .f32⟩
  | .hbm, ⟨70, _⟩ => ⟨S4x1x1024, .f32⟩
  | .hbm, ⟨71, _⟩ => ⟨S4x1x1024, .f32⟩
  | .hbm, ⟨72, _⟩ => ⟨S1024x1024, .f32⟩
  | .hbm, ⟨73, _⟩ => ⟨S4x2048x1024, .f32⟩
  | .hbm, ⟨74, _⟩ => ⟨S4x2048x1024, .f32⟩
  | .hbm, ⟨75, _⟩ => ⟨S1024x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S1024x1024, .f32⟩
  | .hbm, ⟨80, _⟩ => ⟨S4x2048x1024, .f32⟩
  | .hbm, ⟨81, _⟩ => ⟨S4x2048x1024, .f32⟩
  | .hbm, ⟨82, _⟩ => ⟨S4x2048x1024, .f32⟩
  | .hbm, ⟨83, _⟩ => ⟨S4x2048x1024, .f32⟩
  | .hbm, ⟨84, _⟩ => ⟨S8192x1024, .f32⟩
  | .hbm, ⟨85, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩

abbrev nD : Nat := 1
abbrev τ : Topo := Topo.v7x

variable {F : FTy → Type} [FloatOps F]
-- ==== Proof.Ffn2.Setup.lean ====
/-
What the runs of the kernel's body share: the program up to the region, the windows' blocks, the body's branch conditions
in closed form over the grid's points, the staging and scratch buffers, and what is held beside the windows.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Ffn2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- After a run that ends as the pipeline's proof data say, the argument arrays are as launched: the first is staged as an
    input, which is never written back; the others no window stages. -/
theorem kept_args (dats : (p : Fin 1) → (c : Dev nD) → Dat τ (Elt F) Unit ℕ (Pipeline.UD sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the points before point 8 — decided over the grid. -/
theorem hcond0_1 : ∀ t : Fin cfg0.N, cond0_1 (grid0.coords t) ↔ t.val < 8 :=
  (by decide +kernel : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := k0_cond3 i = 1#1
/-- It holds at the points from point 8 on — decided over the grid. -/
theorem hcond0_2 : ∀ t : Fin cfg0.N, cond0_2 (grid0.coords t) ↔ 8 ≤ t.val :=
  (by decide +kernel : ∀ t : Fin grid0.N, cond0_2 (grid0.coords t) ↔ 8 ≤ t.val)

/-- The condition of the body's `scf.if` 3 (`k0_h4`), from the grid coordinates (the skeleton's scalar
    chain substituted). -/
abbrev cond0_3 (i : grid0.Coords) : Prop := k0_cond4 i = 1#1
/-- It holds at the points from point 1 on — decided over the grid. -/
theorem hcond0_3 : ∀ t : Fin cfg0.N, cond0_3 (grid0.coords t) ↔ 1 ≤ t.val :=
  (by decide +kernel : ∀ t : Fin grid0.N, cond0_3 (grid0.coords t) ↔ 1 ≤ t.val)

/-- The condition of the body's `scf.if` 4 (`k0_h5`), from the grid coordinates (the skeleton's scalar
    chain substituted). -/
abbrev cond0_4 (i : grid0.Coords) : Prop := k0_cond5 i = 1#1
/-- It holds at the points before point 8 — decided over the grid. -/
theorem hcond0_4 : ∀ t : Fin cfg0.N, cond0_4 (grid0.coords t) ↔ t.val < 8 :=
  (by decide +kernel : ∀ t : Fin grid0.N, cond0_4 (grid0.coords t) ↔ t.val < 8)

/-- The condition of the body's `scf.if` 5 (`k0_h6`), from the grid coordinates (the skeleton's scalar
    chain substituted). -/
abbrev cond0_5 (i : grid0.Coords) : Prop := k0_cond6 i = 1#1
/-- It holds at the points from point 8 on — decided over the grid. -/
theorem hcond0_5 : ∀ t : Fin cfg0.N, cond0_5 (grid0.coords t) ↔ 8 ≤ t.val :=
  (by decide +kernel : ∀ t : Fin grid0.N, cond0_5 (grid0.coords t) ↔ 8 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x9x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x5632 .bf16 := Memref.whole cc0_scratch0
abbrev scM0_1 : Memref sig .tc .vmem S2816x1024 .bf16 := Memref.whole cc0_scratch1
abbrev scM0_2 : Memref sig .tc .vmem S4x1024x256 .f32 := Memref.whole cc0_scoped0
abbrev scM0_3 : Memref sig .tc .vmem S4x1024x256 .f32 := Memref.whole cc0_scoped1
abbrev scM0_4 : Memref sig .tc .vmem S4x256x1024 .f32 := Memref.whole cc0_scoped2
/-- The operands left in HBM that the body copies into scratch itself, whole. -/
abbrev hbM0_0 : Memref sig .tc .hbm S1024x5632 .f32 := Memref.whole main_v3
abbrev hbM0_1 : Memref sig .tc .hbm S2816x1024 .f32 := Memref.whole main_v4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 12 → SemLoc sig := fun j => (![SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 12 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3, 4, 5, 6, 7, 8, 9, 10, 11] (by decide) (by decide)]; rfl
/-- The HBM operands the body moves, as references: unscoped, no window's array (`Pipeline.restRefs`). -/
def H0 : Finset (Ref sig .tc) := {main_v3, main_v4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v3) ∗ hbPt0 c hbM0_1 (V m c main_v4)) := by
  rw [BI.bigSep_eq_bigSepL_of_eq [main_v3, main_v4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_v3) ∗ hbPt0 c hbM0_1 (V m c main_v4))) := by
  rw [Pipeline.ΦD_eq, scopedRest0_eq, ownSems00_eq, hbmPts0_eq]; simp only [scM0_0, scM0_1, scM0_2, scM0_3, scM0_4, owns_whole]; try rfl

end Cert.KernelIdeal.Ffn2

end
-- ==== Proof.Ffn2.RunA.lean ====
/-
One run of the kernel's body, by the grid point's case.
-/
module

public import proofs.«01_k».proof.Proof.Ffn2.Setup

@[expose] public section

set_option maxRecDepth 16384

noncomputable section

namespace Cert.KernelIdeal.Ffn2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's term is large)
set_option maxHeartbeats 2716000 in set_option sl_exec.dmaWindow true in set_option sl_exec.dmaWindowSet true in
/-- The first grid point: the body copies both weights into the scratch, chunk by chunk through the four staging slots, and computes
    the first output's block as the chunks arrive. The three witnesses are what its stores leave, last first: in the first output's
    buffer (`L`), in the gate and up weights' scratch (`LS0`) and in the down weight's (`LS1`). Everything else is handed back as it
    was, the staging slots at some contents. The slots' contents at the start are parameters, so that the pieces may name them. -/
noncomputable def runA (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S3x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S512x1024 .f32) (harg8 : arg8.IsWhole) (arg9 : Memref sig .tc .vmem S1024x5632 .bf16) (harg9 : arg9.IsWhole) (arg10 : Memref sig .tc .vmem S2816x1024 .bf16) (harg10 : arg10.IsWhole) (alloca_r0 : Memref sig .tc .vmem S4x1024x256 .f32) (halloca_r0 : alloca_r0.IsWhole) (alloca_12_r0 : Memref sig .tc .vmem S4x1024x256 .f32) (halloca_12_r0 : alloca_12_r0.IsWhole) (alloca_13_r0 : Memref sig .tc .vmem S4x256x1024 .f32) (halloca_13_r0 : alloca_13_r0.IsWhole) (hc0 : cond0_0 i) (hc1 : cond0_1 i) (hc2 : ¬cond0_2 i) (hc3 : ¬cond0_3 i)
    (x0 : Vec F S512x1024 .f32) (x1 : Vec F S1x9x1024 .f32) (x2 : Vec F S3x1024 .f32) (x3 : Vec F S1x1024 .f32) (fh0 : HbBuf0 (F := F) c hbM0_0) (fh1 : HbBuf0 (F := F) c hbM0_1)
    (y5 : Vec F S512x1024 .f32) (z2 z3 : Vec F S4x1024x256 .f32) (z4 : Vec F S4x256x1024 .f32) :
    Σ' (L : List (View.Piece (Elt F) S512x1024 .f32)), Σ' (LS0 : List (View.Piece (Elt F) S1024x5632 .bf16)), { LS1 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ owns (c : Thread nD τ) arg8 fullShare y5 ∗ (∃ d, owns (c : Thread nD τ) arg9 fullShare d) ∗ (∃ d, owns (c : Thread nD τ) arg10 fullShare d) ∗ owns (c : Thread nD τ) alloca_r0 fullShare z2 ∗ owns (c : Thread nD τ) alloca_12_r0 fullShare z3 ∗ owns (c : Thread nD τ) alloca_13_r0 fullShare z4 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L) ∗ owns (c : Thread nD τ) arg8 fullShare y5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ d, owns (c : Thread nD τ) alloca_r0 fullShare d) ∗ (∃ d, owns (c : Thread nD τ) alloca_12_r0 fullShare d) ∗ (∃ d, owns (c : Thread nD τ) alloca_13_r0 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn2 i arg1 harg1 arg2 harg2 arg3 harg3 arg4 harg4 (Memref.whole main_v3) (Memref.isWhole_whole _) (Memref.whole main_v4) (Memref.isWhole_whole _) arg7 harg7 arg8 harg8 arg9 harg9 arg10 harg10 alloca_r0 halloca_r0 alloca_12_r0 halloca_12_r0 alloca_13_r0 halloca_13_r0 cc0_scoped3) K } := by
  refine ⟨?_, ?_, ?_, fun W K => ?run⟩
  case run =>
    simp only [cc0_ffn2_eq_skeleton]; unfold cc0_ffn2_skel
    simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%fH0, %eH0, H0⟩, ⟨%fH1, %eH1, H1⟩, ⟨%fH2, %eH2, H2⟩, ⟨%fH3, %eH3, H3⟩, ⟨%dH4, %fH4, -, H4⟩, ⟨%fH5, %eH5, H5⟩, ⟨%dHS0, %fHS0, -, HS0⟩, ⟨%dHS1, %fHS1, -, HS1⟩, ⟨%fHS2, %eHS2, HS2⟩, ⟨%fHS3, %eHS3, HS3⟩, ⟨%fHS4, %eHS4, HS4⟩, Hq0, Hq1, Hq2, Hq3, Hq4, Hq5, Hq6, Hq7, Hq8, Hq9, Hq10, Hq11, Hh0, Hh1, HW, Hk⟩
    obtain rfl := harg1.eq_unread eH0; obtain rfl := harg2.eq_unread eH1; obtain rfl := harg3.eq_unread eH2; obtain rfl := harg4.eq_unread eH3; obtain rfl := harg8.eq_unread eH5; obtain rfl := halloca_r0.eq_unread eHS2; obtain rfl := halloca_12_r0.eq_unread eHS3; obtain rfl := halloca_13_r0.eq_unread eHS4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg8.read_unread _
      iexact H5
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    iexists _; iexact HW

end Cert.KernelIdeal.Ffn2

end
-- ==== Proof.Ffn2.RunB.lean ====
/-
One run of the kernel's body, by the grid point's case.
-/
module

public import proofs.«01_k».proof.Proof.Ffn2.RunA

@[expose] public section

set_option maxRecDepth 16384

noncomputable section

namespace Cert.KernelIdeal.Ffn2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's term is large)
set_option maxHeartbeats 1600000 in set_option sl_exec.dmaWindow true in set_option sl_exec.dmaWindowSet true in
/-- A later point of the first output: the body finds both weights in the scratch and computes the block from them. The witness `L` is
    what its stores leave in the first output's buffer; everything else is handed back as it was. -/
noncomputable def runB (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S3x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S512x1024 .f32) (harg8 : arg8.IsWhole) (arg9 : Memref sig .tc .vmem S1024x5632 .bf16) (harg9 : arg9.IsWhole) (arg10 : Memref sig .tc .vmem S2816x1024 .bf16) (harg10 : arg10.IsWhole) (alloca_r0 : Memref sig .tc .vmem S4x1024x256 .f32) (halloca_r0 : alloca_r0.IsWhole) (alloca_12_r0 : Memref sig .tc .vmem S4x1024x256 .f32) (halloca_12_r0 : alloca_12_r0.IsWhole) (alloca_13_r0 : Memref sig .tc .vmem S4x256x1024 .f32) (halloca_13_r0 : alloca_13_r0.IsWhole) (hc0 : ¬cond0_0 i) (hc3 : cond0_3 i) (hc4 : cond0_4 i) (hc5 : ¬cond0_5 i)
    (x0 : Vec F S512x1024 .f32) (x1 : Vec F S1x9x1024 .f32) (x2 : Vec F S3x1024 .f32) (x3 : Vec F S1x1024 .f32) (fh0 : HbBuf0 (F := F) c hbM0_0) (fh1 : HbBuf0 (F := F) c hbM0_1)
    (y5 : Vec F S512x1024 .f32) (xs0 : Vec F S1024x5632 .bf16) (xs1 : Vec F S2816x1024 .bf16) :
    { L : List (View.Piece (Elt F) S512x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ owns (c : Thread nD τ) arg8 fullShare y5 ∗ owns (c : Thread nD τ) arg9 fullShare xs0 ∗ owns (c : Thread nD τ) arg10 fullShare xs1 ∗ (∃ d, owns (c : Thread nD τ) alloca_r0 fullShare d) ∗ (∃ d, owns (c : Thread nD τ) alloca_12_r0 fullShare d) ∗ (∃ d, owns (c : Thread nD τ) alloca_13_r0 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L) ∗ owns (c : Thread nD τ) arg8 fullShare y5 ∗ owns (c : Thread nD τ) arg9 fullShare xs0 ∗ owns (c : Thread nD τ) arg10 fullShare xs1 ∗ (∃ d, owns (c : Thread nD τ) alloca_r0 fullShare d) ∗ (∃ d, owns (c : Thread nD τ) alloca_12_r0 fullShare d) ∗ (∃ d, owns (c : Thread nD τ) alloca_13_r0 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn2 i arg1 harg1 arg2 harg2 arg3 harg3 arg4 harg4 (Memref.whole main_v3) (Memref.isWhole_whole _) (Memref.whole main_v4) (Memref.isWhole_whole _) arg7 harg7 arg8 harg8 arg9 harg9 arg10 harg10 alloca_r0 halloca_r0 alloca_12_r0 halloca_12_r0 alloca_13_r0 halloca_13_r0 cc0_scoped3) K } := by
  refine ⟨?_, fun W K => ?run⟩
  case run =>
    simp only [cc0_ffn2_eq_skeleton]; unfold cc0_ffn2_skel
    simp only [k0_part28_eq_skeleton, k0_part29_eq_skeleton, k0_part30_eq_skeleton, k0_part31_eq_skeleton, k0_part32_eq_skeleton, k0_part33_eq_skeleton]
    unfold owns
    iintro ⟨⟨%fH0, %eH0, H0⟩, ⟨%fH1, %eH1, H1⟩, ⟨%fH2, %eH2, H2⟩, ⟨%fH3, %eH3, H3⟩, ⟨%dH4, %fH4, -, H4⟩, ⟨%fH5, %eH5, H5⟩, ⟨%fHS0, %eHS0, HS0⟩, ⟨%fHS1, %eHS1, HS1⟩, ⟨%dHS2, %fHS2, -, HS2⟩, ⟨%dHS3, %fHS3, -, HS3⟩, ⟨%dHS4, %fHS4, -, HS4⟩, Hq0, Hq1, Hq2, Hq3, Hq4, Hq5, Hq6, Hq7, Hq8, Hq9, Hq10, Hq11, Hh0, Hh1, HW, Hk⟩
    obtain rfl := harg1.eq_unread eH0; obtain rfl := harg2.eq_unread eH1; obtain rfl := harg3.eq_unread eH2; obtain rfl := harg4.eq_unread eH3; obtain rfl := harg8.eq_unread eH5; obtain rfl := harg9.eq_unread eHS0; obtain rfl := harg10.eq_unread eHS1
    sl_exec (disch := first | sl_exact hc0 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg8.read_unread _
      iexact H5
    isplitl [HS0]
    · iexists _; isplitr; · ipureintro; exact harg9.read_unread _
      iexact HS0
    isplitl [HS1]
    · iexists _; isplitr; · ipureintro; exact harg10.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    iexists _; iexact HW

end Cert.KernelIdeal.Ffn2

end
-- ==== Proof.Ffn2.RunC.lean ====
/-
One run of the kernel's body, by the grid point's case.
-/
module

public import proofs.«01_k».proof.Proof.Ffn2.RunB

@[expose] public section

set_option maxRecDepth 16384

noncomputable section

namespace Cert.KernelIdeal.Ffn2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's term is large)
set_option maxHeartbeats 1600000 in set_option sl_exec.dmaWindow true in set_option sl_exec.dmaWindowSet true in
/-- A point of the second output: as a later point of the first, with the block left in the second output's buffer. -/
noncomputable def runC (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S3x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S512x1024 .f32) (harg8 : arg8.IsWhole) (arg9 : Memref sig .tc .vmem S1024x5632 .bf16) (harg9 : arg9.IsWhole) (arg10 : Memref sig .tc .vmem S2816x1024 .bf16) (harg10 : arg10.IsWhole) (alloca_r0 : Memref sig .tc .vmem S4x1024x256 .f32) (halloca_r0 : alloca_r0.IsWhole) (alloca_12_r0 : Memref sig .tc .vmem S4x1024x256 .f32) (halloca_12_r0 : alloca_12_r0.IsWhole) (alloca_13_r0 : Memref sig .tc .vmem S4x256x1024 .f32) (halloca_13_r0 : alloca_13_r0.IsWhole) (hc0 : ¬cond0_0 i) (hc3 : cond0_3 i) (hc4 : ¬cond0_4 i) (hc5 : cond0_5 i)
    (x0 : Vec F S512x1024 .f32) (x1 : Vec F S1x9x1024 .f32) (x2 : Vec F S3x1024 .f32) (x3 : Vec F S1x1024 .f32) (fh0 : HbBuf0 (F := F) c hbM0_0) (fh1 : HbBuf0 (F := F) c hbM0_1)
    (y4 : Vec F S512x1024 .f32) (xs0 : Vec F S1024x5632 .bf16) (xs1 : Vec F S2816x1024 .bf16) :
    { L : List (View.Piece (Elt F) S512x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare y4 ∗ (∃ d, owns (c : Thread nD τ) arg8 fullShare d) ∗ owns (c : Thread nD τ) arg9 fullShare xs0 ∗ owns (c : Thread nD τ) arg10 fullShare xs1 ∗ (∃ d, owns (c : Thread nD τ) alloca_r0 fullShare d) ∗ (∃ d, owns (c : Thread nD τ) alloca_12_r0 fullShare d) ∗ (∃ d, owns (c : Thread nD τ) alloca_13_r0 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare y4 ∗ (∃ f, arg8.view.loc (c : Thread nD τ) ↦[arg8.view.set]{fullShare} arg8.view.writes (Elt F) f L) ∗ owns (c : Thread nD τ) arg9 fullShare xs0 ∗ owns (c : Thread nD τ) arg10 fullShare xs1 ∗ (∃ d, owns (c : Thread nD τ) alloca_r0 fullShare d) ∗ (∃ d, owns (c : Thread nD τ) alloca_12_r0 fullShare d) ∗ (∃ d, owns (c : Thread nD τ) alloca_13_r0 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn2 i arg1 harg1 arg2 harg2 arg3 harg3 arg4 harg4 (Memref.whole main_v3) (Memref.isWhole_whole _) (Memref.whole main_v4) (Memref.isWhole_whole _) arg7 harg7 arg8 harg8 arg9 harg9 arg10 harg10 alloca_r0 halloca_r0 alloca_12_r0 halloca_12_r0 alloca_13_r0 halloca_13_r0 cc0_scoped3) K } := by
  refine ⟨?_, fun W K => ?run⟩
  case run =>
    simp only [cc0_ffn2_eq_skeleton]; unfold cc0_ffn2_skel
    simp only [k0_part28_eq_skeleton, k0_part29_eq_skeleton, k0_part30_eq_skeleton, k0_part31_eq_skeleton, k0_part32_eq_skeleton, k0_part33_eq_skeleton]
    unfold owns
    iintro ⟨⟨%fH0, %eH0, H0⟩, ⟨%fH1, %eH1, H1⟩, ⟨%fH2, %eH2, H2⟩, ⟨%fH3, %eH3, H3⟩, ⟨%fH4, %eH4, H4⟩, ⟨%dH5, %fH5, -, H5⟩, ⟨%fHS0, %eHS0, HS0⟩, ⟨%fHS1, %eHS1, HS1⟩, ⟨%dHS2, %fHS2, -, HS2⟩, ⟨%dHS3, %fHS3, -, HS3⟩, ⟨%dHS4, %fHS4, -, HS4⟩, Hq0, Hq1, Hq2, Hq3, Hq4, Hq5, Hq6, Hq7, Hq8, Hq9, Hq10, Hq11, Hh0, Hh1, HW, Hk⟩
    obtain rfl := harg1.eq_unread eH0; obtain rfl := harg2.eq_unread eH1; obtain rfl := harg3.eq_unread eH2; obtain rfl := harg4.eq_unread eH3; obtain rfl := harg7.eq_unread eH4; obtain rfl := harg9.eq_unread eHS0; obtain rfl := harg10.eq_unread eHS1
    sl_exec (disch := first | sl_exact hc0 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]
    · iexists _; isplitr; · ipureintro; exact harg10.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    iexists _; iexact HW

end Cert.KernelIdeal.Ffn2

end
-- ==== Proof.Common.Slots.lean ====
/-
Reading a staging buffer of several slots after copies into single slots, each through the slot's slice with its
unit axis dropped.
-/
module

public import Idealize.ShloMosaic.Lib.Pipeline.Value
public import Idealize.ShloMosaic.Lib.Pipeline.FrameBody
public import Idealize.ShloMosaic.Lib.WholeRead

@[expose] public section

namespace Cert.Common

open Idealize.ShloMosaic

variable {sig : RefSig} {κ : Kind} {sp : Space} {s s' : Shape} {e : EltTy} {Val : EltTy → Type}

/-- A load of one slot, its unit axis dropped, right after a copy into that slot reads what was copied. -/
theorem slot_hit (v : View sig κ sp s e) (r : Rect s) (hn : s'.numel = r.shape.numel) (hc : r.shape.ShapeCasts s')
    (f : v.ty.Contents Val) (w : s'.Idx → Val e) :
    shapeCast s' (v.readAt Val r.toLoadRect (((v.slice r).reshape s' hn).write Val f w Finset.univ)) hc = w :=
  View.read_write_univ (v := (v.slice r).reshape s' hn) f w

/-- A load of one slot does not see a copy into another. -/
theorem slot_miss (v : View sig κ sp s e) (r r' : Rect s) (hn : s'.numel = r'.shape.numel)
    (f : v.ty.Contents Val) (w : s'.Idx → Val e) (h : Disjoint r.set r'.set) :
    v.readAt Val r.toLoadRect (((v.slice r').reshape s' hn).write Val f w Finset.univ) = v.readAt Val r.toLoadRect f := by
  refine View.read_congr (v := v.slice r) fun i hi => View.write_of_not_mem _ _ _ fun hm => ?_
  obtain ⟨x, -, rfl⟩ := Finset.mem_map.mp hi
  obtain ⟨y, -, hy⟩ := Finset.mem_map.mp hm
  have : r'.emb (Shape.reshapeEquiv hn y) = r.emb x := v.emb.injective hy
  rw [← Rect.map_emb_univ, ← Rect.map_emb_univ] at h
  exact Finset.disjoint_left.mp h (Finset.mem_map_of_mem _ (Finset.mem_univ x))
    (this ▸ Finset.mem_map_of_mem _ (Finset.mem_univ _))

/-- The same, the slots given as boxes at offsets apart along the first axis. -/
theorem slot_miss_unit {d : Fin 3 → ℕ} (v : View sig κ sp ⟨3, d⟩ e) {off off' size size' : Fin 3 → ℕ} (inb inb')
    (hn : s'.numel = (Rect.unit (s := ⟨3, d⟩) off' size' inb').shape.numel)
    (f : v.ty.Contents Val) (w : s'.Idx → Val e) (h : off 0 + size 0 ≤ off' 0 ∨ off' 0 + size' 0 ≤ off 0) :
    v.readAt Val (Rect.unit (s := ⟨3, d⟩) off size inb).toLoadRect
        (((v.slice (Rect.unit (s := ⟨3, d⟩) off' size' inb')).reshape s' hn).write Val f w Finset.univ)
      = v.readAt Val (Rect.unit (s := ⟨3, d⟩) off size inb).toLoadRect f :=
  slot_miss v _ _ hn f w (Rect.disjoint_of_axis _ _ (0 : Fin 3) fun j₁ h₁ j₂ h₂ => by
    show off 0 + 1 * j₁ ≠ off' 0 + 1 * j₂
    have h₁ : j₁ < size 0 := h₁
    have h₂ : j₂ < size' 0 := h₂
    omega)

/-- A load of a box of a rank-two buffer does not see the last store if that store's box lies apart. -/
theorem readCov_miss_unit [∀ e, Nonempty (Val e)] {d : Fin 2 → ℕ} (v : View sig κ sp ⟨2, d⟩ e) {off off' size size' : Fin 2 → ℕ} (inb inb')
    (w : (Rect.unit (s := ⟨2, d⟩) off' size' inb').shape.Idx → Val e) (L : List (View.Piece Val ⟨2, d⟩ e))
    (h : (off 0 + size 0 ≤ off' 0 ∨ off' 0 + size' 0 ≤ off 0) ∨ (off 1 + size 1 ≤ off' 1 ∨ off' 1 + size' 1 ≤ off 1)) :
    v.readCov (⟨Rect.unit (s := ⟨2, d⟩) off' size' inb', w⟩ :: L) (Rect.unit (s := ⟨2, d⟩) off size inb).toLoadRect
      = v.readCov L (Rect.unit (s := ⟨2, d⟩) off size inb).toLoadRect := by
  have key (a : Fin 2) (h : off a + size a ≤ off' a ∨ off' a + size' a ≤ off a) :
      Disjoint (Rect.unit (s := ⟨2, d⟩) off' size' inb').set (Rect.unit (s := ⟨2, d⟩) off size inb).set :=
    Rect.disjoint_of_axis _ _ a fun j₁ h₁ j₂ h₂ => by
      show off' a + 1 * j₁ ≠ off a + 1 * j₂
      have h₁ : j₁ < size' a := h₁
      have h₂ : j₂ < size a := h₂
      omega
  exact View.readCov_cons_of_disjoint v ⟨_, w⟩ L _ (h.elim (key 0) (key 1))

/-- A load of a whole buffer held at contents is the contents at the load's indices. -/
theorem readAt_ld {M : Memref sig κ sp s e} (h : M.IsWhole) (X : s.Idx → Val e) (r : Rect s) :
    View.readAt Val M.view r.toLoadRect (h.unread X) = View.ld X r :=
  funext fun x => h.readAt_unread X r.toLoadRect x

end Cert.Common
-- ==== Proof.Ffn2.Value.lean ====
/-
What the kernel's body computes, as functions of what it is given: the block of an output from a block of the input,
the modulation rows, the norms' weights and the two weights the scratch holds.
-/
module

public import proofs.«01_k».proof.Proof.Ffn2.Setup

public import proofs.«01_k».proof.Proof.Common.Slots
public import Idealize.ShloMosaic.Lib.VecWindow
public import Idealize.ShloMosaic.Lib.WholeRead
public import Idealize.ShloMosaic.Lib.Pipeline.ValueKit.Basic

@[expose] public section

set_option maxRecDepth 16384

noncomputable section

namespace Cert.KernelIdeal.Ffn2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Chunk `k` (256 columns) of the gate half of the gate and up weights. -/
def gateCols (W : Vec F S1024x5632 .bf16) (k : Fin 11) : Vec F S1024x256 .bf16 :=
  View.ld W (Rect.unit ![0, 256 * k.val] S1024x256.size (by have := k.isLt; intro a; fin_cases a <;> simp <;> omega))

/-- Chunk `k` of the up half. -/
def upCols (W : Vec F S1024x5632 .bf16) (k : Fin 11) : Vec F S1024x256 .bf16 :=
  View.ld W (Rect.unit ![0, 2816 + 256 * k.val] S1024x256.size (by have := k.isLt; intro a; fin_cases a <;> simp <;> omega))

/-- Chunk `k` (256 rows) of the down weight. -/
def downRows (W : Vec F S2816x1024 .bf16) (k : Fin 11) : Vec F S256x1024 .bf16 :=
  View.ld W (Rect.unit ![256 * k.val, 0] S256x1024.size (by have := k.isLt; intro a; fin_cases a <;> simp <;> omega))

/-- The modulated, normalized input block: the norm's row 2, the modulation rows 6 (shift) and 7 (scale). -/
def modulated (x0 : Vec F S512x1024 .f32) (x1 : Vec F S1x9x1024 .f32) (x2 : Vec F S3x1024 .f32) : FVec F S512x1024 .bf16 :=
  k0_pay1 x0 (View.ld x2 (Rect.unit ![2, 0] ![1, 1024] inb_S3x1024_S1x1024_2_0))
    (View.ld x1 (Rect.unit ![0, 6, 0] ![1, 1, 1024] inb_S1x9x1024_S1x1x1024_0_6_0))
    (View.ld x1 (Rect.unit ![0, 7, 0] ![1, 1, 1024] inb_S1x9x1024_S1x1x1024_0_7_0))

/-- One chunk's part of the feed-forward product: `(silu(y w1) * (y w3)) w2`. -/
def chunk (y : FVec F S512x1024 .bf16) (w1 w3 : Vec F S1024x256 .bf16) (w2 : Vec F S256x1024 .bf16) : FVec F S512x1024 .f32 :=
  k0_pay7 y (k0_pay6 y w1) w3 (constant S512x256 .f32 0x00000000#32) w2

/-- The half-step residual and the last norm, of the input block, the chunks' sum, the gate row and the norm's weight. -/
def finish (x0 : Vec F S512x1024 .f32) (s : FVec F S512x1024 .f32) (g : Vec F S1x1x1024 .f32) (w : Vec F S1x1024 .f32) : FVec F S512x1024 .f32 :=
  have v218 : FVec F S1x1024 .f32 := shapeCast S1x1024 g shapeCasts_S1x1x1024_S1x1024
  have v219 : FVec F S1x1024 .f32 := broadcast S1x1024 (Scalar.ofBits .f32 0x3F000000#32)
  have v220 : FVec F S1x1024 .f32 := mulf v219 v218
  have v221 : FVec F S512x1024 .f32 := broadcastTo S512x1024 v220 broadcasts_S1x1024_S512x1024
  have v222 : FVec F S512x1024 .f32 := mulf v221 s
  have v223 : FVec F S512x1024 .f32 := addf x0 v222
  have v225 : FVec F S1x1024 .f32 := shapeCast S1x1024 w shapeCasts_S1x1024_S1x1024
  have v226 : FVec F S512x1024 .f32 := mulf v223 v223
  have v227 : FVec F S512 .f32 := multiReduction .add [1] S512 v226 0x00000000#32 reduces_S512x1024_S512 (.inl rfl) rfl
  have v228 : FVec F S512x1 .f32 := shapeCast S512x1 v227 shapeCasts_S512_S512x1
  have v229 : FVec F S512x1 .f32 := broadcast S512x1 (Scalar.ofBits .f32 0x44800000#32)
  have v230 : FVec F S512x1 .f32 := divf v228 v229
  have v231 : FVec F S512x1 .f32 := broadcast S512x1 (Scalar.ofBits .f32 0x358637BD#32)
  have v232 : FVec F S512x1 .f32 := addf v230 v231
  have v233 : FVec F S512x1 .f32 := rsqrt v232
  have v234 : FVec F S512x1024 .f32 := broadcastTo S512x1024 v233 broadcasts_S512x1_S512x1024
  have v235 : FVec F S512x1024 .f32 := mulf v223 v234
  have v236 : FVec F S512x1024 .f32 := broadcastTo S512x1024 v225 broadcasts_S1x1024_S512x1024
  mulf v235 v236

/-- The chunks' sum, in the order the body adds them. -/
def ffnSum (y : FVec F S512x1024 .bf16) (W13 : Vec F S1024x5632 .bf16) (W2 : Vec F S2816x1024 .bf16) : FVec F S512x1024 .f32 :=
  let p (k : Fin 11) := chunk y (gateCols W13 k) (upCols W13 k) (downRows W2 k)
  addf (addf (addf (addf (addf (addf (addf (addf (addf (addf (p 0) (p 1)) (p 2)) (p 3)) (p 4)) (p 5)) (p 6)) (p 7)) (p 8)) (p 9)) (p 10)

/-- An output's block. -/
def block (x0 : Vec F S512x1024 .f32) (x1 : Vec F S1x9x1024 .f32) (x2 : Vec F S3x1024 .f32) (x3 : Vec F S1x1024 .f32)
    (W13 : Vec F S1024x5632 .bf16) (W2 : Vec F S2816x1024 .bf16) : Vec F S512x1024 .f32 :=
  finish x0 (ffnSum (modulated x0 x1 x2) W13 W2)
    (View.ld x1 (Rect.unit ![0, 8, 0] S1x1x1024.size inb_S1x9x1024_S1x1x1024_0_8_0)) x3

/-- The weights as the scratch holds them: rounded to the narrower type. -/
def cast13 (W : Vec F S1024x5632 .f32) : Vec F S1024x5632 .bf16 := truncf .bf16 W bitsLt_bf16_f32
def cast2 (W : Vec F S2816x1024 .f32) : Vec F S2816x1024 .bf16 := truncf .bf16 W bitsLt_bf16_f32

/-- A load of contents through the rectangle of everything is the contents. -/
theorem ld_all2 {a b : ℕ} {e : EltTy} (X : (⟨2, ![a, b]⟩ : Shape).Idx → Elt F e) (h) :
    View.ld X (Rect.unit (s := ⟨2, ![a, b]⟩) ![0, 0] ![a, b] h) = X :=
  View.ld_unit_lit (S := ⟨2, ![a, b]⟩) h X (by intro a; fin_cases a <;> rfl)

end Cert.KernelIdeal.Ffn2

end
-- ==== Proof.Ffn2.Closed.lean ====
/-
What the runs leave, in closed form: an output's block is the block of the input block and of the weights the scratch
holds, and the scratch after the first point is the rounded weights.
-/
module

public import proofs.«01_k».proof.Proof.Ffn2.RunC

public import proofs.«01_k».proof.Proof.Ffn2.Value
public import proofs.«01_k».proof.Proof.Common.Slots
public import Idealize.ShloMosaic.Lib.VecWindow
public import Idealize.ShloMosaic.Lib.WholeRead
public import Idealize.ShloMosaic.Lib.Pointwise.Reshape

@[expose] public section

set_option maxRecDepth 16384

noncomputable section

namespace Cert.KernelIdeal.Ffn2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S3x1024 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S512x1024 .f32) (harg8 : arg8.IsWhole) (arg9 : Memref sig .tc .vmem S1024x5632 .bf16) (harg9 : arg9.IsWhole) (arg10 : Memref sig .tc .vmem S2816x1024 .bf16) (harg10 : arg10.IsWhole) (alloca_r0 : Memref sig .tc .vmem S4x1024x256 .f32) (halloca_r0 : alloca_r0.IsWhole) (alloca_12_r0 : Memref sig .tc .vmem S4x1024x256 .f32) (halloca_12_r0 : alloca_12_r0.IsWhole) (alloca_13_r0 : Memref sig .tc .vmem S4x256x1024 .f32) (halloca_13_r0 : alloca_13_r0.IsWhole)
  (x0 : Vec F S512x1024 .f32) (x1 : Vec F S1x9x1024 .f32) (x2 : Vec F S3x1024 .f32) (x3 : Vec F S1x1024 .f32) (fh0 : HbBuf0 (F := F) c hbM0_0) (fh1 : HbBuf0 (F := F) c hbM0_1)
  (y : Vec F S512x1024 .f32) (xs0 : Vec F S1024x5632 .bf16) (xs1 : Vec F S2816x1024 .bf16)

set_option maxHeartbeats 2000000 in
/-- A later point of the first output leaves its block in the first output's buffer. -/
theorem runB_read (hc0 : ¬cond0_0 i) (hc3 : cond0_3 i) (hc4 : cond0_4 i) (hc5 : ¬cond0_5 i) (f : arg7.view.ty.Contents (Elt F)) :
    arg7.view.read (Elt F) (arg7.view.writes (Elt F) f (runB c i arg1 harg1 arg2 harg2 arg3 harg3 arg4 harg4 arg7 harg7 arg8 harg8 arg9 harg9 arg10 harg10 alloca_r0 halloca_r0 alloca_12_r0 halloca_12_r0 alloca_13_r0 halloca_13_r0 hc0 hc3 hc4 hc5 x0 x1 x2 x3 fh0 fh1 y xs0 xs1).1)
      = block x0 x1 x2 x3 xs0 xs1 := by
  refine (View.read_writes_full arg7.view f (s := ⟨2, ![512, 1024]⟩) _ _ []).trans ?_
  simp only [runB.sl.r, runB.sl.r_1, runB.sl.r_2, runB.sl.r_3, runB.sl.r_4, runB.sl.r_5, runB.sl.r_6, runB.sl.r_7, runB.sl.r_8,
    runB.sl.r_9, runB.sl.r_10, runB.sl.r_11, runB.sl.cst_96, runB.sl.cst_117, Cert.Common.readAt_ld]
  rw [ld_all2, ld_all2]
  rfl

set_option maxHeartbeats 2000000 in
/-- A point of the second output leaves its block in the second output's buffer. -/
theorem runC_read (hc0 : ¬cond0_0 i) (hc3 : cond0_3 i) (hc4 : ¬cond0_4 i) (hc5 : cond0_5 i) (f : arg8.view.ty.Contents (Elt F)) :
    arg8.view.read (Elt F) (arg8.view.writes (Elt F) f (runC c i arg1 harg1 arg2 harg2 arg3 harg3 arg4 harg4 arg7 harg7 arg8 harg8 arg9 harg9 arg10 harg10 alloca_r0 halloca_r0 alloca_12_r0 halloca_12_r0 alloca_13_r0 halloca_13_r0 hc0 hc3 hc4 hc5 x0 x1 x2 x3 fh0 fh1 y xs0 xs1).1)
      = block x0 x1 x2 x3 xs0 xs1 := by
  refine (View.read_writes_full arg8.view f (s := ⟨2, ![512, 1024]⟩) _ _ []).trans ?_
  simp only [runC.sl.cst_117, runC.sl.cst_96, runC.sl.r, runC.sl.r_1, runC.sl.r_10, runC.sl.r_11, runC.sl.r_2, runC.sl.r_3, runC.sl.r_4,
    runC.sl.r_5, runC.sl.r_6, runC.sl.r_7, runC.sl.r_8, runC.sl.r_9, Cert.Common.readAt_ld]
  rw [ld_all2, ld_all2]
  rfl

variable (z2 z3 : Vec F S4x1024x256 .f32) (z4 : Vec F S4x256x1024 .f32)

set_option maxHeartbeats 4000000 in
/-- Each piece the first point stores into the gate and up weights' scratch is the rounded weights' there. -/
theorem runA_pieces13 (hc0 : cond0_0 i) (hc1 : cond0_1 i) (hc2 : ¬cond0_2 i) (hc3 : ¬cond0_3 i) :
    ∀ p ∈ (runA c i arg1 harg1 arg2 harg2 arg3 harg3 arg4 harg4 arg7 harg7 arg8 harg8 arg9 harg9 arg10 harg10 alloca_r0 halloca_r0 alloca_12_r0 halloca_12_r0 alloca_13_r0 halloca_13_r0 hc0 hc1 hc2 hc3 x0 x1 x2 x3 fh0 fh1 y z2 z3 z4).2.1, ∀ x, p.2 x = cast13 fh0 (p.1.emb x) := by
  show ∀ p ∈ runA.sl.HS0_22 c alloca_r0 halloca_r0 alloca_12_r0 halloca_12_r0 fh0 z2 z3, ∀ x, p.2 x = cast13 fh0 (p.1.emb x)
  simp only [runA.sl.HS0_10, runA.sl.HS0_12, runA.sl.HS0_14, runA.sl.HS0_16, runA.sl.HS0_18, runA.sl.HS0_2, runA.sl.HS0_20,
    runA.sl.HS0_22, runA.sl.HS0_4, runA.sl.HS0_6, runA.sl.HS0_8, List.forall_mem_cons]
  refine ⟨?_, ?_, ?_, ?_, ?_, ?_, ?_, ?_, ?_, ?_, ?_, ?_, ?_, ?_, ?_, ?_, ?_, ?_, ?_, ?_, ?_, ?_, fun _ h => absurd h List.not_mem_nil⟩
  all_goals
    intro x
    simp (disch := decide) only [k0_pay3, k0_pay4, k0_pay5, k0_pay8, k0_pay9, k0_pay10, k0_pay12, k0_pay13, k0_pay14, k0_pay17, k0_pay18, k0_pay19,
    k0_pay21, k0_pay22, k0_pay23, k0_pay25, k0_pay26, k0_pay27, k0_pay32, k0_pay33, k0_pay34, k0_pay36, k0_pay37, k0_pay38,
    k0_pay39, k0_pay41, k0_pay42, k0_pay43, k0_pay44, k0_pay46, k0_pay47, k0_pay48, k0_pay50, k0_pay51, k0_pay52,
      runA.sl.v, runA.sl.v107_r0, runA.sl.v113_r0, runA.sl.v119_r0, runA.sl.v125_r0, runA.sl.v127_r0, runA.sl.v139_r0,
    runA.sl.v171_r0, runA.sl.v177_r0, runA.sl.v183_r0, runA.sl.v189_r0, runA.sl.v191_r0, runA.sl.v203_r0, runA.sl.v236_r0,
    runA.sl.v242_r0, runA.sl.v248_r0, runA.sl.v254_r0, runA.sl.v256_r0, runA.sl.v268_r0, runA.sl.v301_r0, runA.sl.v307_r0,
    runA.sl.v313_r0, runA.sl.v319_r0, runA.sl.v321_r0, runA.sl.v333_r0, runA.sl.v366_r0, runA.sl.v372_r0, runA.sl.v378_r0,
    runA.sl.v384_r0, runA.sl.v386_r0, runA.sl.v398_r0, runA.sl.v431_r0, runA.sl.v437_r0, runA.sl.v443_r0, runA.sl.v449_r0,
    runA.sl.v451_r0, runA.sl.v463_r0, runA.sl.v496_r0, runA.sl.v502_r0, runA.sl.v514_r0, runA.sl.v516_r0, runA.sl.v528_r0,
    runA.sl.v561_r0, runA.sl.v562_r0, runA.sl.v567_r0, runA.sl.v573_r0, runA.sl.v579_r0, runA.sl.v581_r0, runA.sl.v593_r0,
    runA.sl.v611_r0, runA.sl.v617_r0, runA.sl.v620_r0, runA.sl.v623_r0, runA.sl.v629_r0, runA.sl.v631_r0, runA.sl.v643_r0,
    runA.sl.v661_r0, runA.sl.v667_r0, runA.sl.v673_r0, runA.sl.v679_r0, runA.sl.v681_r0, runA.sl.v693_r0, runA.sl.v711_r0,
    runA.sl.v717_r0, runA.sl.v723_r0, runA.sl.v729_r0, runA.sl.v731_r0, runA.sl.v743_r0, runA.sl.cst_128_r0,
    runA.sl.cst_453_r0, runA.sl.r, runA.sl.r_1, runA.sl.r_10, runA.sl.r_11, runA.sl.r_12, runA.sl.r_13, runA.sl.r_14,
    runA.sl.r_15, runA.sl.r_16, runA.sl.r_17, runA.sl.r_18, runA.sl.r_19, runA.sl.r_2, runA.sl.r_20, runA.sl.r_21,
    runA.sl.r_22, runA.sl.r_3, runA.sl.r_4, runA.sl.r_5, runA.sl.r_6, runA.sl.r_7, runA.sl.r_8, runA.sl.r_9, Cert.Common.slot_miss_unit, Cert.Common.slot_hit, shapeCast_id]
    rfl

set_option maxHeartbeats 4000000 in
/-- Each piece it stores into the down weight's scratch is the rounded weight's there. -/
theorem runA_pieces2 (hc0 : cond0_0 i) (hc1 : cond0_1 i) (hc2 : ¬cond0_2 i) (hc3 : ¬cond0_3 i) :
    ∀ p ∈ (runA c i arg1 harg1 arg2 harg2 arg3 harg3 arg4 harg4 arg7 harg7 arg8 harg8 arg9 harg9 arg10 harg10 alloca_r0 halloca_r0 alloca_12_r0 halloca_12_r0 alloca_13_r0 halloca_13_r0 hc0 hc1 hc2 hc3 x0 x1 x2 x3 fh0 fh1 y z2 z3 z4).2.2.1, ∀ x, p.2 x = cast2 fh1 (p.1.emb x) := by
  show ∀ p ∈ runA.sl.HS1_11 c alloca_13_r0 halloca_13_r0 fh1 z4, ∀ x, p.2 x = cast2 fh1 (p.1.emb x)
  simp only [runA.sl.HS1_1, runA.sl.HS1_10, runA.sl.HS1_11, runA.sl.HS1_2, runA.sl.HS1_3, runA.sl.HS1_4, runA.sl.HS1_5, runA.sl.HS1_6,
    runA.sl.HS1_7, runA.sl.HS1_8, runA.sl.HS1_9, List.forall_mem_cons]
  refine ⟨?_, ?_, ?_, ?_, ?_, ?_, ?_, ?_, ?_, ?_, ?_, fun _ h => absurd h List.not_mem_nil⟩
  all_goals
    intro x
    simp (disch := decide) only [k0_pay3, k0_pay4, k0_pay5, k0_pay8, k0_pay9, k0_pay10, k0_pay12, k0_pay13, k0_pay14, k0_pay17, k0_pay18, k0_pay19,
    k0_pay21, k0_pay22, k0_pay23, k0_pay25, k0_pay26, k0_pay27, k0_pay32, k0_pay33, k0_pay34, k0_pay36, k0_pay37, k0_pay38,
    k0_pay39, k0_pay41, k0_pay42, k0_pay43, k0_pay44, k0_pay46, k0_pay47, k0_pay48, k0_pay50, k0_pay51, k0_pay52,
      runA.sl.v, runA.sl.v107_r0, runA.sl.v113_r0, runA.sl.v119_r0, runA.sl.v125_r0, runA.sl.v127_r0, runA.sl.v139_r0,
    runA.sl.v171_r0, runA.sl.v177_r0, runA.sl.v183_r0, runA.sl.v189_r0, runA.sl.v191_r0, runA.sl.v203_r0, runA.sl.v236_r0,
    runA.sl.v242_r0, runA.sl.v248_r0, runA.sl.v254_r0, runA.sl.v256_r0, runA.sl.v268_r0, runA.sl.v301_r0, runA.sl.v307_r0,
    runA.sl.v313_r0, runA.sl.v319_r0, runA.sl.v321_r0, runA.sl.v333_r0, runA.sl.v366_r0, runA.sl.v372_r0, runA.sl.v378_r0,
    runA.sl.v384_r0, runA.sl.v386_r0, runA.sl.v398_r0, runA.sl.v431_r0, runA.sl.v437_r0, runA.sl.v443_r0, runA.sl.v449_r0,
    runA.sl.v451_r0, runA.sl.v463_r0, runA.sl.v496_r0, runA.sl.v502_r0, runA.sl.v514_r0, runA.sl.v516_r0, runA.sl.v528_r0,
    runA.sl.v561_r0, runA.sl.v562_r0, runA.sl.v567_r0, runA.sl.v573_r0, runA.sl.v579_r0, runA.sl.v581_r0, runA.sl.v593_r0,
    runA.sl.v611_r0, runA.sl.v617_r0, runA.sl.v620_r0, runA.sl.v623_r0, runA.sl.v629_r0, runA.sl.v631_r0, runA.sl.v643_r0,
    runA.sl.v661_r0, runA.sl.v667_r0, runA.sl.v673_r0, runA.sl.v679_r0, runA.sl.v681_r0, runA.sl.v693_r0, runA.sl.v711_r0,
    runA.sl.v717_r0, runA.sl.v723_r0, runA.sl.v729_r0, runA.sl.v731_r0, runA.sl.v743_r0, runA.sl.cst_128_r0,
    runA.sl.cst_453_r0, runA.sl.r, runA.sl.r_1, runA.sl.r_10, runA.sl.r_11, runA.sl.r_12, runA.sl.r_13, runA.sl.r_14,
    runA.sl.r_15, runA.sl.r_16, runA.sl.r_17, runA.sl.r_18, runA.sl.r_19, runA.sl.r_2, runA.sl.r_20, runA.sl.r_21,
    runA.sl.r_22, runA.sl.r_3, runA.sl.r_4, runA.sl.r_5, runA.sl.r_6, runA.sl.r_7, runA.sl.r_8, runA.sl.r_9, Cert.Common.slot_miss_unit, Cert.Common.slot_hit, shapeCast_id]
    rfl

/-- So after the first point the gate and up weights' scratch holds the rounded weights, -/
theorem runA_read13 (hc0 : cond0_0 i) (hc1 : cond0_1 i) (hc2 : ¬cond0_2 i) (hc3 : ¬cond0_3 i) (f : arg9.view.ty.Contents (Elt F)) :
    arg9.view.read (Elt F) (arg9.view.writes (Elt F) f (runA c i arg1 harg1 arg2 harg2 arg3 harg3 arg4 harg4 arg7 harg7 arg8 harg8 arg9 harg9 arg10 harg10 alloca_r0 halloca_r0 alloca_12_r0 halloca_12_r0 alloca_13_r0 halloca_13_r0 hc0 hc1 hc2 hc3 x0 x1 x2 x3 fh0 fh1 y z2 z3 z4).2.1) = cast13 fh0 :=
  funext fun y' => View.read_writes_apply_of_pieces _ _ _ _ (runA_pieces13 c i arg1 harg1 arg2 harg2 arg3 harg3 arg4 harg4 arg7 harg7 arg8 harg8 arg9 harg9 arg10 harg10 alloca_r0 halloca_r0 alloca_12_r0 halloca_12_r0 alloca_13_r0 halloca_13_r0 x0 x1 x2 x3 fh0 fh1 y z2 z3 z4 hc0 hc1 hc2 hc3) y'
    (View.cover_of_tiledL _ ![1024, 256] (by sl_kernel_rfl) y')

/-- and the down weight's scratch the rounded down weight. -/
theorem runA_read2 (hc0 : cond0_0 i) (hc1 : cond0_1 i) (hc2 : ¬cond0_2 i) (hc3 : ¬cond0_3 i) (f : arg10.view.ty.Contents (Elt F)) :
    arg10.view.read (Elt F) (arg10.view.writes (Elt F) f (runA c i arg1 harg1 arg2 harg2 arg3 harg3 arg4 harg4 arg7 harg7 arg8 harg8 arg9 harg9 arg10 harg10 alloca_r0 halloca_r0 alloca_12_r0 halloca_12_r0 alloca_13_r0 halloca_13_r0 hc0 hc1 hc2 hc3 x0 x1 x2 x3 fh0 fh1 y z2 z3 z4).2.2.1) = cast2 fh1 :=
  funext fun y' => View.read_writes_apply_of_pieces _ _ _ _ (runA_pieces2 c i arg1 harg1 arg2 harg2 arg3 harg3 arg4 harg4 arg7 harg7 arg8 harg8 arg9 harg9 arg10 harg10 alloca_r0 halloca_r0 alloca_12_r0 halloca_12_r0 alloca_13_r0 halloca_13_r0 x0 x1 x2 x3 fh0 fh1 y z2 z3 z4 hc0 hc1 hc2 hc3) y'
    (View.cover_of_tiledL _ ![256, 1024] (by sl_kernel_rfl) y')

set_option maxHeartbeats 4000000 in
/-- The first point leaves the first output's block in the first output's buffer, computed from the rounded weights. -/
theorem runA_read (hc0 : cond0_0 i) (hc1 : cond0_1 i) (hc2 : ¬cond0_2 i) (hc3 : ¬cond0_3 i) (f : arg7.view.ty.Contents (Elt F)) :
    arg7.view.read (Elt F) (arg7.view.writes (Elt F) f (runA c i arg1 harg1 arg2 harg2 arg3 harg3 arg4 harg4 arg7 harg7 arg8 harg8 arg9 harg9 arg10 harg10 alloca_r0 halloca_r0 alloca_12_r0 halloca_12_r0 alloca_13_r0 halloca_13_r0 hc0 hc1 hc2 hc3 x0 x1 x2 x3 fh0 fh1 y z2 z3 z4).1) = block x0 x1 x2 x3 (cast13 fh0) (cast2 fh1) := by
  refine (View.read_writes_full arg7.view f (s := ⟨2, ![512, 1024]⟩) _ _ []).trans ?_
  simp (disch := decide) only [runA.sl.cst_128_r0, runA.sl.cst_453_r0, runA.sl.r, runA.sl.r_1, runA.sl.r_10, runA.sl.r_11, runA.sl.r_12, runA.sl.r_13,
    runA.sl.r_14, runA.sl.r_15, runA.sl.r_16, runA.sl.r_17, runA.sl.r_18, runA.sl.r_19, runA.sl.r_2, runA.sl.r_20,
    runA.sl.r_21, runA.sl.r_22, runA.sl.r_3, runA.sl.r_4, runA.sl.r_5, runA.sl.r_6, runA.sl.r_7, runA.sl.r_8, runA.sl.r_9, runA.sl.v, runA.sl.v107_r0, runA.sl.v113_r0, runA.sl.v119_r0, runA.sl.v125_r0, runA.sl.v127_r0, runA.sl.v139_r0,
    runA.sl.v171_r0, runA.sl.v177_r0, runA.sl.v183_r0, runA.sl.v189_r0, runA.sl.v191_r0, runA.sl.v203_r0, runA.sl.v236_r0,
    runA.sl.v242_r0, runA.sl.v248_r0, runA.sl.v254_r0, runA.sl.v256_r0, runA.sl.v268_r0, runA.sl.v301_r0, runA.sl.v307_r0,
    runA.sl.v313_r0, runA.sl.v319_r0, runA.sl.v321_r0, runA.sl.v333_r0, runA.sl.v366_r0, runA.sl.v372_r0, runA.sl.v378_r0,
    runA.sl.v384_r0, runA.sl.v386_r0, runA.sl.v398_r0, runA.sl.v431_r0, runA.sl.v437_r0, runA.sl.v443_r0, runA.sl.v449_r0,
    runA.sl.v451_r0, runA.sl.v463_r0, runA.sl.v496_r0, runA.sl.v502_r0, runA.sl.v514_r0, runA.sl.v516_r0, runA.sl.v528_r0,
    runA.sl.v561_r0, runA.sl.v562_r0, runA.sl.v567_r0, runA.sl.v573_r0, runA.sl.v579_r0, runA.sl.v581_r0, runA.sl.v593_r0,
    runA.sl.v611_r0, runA.sl.v617_r0, runA.sl.v620_r0, runA.sl.v623_r0, runA.sl.v629_r0, runA.sl.v631_r0, runA.sl.v643_r0,
    runA.sl.v661_r0, runA.sl.v667_r0, runA.sl.v673_r0, runA.sl.v679_r0, runA.sl.v681_r0, runA.sl.v693_r0, runA.sl.v711_r0,
    runA.sl.v717_r0, runA.sl.v723_r0, runA.sl.v729_r0, runA.sl.v731_r0, runA.sl.v743_r0, runA.sl.HS0_10, runA.sl.HS0_12, runA.sl.HS0_14, runA.sl.HS0_16, runA.sl.HS0_18, runA.sl.HS0_2, runA.sl.HS0_20,
    runA.sl.HS0_22, runA.sl.HS0_4, runA.sl.HS0_6, runA.sl.HS0_8, runA.sl.HS1_1, runA.sl.HS1_10, runA.sl.HS1_11, runA.sl.HS1_2,
    runA.sl.HS1_3, runA.sl.HS1_4, runA.sl.HS1_5, runA.sl.HS1_6, runA.sl.HS1_7, runA.sl.HS1_8, runA.sl.HS1_9,
    k0_pay3, k0_pay4, k0_pay5, k0_pay8, k0_pay9, k0_pay10, k0_pay12, k0_pay13, k0_pay14, k0_pay17, k0_pay18, k0_pay19,
    k0_pay21, k0_pay22, k0_pay23, k0_pay25, k0_pay26, k0_pay27, k0_pay32, k0_pay33, k0_pay34, k0_pay36, k0_pay37, k0_pay38,
    k0_pay39, k0_pay41, k0_pay42, k0_pay43, k0_pay44, k0_pay46, k0_pay47, k0_pay48, k0_pay50, k0_pay51, k0_pay52,
    View.readCov_cons_toLoadRect, Cert.Common.readCov_miss_unit, Cert.Common.slot_miss_unit, Cert.Common.slot_hit, shapeCast_id, Cert.Common.readAt_ld]
  rw [ld_all2, ld_all2]
  rfl
end

end Cert.KernelIdeal.Ffn2

end
-- ==== Proof.Ffn2.Frame.lean ====
/-
The kernel's run from its body's: the windows' contents point by point, the body at a generic point, and the whole
program's run, at any values.
-/
module

public import proofs.«01_k».proof.Proof.Ffn2.Closed
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Ffn2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## When an output is written, and when it is written back -/

/-- The first output is written at the points before the eighth only. -/
theorem idle4 : ∀ t : Fin cfg0.N, cfg0.idle 4 (grid0.coords t) = decide (8 ≤ t.val) :=
  (by decide +kernel : ∀ t : Fin grid0.N, idle0 4 (grid0.coords t) = decide (8 ≤ t.val))
/-- The second from the eighth on. -/
theorem idle5 : ∀ t : Fin cfg0.N, cfg0.idle 5 (grid0.coords t) = decide (t.val < 8) :=
  (by decide +kernel : ∀ t : Fin grid0.N, idle0 5 (grid0.coords t) = decide (t.val < 8))
/-- The first output's blocks go back after each of the first seven points and after the last. -/
theorem flush4 : ∀ t : Fin cfg0.N, (cfg0.win 4).flush t = decide (t.val < 7 ∨ t.val = 23) :=
  (by decide +kernel : ∀ t : Fin grid0.N, win0_4.flush t = decide (t.val < 7 ∨ t.val = 23))
/-- The second's after each point from the eighth on. -/
theorem flush5 : ∀ t : Fin cfg0.N, (cfg0.win 5).flush t = decide (8 ≤ t.val) :=
  (by decide +kernel : ∀ t : Fin grid0.N, win0_5.flush t = decide (8 ≤ t.val))

/-! ## The proof data -/

/-- What the body computes at point `t`: an output's block of that point's input blocks and the rounded weights. -/
def blk (c : Dev nD) (t : Fin cfg0.N) : Vec F S512x1024 .f32 :=
  block (iblk m c 0 t) (iblk m c 1 t) (iblk m c 2 t) (iblk m c 3 t) (cast13 (V m c main_v3)) (cast2 (V m c main_v4))

/-- The point whose block the first output's buffer holds after point `t`: `t`, up to the last one it is written at. -/
def last4 (t : Fin cfg0.N) : Fin cfg0.N := ⟨min t.val 7, lt_of_le_of_lt (min_le_left _ _) t.isLt⟩

/-- What is held beside the windows before position `n`: before the first point the launch's; afterwards the scratch at
    the rounded weights, the staging buffers at anything, and the generator register, the counters at zero and the
    weights' arrays. -/
def PhiS (c : Dev nD) : ℕ → sProp 𝕄
  | 0 => Pipeline.ΦD osem0 spec0 H0 (V m) c
  | n + 1 => iprop((owns (c : Thread nD τ) scM0_0 fullShare (cast13 (V m c main_v3)) ∗ owns (c : Thread nD τ) scM0_1 fullShare (cast2 (V m c main_v4)) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ (semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ (hbPt0 c hbM0_0 (V m c main_v3) ∗ hbPt0 c hbM0_1 (V m c main_v4)))

theorem PhiS_pos (c : Dev nD) (n : ℕ) (hz : n ≠ 0) :
    PhiS m c n = PhiS m c 1 := by
  cases n with
  | zero => exact absurd rfl hz
  | succ n => rfl

/-- The arrays as the region finds them, the inputs' buffers at their blocks and the outputs' at the last block written. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blk m c (last4 t)
    | ⟨5, _⟩ => blk m c t
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blk m c (last4 t) := by dsimp only [dats]
theorem after0_5 (c : Dev nD) (t : Fin cfg0.N) : (dats m 0 c).after 5 t = blk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- From the eighth point on the first output's buffer holds the block of point 7, the last it was written at: no
    later point writes it, and none sends it back before the last. -/
theorem before0_4 (c : Dev nD) (n : ℕ) (hn : n < cfg0.N) (h8 : 8 ≤ n) (d) :
    (dats m 0 c).before 4 ⟨n, hn⟩ d = blk m c (last4 ⟨n, hn⟩) := by
  have hN : n < 24 := lt_of_lt_of_eq hn (show cfg0.N = 24 from N_0)
  have hl : ∀ k (hk : k < cfg0.N), 7 ≤ k → last4 ⟨k, hk⟩ = last4 ⟨n, hn⟩ := fun k hk h7 =>
    Fin.ext (show min k 7 = min n 7 by omega)
  induction n, h8 using Nat.le_induction with
  | base =>
    rw [Dat.before_of_pos _ 4 _ (by show (8 : ℕ) ≠ 0; omega) rfl, flush4, decide_eq_false (by show ¬((8 - 1 : ℕ) < 7 ∨ (8 - 1 : ℕ) = 23); omega)]
    unfold Dat.left
    rw [show cfg0.idle 4 (cfg0.grid.coords ⟨(⟨8, hn⟩ : Fin cfg0.N).val - 1, _⟩) = false from (idle4 _).trans (decide_eq_false (by show ¬(8 ≤ (8 - 1 : ℕ)); omega))]
    exact (after0_4 m c _).trans (by rw [hl (8 - 1) _ (by omega)])
  | succ k hk ih =>
    rw [Dat.before_of_pos _ 4 _ (by show k + 1 ≠ 0; omega) rfl, flush4, decide_eq_false (by show ¬((k + 1 - 1 : ℕ) < 7 ∨ (k + 1 - 1 : ℕ) = 23); omega)]
    unfold Dat.left
    rw [show cfg0.idle 4 (cfg0.grid.coords ⟨(⟨k + 1, hn⟩ : Fin cfg0.N).val - 1, _⟩) = true from (idle4 _).trans (decide_eq_true (by show 8 ≤ k + 1 - 1; omega))]
    have hk' : k < cfg0.N := Nat.lt_of_succ_lt hn
    exact (ih hk' (by omega) (fun j hj h7 => Fin.ext (show min j 7 = min k 7 by omega))).trans (by rw [hl k hk' (by omega)])

/-- So a point that does not write the first output hands its buffer back as it must, -/
theorem pass4 (c : Dev nD) (t : Fin cfg0.N) (h : 8 ≤ t.val) (d) :
    owns (c : Thread nD τ) (ms0_4 t) fullShare ((dats m 0 c).before 4 t d) ⊢ (dats m 0 c).leavesExact 4 t := by
  by_cases h23 : t.val = 23
  · unfold Dat.leavesExact
    rw [show cfg0.idle 4 (cfg0.grid.coords t) = true from (idle4 t).trans (decide_eq_true h), flush4, decide_eq_true (.inr h23),
      after0_4, before0_4 m c t.val t.isLt h]
  · rw [Dat.leavesExact_idle _ 4 t ((idle4 t).trans (decide_eq_true h)) ((flush4 t).trans (decide_eq_false (by omega)))]
    iintro H
    iexists _
    iexact H

/-- and likewise the second. -/
theorem pass5 (c : Dev nD) (t : Fin cfg0.N) (h : t.val < 8) (d) :
    owns (c : Thread nD τ) (ms0_5 t) fullShare ((dats m 0 c).before 5 t d) ⊢ (dats m 0 c).leavesExact 5 t := by
  rw [Dat.leavesExact_idle _ 5 t ((idle5 t).trans (decide_eq_true h)) ((flush5 t).trans (decide_eq_false (by omega)))]
  iintro H
  iexists _
  iexact H

/-- A point that writes an output leaves its block. -/
theorem leaves4 (c : Dev nD) (t : Fin cfg0.N) (h : t.val < 8) :
    (dats m 0 c).leavesExact 4 t = owns (c : Thread nD τ) (ms0_4 t) fullShare (blk m c t) := by
  unfold Dat.leavesExact
  rw [show cfg0.idle 4 (cfg0.grid.coords t) = false from (idle4 t).trans (decide_eq_false (by omega)), after0_4,
    show last4 t = t from Fin.ext (show min t.val 7 = t.val by omega)]
theorem leaves5 (c : Dev nD) (t : Fin cfg0.N) (h : 8 ≤ t.val) :
    (dats m 0 c).leavesExact 5 t = owns (c : Thread nD τ) (ms0_5 t) fullShare (blk m c t) := by
  unfold Dat.leavesExact
  rw [show cfg0.idle 5 (cfg0.grid.coords t) = false from (idle5 t).trans (decide_eq_false (by omega)), after0_5]
theorem leaves0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves3 (c : Dev nD) (t : Fin cfg0.N) :
    (dats m 0 c).leavesExact 3 t = owns (c : Thread nD τ) (ms0_3 t) fullShare (iblk m c 3 t) := by
  unfold Dat.leavesExact; rw [liveAt0_3 t, after0_3]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6400000 in
/-- The body at any point: the inputs' buffers hold their blocks, the point's case decides which run applies, the output it
    does not write is handed back as found, and the scratch holds the rounded weights from the first point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.castSucc = PhiS m c t.val from rfl, show (dats m 0 c).Φ t.succ = PhiS m c 1 from rfl,
    leaves0, leaves1, leaves2, leaves3]
  unfold Dat.owesAt Pipeline.owesWithin
  rw [show (dats m 0 c).owed t.castSucc = 0 from rfl, show (dats m 0 c).owed t.succ = 0 from rfl]
  have hN : t.val < 24 := lt_of_lt_of_eq t.isLt (show cfg0.N = 24 from N_0)
  by_cases h8 : t.val < 8
  · rw [leaves4 m c t h8]
    by_cases h0 : t.val % 24 = 0
    · have hz : t.val = 0 := by omega
      rw [hz, show PhiS m c 0 = Pipeline.ΦD osem0 spec0 H0 (V m) c from rfl, PhiD0_eq]
      unfold PhiS
      iintro ⟨⟨⟨HS0, HS1, ⟨%z2, HS2⟩, ⟨%z3, HS3⟩, ⟨%z4, HS4⟩⟩, Hg, ⟨Hq0, Hq1, Hq2, Hq3, Hq4, Hq5, Hq6, Hq7, Hq8, Hq9, Hq10, Hq11⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ _ _ _ _ _ _ _ _ _ _ ((hcond0_0 t).mpr h0) ((hcond0_1 t).mpr h8) (fun h => absurd ((hcond0_2 t).mp h) (by omega)) (fun h => absurd ((hcond0_3 t).mp h) (by omega)) (iblk m c 0 t) (iblk m c 1 t) (iblk m c 2 t) (iblk m c 3 t) (V m c main_v3) (V m c main_v4) _ z2 z3 z4).2.2.2 W _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hh0]; · iexact Hh0
      isplitl [Hh1]; · iexact Hh1
      isplitl [HW]; · iexact HW
      iintro ⟨H0, H1, H2, H3, ⟨%e4, H4⟩, H5, ⟨%es0, HS0⟩, ⟨%es1, HS1⟩, HS2, HS3, HS4, Hq0, Hq1, Hq2, Hq3, Hq4, Hq5, Hq6, Hq7, Hq8, Hq9, Hq10, Hq11, Hh0, Hh1, ⟨%W', HW'⟩⟩
      isplitl [HS0 HS1 HS2 HS3 HS4 Hg Hq0 Hq1 Hq2 Hq3 Hq4 Hq5 Hq6 Hq7 Hq8 Hq9 Hq10 Hq11 Hh0 Hh1]
      · isplitl [HS0 HS1 HS2 HS3 HS4]
        · isplitl [HS0]
          · unfold owns; iexists _; isplitr; swap; · iexact HS0
            ipureintro; exact runA_read13 c _ _ _ _ _ _ _ _ _ _ _ _ _ _ _ _ _ _ _ _ _ _ _ (iblk m c 0 t) (iblk m c 1 t) (iblk m c 2 t) (iblk m c 3 t) _ _ _ z2 z3 z4 _ _ _ _ _
          isplitl [HS1]
          · unfold owns; iexists _; isplitr; swap; · iexact HS1
            ipureintro; exact runA_read2 c _ _ _ _ _ _ _ _ _ _ _ _ _ _ _ _ _ _ _ _ _ _ _ (iblk m c 0 t) (iblk m c 1 t) (iblk m c 2 t) (iblk m c 3 t) _ _ _ z2 z3 z4 _ _ _ _ _
          isplitl [HS2]; · iexact HS2
          isplitl [HS3]; · iexact HS3
          iexact HS4
        isplitl [Hg]; · iexact Hg
        isplitl [Hq0 Hq1 Hq2 Hq3 Hq4 Hq5 Hq6 Hq7 Hq8 Hq9 Hq10 Hq11]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          iexact Hq11
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr; swap; · iexact H4
        ipureintro; exact runA_read c _ _ _ _ _ _ _ _ _ _ _ _ _ _ _ _ _ _ _ _ _ _ _ (iblk m c 0 t) (iblk m c 1 t) (iblk m c 2 t) (iblk m c 3 t) _ _ _ z2 z3 z4 _ _ _ _ _
      iapply (pass5 m c t h8 d5); iexact H5
    · rw [PhiS_pos m c t.val (by omega)]
      unfold PhiS
      iintro ⟨⟨⟨HS0, HS1, HS2, HS3, HS4⟩, Hg, ⟨Hq0, Hq1, Hq2, Hq3, Hq4, Hq5, Hq6, Hq7, Hq8, Hq9, Hq10, Hq11⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ _ _ _ _ _ _ _ _ (fun h => h0 ((hcond0_0 t).mp h)) ((hcond0_3 t).mpr (by omega)) ((hcond0_4 t).mpr h8) (fun h => absurd ((hcond0_5 t).mp h) (by omega)) (iblk m c 0 t) (iblk m c 1 t) (iblk m c 2 t) (iblk m c 3 t) (V m c main_v3) (V m c main_v4) _ (cast13 (V m c main_v3)) (cast2 (V m c main_v4))).2 W _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hh0]; · iexact Hh0
      isplitl [Hh1]; · iexact Hh1
      isplitl [HW]; · iexact HW
      iintro ⟨H0, H1, H2, H3, ⟨%e4, H4⟩, H5, HS0, HS1, HS2, HS3, HS4, Hq0, Hq1, Hq2, Hq3, Hq4, Hq5, Hq6, Hq7, Hq8, Hq9, Hq10, Hq11, Hh0, Hh1, ⟨%W', HW'⟩⟩
      isplitl [HS0 HS1 HS2 HS3 HS4 Hg Hq0 Hq1 Hq2 Hq3 Hq4 Hq5 Hq6 Hq7 Hq8 Hq9 Hq10 Hq11 Hh0 Hh1]
      · isplitl [HS0 HS1 HS2 HS3 HS4]
        · isplitl [HS0]; · iexact HS0
          isplitl [HS1]; · iexact HS1
          isplitl [HS2]; · iexact HS2
          isplitl [HS3]; · iexact HS3
          iexact HS4
        isplitl [Hg]; · iexact Hg
        isplitl [Hq0 Hq1 Hq2 Hq3 Hq4 Hq5 Hq6 Hq7 Hq8 Hq9 Hq10 Hq11]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          iexact Hq11
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr; swap; · iexact H4
        ipureintro; exact runB_read c _ _ _ _ _ _ _ _ _ _ _ _ _ _ _ _ _ _ _ _ _ _ _ (iblk m c 0 t) (iblk m c 1 t) (iblk m c 2 t) (iblk m c 3 t) _ _ _ (cast13 (V m c main_v3)) (cast2 (V m c main_v4)) _ _ _ _ _
      iapply (pass5 m c t h8 d5); iexact H5
  · rw [leaves5 m c t (by omega)]
    have h0 : ¬t.val % 24 = 0 := by omega
    rw [PhiS_pos m c t.val (by omega)]
    unfold PhiS
    iintro ⟨⟨⟨HS0, HS1, HS2, HS3, HS4⟩, Hg, ⟨Hq0, Hq1, Hq2, Hq3, Hq4, Hq5, Hq6, Hq7, Hq8, Hq9, Hq10, Hq11⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
    iapply ((runC c (grid0.coords t) _ _ _ _ _ _ _ _ _ _ _ _ _ _ _ _ _ _ _ _ _ _ (fun h => h0 ((hcond0_0 t).mp h)) ((hcond0_3 t).mpr (by omega)) (fun h => absurd ((hcond0_4 t).mp h) h8) ((hcond0_5 t).mpr (by omega)) (iblk m c 0 t) (iblk m c 1 t) (iblk m c 2 t) (iblk m c 3 t) (V m c main_v3) (V m c main_v4) _ (cast13 (V m c main_v3)) (cast2 (V m c main_v4))).2 W _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [HW]; · iexact HW
    iintro ⟨H0, H1, H2, H3, H4, ⟨%e5, H5⟩, HS0, HS1, HS2, HS3, HS4, Hq0, Hq1, Hq2, Hq3, Hq4, Hq5, Hq6, Hq7, Hq8, Hq9, Hq10, Hq11, Hh0, Hh1, ⟨%W', HW'⟩⟩
    isplitl [HS0 HS1 HS2 HS3 HS4 Hg Hq0 Hq1 Hq2 Hq3 Hq4 Hq5 Hq6 Hq7 Hq8 Hq9 Hq10 Hq11 Hh0 Hh1]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]; · iexact Hg
      isplitl [Hq0 Hq1 Hq2 Hq3 Hq4 Hq5 Hq6 Hq7 Hq8 Hq9 Hq10 Hq11]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        iexact Hq11
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]
    · iapply (pass4 m c t (by omega) d4); iexact H4
    unfold owns; iexists _; isplitr; swap; · iexact H5
    ipureintro; exact runC_read c _ _ _ _ _ _ _ _ _ _ _ _ _ _ _ _ _ _ _ _ _ _ _ (iblk m c 0 t) (iblk m c 1 t) (iblk m c 2 t) (iblk m c 3 t) _ _ _ (cast13 (V m c main_v3)) (cast2 (V m c main_v4)) _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is held before the first point, -/
theorem hin (c : Dev nD) : Pipeline.ΦD osem0 spec0 H0 (V m) c ⊢ (dats m 0 c).Φ 0 := .rfl

/-- and what is held after the last point gives it back, the scratch's contents forgotten. -/
theorem hout (c : Dev nD) : (dats m 0 c).Φ (Fin.last cfg0.N) ⊢ Pipeline.ΦD osem0 spec0 H0 (V m) c := by
  rw [show (dats m 0 c).Φ (Fin.last cfg0.N) = PhiS m c cfg0.N from rfl, PhiS_pos m c cfg0.N (by rw [show cfg0.N = 24 from N_0]; omega), PhiD0_eq]
  unfold PhiS
  iintro ⟨⟨HS0, HS1, HS2⟩, HR⟩
  isplitl [HS0 HS1 HS2]
  · isplitl [HS0]; · iexists _; iexact HS0
    isplitl [HS1]; · iexists _; iexact HS1
    iexact HS2
  iexact HR

/-! ## The run and the frame -/

-- `θ_run_frame_dma`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- For any values, from any memory with zero counters, every run ends with every array of the pipeline at what the
    proof data give and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => kept_args m (dats m) (A_eq m) r h.1 c, h.2⟩) (run_main_quiescent m ρ)

end Cert.KernelIdeal.Ffn2

end
-- ==== Proof.Common.RowMath.lean ====
/-
The layer's feed-forward step on one row, over the extended reals: the normalization, the modulation, the gated product
and the half-step residual, and the two facts about them the kernel's way of computing needs: the logistic function
through the hyperbolic tangent, and a sum taken in eleven chunks.
-/
module

public import Idealize.ShloMosaic.Lib.Pointwise
public import Mathlib.Analysis.SpecialFunctions.Trigonometric.DerivHyp

@[expose] public section

noncomputable section

namespace Cert.Common

open Idealize.ShloMosaic

/-- One half, as the programs write it. -/
abbrev half : EReal := Ideal.ofBits .f32 0x3F000000#32

theorem half_eq : half = ((1 / 2 : ℝ) : EReal) := by
  simp [half, Ideal.ofBits, Ideal.ieee, -EReal.coe_mul]; norm_num

/-- The reciprocal root of a row's mean square plus the small constant. -/
def invRms (x : Fin 1024 → EReal) : EReal :=
  Ideal.rsqrt (Ideal.div (∑ k, x k * x k) (Ideal.ofBits .f32 0x44800000#32) + Ideal.ofBits .f32 0x358637BD#32)

/-- A row normalized, with weight `w`. -/
def normed (x w : Fin 1024 → EReal) (l : Fin 1024) : EReal := x l * invRms x * w l

/-- A row normalized with weight `w` and modulated: scaled by `1 + sc` and shifted by `sh`. -/
def modulated (x w sh sc : Fin 1024 → EReal) (l : Fin 1024) : EReal := x l * invRms x * w l * (1 + sc l) + sh l

/-- The gated unit: `a` times its logistic times `b`. -/
def gated (a b : EReal) : EReal := a * Ideal.logistic a * b

/-- The feed-forward product of a row: gate and up products side by side in `W13`, the gated units through `W2`. -/
def feed (h : Fin 1024 → EReal) (W13 : Fin 1024 → Fin 5632 → EReal) (W2 : Fin 2816 → Fin 1024 → EReal) (l : Fin 1024) : EReal :=
  ∑ f : Fin 2816, gated (∑ k, h k * W13 k ⟨f.val, by omega⟩) (∑ k, h k * W13 k ⟨2816 + f.val, by omega⟩) * W2 f l

/-- The half-step residual of the feed-forward product of the modulated row. -/
def ffnRow (x w sh sc g : Fin 1024 → EReal) (W13 : Fin 1024 → Fin 5632 → EReal) (W2 : Fin 2816 → Fin 1024 → EReal)
    (l : Fin 1024) : EReal :=
  x l + half * g l * feed (modulated x w sh sc) W13 W2 l

/-- The hyperbolic tangent's form of the logistic function is the logistic function, at the infinities too. -/
theorem half_tanh (a : EReal) : half * Ideal.tanh (half * a) + half = Ideal.logistic a := by
  rw [half_eq]
  induction a with
  | bot =>
    rw [EReal.coe_mul_bot_of_pos (by norm_num), Ideal.tanh_bot, Ideal.logistic_bot]
    rw [show (-1 : EReal) = ((-1 : ℝ) : EReal) by norm_num, ← EReal.coe_mul, ← EReal.coe_add]; norm_num
  | top =>
    rw [EReal.coe_mul_top_of_pos (by norm_num), Ideal.tanh_top, Ideal.logistic_top]
    rw [show (1 : EReal) = ((1 : ℝ) : EReal) by norm_num, ← EReal.coe_mul, ← EReal.coe_add]; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-(1 / 2 * r)) = (Real.exp (1 / 2 * r))⁻¹ := Real.exp_neg _
    have h2 : Real.exp (-r) = (Real.exp (1 / 2 * r))⁻¹ * (Real.exp (1 / 2 * r))⁻¹ := by
      rw [← h1, ← Real.exp_add]; congr 1; ring
    rw [h1, h2]
    have h := Real.exp_pos (1 / 2 * r)
    generalize Real.exp (1 / 2 * r) = e at h
    field_simp
    ring

/-- A sum over 2816 positions is the sum, in order, of the sums over eleven chunks of 256. -/
theorem sum_chunks (f : Fin 2816 → EReal) (p : Fin 11 → EReal)
    (hp : ∀ k : Fin 11, p k = ∑ t : Fin 256, f ⟨256 * k.val + t.val, by omega⟩) :
    p 0 + p 1 + p 2 + p 3 + p 4 + p 5 + p 6 + p 7 + p 8 + p 9 + p 10 = ∑ i, f i := by
  rw [Fin.sum_univ_tiles 11 256 rfl f]
  have h : ∀ k : Fin 11, (∑ t : Fin 256, f ⟨k.val * 256 + t.val, by omega⟩) = p k := fun k => by
    rw [hp]; exact Finset.sum_congr rfl fun t _ => congrArg f (Fin.ext (by show k.val * 256 + t.val = 256 * k.val + t.val; omega))
  simp only [h]
  simp only [Fin.sum_univ_succ, Fin.sum_univ_zero, add_zero, add_assoc]
  rfl

end Cert.Common

end
-- ==== Proof.Ffn2.Row.lean ====
/-
An output's block row by row, over the extended reals: each row is the layer's feed-forward step of the input block's row.
-/
module

public import proofs.«01_k».proof.Proof.Ffn2.Value
public import proofs.«01_k».proof.Proof.Common.RowMath

@[expose] public section

set_option maxRecDepth 16384

noncomputable section

namespace Cert.KernelIdeal.Ffn2

open Cert.KernelIdeal Cert.KernelIdeal.Gen Cert.Common
open Idealize.ShloMosaic

/-- The modulated block, an element. -/
theorem modulated_apply (x0 : Vec Ideal S512x1024 .f32) (x1 : Vec Ideal S1x9x1024 .f32) (x2 : Vec Ideal S3x1024 .f32) (r : Fin 512) (l : Fin 1024) :
    modulated (F := Ideal) x0 x1 x2 (ix2 r l)
      = Common.modulated (fun k => x0 (ix2 r k)) (fun k => x2 (ix2 2 k)) (fun k => x1 (ix3 0 6 k)) (fun k => x1 (ix3 0 7 k)) l := by
  unfold modulated k0_pay1 Common.modulated invRms
  pointwise
  simp only [mul_assoc]

/-- A chunk's part of the product, an element. -/
theorem chunk_apply (y : FVec Ideal S512x1024 .bf16) (w1 w3 : Vec Ideal S1024x256 .bf16) (w2 : Vec Ideal S256x1024 .bf16) (r : Fin 512) (l : Fin 1024) :
    chunk (F := Ideal) y w1 w3 w2 (ix2 r l)
      = ∑ t : Fin 256, gated (∑ k : Fin 1024, y (ix2 r k) * w1 (ix2 k t)) (∑ k : Fin 1024, y (ix2 r k) * w3 (ix2 k t)) * w2 (ix2 t l) := by
  unfold chunk k0_pay6 k0_pay7
  pointwise
  simp only [gated, ← half_tanh, half]

/-- The chunks' sum, an element: the feed-forward product of the row. -/
theorem ffnSum_apply (y : FVec Ideal S512x1024 .bf16) (W13 : Vec Ideal S1024x5632 .bf16) (W2 : Vec Ideal S2816x1024 .bf16) (r : Fin 512) (l : Fin 1024) :
    ffnSum (F := Ideal) y W13 W2 (ix2 r l) = feed (fun k => y (ix2 r k)) (fun k f => W13 (ix2 k f)) (fun f k => W2 (ix2 f k)) l := by
  unfold feed
  refine Eq.trans ?_ (sum_chunks _ (fun k => chunk (F := Ideal) y (gateCols W13 k) (upCols W13 k) (downRows W2 k) (ix2 r l)) fun k => ?_)
  · unfold ffnSum
    pointwise
  · rw [chunk_apply]
    refine Finset.sum_congr rfl fun t _ => ?_
    unfold gateCols upCols downRows
    pointwise
    simp only [Nat.add_assoc]

/-- The residual and the last norm, an element. -/
theorem finish_apply (x0 s : Vec Ideal S512x1024 .f32) (g : Vec Ideal S1x1x1024 .f32) (w : Vec Ideal S1x1024 .f32) (r : Fin 512) (l : Fin 1024) :
    finish (F := Ideal) x0 s g w (ix2 r l)
      = normed (fun k => x0 (ix2 r k) + half * g (ix3 0 0 k) * s (ix2 r k)) (fun k => w (ix2 0 k)) l := by
  unfold finish normed invRms
  pointwise

/-- An output's block, an element: the row's feed-forward step, normalized. -/
theorem block_apply (x0 : Vec Ideal S512x1024 .f32) (x1 : Vec Ideal S1x9x1024 .f32) (x2 : Vec Ideal S3x1024 .f32) (x3 : Vec Ideal S1x1024 .f32)
    (W13 : Vec Ideal S1024x5632 .f32) (W2 : Vec Ideal S2816x1024 .f32) (r : Fin 512) (l : Fin 1024) :
    block (F := Ideal) x0 x1 x2 x3 (cast13 W13) (cast2 W2) (ix2 r l)
      = normed (ffnRow (fun k => x0 (ix2 r k)) (fun k => x2 (ix2 2 k)) (fun k => x1 (ix3 0 6 k)) (fun k => x1 (ix3 0 7 k))
          (fun k => x1 (ix3 0 8 k)) (fun k f => W13 (ix2 k f)) (fun f k => W2 (ix2 f k))) (fun k => x3 (ix2 0 k)) l := by
  unfold block
  rw [finish_apply]
  congr 1
  funext k
  unfold ffnRow
  rw [ffnSum_apply]
  simp only [modulated_apply]
  unfold cast13 cast2
  pointwise

end Cert.KernelIdeal.Ffn2

end
-- ==== Proof.Ffn2.Reference.lean ====
/-
The reference's results row by row, over the extended reals: each row is the layer's feed-forward step of the input's row,
normalized, with the modulation row of the row's stream.
-/
module

public import proofs.«01_k».proof.Proof.Gen.ReferenceIdeal.Run
public import proofs.«01_k».proof.Proof.Common.RowMath

@[expose] public section

set_option maxRecDepth 16384

noncomputable section

namespace Cert.ReferenceIdeal.Ffn2

open Cert.ReferenceIdeal Cert.ReferenceIdeal.Gen Cert.ReferenceIdeal.Value Cert.Common
open Idealize.ShloMosaic Idealize.ShloMosaic.TcCoe Idealize.SL.Sem

/-- What the feed-forward step and the last norm make of row `n` of the input with modulation row `b`. -/
def rowOf (X : Vec Ideal S12288x1024 .f32) (M : Vec Ideal S8x9216 .f32) (N : Vec Ideal S1x3x1024 .f32) (A : Vec Ideal S1x1024x5632 .f32)
    (B : Vec Ideal S1x2816x1024 .f32) (W : Vec Ideal S1024 .f32) (n : Fin 12288) (b : Fin 8) (l : Fin 1024) : EReal :=
  normed (ffnRow (fun k => X (ix2 n k)) (fun k => N (ix3 0 2 k)) (fun k => M (ix2 b ⟨6144 + k.val, by omega⟩))
    (fun k => M (ix2 b ⟨7168 + k.val, by omega⟩)) (fun k => M (ix2 b ⟨8192 + k.val, by omega⟩))
    (fun k f => A (ix3 0 k f)) (fun f k => B (ix3 0 f k))) (fun k => W (ix1 k)) l

/-! ## The first stream's result -/

namespace First

section
variable {F : FTy → Type} [FloatOps F]

/-- The stream's rows, by batch and position. -/
def rows (X : Vec F S12288x1024 .f32) : FVec F S16x256x1024 .f32 :=
  shapeCast _ (extractStridedSlice S4096x1024 ![0, 0] X slices_S12288x1024_S4096x1024_0_0) shapeCasts_S4096x1024_S16x256x1024

/-- Each row over the root of its mean square. -/
def scaled (x : FVec F S16x256x1024 .f32) : FVec F S16x256x1024 .f32 :=
  mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))

/-- The stream's modulation rows. -/
def mods (M : Vec F S8x9216 .f32) : FVec F S1x1x9216 .f32 := broadcastInDim S1x1x9216 ![2] bcast_S9216_S1x1x9216_2 (shapeCast _ (extractStridedSlice S1x9216 ![0, 0] M slices_S8x9216_S1x9216_0_0) shapeCasts_S1x9216_S9216)

/-- The normalized, modulated rows. -/
def hidden (x : FVec F S16x256x1024 .f32) (mo : FVec F S1x1x9216 .f32) (N : Vec F S1x3x1024 .f32) : FVec F S16x256x1024 .f32 :=
  addf (mulf (mulf (scaled x) (broadcastInDim S16x256x1024 ![0, 1, 2] bcast_S1x1x1024_S16x256x1024_0_1_2 (broadcastInDim S1x1x1024 ![2] bcast_S1024_S1x1x1024_2 (shapeCast _ (extractStridedSlice S1x1024 ![2, 0] (shapeCast _ N shapeCasts_S1x3x1024_S3x1024) slices_S3x1024_S1x1024_2_0) shapeCasts_S1x1024_S1024)))) (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 0, 7168] mo slices_S1x1x9216_S1x1x1024_0_0_7168)))) (broadcastInDim S16x256x1024 ![0, 1, 2] bcast_S1x1x1024_S16x256x1024_0_1_2 (extractStridedSlice S1x1x1024 ![0, 0, 6144] mo slices_S1x1x9216_S1x1x1024_0_0_6144))

/-- The gate and up products. -/
def products (h : FVec F S16x256x1024 .f32) (A : Vec F S1x1024x5632 .f32) : FVec F S16x256x5632 .f32 :=
  Host.dotGeneral dot_S16x256x1024_S1024x5632_S16x256x5632_2_0_01_1_n_n none h (shapeCast _ A shapeCasts_S1x1024x5632_S1024x5632)

/-- The gated units. -/
def units (u : FVec F S16x256x5632 .f32) : FVec F S16x256x2816 .f32 :=
  mulf (mulf (extractStridedSlice S16x256x2816 ![0, 0, 0] u slices_S16x256x5632_S16x256x2816_0_0_0) (Host.divf (broadcastInDim S16x256x2816 ![] bcast_S_S16x256x2816 (constant S_ .f32 0x3F800000#32)) (addf (broadcastInDim S16x256x2816 ![] bcast_S_S16x256x2816 (constant S_ .f32 0x3F800000#32)) (Host.exp (Host.negf (extractStridedSlice S16x256x2816 ![0, 0, 0] u slices_S16x256x5632_S16x256x2816_0_0_0)))))) (extractStridedSlice S16x256x2816 ![0, 0, 2816] u slices_S16x256x5632_S16x256x2816_0_0_2816)

/-- The half-step residual of the units' product. -/
def stepped (x : FVec F S16x256x1024 .f32) (mo : FVec F S1x1x9216 .f32) (a : FVec F S16x256x2816 .f32) (B : Vec F S1x2816x1024 .f32) : FVec F S16x256x1024 .f32 :=
  addf x (mulf (broadcastInDim S16x256x1024 ![0, 1, 2] bcast_S1x1x1024_S16x256x1024_0_1_2 (mulf (broadcastInDim S1x1x1024 ![] bcast_S_S1x1x1024 (constant S_ .f32 0x3F000000#32)) (extractStridedSlice S1x1x1024 ![0, 0, 8192] mo slices_S1x1x9216_S1x1x1024_0_0_8192))) (Host.dotGeneral dot_S16x256x2816_S2816x1024_S16x256x1024_2_0_01_1_n_n none a (shapeCast _ B shapeCasts_S1x2816x1024_S2816x1024)))

/-- The last norm. -/
def last (y : FVec F S16x256x1024 .f32) (W : Vec F S1024 .f32) : FVec F S16x256x1024 .f32 :=
  mulf (scaled y) (broadcastInDim S16x256x1024 ![0, 1, 2] bcast_S1x1x1024_S16x256x1024_0_1_2 (broadcastInDim S1x1x1024 ![2] bcast_S1024_S1x1x1024_2 W))

/-- The result is these steps composed. -/
theorem result_eq (m : (ℓ : Loc nD τ sig) → Buf (Elt F) ℓ) (c : Dev nD) :
    res_main_v66 m c = shapeCast _ (last (stepped (rows (m ((c.tc : Thread nD τ).loc main_arg0))) (mods (m ((c.tc : Thread nD τ).loc main_arg1)))
        (units (products (hidden (rows (m ((c.tc : Thread nD τ).loc main_arg0))) (mods (m ((c.tc : Thread nD τ).loc main_arg1))) (m ((c.tc : Thread nD τ).loc main_arg2))) (m ((c.tc : Thread nD τ).loc main_arg3))))
        (m ((c.tc : Thread nD τ).loc main_arg4))) (m ((c.tc : Thread nD τ).loc main_arg5))) shapeCasts_S16x256x1024_S4096x1024 := by
  unfold res_main_v66 last stepped units products hidden mods scaled rows
  rfl

end

theorem rows_apply (X : Vec Ideal S12288x1024 .f32) (p : Fin 16) (q : Fin 256) (l : Fin 1024) :
    rows (F := Ideal) X (ix3 p q l) = X (ix2 ⟨0 + (256 * p.val + q.val), by omega⟩ l) := by
  unfold rows
  pointwise
  congr 1
  idx_ext

theorem scaled_apply (x : FVec Ideal S16x256x1024 .f32) (p : Fin 16) (q : Fin 256) (l : Fin 1024) :
    scaled (F := Ideal) x (ix3 p q l) = x (ix3 p q l) * invRms fun k => x (ix3 p q k) := by
  unfold scaled invRms
  pointwise

theorem mods_apply (M : Vec Ideal S8x9216 .f32) (p : Fin 1) (k : Fin 9216) :
    mods (F := Ideal) M (ix3 p 0 k) = M (ix2 0 k) := by
  unfold mods
  pointwise

theorem hidden_apply (x : FVec Ideal S16x256x1024 .f32) (mo : FVec Ideal S1x1x9216 .f32) (N : Vec Ideal S1x3x1024 .f32) (p : Fin 16) (q : Fin 256) (l : Fin 1024) :
    hidden (F := Ideal) x mo N (ix3 p q l)
      = Common.modulated (fun k => x (ix3 p q k)) (fun k => N (ix3 0 2 k)) (fun k => mo (ix3 0 0 ⟨6144 + k.val, by omega⟩)) (fun k => mo (ix3 0 0 ⟨7168 + k.val, by omega⟩)) l := by
  unfold hidden Common.modulated
  rw [← scaled_apply]
  pointwise

theorem products_apply (h : FVec Ideal S16x256x1024 .f32) (A : Vec Ideal S1x1024x5632 .f32) (p : Fin 16) (q : Fin 256) (f : Fin 5632) :
    products (F := Ideal) h A (ix3 p q f) = ∑ k : Fin 1024, h (ix3 p q k) * A (ix3 0 k f) := by
  unfold products
  pointwise

theorem units_apply (u : FVec Ideal S16x256x5632 .f32) (p : Fin 16) (q : Fin 256) (f : Fin 2816) :
    units (F := Ideal) u (ix3 p q f) = gated (u (ix3 p q ⟨f.val, by omega⟩)) (u (ix3 p q ⟨2816 + f.val, by omega⟩)) := by
  unfold units gated Ideal.logistic
  pointwise

theorem stepped_apply (x : FVec Ideal S16x256x1024 .f32) (mo : FVec Ideal S1x1x9216 .f32) (a : FVec Ideal S16x256x2816 .f32) (B : Vec Ideal S1x2816x1024 .f32) (p : Fin 16) (q : Fin 256) (l : Fin 1024) :
    stepped (F := Ideal) x mo a B (ix3 p q l)
      = x (ix3 p q l) + half * mo (ix3 0 0 ⟨8192 + l.val, by omega⟩) * ∑ f : Fin 2816, a (ix3 p q f) * B (ix3 0 f l) := by
  unfold stepped
  pointwise

theorem last_apply (y : FVec Ideal S16x256x1024 .f32) (W : Vec Ideal S1024 .f32) (p : Fin 16) (q : Fin 256) (l : Fin 1024) :
    last (F := Ideal) y W (ix3 p q l) = normed (fun k => y (ix3 p q k)) (fun k => W (ix1 k)) l := by
  unfold last normed
  rw [← scaled_apply]
  pointwise

theorem merge_apply (y : FVec Ideal S16x256x1024 .f32) (n : Fin 4096) (l : Fin 1024) :
    shapeCast S4096x1024 y shapeCasts_S16x256x1024_S4096x1024 (ix2 n l) = y (ix3 ⟨n.val / 256, by omega⟩ ⟨n.val % 256, by omega⟩ l) := by
  pointwise

/-- A row of the result is the feed-forward step of the input's row. -/
theorem result_apply (m : (ℓ : Loc nD τ sig) → Buf (Elt Ideal) ℓ) (c : Dev nD) (n : Fin 4096) (l : Fin 1024) :
    res_main_v66 m c (ix2 n l)
      = rowOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          ⟨0 + n.val, by omega⟩ 0 l := by
  have e : 256 * (n.val / 256) + n.val % 256 = n.val := Nat.div_add_mod _ _
  rw [result_eq, merge_apply]
  unfold rowOf ffnRow feed
  simp only [last_apply, stepped_apply, units_apply, products_apply, hidden_apply, rows_apply, mods_apply, e]

end First

/-! ## The second stream's result -/

namespace Second

section
variable {F : FTy → Type} [FloatOps F]

/-- The stream's rows, by batch and position. -/
def rows (X : Vec F S12288x1024 .f32) : FVec F S4x2048x1024 .f32 :=
  shapeCast _ (extractStridedSlice S8192x1024 ![4096, 0] X slices_S12288x1024_S8192x1024_4096_0) shapeCasts_S8192x1024_S4x2048x1024

/-- Each row over the root of its mean square. -/
def scaled (x : FVec F S4x2048x1024 .f32) : FVec F S4x2048x1024 .f32 :=
  mulf x (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))

/-- The stream's modulation rows. -/
def mods (M : Vec F S8x9216 .f32) : FVec F S4x1x9216 .f32 := broadcastInDim S4x1x9216 ![0, 2] bcast_S4x9216_S4x1x9216_0_2 (extractStridedSlice S4x9216 ![1, 0] M slices_S8x9216_S4x9216_1_0)

/-- The normalized, modulated rows. -/
def hidden (x : FVec F S4x2048x1024 .f32) (mo : FVec F S4x1x9216 .f32) (N : Vec F S1x3x1024 .f32) : FVec F S4x2048x1024 .f32 :=
  addf (mulf (mulf (scaled x) (broadcastInDim S4x2048x1024 ![0, 1, 2] bcast_S1x1x1024_S4x2048x1024_0_1_2 (broadcastInDim S1x1x1024 ![2] bcast_S1024_S1x1x1024_2 (shapeCast _ (extractStridedSlice S1x1024 ![2, 0] (shapeCast _ N shapeCasts_S1x3x1024_S3x1024) slices_S3x1024_S1x1024_2_0) shapeCasts_S1x1024_S1024)))) (broadcastInDim S4x2048x1024 ![0, 1, 2] bcast_S4x1x1024_S4x2048x1024_0_1_2 (addf (broadcastInDim S4x1x1024 ![] bcast_S_S4x1x1024 (constant S_ .f32 0x3F800000#32)) (extractStridedSlice S4x1x1024 ![0, 0, 7168] mo slices_S4x1x9216_S4x1x1024_0_0_7168)))) (broadcastInDim S4x2048x1024 ![0, 1, 2] bcast_S4x1x1024_S4x2048x1024_0_1_2 (extractStridedSlice S4x1x1024 ![0, 0, 6144] mo slices_S4x1x9216_S4x1x1024_0_0_6144))

/-- The gate and up products. -/
def products (h : FVec F S4x2048x1024 .f32) (A : Vec F S1x1024x5632 .f32) : FVec F S4x2048x5632 .f32 :=
  Host.dotGeneral dot_S4x2048x1024_S1024x5632_S4x2048x5632_2_0_01_1_n_n none h (shapeCast _ A shapeCasts_S1x1024x5632_S1024x5632)

/-- The gated units. -/
def units (u : FVec F S4x2048x5632 .f32) : FVec F S4x2048x2816 .f32 :=
  mulf (mulf (extractStridedSlice S4x2048x2816 ![0, 0, 0] u slices_S4x2048x5632_S4x2048x2816_0_0_0) (Host.divf (broadcastInDim S4x2048x2816 ![] bcast_S_S4x2048x2816 (constant S_ .f32 0x3F800000#32)) (addf (broadcastInDim S4x2048x2816 ![] bcast_S_S4x2048x2816 (constant S_ .f32 0x3F800000#32)) (Host.exp (Host.negf (extractStridedSlice S4x2048x2816 ![0, 0, 0] u slices_S4x2048x5632_S4x2048x2816_0_0_0)))))) (extractStridedSlice S4x2048x2816 ![0, 0, 2816] u slices_S4x2048x5632_S4x2048x2816_0_0_2816)

/-- The half-step residual of the units' product. -/
def stepped (x : FVec F S4x2048x1024 .f32) (mo : FVec F S4x1x9216 .f32) (a : FVec F S4x2048x2816 .f32) (B : Vec F S1x2816x1024 .f32) : FVec F S4x2048x1024 .f32 :=
  addf x (mulf (broadcastInDim S4x2048x1024 ![0, 1, 2] bcast_S4x1x1024_S4x2048x1024_0_1_2 (mulf (broadcastInDim S4x1x1024 ![] bcast_S_S4x1x1024 (constant S_ .f32 0x3F000000#32)) (extractStridedSlice S4x1x1024 ![0, 0, 8192] mo slices_S4x1x9216_S4x1x1024_0_0_8192))) (Host.dotGeneral dot_S4x2048x2816_S2816x1024_S4x2048x1024_2_0_01_1_n_n none a (shapeCast _ B shapeCasts_S1x2816x1024_S2816x1024)))

/-- The last norm. -/
def last (y : FVec F S4x2048x1024 .f32) (W : Vec F S1024 .f32) : FVec F S4x2048x1024 .f32 :=
  mulf (scaled y) (broadcastInDim S4x2048x1024 ![0, 1, 2] bcast_S1x1x1024_S4x2048x1024_0_1_2 (broadcastInDim S1x1x1024 ![2] bcast_S1024_S1x1x1024_2 W))

/-- The result is these steps composed. -/
theorem result_eq (m : (ℓ : Loc nD τ sig) → Buf (Elt F) ℓ) (c : Dev nD) :
    res_main_v123 m c = shapeCast _ (last (stepped (rows (m ((c.tc : Thread nD τ).loc main_arg0))) (mods (m ((c.tc : Thread nD τ).loc main_arg1)))
        (units (products (hidden (rows (m ((c.tc : Thread nD τ).loc main_arg0))) (mods (m ((c.tc : Thread nD τ).loc main_arg1))) (m ((c.tc : Thread nD τ).loc main_arg2))) (m ((c.tc : Thread nD τ).loc main_arg3))))
        (m ((c.tc : Thread nD τ).loc main_arg4))) (m ((c.tc : Thread nD τ).loc main_arg5))) shapeCasts_S4x2048x1024_S8192x1024 := by
  unfold res_main_v123 last stepped units products hidden mods scaled rows
  rfl

end

theorem rows_apply (X : Vec Ideal S12288x1024 .f32) (p : Fin 4) (q : Fin 2048) (l : Fin 1024) :
    rows (F := Ideal) X (ix3 p q l) = X (ix2 ⟨4096 + (2048 * p.val + q.val), by omega⟩ l) := by
  unfold rows
  pointwise
  congr 1
  idx_ext

theorem scaled_apply (x : FVec Ideal S4x2048x1024 .f32) (p : Fin 4) (q : Fin 2048) (l : Fin 1024) :
    scaled (F := Ideal) x (ix3 p q l) = x (ix3 p q l) * invRms fun k => x (ix3 p q k) := by
  unfold scaled invRms
  pointwise

theorem mods_apply (M : Vec Ideal S8x9216 .f32) (p : Fin 4) (k : Fin 9216) :
    mods (F := Ideal) M (ix3 p 0 k) = M (ix2 ⟨1 + p.val, by omega⟩ k) := by
  unfold mods
  pointwise

theorem hidden_apply (x : FVec Ideal S4x2048x1024 .f32) (mo : FVec Ideal S4x1x9216 .f32) (N : Vec Ideal S1x3x1024 .f32) (p : Fin 4) (q : Fin 2048) (l : Fin 1024) :
    hidden (F := Ideal) x mo N (ix3 p q l)
      = Common.modulated (fun k => x (ix3 p q k)) (fun k => N (ix3 0 2 k)) (fun k => mo (ix3 p 0 ⟨6144 + k.val, by omega⟩)) (fun k => mo (ix3 p 0 ⟨7168 + k.val, by omega⟩)) l := by
  unfold hidden Common.modulated
  rw [← scaled_apply]
  pointwise

theorem products_apply (h : FVec Ideal S4x2048x1024 .f32) (A : Vec Ideal S1x1024x5632 .f32) (p : Fin 4) (q : Fin 2048) (f : Fin 5632) :
    products (F := Ideal) h A (ix3 p q f) = ∑ k : Fin 1024, h (ix3 p q k) * A (ix3 0 k f) := by
  unfold products
  pointwise

theorem units_apply (u : FVec Ideal S4x2048x5632 .f32) (p : Fin 4) (q : Fin 2048) (f : Fin 2816) :
    units (F := Ideal) u (ix3 p q f) = gated (u (ix3 p q ⟨f.val, by omega⟩)) (u (ix3 p q ⟨2816 + f.val, by omega⟩)) := by
  unfold units gated Ideal.logistic
  pointwise

theorem stepped_apply (x : FVec Ideal S4x2048x1024 .f32) (mo : FVec Ideal S4x1x9216 .f32) (a : FVec Ideal S4x2048x2816 .f32) (B : Vec Ideal S1x2816x1024 .f32) (p : Fin 4) (q : Fin 2048) (l : Fin 1024) :
    stepped (F := Ideal) x mo a B (ix3 p q l)
      = x (ix3 p q l) + half * mo (ix3 p 0 ⟨8192 + l.val, by omega⟩) * ∑ f : Fin 2816, a (ix3 p q f) * B (ix3 0 f l) := by
  unfold stepped
  pointwise

theorem last_apply (y : FVec Ideal S4x2048x1024 .f32) (W : Vec Ideal S1024 .f32) (p : Fin 4) (q : Fin 2048) (l : Fin 1024) :
    last (F := Ideal) y W (ix3 p q l) = normed (fun k => y (ix3 p q k)) (fun k => W (ix1 k)) l := by
  unfold last normed
  rw [← scaled_apply]
  pointwise

theorem merge_apply (y : FVec Ideal S4x2048x1024 .f32) (n : Fin 8192) (l : Fin 1024) :
    shapeCast S8192x1024 y shapeCasts_S4x2048x1024_S8192x1024 (ix2 n l) = y (ix3 ⟨n.val / 2048, by omega⟩ ⟨n.val % 2048, by omega⟩ l) := by
  pointwise

/-- A row of the result is the feed-forward step of the input's row. -/
theorem result_apply (m : (ℓ : Loc nD τ sig) → Buf (Elt Ideal) ℓ) (c : Dev nD) (n : Fin 8192) (l : Fin 1024) :
    res_main_v123 m c (ix2 n l)
      = rowOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          ⟨4096 + n.val, by omega⟩ ⟨1 + n.val / 2048, by omega⟩ l := by
  have e : 2048 * (n.val / 2048) + n.val % 2048 = n.val := Nat.div_add_mod _ _
  rw [result_eq, merge_apply]
  unfold rowOf ffnRow feed
  simp only [last_apply, stepped_apply, units_apply, products_apply, hidden_apply, rows_apply, mods_apply, e]

end Second

end Cert.ReferenceIdeal.Ffn2

end
-- ==== Proof.Ffn2.Blocks.lean ====
/-
The kernel's results row by row, over the extended reals: the blocks the launch reads and writes are rows of the arrays,
so each result row is the layer's feed-forward step of the input's row, normalized.
-/
module

public import proofs.«01_k».proof.Proof.Ffn2.Frame
public import proofs.«01_k».proof.Proof.Ffn2.Row
public import proofs.«01_k».proof.Proof.Ffn2.Reference
public import Idealize.ShloMosaic.Lib.Pipeline.ValueKit

@[expose] public section

set_option maxRecDepth 16384

noncomputable section

namespace Cert.KernelIdeal.Ffn2

open Cert.KernelIdeal Cert.KernelIdeal.Gen Cert.Common
open Idealize.ShloMosaic Idealize.ShloMosaic.TcCoe Idealize.SL Idealize.SL.Sem
open Cert.ReferenceIdeal.Ffn2 (rowOf)

/-! ## What the host operations before the launch leave -/

section
variable {F : FTy → Type} [FloatOps F] (m : (ℓ : Loc nD τ sig) → Buf (Elt F) ℓ) (c : Dev nD)

/-- The modulation rows, their nine parts apart. -/
theorem V_main_v0 : V m c main_v0 = shapeCast S8x9x1024 (m ((c : Thread nD τ).loc main_arg1)) shapeCasts_S8x9216_S8x9x1024 := by
  simp only [V, hostOps0]; after_results_simp <;> rfl
/-- The norm weights, without the leading axis. -/
theorem V_main_v1 : V m c main_v1 = shapeCast S3x1024 (m ((c : Thread nD τ).loc main_arg2)) shapeCasts_S1x3x1024_S3x1024 := by
  simp only [V, hostOps0]; after_results_simp <;> rfl
/-- The last norm's weights, as one row. -/
theorem V_main_v2 : V m c main_v2 = broadcastInDim S1x1024 ![1] bcast_S1024_S1x1024_1 (m ((c : Thread nD τ).loc main_arg5)) := by
  simp only [V, hostOps0]; after_results_simp
/-- The first matrix, without the leading axis. -/
theorem V_main_v3 : V m c main_v3 = shapeCast S1024x5632 (m ((c : Thread nD τ).loc main_arg3)) shapeCasts_S1x1024x5632_S1024x5632 := by
  simp only [V, hostOps0]; after_results_simp <;> rfl
/-- The second matrix, without the leading axis. -/
theorem V_main_v4 : V m c main_v4 = shapeCast S2816x1024 (m ((c : Thread nD τ).loc main_arg4)) shapeCasts_S1x2816x1024_S2816x1024 := by
  simp only [V, hostOps0]; after_results_simp <;> rfl
end

/-! ## The windows' blocks as parts of the arrays -/

/-- The modulation row point `t` reads: the first for the first stream's eight points, then one for every four. -/
def modRow (t : Fin cfg0.N) : Fin 8 := ⟨if t.val < 8 then 0 else 1 + (t.val - 8) / 4, by have := t.isLt; have : cfg0.N = 24 := rfl; split <;> omega⟩

theorem index0 : ∀ t : Fin cfg0.N, win0_0.index t = ![t.val, 0] := (by decide +kernel : ∀ t : Fin grid0.N, _)
theorem index1 : ∀ t : Fin cfg0.N, win0_1.index t = ![(modRow t).val, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![min t.val 7, 0] := (by decide +kernel : ∀ t : Fin grid0.N, _)
theorem index5 : ∀ t : Fin cfg0.N, win0_5.index t = ![t.val - 8, 0] := (by decide +kernel : ∀ t : Fin grid0.N, _)

/-- A modulation row split in nine, at part `j`. -/
theorem split_apply (M : Vec Ideal S8x9216 .f32) (b : Fin 8) (j : Fin 9) (k : Fin 1024) :
    shapeCast S8x9x1024 M shapeCasts_S8x9216_S8x9x1024 (ix3 b j k) = M (ix2 b ⟨1024 * j.val + k.val, by omega⟩) := by
  pointwise
  congr 1
  idx_ext
/-- Three rows without their leading axis. -/
theorem norms_apply (N : Vec Ideal S1x3x1024 .f32) (j : Fin 3) (k : Fin 1024) :
    shapeCast S3x1024 N shapeCasts_S1x3x1024_S3x1024 (ix2 j k) = N (ix3 0 j k) := by pointwise
/-- A vector as one row. -/
theorem asRow_apply (W : Vec Ideal S1024 .f32) (k : Fin 1024) :
    broadcastInDim S1x1024 ![1] bcast_S1024_S1x1024_1 W (ix2 0 k) = W (ix1 k) := by pointwise
/-- The matrices without their leading axis. -/
theorem matrix13_apply (A : Vec Ideal S1x1024x5632 .f32) (k : Fin 1024) (f : Fin 5632) :
    shapeCast S1024x5632 A shapeCasts_S1x1024x5632_S1024x5632 (ix2 k f) = A (ix3 0 k f) := by pointwise
theorem matrix2_apply (B : Vec Ideal S1x2816x1024 .f32) (f : Fin 2816) (k : Fin 1024) :
    shapeCast S2816x1024 B shapeCasts_S1x2816x1024_S2816x1024 (ix2 f k) = B (ix3 0 f k) := by pointwise

/-- A row's step depends on its operands' entries only. -/
theorem step_congr {x x' w w' sh sh' sc sc' g g' v v' : Fin 1024 → EReal} {A A' : Fin 1024 → Fin 5632 → EReal} {B B' : Fin 2816 → Fin 1024 → EReal}
    (hx : ∀ k, x k = x' k) (hw : ∀ k, w k = w' k) (hsh : ∀ k, sh k = sh' k) (hsc : ∀ k, sc k = sc' k) (hg : ∀ k, g k = g' k)
    (hA : ∀ k f, A k f = A' k f) (hB : ∀ f k, B f k = B' f k) (hv : ∀ k, v k = v' k) (l : Fin 1024) :
    normed (ffnRow x w sh sc g A B) v l = normed (ffnRow x' w' sh' sc' g' A' B') v' l := by
  obtain rfl : x = x' := funext hx
  obtain rfl : w = w' := funext hw
  obtain rfl : sh = sh' := funext hsh
  obtain rfl : sc = sc' := funext hsc
  obtain rfl : g = g' := funext hg
  obtain rfl : A = A' := funext fun k => funext (hA k)
  obtain rfl : B = B' := funext fun f => funext (hB f)
  obtain rfl : v = v' := funext hv
  rfl

section
variable (m : (ℓ : Loc nD τ sig) → Buf (Elt Ideal) ℓ) (c : Dev nD)

/-- Point `t`'s rows are rows `512 t` to `512 t + 511` of the input. -/
theorem iblk0_apply (t : Fin cfg0.N) (r : Fin 512) (k : Fin 1024) :
    iblk m c 0 t (ix2 r k) = m ((c : Thread nD τ).loc main_arg0) (ix2 ⟨512 * t.val + r.val, by have := t.isLt; have : cfg0.N = 24 := rfl; omega⟩ k) := by
  blk_simp [iblk]
  rw [V_main_arg0]
  congr 1
  blk_ext [index0 t]

/-- Its modulation row is row `modRow t`; part `j` of it starts at column `1024 j`. -/
theorem iblk1_apply (t : Fin cfg0.N) (j : Fin 9) (k : Fin 1024) :
    iblk m c 1 t (ix3 0 j k) = m ((c : Thread nD τ).loc main_arg1) (ix2 (modRow t) ⟨1024 * j.val + k.val, by omega⟩) := by
  have e : (((cfg0.win 1).blk t).view.emb (ix3 0 j k) : S8x9x1024.Idx) = ix3 (modRow t) j k := by blk_ext [index1 t]
  show V m c main_v0 _ = _
  rw [V_main_v0]
  exact (congrArg _ e).trans (split_apply _ _ _ _)

/-- Its norm weights are the input's. -/
theorem iblk2_apply (t : Fin cfg0.N) (j : Fin 3) (k : Fin 1024) :
    iblk m c 2 t (ix2 j k) = m ((c : Thread nD τ).loc main_arg2) (ix3 0 j k) := by
  have e : (((cfg0.win 2).blk t).view.emb (ix2 j k) : S3x1024.Idx) = ix2 j k := by blk_ext [index2 t]
  show V m c main_v1 _ = _
  rw [V_main_v1]
  exact (congrArg _ e).trans (norms_apply _ _ _)

/-- The last norm's weights, likewise. -/
theorem iblk3_apply (t : Fin cfg0.N) (k : Fin 1024) :
    iblk m c 3 t (ix2 0 k) = m ((c : Thread nD τ).loc main_arg5) (ix1 k) := by
  have e : (((cfg0.win 3).blk t).view.emb (ix2 0 k) : S1x1024.Idx) = ix2 0 k := by blk_ext [index3 t]
  show V m c main_v2 _ = _
  rw [V_main_v2]
  exact (congrArg _ e).trans (asRow_apply _ _)

/-- The matrices are the input's. -/
theorem V3_apply (k : Fin 1024) (f : Fin 5632) : V m c main_v3 (ix2 k f) = m ((c : Thread nD τ).loc main_arg3) (ix3 0 k f) := by
  rw [V_main_v3]
  exact matrix13_apply _ _ _
theorem V4_apply (f : Fin 2816) (k : Fin 1024) : V m c main_v4 (ix2 f k) = m ((c : Thread nD τ).loc main_arg4) (ix3 0 f k) := by
  rw [V_main_v4]
  exact matrix2_apply _ _ _

/-- Row `r` of what point `t` computes is the feed-forward step of row `512 t + r`. -/
theorem blk_apply (t : Fin cfg0.N) (r : Fin 512) (l : Fin 1024) :
    blk m c t (ix2 r l) = rowOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ⟨512 * t.val + r.val, by have := t.isLt; have : cfg0.N = 24 := rfl; omega⟩ (modRow t) l := by
  unfold blk rowOf
  refine (block_apply _ _ _ _ _ _ r l).trans (step_congr (fun k => iblk0_apply m c t r k) (fun k => iblk2_apply m c t 2 k)
    (fun k => iblk1_apply m c t 6 k) (fun k => iblk1_apply m c t 7 k) (fun k => iblk1_apply m c t 8 k)
    (fun k f => V3_apply m c k f) (fun f k => V4_apply m c f k) (fun k => iblk3_apply m c t k) l)

/-- … named by any row, modulation row and column with these values. -/
theorem blk_at (t : Fin cfg0.N) (y : S512x1024.Idx) (n : Fin 12288) (b : Fin 8) (l : Fin 1024)
    (hn : n.val = 512 * t.val + (y 0).val) (hb : modRow t = b) (hl : l.val = (y 1).val) :
    blk m c t y = rowOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) n b l := by
  have e : y = ix2 (y 0) (y 1) := by idx_ext
  refine (congrArg (blk m c t) e).trans ((blk_apply m c t (y 0) (y 1)).trans ?_)
  rw [hb]
  exact congrArg₂ (fun n l => rowOf _ _ _ _ _ _ n b l) (Fin.ext hn.symm) (Fin.ext hl.symm)

/-! ## The results -/

/-- The first result: row `n` is the step of row `n` with the first modulation row. -/
theorem first_eq : (dats m 0 c).arrAt 4 cfg0.N = fun i : S4096x1024.Idx =>
    rowOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ⟨0 + (i 0).val, by have : (i 0).val < 4096 := (i 0).isLt; omega⟩ 0 (i 1) := by
  refine (dats m 0 c).arrAt_eq_of_covers 4 _ (by decide +kernel) fun t hf y => ?_
  blk_simp
  rw [after0_4]
  have h7 : min t.val 7 < 8 := by omega
  refine blk_at m c (last4 t) y _ _ _ ?_ ?_ ?_
  · blk_simp [index4 t]
    show min t.val 7 * 512 + (y 0).val = 512 * min t.val 7 + (y 0).val
    omega
  · exact Fin.ext (if_pos h7)
  · blk_simp [index4 t]

/-- The second: row `n` is the step of row `4096 + n` with its batch's modulation row. -/
theorem second_eq : (dats m 0 c).arrAt 5 cfg0.N = fun i : S8192x1024.Idx =>
    rowOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ⟨4096 + (i 0).val, by have : (i 0).val < 8192 := (i 0).isLt; omega⟩ ⟨1 + (i 0).val / 2048, by have : (i 0).val < 8192 := (i 0).isLt; omega⟩ (i 1) := by
  refine (dats m 0 c).arrAt_eq_of_covers 5 _ (by decide +kernel) fun t hf y => ?_
  blk_simp
  rw [after0_5]
  have h8 : 8 ≤ t.val := by rw [flush5] at hf; exact of_decide_eq_true hf
  have ht : t.val < 24 := t.isLt
  have hy : (y 0).val < 512 := (y 0).isLt
  refine blk_at m c t y _ _ _ ?_ ?_ ?_
  · blk_simp [index5 t]
    show 4096 + ((t.val - 8) * 512 + (y 0).val) = 512 * t.val + (y 0).val
    omega
  · refine Fin.ext ((if_neg (by omega)).trans ?_)
    blk_simp [index5 t]
    show 1 + (t.val - 8) / 4 = 1 + ((t.val - 8) * 512 + (y 0).val) / 2048
    omega
  · blk_simp [index5 t]

end

end Cert.KernelIdeal.Ffn2

end
-- ==== Proof.Ffn1.Setup.lean ====
/-
What the runs of the kernel's body share: the windows' staging buffers at their blocks, the arguments after a run, the body's
branch conditions in closed form over the grid's points, the staging and scratch buffers, and what is held beside the windows.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.Kernel2Ideal.Frame

@[expose] public section

-- membership in a rectangle of production extents (`View.cover_of_tiled`): the elaborator's structural look
-- recurses once per coordinate of the long axes
set_option maxRecDepth 16384

noncomputable section

namespace Cert.Kernel2Ideal.Ffn1

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region, and the inputs' buffers -/

set_option maxHeartbeats 800000 in
/-- The program up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's staging buffer holds its block at every point, for any proof data over the arrays the region finds
    whose body leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over the arrays the region finds
    whose body leaves the block in place. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over the arrays the region finds
    whose body leaves the block in place. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data over the arrays the region finds
    whose body leaves the block in place. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data over the arrays the region finds
    whose body leaves the block in place. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- After a run that ends as the pipeline's proof data say, the argument arrays, none of which a window stages, are as
    launched. -/
theorem kept_args (dats : (p : Fin 1) → (c : Dev nD) → Dat τ (Elt F) Unit ℕ (Pipeline.UD sig nD τ) ℕ (cfgs p) c)
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩

/-! ## The body's branch conditions -/

/-- The first branch's condition, from the grid coordinates. -/
abbrev cond0_0 (i : grid0.Coords) : Prop := k0_cond1 i = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second's. -/
abbrev cond0_1 (i : grid0.Coords) : Prop := k0_cond2 i = 1#1
/-- It holds at the points from point 1 on. -/
theorem hcond0_1 : ∀ t : Fin cfg0.N, cond0_1 (grid0.coords t) ↔ 1 ≤ t.val :=
  (by decide +kernel : ∀ t : Fin grid0.N, cond0_1 (grid0.coords t) ↔ 1 ≤ t.val)

/-- No window is idle at any point: the output's is written at every one. -/
theorem live : ∀ (w : Fin 6) (t : Fin cfg0.N), cfg0.idle w (grid0.coords t) = false :=
  (by decide +kernel : ∀ (w : Fin 6) (t : Fin grid0.N), idle0 w (grid0.coords t) = false)

/-! ## The staging and scratch buffers -/

/-- Each window's staging buffer at point `t`, as the pipeline passes it, and that it is a whole buffer. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x9x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x5632 .bf16 := Memref.whole cc0_scratch0
abbrev scM0_1 : Memref sig .tc .vmem S2816x1024 .bf16 := Memref.whole cc0_scratch1
abbrev scM0_2 : Memref sig .tc .vmem S4x1024x256 .f32 := Memref.whole cc0_scoped0
abbrev scM0_3 : Memref sig .tc .vmem S4x1024x256 .f32 := Memref.whole cc0_scoped1
abbrev scM0_4 : Memref sig .tc .vmem S4x256x1024 .f32 := Memref.whole cc0_scoped2
/-- The operands left in HBM that the body copies into scratch itself, whole. -/
abbrev hbM0_0 : Memref sig .tc .hbm S1024x5632 .f32 := Memref.whole main_v5
abbrev hbM0_1 : Memref sig .tc .hbm S2816x1024 .f32 := Memref.whole main_v6
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 12 → SemLoc sig := fun j => (![SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 12 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3, 4, 5, 6, 7, 8, 9, 10, 11] (by decide) (by decide)]; rfl
/-- The HBM operands the body moves, as references: unscoped, no window's array (`Pipeline.restRefs`). -/
def H0 : Finset (Ref sig .tc) := {main_v5, main_v6}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v5) ∗ hbPt0 c hbM0_1 (V m c main_v6)) := by
  rw [BI.bigSep_eq_bigSepL_of_eq [main_v5, main_v6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_v5) ∗ hbPt0 c hbM0_1 (V m c main_v6))) := by
  rw [Pipeline.ΦD_eq, scopedRest0_eq, ownSems00_eq, hbmPts0_eq]; simp only [scM0_0, scM0_1, scM0_2, scM0_3, scM0_4, owns_whole]; try rfl

end Cert.Kernel2Ideal.Ffn1

end
-- ==== Proof.Ffn1.RunA.lean ====
/-
One run of the kernel's body, by the grid point's case.
-/
module

public import proofs.«01_k».proof.Proof.Ffn1.Setup

@[expose] public section

set_option maxRecDepth 16384

noncomputable section

namespace Cert.Kernel2Ideal.Ffn1

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's term is large)
set_option maxHeartbeats 2716000 in set_option sl_exec.dmaWindow true in set_option sl_exec.dmaWindowSet true in
/-- The first grid point: the body copies both weights into the scratch, chunk by chunk through the four staging slots, and computes
    the output's block as the chunks arrive. The three witnesses are what its stores leave, last first: in the output's buffer
    (`L`), in the gate and up weights' scratch (`LS0`) and in the down weight's (`LS1`). Everything else is handed back as it was,
    the staging slots at some contents. The slots' contents at the start are parameters, so that the pieces may name them. -/
noncomputable def runA (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x9x1024 .f32) (harg3 : arg3.IsWhole) (arg4 : Memref sig .tc .vmem S3x1024 .f32) (harg4 : arg4.IsWhole) (arg5 : Memref sig .tc .vmem S1x1024 .f32) (harg5 : arg5.IsWhole) (arg8 : Memref sig .tc .vmem S512x1024 .f32) (harg8 : arg8.IsWhole) (arg9 : Memref sig .tc .vmem S1024x5632 .bf16) (harg9 : arg9.IsWhole) (arg10 : Memref sig .tc .vmem S2816x1024 .bf16) (harg10 : arg10.IsWhole) (alloca_r0 : Memref sig .tc .vmem S4x1024x256 .f32) (halloca_r0 : alloca_r0.IsWhole) (alloca_16_r0 : Memref sig .tc .vmem S4x1024x256 .f32) (halloca_16_r0 : alloca_16_r0.IsWhole) (alloca_17_r0 : Memref sig .tc .vmem S4x256x1024 .f32) (halloca_17_r0 : alloca_17_r0.IsWhole) (hc0 : cond0_0 i) (hc1 : ¬cond0_1 i)
    (x0 x1 : Vec F S512x1024 .f32) (x2 : Vec F S1x9x1024 .f32) (x3 : Vec F S3x1024 .f32) (x4 : Vec F S1x1024 .f32) (fh0 : HbBuf0 (F := F) c hbM0_0) (fh1 : HbBuf0 (F := F) c hbM0_1)
    (z2 z3 : Vec F S4x1024x256 .f32) (z4 : Vec F S4x256x1024 .f32) :
    Σ' (L : List (View.Piece (Elt F) S512x1024 .f32)), Σ' (LS0 : List (View.Piece (Elt F) S1024x5632 .bf16)), { LS1 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d) ∗ (∃ d, owns (c : Thread nD τ) arg10 fullShare d) ∗ owns (c : Thread nD τ) alloca_r0 fullShare z2 ∗ owns (c : Thread nD τ) alloca_16_r0 fullShare z3 ∗ owns (c : Thread nD τ) alloca_17_r0 fullShare z4 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg8.view.loc (c : Thread nD τ) ↦[arg8.view.set]{fullShare} arg8.view.writes (Elt F) f L) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ d, owns (c : Thread nD τ) alloca_r0 fullShare d) ∗ (∃ d, owns (c : Thread nD τ) alloca_16_r0 fullShare d) ∗ (∃ d, owns (c : Thread nD τ) alloca_17_r0 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn1 i arg1 harg1 arg2 harg2 arg3 harg3 arg4 harg4 arg5 harg5 (Memref.whole main_v5) (Memref.isWhole_whole _) (Memref.whole main_v6) (Memref.isWhole_whole _) arg8 harg8 arg9 harg9 arg10 harg10 alloca_r0 halloca_r0 alloca_16_r0 halloca_16_r0 alloca_17_r0 halloca_17_r0 cc0_scoped3) K } := by
  refine ⟨?_, ?_, ?_, fun W K => ?run⟩
  case run =>
    simp only [cc0_ffn1_eq_skeleton]; unfold cc0_ffn1_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%fH0, %eH0, H0⟩, ⟨%fH1, %eH1, H1⟩, ⟨%fH2, %eH2, H2⟩, ⟨%fH3, %eH3, H3⟩, ⟨%fH4, %eH4, H4⟩, ⟨%dH5, %fH5, -, H5⟩, ⟨%dHS0, %fHS0, -, HS0⟩, ⟨%dHS1, %fHS1, -, HS1⟩, ⟨%fHS2, %eHS2, HS2⟩, ⟨%fHS3, %eHS3, HS3⟩, ⟨%fHS4, %eHS4, HS4⟩, Hq0, Hq1, Hq2, Hq3, Hq4, Hq5, Hq6, Hq7, Hq8, Hq9, Hq10, Hq11, Hh0, Hh1, HW, Hk⟩
    obtain rfl := harg1.eq_unread eH0; obtain rfl := harg2.eq_unread eH1; obtain rfl := harg3.eq_unread eH2; obtain rfl := harg4.eq_unread eH3; obtain rfl := harg5.eq_unread eH4; obtain rfl := halloca_r0.eq_unread eHS2; obtain rfl := halloca_16_r0.eq_unread eHS3; obtain rfl := halloca_17_r0.eq_unread eHS4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    iexists _; iexact HW

end Cert.Kernel2Ideal.Ffn1

end
-- ==== Proof.Ffn1.RunB.lean ====
/-
One run of the kernel's body, by the grid point's case.
-/
module

public import proofs.«01_k».proof.Proof.Ffn1.Setup

@[expose] public section

set_option maxRecDepth 16384

noncomputable section

namespace Cert.Kernel2Ideal.Ffn1

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's term is large)
set_option maxHeartbeats 1600000 in set_option sl_exec.dmaWindow true in set_option sl_exec.dmaWindowSet true in
/-- A later grid point: the body finds both weights in the scratch and computes the block from them. The witness `L` is what its
    stores leave in the output's buffer; everything else is handed back as it was. -/
noncomputable def runB (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x9x1024 .f32) (harg3 : arg3.IsWhole) (arg4 : Memref sig .tc .vmem S3x1024 .f32) (harg4 : arg4.IsWhole) (arg5 : Memref sig .tc .vmem S1x1024 .f32) (harg5 : arg5.IsWhole) (arg8 : Memref sig .tc .vmem S512x1024 .f32) (harg8 : arg8.IsWhole) (arg9 : Memref sig .tc .vmem S1024x5632 .bf16) (harg9 : arg9.IsWhole) (arg10 : Memref sig .tc .vmem S2816x1024 .bf16) (harg10 : arg10.IsWhole) (alloca_r0 : Memref sig .tc .vmem S4x1024x256 .f32) (halloca_r0 : alloca_r0.IsWhole) (alloca_16_r0 : Memref sig .tc .vmem S4x1024x256 .f32) (halloca_16_r0 : alloca_16_r0.IsWhole) (alloca_17_r0 : Memref sig .tc .vmem S4x256x1024 .f32) (halloca_17_r0 : alloca_17_r0.IsWhole) (hc0 : ¬cond0_0 i) (hc1 : cond0_1 i)
    (x0 x1 : Vec F S512x1024 .f32) (x2 : Vec F S1x9x1024 .f32) (x3 : Vec F S3x1024 .f32) (x4 : Vec F S1x1024 .f32) (fh0 : HbBuf0 (F := F) c hbM0_0) (fh1 : HbBuf0 (F := F) c hbM0_1)
    (xs0 : Vec F S1024x5632 .bf16) (xs1 : Vec F S2816x1024 .bf16) :
    { L : List (View.Piece (Elt F) S512x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ owns (c : Thread nD τ) arg9 fullShare xs0 ∗ owns (c : Thread nD τ) arg10 fullShare xs1 ∗ (∃ d, owns (c : Thread nD τ) alloca_r0 fullShare d) ∗ (∃ d, owns (c : Thread nD τ) alloca_16_r0 fullShare d) ∗ (∃ d, owns (c : Thread nD τ) alloca_17_r0 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg8.view.loc (c : Thread nD τ) ↦[arg8.view.set]{fullShare} arg8.view.writes (Elt F) f L) ∗ owns (c : Thread nD τ) arg9 fullShare xs0 ∗ owns (c : Thread nD τ) arg10 fullShare xs1 ∗ (∃ d, owns (c : Thread nD τ) alloca_r0 fullShare d) ∗ (∃ d, owns (c : Thread nD τ) alloca_16_r0 fullShare d) ∗ (∃ d, owns (c : Thread nD τ) alloca_17_r0 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn1 i arg1 harg1 arg2 harg2 arg3 harg3 arg4 harg4 arg5 harg5 (Memref.whole main_v5) (Memref.isWhole_whole _) (Memref.whole main_v6) (Memref.isWhole_whole _) arg8 harg8 arg9 harg9 arg10 harg10 alloca_r0 halloca_r0 alloca_16_r0 halloca_16_r0 alloca_17_r0 halloca_17_r0 cc0_scoped3) K } := by
  refine ⟨?_, fun W K => ?run⟩
  case run =>
    simp only [cc0_ffn1_eq_skeleton]; unfold cc0_ffn1_skel
    simp only [k0_part32_eq_skeleton, k0_part27_eq_skeleton, k0_part28_eq_skeleton, k0_part29_eq_skeleton, k0_part30_eq_skeleton, k0_part31_eq_skeleton]
    unfold owns
    iintro ⟨⟨%fH0, %eH0, H0⟩, ⟨%fH1, %eH1, H1⟩, ⟨%fH2, %eH2, H2⟩, ⟨%fH3, %eH3, H3⟩, ⟨%fH4, %eH4, H4⟩, ⟨%dH5, %fH5, -, H5⟩, ⟨%fHS0, %eHS0, HS0⟩, ⟨%fHS1, %eHS1, HS1⟩, ⟨%dHS2, %fHS2, -, HS2⟩, ⟨%dHS3, %fHS3, -, HS3⟩, ⟨%dHS4, %fHS4, -, HS4⟩, Hq0, Hq1, Hq2, Hq3, Hq4, Hq5, Hq6, Hq7, Hq8, Hq9, Hq10, Hq11, Hh0, Hh1, HW, Hk⟩
    obtain rfl := harg1.eq_unread eH0; obtain rfl := harg2.eq_unread eH1; obtain rfl := harg3.eq_unread eH2; obtain rfl := harg4.eq_unread eH3; obtain rfl := harg5.eq_unread eH4; obtain rfl := harg9.eq_unread eHS0; obtain rfl := harg10.eq_unread eHS1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg9.read_unread _
      iexact HS0
    isplitl [HS1]
    · iexists _; isplitr; · ipureintro; exact harg10.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    iexists _; iexact HW

end Cert.Kernel2Ideal.Ffn1

end
-- ==== Proof.Ffn1.Value.lean ====
/-
What the kernel's body computes, as functions of what it is given: the output's block from a block of each stream, the
modulation rows, the norms' weights and the two weights the scratch holds. The chunks' products are the other
feed-forward call's.
-/
module

public import proofs.«01_k».proof.Proof.Ffn1.Setup
public import proofs.«01_k».proof.Proof.Ffn2.Value
public import proofs.«01_k».proof.Proof.Common.Slots
public import Idealize.ShloMosaic.Lib.VecWindow
public import Idealize.ShloMosaic.Lib.WholeRead
public import Idealize.ShloMosaic.Lib.Pipeline.ValueKit.Basic

@[expose] public section

set_option maxRecDepth 16384

noncomputable section

namespace Cert.Kernel2Ideal.Ffn1

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Ffn2 (gateCols upCols downRows chunk ffnSum cast13 cast2 ld_all2)

variable {F : FTy → Type} [FloatOps F]

local notation "𝕄" => MT nD τ sig Unit (Elt F) ℕ (Pipeline.UD sig nD τ) ℕ

/-- The point's input block: the first stream's at the first eight points, then the second's. -/
def chosen (i : grid0.Coords) (xa xb : Vec F S512x1024 .f32) : FVec F S512x1024 .f32 := k0_pay64 i xa xb

/-- That block normalized and modulated: the norm's row 0, the modulation rows 0 (shift) and 1 (scale). -/
def modulated (i : grid0.Coords) (xa xb : Vec F S512x1024 .f32) (mo : Vec F S1x9x1024 .f32) (nw : Vec F S3x1024 .f32) : FVec F S512x1024 .bf16 :=
  k0_pay65 i xa xb (View.ld nw (Rect.unit ![0, 0] ![1, 1024] inb_S3x1024_S1x1024_0_0))
    (View.ld mo (Rect.unit ![0, 0, 0] ![1, 1, 1024] inb_S1x9x1024_S1x1x1024_0_0_0))
    (View.ld mo (Rect.unit ![0, 1, 0] ![1, 1, 1024] inb_S1x9x1024_S1x1x1024_0_1_0))

/-- The half-step residual of the block, the chunks' sum and the gate row. -/
def finish (x s : FVec F S512x1024 .f32) (g : Vec F S1x1x1024 .f32) : FVec F S512x1024 .f32 :=
  addf x (mulf (broadcastTo S512x1024 (mulf (broadcast S1x1024 (Scalar.ofBits .f32 0x3F000000#32))
    (shapeCast S1x1024 g shapeCasts_S1x1x1024_S1x1024)) broadcasts_S1x1024_S512x1024) s)

/-- The output's block. -/
def block (i : grid0.Coords) (xa xb : Vec F S512x1024 .f32) (mo : Vec F S1x9x1024 .f32) (nw : Vec F S3x1024 .f32)
    (W13 : Vec F S1024x5632 .bf16) (W2 : Vec F S2816x1024 .bf16) : Vec F S512x1024 .f32 :=
  finish (chosen i xa xb) (ffnSum (modulated i xa xb mo nw) W13 W2)
    (View.ld mo (Rect.unit ![0, 2, 0] S1x1x1024.size inb_S1x9x1024_S1x1x1024_0_2_0))

end Cert.Kernel2Ideal.Ffn1

end
-- ==== Proof.Ffn1.Closed.lean ====
/-
What the runs leave, in closed form: the output's block is the block of the input blocks and of the weights the scratch
holds, and the scratch after the first point is the rounded weights.
-/
module

public import proofs.«01_k».proof.Proof.Ffn1.RunA
public import proofs.«01_k».proof.Proof.Ffn1.RunB

public import proofs.«01_k».proof.Proof.Ffn1.Value
public import proofs.«01_k».proof.Proof.Common.Slots
public import Idealize.ShloMosaic.Lib.VecWindow
public import Idealize.ShloMosaic.Lib.WholeRead
public import Idealize.ShloMosaic.Lib.Pointwise.Reshape

@[expose] public section

set_option maxRecDepth 16384

noncomputable section

namespace Cert.Kernel2Ideal.Ffn1

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Ffn2 (gateCols upCols downRows chunk ffnSum cast13 cast2 ld_all2)

variable {F : FTy → Type} [FloatOps F]

local notation "𝕄" => MT nD τ sig Unit (Elt F) ℕ (Pipeline.UD sig nD τ) ℕ

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x9x1024 .f32) (harg3 : arg3.IsWhole) (arg4 : Memref sig .tc .vmem S3x1024 .f32) (harg4 : arg4.IsWhole) (arg5 : Memref sig .tc .vmem S1x1024 .f32) (harg5 : arg5.IsWhole) (arg8 : Memref sig .tc .vmem S512x1024 .f32) (harg8 : arg8.IsWhole) (arg9 : Memref sig .tc .vmem S1024x5632 .bf16) (harg9 : arg9.IsWhole) (arg10 : Memref sig .tc .vmem S2816x1024 .bf16) (harg10 : arg10.IsWhole) (alloca_r0 : Memref sig .tc .vmem S4x1024x256 .f32) (halloca_r0 : alloca_r0.IsWhole) (alloca_16_r0 : Memref sig .tc .vmem S4x1024x256 .f32) (halloca_16_r0 : alloca_16_r0.IsWhole) (alloca_17_r0 : Memref sig .tc .vmem S4x256x1024 .f32) (halloca_17_r0 : alloca_17_r0.IsWhole)
  (x0 x1 : Vec F S512x1024 .f32) (x2 : Vec F S1x9x1024 .f32) (x3 : Vec F S3x1024 .f32) (x4 : Vec F S1x1024 .f32) (fh0 : HbBuf0 (F := F) c hbM0_0) (fh1 : HbBuf0 (F := F) c hbM0_1)
  (xs0 : Vec F S1024x5632 .bf16) (xs1 : Vec F S2816x1024 .bf16)

set_option maxHeartbeats 2000000 in
/-- A later point leaves its block in the output's buffer. -/
theorem runB_read (hc0 : ¬cond0_0 i) (hc1 : cond0_1 i) (f : arg8.view.ty.Contents (Elt F)) :
    arg8.view.read (Elt F) (arg8.view.writes (Elt F) f (runB c i arg1 harg1 arg2 harg2 arg3 harg3 arg4 harg4 arg5 harg5 arg8 harg8 arg9 harg9 arg10 harg10 alloca_r0 halloca_r0 alloca_16_r0 halloca_16_r0 alloca_17_r0 halloca_17_r0 hc0 hc1 x0 x1 x2 x3 x4 fh0 fh1 xs0 xs1).1)
      = block i x0 x1 x2 x3 xs0 xs1 := by
  refine (View.read_writes_full arg8.view f (s := ⟨2, ![512, 1024]⟩) _ _ []).trans ?_
  simp only [runB.sl.cst_100, runB.sl.cst_121, runB.sl.r, runB.sl.r_1, runB.sl.r_10, runB.sl.r_11, runB.sl.r_2, runB.sl.r_3,
    runB.sl.r_4, runB.sl.r_5, runB.sl.r_6, runB.sl.r_7, runB.sl.r_8, runB.sl.r_9, Cert.Common.readAt_ld]
  rw [ld_all2, ld_all2]
  rfl

variable (z2 z3 : Vec F S4x1024x256 .f32) (z4 : Vec F S4x256x1024 .f32)

set_option maxHeartbeats 4000000 in
/-- Each piece the first point stores into the gate and up weights' scratch is the rounded weights' there. -/
theorem runA_pieces13 (hc0 : cond0_0 i) (hc1 : ¬cond0_1 i) :
    ∀ p ∈ (runA c i arg1 harg1 arg2 harg2 arg3 harg3 arg4 harg4 arg5 harg5 arg8 harg8 arg9 harg9 arg10 harg10 alloca_r0 halloca_r0 alloca_16_r0 halloca_16_r0 alloca_17_r0 halloca_17_r0 hc0 hc1 x0 x1 x2 x3 x4 fh0 fh1 z2 z3 z4).2.1, ∀ x, p.2 x = cast13 fh0 (p.1.emb x) := by
  show ∀ p ∈ runA.sl.HS0_22 c alloca_r0 halloca_r0 alloca_16_r0 halloca_16_r0 fh0 z2 z3, ∀ x, p.2 x = cast13 fh0 (p.1.emb x)
  simp only [runA.sl.HS0_10, runA.sl.HS0_12, runA.sl.HS0_14, runA.sl.HS0_16, runA.sl.HS0_18, runA.sl.HS0_2, runA.sl.HS0_20,
    runA.sl.HS0_22, runA.sl.HS0_4, runA.sl.HS0_6, runA.sl.HS0_8, List.forall_mem_cons]
  refine ⟨?_, ?_, ?_, ?_, ?_, ?_, ?_, ?_, ?_, ?_, ?_, ?_, ?_, ?_, ?_, ?_, ?_, ?_, ?_, ?_, ?_, ?_, fun _ h => absurd h List.not_mem_nil⟩
  all_goals
    intro x
    simp (disch := decide) only [k0_pay1, k0_pay2, k0_pay3, k0_pay6, k0_pay7, k0_pay8, k0_pay10, k0_pay11, k0_pay12, k0_pay15, k0_pay16, k0_pay17,
    k0_pay19, k0_pay20, k0_pay21, k0_pay23, k0_pay24, k0_pay25, k0_pay30, k0_pay31, k0_pay32, k0_pay34, k0_pay35,
    k0_pay36, k0_pay37, k0_pay39, k0_pay40, k0_pay41, k0_pay42, k0_pay44, k0_pay45, k0_pay46, k0_pay48, k0_pay49,
    k0_pay50,
      runA.sl.v, runA.sl.v112_r0, runA.sl.v118_r0, runA.sl.v124_r0, runA.sl.v130_r0, runA.sl.v132_r0, runA.sl.v144_r0,
    runA.sl.v176_r0, runA.sl.v182_r0, runA.sl.v188_r0, runA.sl.v194_r0, runA.sl.v196_r0, runA.sl.v208_r0,
    runA.sl.v241_r0, runA.sl.v247_r0, runA.sl.v253_r0, runA.sl.v259_r0, runA.sl.v261_r0, runA.sl.v273_r0,
    runA.sl.v306_r0, runA.sl.v312_r0, runA.sl.v318_r0, runA.sl.v324_r0, runA.sl.v326_r0, runA.sl.v338_r0,
    runA.sl.v371_r0, runA.sl.v377_r0, runA.sl.v383_r0, runA.sl.v389_r0, runA.sl.v391_r0, runA.sl.v403_r0,
    runA.sl.v436_r0, runA.sl.v442_r0, runA.sl.v448_r0, runA.sl.v454_r0, runA.sl.v456_r0, runA.sl.v468_r0,
    runA.sl.v501_r0, runA.sl.v507_r0, runA.sl.v519_r0, runA.sl.v521_r0, runA.sl.v533_r0, runA.sl.v566_r0,
    runA.sl.v567_r0, runA.sl.v572_r0, runA.sl.v578_r0, runA.sl.v584_r0, runA.sl.v586_r0, runA.sl.v598_r0,
    runA.sl.v616_r0, runA.sl.v622_r0, runA.sl.v625_r0, runA.sl.v628_r0, runA.sl.v634_r0, runA.sl.v636_r0,
    runA.sl.v648_r0, runA.sl.v666_r0, runA.sl.v672_r0, runA.sl.v678_r0, runA.sl.v684_r0, runA.sl.v686_r0,
    runA.sl.v698_r0, runA.sl.v716_r0, runA.sl.v722_r0, runA.sl.v728_r0, runA.sl.v734_r0, runA.sl.v736_r0,
    runA.sl.v748_r0,
    runA.sl.cst_132_r0, runA.sl.cst_457_r0, runA.sl.r, runA.sl.r_1, runA.sl.r_10, runA.sl.r_11, runA.sl.r_12,
    runA.sl.r_13, runA.sl.r_14, runA.sl.r_15, runA.sl.r_16, runA.sl.r_17, runA.sl.r_18, runA.sl.r_19, runA.sl.r_2,
    runA.sl.r_3, runA.sl.r_4, runA.sl.r_5, runA.sl.r_6, runA.sl.r_7, runA.sl.r_8, runA.sl.r_9, Cert.Common.slot_miss_unit, Cert.Common.slot_hit, shapeCast_id]
    rfl

set_option maxHeartbeats 4000000 in
/-- Each piece it stores into the down weight's scratch is the rounded weight's there. -/
theorem runA_pieces2 (hc0 : cond0_0 i) (hc1 : ¬cond0_1 i) :
    ∀ p ∈ (runA c i arg1 harg1 arg2 harg2 arg3 harg3 arg4 harg4 arg5 harg5 arg8 harg8 arg9 harg9 arg10 harg10 alloca_r0 halloca_r0 alloca_16_r0 halloca_16_r0 alloca_17_r0 halloca_17_r0 hc0 hc1 x0 x1 x2 x3 x4 fh0 fh1 z2 z3 z4).2.2.1, ∀ x, p.2 x = cast2 fh1 (p.1.emb x) := by
  show ∀ p ∈ runA.sl.HS1_11 c alloca_17_r0 halloca_17_r0 fh1 z4, ∀ x, p.2 x = cast2 fh1 (p.1.emb x)
  simp only [runA.sl.HS1_1, runA.sl.HS1_10, runA.sl.HS1_11, runA.sl.HS1_2, runA.sl.HS1_3, runA.sl.HS1_4, runA.sl.HS1_5,
    runA.sl.HS1_6, runA.sl.HS1_7, runA.sl.HS1_8, runA.sl.HS1_9, List.forall_mem_cons]
  refine ⟨?_, ?_, ?_, ?_, ?_, ?_, ?_, ?_, ?_, ?_, ?_, fun _ h => absurd h List.not_mem_nil⟩
  all_goals
    intro x
    simp (disch := decide) only [k0_pay1, k0_pay2, k0_pay3, k0_pay6, k0_pay7, k0_pay8, k0_pay10, k0_pay11, k0_pay12, k0_pay15, k0_pay16, k0_pay17,
    k0_pay19, k0_pay20, k0_pay21, k0_pay23, k0_pay24, k0_pay25, k0_pay30, k0_pay31, k0_pay32, k0_pay34, k0_pay35,
    k0_pay36, k0_pay37, k0_pay39, k0_pay40, k0_pay41, k0_pay42, k0_pay44, k0_pay45, k0_pay46, k0_pay48, k0_pay49,
    k0_pay50,
      runA.sl.v, runA.sl.v112_r0, runA.sl.v118_r0, runA.sl.v124_r0, runA.sl.v130_r0, runA.sl.v132_r0, runA.sl.v144_r0,
    runA.sl.v176_r0, runA.sl.v182_r0, runA.sl.v188_r0, runA.sl.v194_r0, runA.sl.v196_r0, runA.sl.v208_r0,
    runA.sl.v241_r0, runA.sl.v247_r0, runA.sl.v253_r0, runA.sl.v259_r0, runA.sl.v261_r0, runA.sl.v273_r0,
    runA.sl.v306_r0, runA.sl.v312_r0, runA.sl.v318_r0, runA.sl.v324_r0, runA.sl.v326_r0, runA.sl.v338_r0,
    runA.sl.v371_r0, runA.sl.v377_r0, runA.sl.v383_r0, runA.sl.v389_r0, runA.sl.v391_r0, runA.sl.v403_r0,
    runA.sl.v436_r0, runA.sl.v442_r0, runA.sl.v448_r0, runA.sl.v454_r0, runA.sl.v456_r0, runA.sl.v468_r0,
    runA.sl.v501_r0, runA.sl.v507_r0, runA.sl.v519_r0, runA.sl.v521_r0, runA.sl.v533_r0, runA.sl.v566_r0,
    runA.sl.v567_r0, runA.sl.v572_r0, runA.sl.v578_r0, runA.sl.v584_r0, runA.sl.v586_r0, runA.sl.v598_r0,
    runA.sl.v616_r0, runA.sl.v622_r0, runA.sl.v625_r0, runA.sl.v628_r0, runA.sl.v634_r0, runA.sl.v636_r0,
    runA.sl.v648_r0, runA.sl.v666_r0, runA.sl.v672_r0, runA.sl.v678_r0, runA.sl.v684_r0, runA.sl.v686_r0,
    runA.sl.v698_r0, runA.sl.v716_r0, runA.sl.v722_r0, runA.sl.v728_r0, runA.sl.v734_r0, runA.sl.v736_r0,
    runA.sl.v748_r0,
    runA.sl.cst_132_r0, runA.sl.cst_457_r0, runA.sl.r, runA.sl.r_1, runA.sl.r_10, runA.sl.r_11, runA.sl.r_12,
    runA.sl.r_13, runA.sl.r_14, runA.sl.r_15, runA.sl.r_16, runA.sl.r_17, runA.sl.r_18, runA.sl.r_19, runA.sl.r_2,
    runA.sl.r_3, runA.sl.r_4, runA.sl.r_5, runA.sl.r_6, runA.sl.r_7, runA.sl.r_8, runA.sl.r_9, Cert.Common.slot_miss_unit, Cert.Common.slot_hit, shapeCast_id]
    rfl

/-- So after the first point the gate and up weights' scratch holds the rounded weights, -/
theorem runA_read13 (hc0 : cond0_0 i) (hc1 : ¬cond0_1 i) (f : arg9.view.ty.Contents (Elt F)) :
    arg9.view.read (Elt F) (arg9.view.writes (Elt F) f (runA c i arg1 harg1 arg2 harg2 arg3 harg3 arg4 harg4 arg5 harg5 arg8 harg8 arg9 harg9 arg10 harg10 alloca_r0 halloca_r0 alloca_16_r0 halloca_16_r0 alloca_17_r0 halloca_17_r0 hc0 hc1 x0 x1 x2 x3 x4 fh0 fh1 z2 z3 z4).2.1) = cast13 fh0 :=
  funext fun y' => View.read_writes_apply_of_pieces _ _ _ _ (runA_pieces13 c i arg1 harg1 arg2 harg2 arg3 harg3 arg4 harg4 arg5 harg5 arg8 harg8 arg9 harg9 arg10 harg10 alloca_r0 halloca_r0 alloca_16_r0 halloca_16_r0 alloca_17_r0 halloca_17_r0 x0 x1 x2 x3 x4 fh0 fh1 z2 z3 z4 hc0 hc1) y'
    (View.cover_of_tiledL _ ![1024, 256] (by sl_kernel_rfl) y')

/-- and the down weight's scratch the rounded down weight. -/
theorem runA_read2 (hc0 : cond0_0 i) (hc1 : ¬cond0_1 i) (f : arg10.view.ty.Contents (Elt F)) :
    arg10.view.read (Elt F) (arg10.view.writes (Elt F) f (runA c i arg1 harg1 arg2 harg2 arg3 harg3 arg4 harg4 arg5 harg5 arg8 harg8 arg9 harg9 arg10 harg10 alloca_r0 halloca_r0 alloca_16_r0 halloca_16_r0 alloca_17_r0 halloca_17_r0 hc0 hc1 x0 x1 x2 x3 x4 fh0 fh1 z2 z3 z4).2.2.1) = cast2 fh1 :=
  funext fun y' => View.read_writes_apply_of_pieces _ _ _ _ (runA_pieces2 c i arg1 harg1 arg2 harg2 arg3 harg3 arg4 harg4 arg5 harg5 arg8 harg8 arg9 harg9 arg10 harg10 alloca_r0 halloca_r0 alloca_16_r0 halloca_16_r0 alloca_17_r0 halloca_17_r0 x0 x1 x2 x3 x4 fh0 fh1 z2 z3 z4 hc0 hc1) y'
    (View.cover_of_tiledL _ ![256, 1024] (by sl_kernel_rfl) y')

set_option maxHeartbeats 4000000 in
/-- The first point leaves its block in the output's buffer, computed from the rounded weights. -/
theorem runA_read (hc0 : cond0_0 i) (hc1 : ¬cond0_1 i) (f : arg8.view.ty.Contents (Elt F)) :
    arg8.view.read (Elt F) (arg8.view.writes (Elt F) f (runA c i arg1 harg1 arg2 harg2 arg3 harg3 arg4 harg4 arg5 harg5 arg8 harg8 arg9 harg9 arg10 harg10 alloca_r0 halloca_r0 alloca_16_r0 halloca_16_r0 alloca_17_r0 halloca_17_r0 hc0 hc1 x0 x1 x2 x3 x4 fh0 fh1 z2 z3 z4).1) = block i x0 x1 x2 x3 (cast13 fh0) (cast2 fh1) := by
  refine (View.read_writes_full arg8.view f (s := ⟨2, ![512, 1024]⟩) _ _ []).trans ?_
  simp (disch := decide) only [runA.sl.cst_132_r0, runA.sl.cst_457_r0, runA.sl.r, runA.sl.r_1, runA.sl.r_10, runA.sl.r_11, runA.sl.r_12,
    runA.sl.r_13, runA.sl.r_14, runA.sl.r_15, runA.sl.r_16, runA.sl.r_17, runA.sl.r_18, runA.sl.r_19, runA.sl.r_2,
    runA.sl.r_3, runA.sl.r_4, runA.sl.r_5, runA.sl.r_6, runA.sl.r_7, runA.sl.r_8, runA.sl.r_9,
    runA.sl.v, runA.sl.v112_r0, runA.sl.v118_r0, runA.sl.v124_r0, runA.sl.v130_r0, runA.sl.v132_r0, runA.sl.v144_r0,
    runA.sl.v176_r0, runA.sl.v182_r0, runA.sl.v188_r0, runA.sl.v194_r0, runA.sl.v196_r0, runA.sl.v208_r0,
    runA.sl.v241_r0, runA.sl.v247_r0, runA.sl.v253_r0, runA.sl.v259_r0, runA.sl.v261_r0, runA.sl.v273_r0,
    runA.sl.v306_r0, runA.sl.v312_r0, runA.sl.v318_r0, runA.sl.v324_r0, runA.sl.v326_r0, runA.sl.v338_r0,
    runA.sl.v371_r0, runA.sl.v377_r0, runA.sl.v383_r0, runA.sl.v389_r0, runA.sl.v391_r0, runA.sl.v403_r0,
    runA.sl.v436_r0, runA.sl.v442_r0, runA.sl.v448_r0, runA.sl.v454_r0, runA.sl.v456_r0, runA.sl.v468_r0,
    runA.sl.v501_r0, runA.sl.v507_r0, runA.sl.v519_r0, runA.sl.v521_r0, runA.sl.v533_r0, runA.sl.v566_r0,
    runA.sl.v567_r0, runA.sl.v572_r0, runA.sl.v578_r0, runA.sl.v584_r0, runA.sl.v586_r0, runA.sl.v598_r0,
    runA.sl.v616_r0, runA.sl.v622_r0, runA.sl.v625_r0, runA.sl.v628_r0, runA.sl.v634_r0, runA.sl.v636_r0,
    runA.sl.v648_r0, runA.sl.v666_r0, runA.sl.v672_r0, runA.sl.v678_r0, runA.sl.v684_r0, runA.sl.v686_r0,
    runA.sl.v698_r0, runA.sl.v716_r0, runA.sl.v722_r0, runA.sl.v728_r0, runA.sl.v734_r0, runA.sl.v736_r0,
    runA.sl.v748_r0,
    runA.sl.HS0_10, runA.sl.HS0_12, runA.sl.HS0_14, runA.sl.HS0_16, runA.sl.HS0_18, runA.sl.HS0_2, runA.sl.HS0_20,
    runA.sl.HS0_22, runA.sl.HS0_4, runA.sl.HS0_6, runA.sl.HS0_8,
    runA.sl.HS1_1, runA.sl.HS1_10, runA.sl.HS1_11, runA.sl.HS1_2, runA.sl.HS1_3, runA.sl.HS1_4, runA.sl.HS1_5,
    runA.sl.HS1_6, runA.sl.HS1_7, runA.sl.HS1_8, runA.sl.HS1_9,
    k0_pay1, k0_pay2, k0_pay3, k0_pay6, k0_pay7, k0_pay8, k0_pay10, k0_pay11, k0_pay12, k0_pay15, k0_pay16, k0_pay17,
    k0_pay19, k0_pay20, k0_pay21, k0_pay23, k0_pay24, k0_pay25, k0_pay30, k0_pay31, k0_pay32, k0_pay34, k0_pay35,
    k0_pay36, k0_pay37, k0_pay39, k0_pay40, k0_pay41, k0_pay42, k0_pay44, k0_pay45, k0_pay46, k0_pay48, k0_pay49,
    k0_pay50,
    View.readCov_cons_toLoadRect, Cert.Common.readCov_miss_unit, Cert.Common.slot_miss_unit, Cert.Common.slot_hit, shapeCast_id, Cert.Common.readAt_ld]
  rw [ld_all2, ld_all2]
  rfl
end

end Cert.Kernel2Ideal.Ffn1

end
-- ==== Proof.Ffn1.Frame.lean ====
/-
The kernel's run from its body's: the windows' contents point by point, the body at a generic point, and the whole
program's run, at any values.
-/
module

public import proofs.«01_k».proof.Proof.Ffn1.Closed
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.Kernel2Ideal.Ffn1

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Ffn2 (cast13 cast2)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- What the body computes at point `t`: the output's block of that point's input blocks and the rounded weights. -/
def blk (c : Dev nD) (t : Fin cfg0.N) : Vec F S512x1024 .f32 :=
  block (grid0.coords t) (iblk m c 0 t) (iblk m c 1 t) (iblk m c 2 t) (iblk m c 3 t) (cast13 (V m c main_v5)) (cast2 (V m c main_v6))

/-- What is held beside the windows before position `n`: before the first point the launch's; afterwards the scratch at
    the rounded weights, the staging buffers at anything, and the generator register, the counters at zero and the
    weights' arrays. -/
def PhiS (c : Dev nD) : ℕ → sProp 𝕄
  | 0 => Pipeline.ΦD osem0 spec0 H0 (V m) c
  | n + 1 => iprop((owns (c : Thread nD τ) scM0_0 fullShare (cast13 (V m c main_v5)) ∗ owns (c : Thread nD τ) scM0_1 fullShare (cast2 (V m c main_v6)) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ (semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ (hbPt0 c hbM0_0 (V m c main_v5) ∗ hbPt0 c hbM0_1 (V m c main_v6)))

theorem PhiS_pos (c : Dev nD) (n : ℕ) (hz : n ≠ 0) :
    PhiS m c n = PhiS m c 1 := by
  cases n with
  | zero => exact absurd rfl hz
  | succ n => rfl

/-- The arrays as the region finds them, the inputs' buffers at their blocks and the output's at the point's. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blk m c t
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = blk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem before0_4 (c : Dev nD) (t : Fin cfg0.N) (d) : (dats m 0 c).before 4 t d = iblk m c 4 t :=
  before0_4_of m (dats m 0 c) (A_eq m c 4) (after0_4 m c) t d

theorem leaves0 (c : Dev nD) (t : Fin cfg0.N) :
    (dats m 0 c).leavesExact 0 t = owns (c : Thread nD τ) (ms0_0 t) fullShare (iblk m c 0 t) := by
  unfold Dat.leavesExact; rw [live 0 t, after0_0]
theorem leaves1 (c : Dev nD) (t : Fin cfg0.N) :
    (dats m 0 c).leavesExact 1 t = owns (c : Thread nD τ) (ms0_1 t) fullShare (iblk m c 1 t) := by
  unfold Dat.leavesExact; rw [live 1 t, after0_1]
theorem leaves2 (c : Dev nD) (t : Fin cfg0.N) :
    (dats m 0 c).leavesExact 2 t = owns (c : Thread nD τ) (ms0_2 t) fullShare (iblk m c 2 t) := by
  unfold Dat.leavesExact; rw [live 2 t, after0_2]
theorem leaves3 (c : Dev nD) (t : Fin cfg0.N) :
    (dats m 0 c).leavesExact 3 t = owns (c : Thread nD τ) (ms0_3 t) fullShare (iblk m c 3 t) := by
  unfold Dat.leavesExact; rw [live 3 t, after0_3]
theorem leaves4 (c : Dev nD) (t : Fin cfg0.N) :
    (dats m 0 c).leavesExact 4 t = owns (c : Thread nD τ) (ms0_4 t) fullShare (iblk m c 4 t) := by
  unfold Dat.leavesExact; rw [live 4 t, after0_4]
theorem leaves5 (c : Dev nD) (t : Fin cfg0.N) :
    (dats m 0 c).leavesExact 5 t = owns (c : Thread nD τ) (ms0_5 t) fullShare (blk m c t) := by
  unfold Dat.leavesExact; rw [live 5 t, after0_5]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6400000 in
/-- The body at any point: the inputs' buffers hold their blocks, the point's case decides which run applies, and the scratch
    holds the rounded weights from the first point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = PhiS m c t.val from rfl, show (dats m 0 c).Φ t.succ = PhiS m c 1 from rfl,
    leaves0, leaves1, leaves2, leaves3, leaves4, leaves5]
  unfold Dat.owesAt Pipeline.owesWithin
  rw [show (dats m 0 c).owed t.castSucc = 0 from rfl, show (dats m 0 c).owed t.succ = 0 from rfl]
  by_cases h0 : t.val = 0
  · rw [h0, show PhiS m c 0 = Pipeline.ΦD osem0 spec0 H0 (V m) c from rfl, PhiD0_eq]
    unfold PhiS
    iintro ⟨⟨⟨HS0, HS1, ⟨%z2, HS2⟩, ⟨%z3, HS3⟩, ⟨%z4, HS4⟩⟩, Hg, ⟨Hq0, Hq1, Hq2, Hq3, Hq4, Hq5, Hq6, Hq7, Hq8, Hq9, Hq10, Hq11⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ _ _ _ _ _ _ _ _ ((hcond0_0 t).mpr h0) (fun h => absurd ((hcond0_1 t).mp h) (by omega)) (iblk m c 0 t) (iblk m c 1 t) (iblk m c 2 t) (iblk m c 3 t) (iblk m c 4 t) (V m c main_v5) (V m c main_v6) z2 z3 z4).2.2.2 W _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [HW]; · iexact HW
    iintro ⟨H0, H1, H2, H3, H4, ⟨%e5, H5⟩, ⟨%es0, HS0⟩, ⟨%es1, HS1⟩, HS2, HS3, HS4, Hq0, Hq1, Hq2, Hq3, Hq4, Hq5, Hq6, Hq7, Hq8, Hq9, Hq10, Hq11, Hh0, Hh1, ⟨%W', HW'⟩⟩
    isplitl [HS0 HS1 HS2 HS3 HS4 Hg Hq0 Hq1 Hq2 Hq3 Hq4 Hq5 Hq6 Hq7 Hq8 Hq9 Hq10 Hq11 Hh0 Hh1]
    · isplitl [HS0 HS1 HS2 HS3 HS4]
      · isplitl [HS0]
        · unfold owns; iexists _; isplitr; swap; · iexact HS0
          ipureintro; exact runA_read13 c _ _ _ _ _ _ _ _ _ _ _ _ _ _ _ _ _ _ _ _ _ _ _ (iblk m c 0 t) (iblk m c 1 t) (iblk m c 2 t) (iblk m c 3 t) (iblk m c 4 t) _ _ z2 z3 z4 _ _ _
        isplitl [HS1]
        · unfold owns; iexists _; isplitr; swap; · iexact HS1
          ipureintro; exact runA_read2 c _ _ _ _ _ _ _ _ _ _ _ _ _ _ _ _ _ _ _ _ _ _ _ (iblk m c 0 t) (iblk m c 1 t) (iblk m c 2 t) (iblk m c 3 t) (iblk m c 4 t) _ _ z2 z3 z4 _ _ _
        isplitl [HS2]; · iexact HS2
        isplitl [HS3]; · iexact HS3
        iexact HS4
      isplitl [Hg]; · iexact Hg
      isplitl [Hq0 Hq1 Hq2 Hq3 Hq4 Hq5 Hq6 Hq7 Hq8 Hq9 Hq10 Hq11]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        iexact Hq11
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    unfold owns; iexists _; isplitr; swap; · iexact H5
    ipureintro; exact runA_read c _ _ _ _ _ _ _ _ _ _ _ _ _ _ _ _ _ _ _ _ _ _ _ (iblk m c 0 t) (iblk m c 1 t) (iblk m c 2 t) (iblk m c 3 t) (iblk m c 4 t) _ _ z2 z3 z4 _ _ _
  · rw [PhiS_pos m c t.val h0]
    unfold PhiS
    iintro ⟨⟨⟨HS0, HS1, HS2, HS3, HS4⟩, Hg, ⟨Hq0, Hq1, Hq2, Hq3, Hq4, Hq5, Hq6, Hq7, Hq8, Hq9, Hq10, Hq11⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ _ _ _ _ _ _ _ _ _ _ (fun h => h0 ((hcond0_0 t).mp h)) ((hcond0_1 t).mpr (by omega)) (iblk m c 0 t) (iblk m c 1 t) (iblk m c 2 t) (iblk m c 3 t) (iblk m c 4 t) (V m c main_v5) (V m c main_v6) (cast13 (V m c main_v5)) (cast2 (V m c main_v6))).2 W _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [HW]; · iexact HW
    iintro ⟨H0, H1, H2, H3, H4, ⟨%e5, H5⟩, HS0, HS1, HS2, HS3, HS4, Hq0, Hq1, Hq2, Hq3, Hq4, Hq5, Hq6, Hq7, Hq8, Hq9, Hq10, Hq11, Hh0, Hh1, ⟨%W', HW'⟩⟩
    isplitl [HS0 HS1 HS2 HS3 HS4 Hg Hq0 Hq1 Hq2 Hq3 Hq4 Hq5 Hq6 Hq7 Hq8 Hq9 Hq10 Hq11 Hh0 Hh1]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]; · iexact Hg
      isplitl [Hq0 Hq1 Hq2 Hq3 Hq4 Hq5 Hq6 Hq7 Hq8 Hq9 Hq10 Hq11]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        iexact Hq11
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    unfold owns; iexists _; isplitr; swap; · iexact H5
    ipureintro; exact runB_read c _ _ _ _ _ _ _ _ _ _ _ _ _ _ _ _ _ _ _ _ _ _ _ (iblk m c 0 t) (iblk m c 1 t) (iblk m c 2 t) (iblk m c 3 t) (iblk m c 4 t) _ _ (cast13 (V m c main_v5)) (cast2 (V m c main_v6)) _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is held before the first point, -/
theorem hin (c : Dev nD) : Pipeline.ΦD osem0 spec0 H0 (V m) c ⊢ (dats m 0 c).Φ 0 := .rfl

/-- and what is held after the last point gives it back, the scratch's contents forgotten. -/
theorem hout (c : Dev nD) : (dats m 0 c).Φ (Fin.last cfg0.N) ⊢ Pipeline.ΦD osem0 spec0 H0 (V m) c := by
  rw [show (dats m 0 c).Φ (Fin.last cfg0.N) = PhiS m c cfg0.N from rfl, PhiS_pos m c cfg0.N (by rw [show cfg0.N = 24 from N_0]; omega), PhiD0_eq]
  unfold PhiS
  iintro ⟨⟨HS0, HS1, HS2⟩, HR⟩
  isplitl [HS0 HS1 HS2]
  · isplitl [HS0]; · iexists _; iexact HS0
    isplitl [HS1]; · iexists _; iexact HS1
    iexact HS2
  iexact HR

/-! ## The run and the frame -/

-- `θ_run_frame_dma`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- For any values, from any memory with zero counters, every run ends with every array of the pipeline at what the
    proof data give and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => kept_args m (dats m) r h.1 c, h.2⟩) (run_main_quiescent m ρ)

end Cert.Kernel2Ideal.Ffn1

end
-- ==== Proof.Ffn1.Row.lean ====
/-
The output's block row by row, over the extended reals: each row is the layer's feed-forward step of the chosen input
block's row.
-/
module

public import proofs.«01_k».proof.Proof.Ffn1.Value
public import proofs.«01_k».proof.Proof.Ffn2.Row

@[expose] public section

set_option maxRecDepth 16384

noncomputable section

namespace Cert.Kernel2Ideal.Ffn1

open Cert.Kernel2Ideal Cert.Kernel2Ideal.Gen Cert.Common
open Idealize.ShloMosaic
open Cert.KernelIdeal.Ffn2 (ffnSum ffnSum_apply cast13 cast2)

/-- At the first eight points the first stream's block is the one taken, then the second's. -/
theorem chosen_coords {F : FTy → Type} [FloatOps F] (t : Fin cfg0.N) (xa xb : Vec F S512x1024 .f32) :
    chosen (grid0.coords t) xa xb = if t.val < 8 then xa else xb := by
  unfold chosen k0_pay64
  simp only [shapeCast_id]
  rw [(by decide +kernel : ∀ t : Fin grid0.N, Scalar.cmpi .slt (BitVec.ofNat 32 ((grid0.coords t) 0).val) 8#32 = if t.val < 8 then 1#1 else 0#1) t]
  split <;> rfl

/-- The modulated block, an element. -/
theorem modulated_apply (i : grid0.Coords) (xa xb : Vec Ideal S512x1024 .f32) (mo : Vec Ideal S1x9x1024 .f32) (nw : Vec Ideal S3x1024 .f32) (r : Fin 512) (l : Fin 1024) :
    modulated (F := Ideal) i xa xb mo nw (ix2 r l)
      = Common.modulated (fun k => chosen i xa xb (ix2 r k)) (fun k => nw (ix2 0 k)) (fun k => mo (ix3 0 0 k)) (fun k => mo (ix3 0 1 k)) l := by
  unfold modulated k0_pay65 chosen Common.modulated invRms
  generalize k0_pay64 i xa xb = x
  pointwise
  simp only [mul_assoc]

/-- The residual, an element. -/
theorem finish_apply (x s : Vec Ideal S512x1024 .f32) (g : Vec Ideal S1x1x1024 .f32) (r : Fin 512) (l : Fin 1024) :
    finish (F := Ideal) x s g (ix2 r l) = x (ix2 r l) + half * g (ix3 0 0 l) * s (ix2 r l) := by
  unfold finish
  pointwise

/-- The output's block, an element: the row's feed-forward step. -/
theorem block_apply (i : grid0.Coords) (xa xb : Vec Ideal S512x1024 .f32) (mo : Vec Ideal S1x9x1024 .f32) (nw : Vec Ideal S3x1024 .f32)
    (W13 : Vec Ideal S1024x5632 .f32) (W2 : Vec Ideal S2816x1024 .f32) (r : Fin 512) (l : Fin 1024) :
    block (F := Ideal) i xa xb mo nw (cast13 W13) (cast2 W2) (ix2 r l)
      = ffnRow (fun k => chosen i xa xb (ix2 r k)) (fun k => nw (ix2 0 k)) (fun k => mo (ix3 0 0 k)) (fun k => mo (ix3 0 1 k))
          (fun k => mo (ix3 0 2 k)) (fun k f => W13 (ix2 k f)) (fun f k => W2 (ix2 f k)) l := by
  unfold block
  rw [finish_apply]
  unfold ffnRow
  rw [ffnSum_apply]
  simp only [modulated_apply]
  unfold cast13 cast2
  generalize chosen i xa xb = x
  pointwise

end Cert.Kernel2Ideal.Ffn1

end
-- ==== Proof.Ffn1.Reference.lean ====
/-
The reference's result row by row, over the extended reals: each row is the layer's feed-forward step of the row of its
stream, with the modulation row of the row's stream. The parts that do not depend on the modulation rows' columns are the other
feed-forward reference's.
-/
module

public import proofs.«01_k».proof.Proof.Gen.Reference2Ideal.Run
public import proofs.«01_k».proof.Proof.Ffn2.Reference

@[expose] public section

set_option maxRecDepth 16384

noncomputable section

namespace Cert.Reference2Ideal.Ffn1

open Cert.Reference2Ideal Cert.Reference2Ideal.Gen Cert.Reference2Ideal.Value Cert.Common
open Idealize.ShloMosaic Idealize.ShloMosaic.TcCoe Idealize.SL.Sem

/-- What the feed-forward step makes of the row `x` with modulation row `b`. -/
def rowOf (x : Fin 1024 → EReal) (M : Vec Ideal S8x9216 .f32) (N : Vec Ideal S1x3x1024 .f32) (A : Vec Ideal S1x1024x5632 .f32)
    (B : Vec Ideal S1x2816x1024 .f32) (b : Fin 8) (l : Fin 1024) : EReal :=
  ffnRow x (fun k => N (ix3 0 0 k)) (fun k => M (ix2 b ⟨k.val, by omega⟩))
    (fun k => M (ix2 b ⟨1024 + k.val, by omega⟩)) (fun k => M (ix2 b ⟨2048 + k.val, by omega⟩))
    (fun k f => A (ix3 0 k f)) (fun f k => B (ix3 0 f k)) l

/-- The step of the first stream's row `n`, -/
def firstRow (X : Vec Ideal S16x256x1024 .f32) (M : Vec Ideal S8x9216 .f32) (N : Vec Ideal S1x3x1024 .f32) (A : Vec Ideal S1x1024x5632 .f32)
    (B : Vec Ideal S1x2816x1024 .f32) (n : Fin 4096) (l : Fin 1024) : EReal :=
  rowOf (fun k => X (ix3 ⟨n.val / 256, by omega⟩ ⟨n.val % 256, by omega⟩ k)) M N A B 0 l

/-- and of the second stream's. -/
def secondRow (X : Vec Ideal S4x2048x1024 .f32) (M : Vec Ideal S8x9216 .f32) (N : Vec Ideal S1x3x1024 .f32) (A : Vec Ideal S1x1024x5632 .f32)
    (B : Vec Ideal S1x2816x1024 .f32) (n : Fin 8192) (l : Fin 1024) : EReal :=
  rowOf (fun k => X (ix3 ⟨n.val / 2048, by omega⟩ ⟨n.val % 2048, by omega⟩ k)) M N A B ⟨1 + n.val / 2048, by omega⟩ l

/-- The whole result: the first stream's rows, then the second's. -/
def resultOf (X : Vec Ideal S16x256x1024 .f32) (Y : Vec Ideal S4x2048x1024 .f32) (M : Vec Ideal S8x9216 .f32) (N : Vec Ideal S1x3x1024 .f32)
    (A : Vec Ideal S1x1024x5632 .f32) (B : Vec Ideal S1x2816x1024 .f32) (i : S12288x1024.Idx) : EReal :=
  if h : (i 0).val < 4096 then firstRow X M N A B ⟨(i 0).val, h⟩ (i 1)
  else secondRow Y M N A B ⟨(i 0).val - 4096, by have : (i 0).val < 12288 := (i 0).isLt; omega⟩ (i 1)

/-! ## The first stream's rows -/

namespace First

open Cert.ReferenceIdeal.Ffn2.First (scaled scaled_apply mods mods_apply products products_apply units units_apply merge_apply)

section
variable {F : FTy → Type} [FloatOps F]

/-- The normalized, modulated rows. -/
def hidden (x : FVec F S16x256x1024 .f32) (mo : FVec F S1x1x9216 .f32) (N : Vec F S1x3x1024 .f32) : FVec F S16x256x1024 .f32 :=
  addf (mulf (mulf (scaled x) (broadcastInDim S16x256x1024 ![0, 1, 2] bcast_S1x1x1024_S16x256x1024_0_1_2 (broadcastInDim S1x1x1024 ![2] bcast_S1024_S1x1x1024_2 (shapeCast _ (extractStridedSlice S1x1024 ![0, 0] (shapeCast _ N shapeCasts_S1x3x1024_S3x1024) slices_S3x1024_S1x1024_0_0) shapeCasts_S1x1024_S1024)))) (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 0, 1024] mo slices_S1x1x9216_S1x1x1024_0_0_1024)))) (broadcastInDim S16x256x1024 ![0, 1, 2] bcast_S1x1x1024_S16x256x1024_0_1_2 (extractStridedSlice S1x1x1024 ![0, 0, 0] mo slices_S1x1x9216_S1x1x1024_0_0_0))

/-- The half-step residual of the units' product. -/
def stepped (x : FVec F S16x256x1024 .f32) (mo : FVec F S1x1x9216 .f32) (a : FVec F S16x256x2816 .f32) (B : Vec F S1x2816x1024 .f32) : FVec F S16x256x1024 .f32 :=
  addf x (mulf (broadcastInDim S16x256x1024 ![0, 1, 2] bcast_S1x1x1024_S16x256x1024_0_1_2 (mulf (broadcastInDim S1x1x1024 ![] bcast_S_S1x1x1024 (constant S_ .f32 0x3F000000#32)) (extractStridedSlice S1x1x1024 ![0, 0, 2048] mo slices_S1x1x9216_S1x1x1024_0_0_2048))) (Host.dotGeneral dot_S16x256x2816_S2816x1024_S16x256x1024_2_0_01_1_n_n none a (shapeCast _ B shapeCasts_S1x2816x1024_S2816x1024)))

/-- The stream's rows of the result. -/
def rows (X : Vec F S16x256x1024 .f32) (M : Vec F S8x9216 .f32) (N : Vec F S1x3x1024 .f32) (A : Vec F S1x1024x5632 .f32) (B : Vec F S1x2816x1024 .f32) : FVec F S4096x1024 .f32 :=
  shapeCast _ (stepped X (mods M) (units (products (hidden X (mods M) N) A)) B) shapeCasts_S16x256x1024_S4096x1024

end

theorem hidden_apply (x : FVec Ideal S16x256x1024 .f32) (mo : FVec Ideal S1x1x9216 .f32) (N : Vec Ideal S1x3x1024 .f32) (p : Fin 16) (q : Fin 256) (l : Fin 1024) :
    hidden (F := Ideal) x mo N (ix3 p q l)
      = Common.modulated (fun k => x (ix3 p q k)) (fun k => N (ix3 0 0 k)) (fun k => mo (ix3 0 0 ⟨k.val, by omega⟩)) (fun k => mo (ix3 0 0 ⟨1024 + k.val, by omega⟩)) l := by
  unfold hidden Common.modulated
  rw [← scaled_apply]
  pointwise

theorem stepped_apply (x : FVec Ideal S16x256x1024 .f32) (mo : FVec Ideal S1x1x9216 .f32) (a : FVec Ideal S16x256x2816 .f32) (B : Vec Ideal S1x2816x1024 .f32) (p : Fin 16) (q : Fin 256) (l : Fin 1024) :
    stepped (F := Ideal) x mo a B (ix3 p q l)
      = x (ix3 p q l) + half * mo (ix3 0 0 ⟨2048 + l.val, by omega⟩) * ∑ f : Fin 2816, a (ix3 p q f) * B (ix3 0 f l) := by
  unfold stepped
  pointwise

/-- Each is the feed-forward step of the stream's row. -/
theorem rows_apply (X : Vec Ideal S16x256x1024 .f32) (M : Vec Ideal S8x9216 .f32) (N : Vec Ideal S1x3x1024 .f32) (A : Vec Ideal S1x1024x5632 .f32)
    (B : Vec Ideal S1x2816x1024 .f32) (n : Fin 4096) (l : Fin 1024) :
    rows (F := Ideal) X M N A B (ix2 n l) = firstRow X M N A B n l := by
  unfold rows
  rw [merge_apply]
  unfold firstRow rowOf ffnRow feed
  simp only [stepped_apply, units_apply, products_apply, hidden_apply, mods_apply]

end First

/-! ## The second stream's rows -/

namespace Second

open Cert.ReferenceIdeal.Ffn2.Second (scaled scaled_apply mods mods_apply products products_apply units units_apply merge_apply)

section
variable {F : FTy → Type} [FloatOps F]

/-- The normalized, modulated rows. -/
def hidden (x : FVec F S4x2048x1024 .f32) (mo : FVec F S4x1x9216 .f32) (N : Vec F S1x3x1024 .f32) : FVec F S4x2048x1024 .f32 :=
  addf (mulf (mulf (scaled x) (broadcastInDim S4x2048x1024 ![0, 1, 2] bcast_S1x1x1024_S4x2048x1024_0_1_2 (broadcastInDim S1x1x1024 ![2] bcast_S1024_S1x1x1024_2 (shapeCast _ (extractStridedSlice S1x1024 ![0, 0] (shapeCast _ N shapeCasts_S1x3x1024_S3x1024) slices_S3x1024_S1x1024_0_0) shapeCasts_S1x1024_S1024)))) (broadcastInDim S4x2048x1024 ![0, 1, 2] bcast_S4x1x1024_S4x2048x1024_0_1_2 (addf (broadcastInDim S4x1x1024 ![] bcast_S_S4x1x1024 (constant S_ .f32 0x3F800000#32)) (extractStridedSlice S4x1x1024 ![0, 0, 1024] mo slices_S4x1x9216_S4x1x1024_0_0_1024)))) (broadcastInDim S4x2048x1024 ![0, 1, 2] bcast_S4x1x1024_S4x2048x1024_0_1_2 (extractStridedSlice S4x1x1024 ![0, 0, 0] mo slices_S4x1x9216_S4x1x1024_0_0_0))

/-- The half-step residual of the units' product. -/
def stepped (x : FVec F S4x2048x1024 .f32) (mo : FVec F S4x1x9216 .f32) (a : FVec F S4x2048x2816 .f32) (B : Vec F S1x2816x1024 .f32) : FVec F S4x2048x1024 .f32 :=
  addf x (mulf (broadcastInDim S4x2048x1024 ![0, 1, 2] bcast_S4x1x1024_S4x2048x1024_0_1_2 (mulf (broadcastInDim S4x1x1024 ![] bcast_S_S4x1x1024 (constant S_ .f32 0x3F000000#32)) (extractStridedSlice S4x1x1024 ![0, 0, 2048] mo slices_S4x1x9216_S4x1x1024_0_0_2048))) (Host.dotGeneral dot_S4x2048x2816_S2816x1024_S4x2048x1024_2_0_01_1_n_n none a (shapeCast _ B shapeCasts_S1x2816x1024_S2816x1024)))

/-- The stream's rows of the result. -/
def rows (X : Vec F S4x2048x1024 .f32) (M : Vec F S8x9216 .f32) (N : Vec F S1x3x1024 .f32) (A : Vec F S1x1024x5632 .f32) (B : Vec F S1x2816x1024 .f32) : FVec F S8192x1024 .f32 :=
  shapeCast _ (stepped X (mods M) (units (products (hidden X (mods M) N) A)) B) shapeCasts_S4x2048x1024_S8192x1024

end

theorem hidden_apply (x : FVec Ideal S4x2048x1024 .f32) (mo : FVec Ideal S4x1x9216 .f32) (N : Vec Ideal S1x3x1024 .f32) (p : Fin 4) (q : Fin 2048) (l : Fin 1024) :
    hidden (F := Ideal) x mo N (ix3 p q l)
      = Common.modulated (fun k => x (ix3 p q k)) (fun k => N (ix3 0 0 k)) (fun k => mo (ix3 p 0 ⟨k.val, by omega⟩)) (fun k => mo (ix3 p 0 ⟨1024 + k.val, by omega⟩)) l := by
  unfold hidden Common.modulated
  rw [← scaled_apply]
  pointwise

theorem stepped_apply (x : FVec Ideal S4x2048x1024 .f32) (mo : FVec Ideal S4x1x9216 .f32) (a : FVec Ideal S4x2048x2816 .f32) (B : Vec Ideal S1x2816x1024 .f32) (p : Fin 4) (q : Fin 2048) (l : Fin 1024) :
    stepped (F := Ideal) x mo a B (ix3 p q l)
      = x (ix3 p q l) + half * mo (ix3 p 0 ⟨2048 + l.val, by omega⟩) * ∑ f : Fin 2816, a (ix3 p q f) * B (ix3 0 f l) := by
  unfold stepped
  pointwise

/-- Each is the feed-forward step of the stream's row. -/
theorem rows_apply (X : Vec Ideal S4x2048x1024 .f32) (M : Vec Ideal S8x9216 .f32) (N : Vec Ideal S1x3x1024 .f32) (A : Vec Ideal S1x1024x5632 .f32)
    (B : Vec Ideal S1x2816x1024 .f32) (n : Fin 8192) (l : Fin 1024) :
    rows (F := Ideal) X M N A B (ix2 n l) = secondRow X M N A B n l := by
  unfold rows
  rw [merge_apply]
  unfold secondRow rowOf ffnRow feed
  simp only [stepped_apply, units_apply, products_apply, hidden_apply, mods_apply]

end Second

/-! ## The result -/

/-- The result is the two streams' rows, one after the other. -/
theorem result_eq {F : FTy → Type} [FloatOps F] (m : (ℓ : Loc nD τ sig) → Buf (Elt F) ℓ) (c : Dev nD) :
    res_main_v94 m c = concatenate S12288x1024 0
      [⟨S4096x1024, First.rows (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5))⟩,
        ⟨S8192x1024, Second.rows (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))⟩] concatenates_S4096x1024_S8192x1024_S12288x1024_d0 := by
  unfold res_main_v94
  rfl

/-- Two blocks of rows one after the other, a row. -/
theorem stacked_apply (x : Vec Ideal S4096x1024 .f32) (y : Vec Ideal S8192x1024 .f32) (n : Fin 12288) (l : Fin 1024) :
    concatenate S12288x1024 0 [⟨S4096x1024, x⟩, ⟨S8192x1024, y⟩] concatenates_S4096x1024_S8192x1024_S12288x1024_d0 (ix2 n l)
      = if h : n.val < 4096 then x (ix2 ⟨n.val, h⟩ l) else y (ix2 ⟨n.val - 4096, by omega⟩ l) := by
  pointwise

/-- The reference's result, from the arguments. -/
theorem result (m : (ℓ : Loc nD τ sig) → Buf (Elt Ideal) ℓ) (c : Dev nD) :
    res_main_v94 m c = resultOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rw [result_eq]
  funext i
  have e : i = ix2 (i 0) (i 1) := by idx_ext
  refine (congrArg _ e).trans ((stacked_apply _ _ (i 0) (i 1)).trans ?_)
  unfold resultOf
  split
  · exact First.rows_apply _ _ _ _ _ _ _
  · exact Second.rows_apply _ _ _ _ _ _ _

end Cert.Reference2Ideal.Ffn1

end
-- ==== Proof.Ffn1.Blocks.lean ====
/-
The kernel's result row by row, over the extended reals: the blocks the launch reads and writes are rows of the arrays,
so each result row is the layer's feed-forward step of its stream's row.
-/
module

public import proofs.«01_k».proof.Proof.Ffn1.Frame
public import proofs.«01_k».proof.Proof.Ffn1.Row
public import proofs.«01_k».proof.Proof.Ffn1.Reference
public import proofs.«01_k».proof.Proof.Ffn2.Blocks
public import Idealize.ShloMosaic.Lib.Pipeline.ValueKit

@[expose] public section

set_option maxRecDepth 16384

noncomputable section

namespace Cert.Kernel2Ideal.Ffn1

open Cert.Kernel2Ideal Cert.Kernel2Ideal.Gen Cert.Common
open Idealize.ShloMosaic Idealize.ShloMosaic.TcCoe Idealize.SL Idealize.SL.Sem
open Cert.Reference2Ideal.Ffn1 (rowOf firstRow secondRow resultOf)
open Cert.KernelIdeal.Ffn2 (split_apply norms_apply matrix13_apply matrix2_apply)

/-! ## What the host operations before the launch leave -/

section
variable {F : FTy → Type} [FloatOps F] (m : (ℓ : Loc nD τ sig) → Buf (Elt F) ℓ) (c : Dev nD)

/-- The modulation rows, their nine parts apart. -/
theorem V_main_v0 : V m c main_v0 = shapeCast S8x9x1024 (m ((c : Thread nD τ).loc main_arg2)) shapeCasts_S8x9216_S8x9x1024 := by
  simp only [V, hostOps0]; after_results_simp <;> rfl
/-- The norm weights, without the leading axis. -/
theorem V_main_v1 : V m c main_v1 = shapeCast S3x1024 (m ((c : Thread nD τ).loc main_arg3)) shapeCasts_S1x3x1024_S3x1024 := by
  simp only [V, hostOps0]; after_results_simp <;> rfl
/-- The first stream's rows, batches one after the other. -/
theorem V_main_v3 : V m c main_v3 = shapeCast S4096x1024 (m ((c : Thread nD τ).loc main_arg0)) shapeCasts_S16x256x1024_S4096x1024 := by
  simp only [V, hostOps0]; after_results_simp <;> rfl
/-- The second stream's. -/
theorem V_main_v4 : V m c main_v4 = shapeCast S8192x1024 (m ((c : Thread nD τ).loc main_arg1)) shapeCasts_S4x2048x1024_S8192x1024 := by
  simp only [V, hostOps0]; after_results_simp <;> rfl
/-- The first matrix, without the leading axis. -/
theorem V_main_v5 : V m c main_v5 = shapeCast S1024x5632 (m ((c : Thread nD τ).loc main_arg4)) shapeCasts_S1x1024x5632_S1024x5632 := by
  simp only [V, hostOps0]; after_results_simp <;> rfl
/-- The second matrix, without the leading axis. -/
theorem V_main_v6 : V m c main_v6 = shapeCast S2816x1024 (m ((c : Thread nD τ).loc main_arg5)) shapeCasts_S1x2816x1024_S2816x1024 := by
  simp only [V, hostOps0]; after_results_simp <;> rfl
end

/-! ## The windows' blocks as parts of the arrays -/

/-- The modulation row point `t` reads: the first for the first stream's eight points, then one for every four. -/
def modRow (t : Fin cfg0.N) : Fin 8 := ⟨if t.val < 8 then 0 else 1 + (t.val - 8) / 4, by have := t.isLt; have : cfg0.N = 24 := rfl; split <;> omega⟩

theorem index0 : ∀ t : Fin cfg0.N, win0_0.index t = ![min t.val 7, 0] := (by decide +kernel : ∀ t : Fin grid0.N, _)
theorem index1 : ∀ t : Fin cfg0.N, win0_1.index t = ![t.val - 8, 0] := (by decide +kernel : ∀ t : Fin grid0.N, _)
theorem index2 : ∀ t : Fin cfg0.N, win0_2.index t = ![(modRow t).val, 0, 0] := (by decide +kernel : ∀ t : Fin grid0.N, _)
theorem index3 : ∀ t : Fin cfg0.N, win0_3.index t = ![0, 0] := (by decide +kernel : ∀ t : Fin grid0.N, _)
theorem index5 : ∀ t : Fin cfg0.N, win0_5.index t = ![t.val, 0] := (by decide +kernel : ∀ t : Fin grid0.N, _)

/-- A row's step depends on its operands' entries only. -/
theorem row_congr {x x' w w' sh sh' sc sc' g g' : Fin 1024 → EReal} {A A' : Fin 1024 → Fin 5632 → EReal} {B B' : Fin 2816 → Fin 1024 → EReal}
    (hx : ∀ k, x k = x' k) (hw : ∀ k, w k = w' k) (hsh : ∀ k, sh k = sh' k) (hsc : ∀ k, sc k = sc' k) (hg : ∀ k, g k = g' k)
    (hA : ∀ k f, A k f = A' k f) (hB : ∀ f k, B f k = B' f k) (l : Fin 1024) :
    ffnRow x w sh sc g A B l = ffnRow x' w' sh' sc' g' A' B' l := by
  obtain rfl : x = x' := funext hx
  obtain rfl : w = w' := funext hw
  obtain rfl : sh = sh' := funext hsh
  obtain rfl : sc = sc' := funext hsc
  obtain rfl : g = g' := funext hg
  obtain rfl : A = A' := funext fun k => funext (hA k)
  obtain rfl : B = B' := funext fun f => funext (hB f)
  rfl

section
variable (m : (ℓ : Loc nD τ sig) → Buf (Elt Ideal) ℓ) (c : Dev nD)

/-- A point `t` before the eighth finds rows `512 t` to `512 t + 511` of the first stream. -/
theorem iblk0_apply (t : Fin cfg0.N) (h8 : t.val < 8) (r : Fin 512) (k : Fin 1024) (n : Fin 4096) (hn : n.val = 512 * t.val + r.val) :
    iblk m c 0 t (ix2 r k) = m ((c : Thread nD τ).loc main_arg0) (ix3 ⟨n.val / 256, by omega⟩ ⟨n.val % 256, by omega⟩ k) := by
  have e : (((cfg0.win 0).blk t).view.emb (ix2 r k) : S4096x1024.Idx) = ix2 n k := by blk_ext [index0 t]
  show V m c main_v3 _ = _
  rw [V_main_v3]
  exact (congrArg _ e).trans (Cert.ReferenceIdeal.Ffn2.First.merge_apply _ _ _)

/-- A point `t` from the eighth on finds rows `512 (t - 8)` to `512 (t - 8) + 511` of the second. -/
theorem iblk1_apply (t : Fin cfg0.N) (h8 : 8 ≤ t.val) (r : Fin 512) (k : Fin 1024) (n : Fin 8192) (hn : n.val + 4096 = 512 * t.val + r.val) :
    iblk m c 1 t (ix2 r k) = m ((c : Thread nD τ).loc main_arg1) (ix3 ⟨n.val / 2048, by omega⟩ ⟨n.val % 2048, by omega⟩ k) := by
  have e : (((cfg0.win 1).blk t).view.emb (ix2 r k) : S8192x1024.Idx) = ix2 n k := by blk_ext [index1 t]
  show V m c main_v4 _ = _
  rw [V_main_v4]
  exact (congrArg _ e).trans (Cert.ReferenceIdeal.Ffn2.Second.merge_apply _ _ _)

/-- Its modulation row is row `modRow t`; part `j` of it starts at column `1024 j`. -/
theorem iblk2_apply (t : Fin cfg0.N) (j : Fin 9) (k : Fin 1024) (p : Fin 9216) (hp : p.val = 1024 * j.val + k.val) :
    iblk m c 2 t (ix3 0 j k) = m ((c : Thread nD τ).loc main_arg2) (ix2 (modRow t) p) := by
  have e : (((cfg0.win 2).blk t).view.emb (ix3 0 j k) : S8x9x1024.Idx) = ix3 (modRow t) j k := by blk_ext [index2 t]
  show V m c main_v0 _ = _
  rw [V_main_v0]
  exact (congrArg _ e).trans ((split_apply _ _ _ _).trans (congrArg _ (congrArg (ix2 (modRow t)) (Fin.ext hp.symm))))

/-- Its norm weights are the input's. -/
theorem iblk3_apply (t : Fin cfg0.N) (j : Fin 3) (k : Fin 1024) :
    iblk m c 3 t (ix2 j k) = m ((c : Thread nD τ).loc main_arg3) (ix3 0 j k) := by
  have e : (((cfg0.win 3).blk t).view.emb (ix2 j k) : S3x1024.Idx) = ix2 j k := by blk_ext [index3 t]
  show V m c main_v1 _ = _
  rw [V_main_v1]
  exact (congrArg _ e).trans (norms_apply _ _ _)

/-- The matrices are the input's. -/
theorem V5_apply (k : Fin 1024) (f : Fin 5632) : V m c main_v5 (ix2 k f) = m ((c : Thread nD τ).loc main_arg4) (ix3 0 k f) := by
  rw [V_main_v5]
  exact matrix13_apply _ _ _
theorem V6_apply (f : Fin 2816) (k : Fin 1024) : V m c main_v6 (ix2 f k) = m ((c : Thread nD τ).loc main_arg5) (ix3 0 f k) := by
  rw [V_main_v6]
  exact matrix2_apply _ _ _

/-- Row `r` of what point `t` computes is the step of the row its chosen input holds. -/
theorem blk_apply (t : Fin cfg0.N) (r : Fin 512) (l : Fin 1024) (x : Fin 1024 → EReal) (b : Fin 8) (hb : modRow t = b)
    (hx : ∀ k, chosen (grid0.coords t) (iblk m c 0 t) (iblk m c 1 t) (ix2 r k) = x k) :
    blk m c t (ix2 r l) = rowOf x (m ((c : Thread nD τ).loc main_arg2)) (m ((c : Thread nD τ).loc main_arg3)) (m ((c : Thread nD τ).loc main_arg4)) (m ((c : Thread nD τ).loc main_arg5)) b l := by
  subst hb
  unfold blk rowOf
  exact (block_apply _ _ _ _ _ _ _ r l).trans (row_congr hx (fun k => iblk3_apply m c t 0 k)
    (fun k => iblk2_apply m c t 0 k _ (by show k.val = 1024 * 0 + k.val; omega)) (fun k => iblk2_apply m c t 1 k _ rfl)
    (fun k => iblk2_apply m c t 2 k _ rfl) (fun k f => V5_apply m c k f) (fun f k => V6_apply m c f k) l)

/-- So a point before the eighth computes rows of the first stream's part, -/
theorem blk_first (t : Fin cfg0.N) (h8 : t.val < 8) (r : Fin 512) (l : Fin 1024) (n : Fin 4096) (hn : n.val = 512 * t.val + r.val) :
    blk m c t (ix2 r l) = firstRow (m ((c : Thread nD τ).loc main_arg0)) (m ((c : Thread nD τ).loc main_arg2)) (m ((c : Thread nD τ).loc main_arg3)) (m ((c : Thread nD τ).loc main_arg4)) (m ((c : Thread nD τ).loc main_arg5)) n l :=
  blk_apply m c t r l _ 0 (Fin.ext (if_pos h8)) fun k => by
    rw [chosen_coords, if_pos h8]
    exact iblk0_apply m c t h8 r k n hn

/-- and one from the eighth on rows of the second's. -/
theorem blk_second (t : Fin cfg0.N) (h8 : 8 ≤ t.val) (r : Fin 512) (l : Fin 1024) (n : Fin 8192) (hn : n.val + 4096 = 512 * t.val + r.val) :
    blk m c t (ix2 r l) = secondRow (m ((c : Thread nD τ).loc main_arg1)) (m ((c : Thread nD τ).loc main_arg2)) (m ((c : Thread nD τ).loc main_arg3)) (m ((c : Thread nD τ).loc main_arg4)) (m ((c : Thread nD τ).loc main_arg5)) n l :=
  blk_apply m c t r l _ _ (Fin.ext ((if_neg (by omega)).trans (by show 1 + (t.val - 8) / 4 = 1 + n.val / 2048; omega))) fun k => by
    rw [chosen_coords, if_neg (by omega)]
    exact iblk1_apply m c t h8 r k n hn

/-- What point `t` computes is rows `512 t` to `512 t + 511` of the result. -/
theorem blk_at (t : Fin cfg0.N) (y : S512x1024.Idx) (i : S12288x1024.Idx) (hn : (i 0).val = 512 * t.val + (y 0).val) (hl : (i 1).val = (y 1).val) :
    blk m c t y = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  have e : y = ix2 (y 0) (i 1) := by idx_ext
  have hy : (y 0).val < 512 := (y 0).isLt
  refine (congrArg (blk m c t) e).trans ?_
  unfold resultOf
  split
  · exact blk_first m c t (by omega) (y 0) (i 1) _ hn
  · exact blk_second m c t (by omega) (y 0) (i 1) _ (by show (i 0).val - 4096 + 4096 = _; omega)

/-- The result: every row is the step of its stream's row. -/
theorem result_eq : (dats m 0 c).arrAt 5 cfg0.N =
    resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t hf y => ?_
  blk_simp
  rw [after0_5]
  refine blk_at m c t y _ ?_ ?_
  · blk_simp [index5 t]
    show t.val * 512 + (y 0).val = 512 * t.val + (y 0).val
    omega
  · blk_simp [index5 t]

end

end Cert.Kernel2Ideal.Ffn1

end
-- ==== Proof.Proj.Setup.lean ====
/-
What the runs of the kernel's body share: the windows' staging buffers at their blocks, the arguments after a run, the body's
branch conditions in closed form over the grid's points, the staging and scratch buffers, and what is held beside the windows.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Ring.AtN
public import Idealize.ShloMosaic.Lib.Tactic
public import Idealize.ShloMosaic.Lib.WordCmp
public import proofs.«01_k».proof.Proof.Gen.Kernel3Ideal.Frame

@[expose] public section

-- membership in a rectangle of production extents (`View.cover_of_tiled`): the elaborator's structural look
-- recurses once per coordinate of the long axes
set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region, and the inputs' buffers -/

set_option maxHeartbeats 800000 in
/-- The program up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's staging buffer holds its block at every point, for any proof data over the arrays the region finds
    whose body leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over the arrays the region finds
    whose body leaves the block in place. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over the arrays the region finds
    whose body leaves the block in place. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data over the arrays the region finds
    whose body leaves the block in place. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data over the arrays the region finds
    whose body leaves the block in place. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data over the arrays the region finds
    whose body leaves the block in place. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- After a run that ends as the pipeline's proof data say, the argument arrays are as launched: two are staged inputs, and no
    window stages the others. -/
theorem kept_args (dats : (p : Fin 1) → (c : Dev nD) → Dat τ (Elt F) Unit ℕ (Pipeline.UD sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c)⟩

/-! ## The body's branch condition -/

/-- The branch's condition, from the grid coordinates. -/
abbrev cond0_0 (i : grid0.Coords) : Prop := k0_cond1 i = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- No window is idle at any point: both outputs are written at every one. -/
theorem live : ∀ (w : Fin 8) (t : Fin cfg0.N), cfg0.idle w (grid0.coords t) = false :=
  fun _ _ => rfl

/-! ## The staging and scratch buffers -/

/-- Each window's staging buffer at point `t`, as the pipeline passes it, and that it is a whole buffer. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x9x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x2x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x8192 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .f32 := win0_7.stage (cfg0.slots t 7)
abbrev hs0_7 (t : Fin cfg0.N) : (ms0_7 t).IsWhole := hstage0_7 ((cfg0.slots t 7).cast nbuf0_7)
/-- The weights' scratch and the staging slots: whole scoped buffers of the kernel's own, passed beside the windows. -/
abbrev scM0_0 : Memref sig .tc .vmem S1024x10240 .bf16 := Memref.whole cc0_scratch0
abbrev scM0_1 : Memref sig .tc .vmem S4x16x10240 .f32 := Memref.whole cc0_scoped0
/-- The operand left in HBM that the body copies into scratch itself, whole. -/
abbrev hbM0_0 : Memref sig .tc .hbm S1024x10240 .f32 := Memref.whole main_v2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 14, SemLoc.dma 15, SemLoc.dma 16, SemLoc.dma 17] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c osem0 [0, 1, 2, 3] (by decide) (by decide)]; rfl
/-- The HBM operand the body moves, as a reference: unscoped, no window's array (`Pipeline.restRefs`). -/
def H0 : Finset (Ref sig .tc) := {main_v2}
theorem H0_sub : H0 ⊆ Pipeline.restRefs sig spec0 := by decide
/-- Its points-to at the launch contents. -/
theorem hbmPts0_eq (c : Dev nD) :
    (bigSep H0 (fun b => ((c : Thread nD τ).loc b) ↦{fullShare} V m c b) : sProp 𝕄) = hbPt0 c hbM0_0 (V m c main_v2) := by
  rw [BI.bigSep_eq_bigSepL_of_eq [main_v2] (by decide) (by decide)]; rfl

/-- What is held beside the windows, conjunct by conjunct: the scratch operands owned at some contents, the generator
    register at some state, the own cells at zero, the HBM operand at its launch contents — what the body obligation hands
    the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ hbPt0 c hbM0_0 (V m c main_v2)) := by
  rw [Pipeline.ΦD_eq, scopedRest0_eq, ownSems00_eq, hbmPts0_eq]; simp only [scM0_0, scM0_1, owns_whole]; try rfl

end Cert.Kernel3Ideal.Proj

end
-- ==== Proof.Proj.RunB.lean ====
/-
The kernel's body at a grid point after the first.
-/
module

public import proofs.«01_k».proof.Proof.Proj.Setup

@[expose] public section

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's term is large)
set_option maxHeartbeats 3200000 in
/-- A later grid point: the body finds the rounded weights in the scratch and computes both outputs' blocks from them. The two
    witnesses are what its stores leave in the outputs' buffers, last first; everything else is handed back as it was. The
    weights' array, the staging slots and their semaphores aren't touched. -/
noncomputable def runB (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S3x1024 .f32) (harg3 : arg3.IsWhole) (arg4 : Memref sig .tc .vmem S2x2x1024 .f32) (harg4 : arg4.IsWhole) (arg5 : Memref sig .tc .hbm S1024x10240 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x8192 .bf16) (harg8 : arg8.IsWhole) (arg9 : Memref sig .tc .vmem S512x2048 .f32) (harg9 : arg9.IsWhole) (arg10 : Memref sig .tc .vmem S1024x10240 .bf16) (harg10 : arg10.IsWhole) (alloca_r0 : Memref sig .tc .vmem S4x16x10240 .f32) (halloca_r0 : alloca_r0.IsWhole) (v673_r0 : DmaSems sig S4) (hc0 : ¬cond0_0 i)
    (x0 : Vec F S512x1024 .f32) (x1 : Vec F S1x9x1024 .f32) (x2 : Vec F S3x1024 .f32) (x3 : Vec F S2x2x1024 .f32) (x4 x5 : Vec F S512x128 .f32) (xs : Vec F S1024x10240 .bf16) :
    Σ' (L : List (View.Piece (Elt F) S512x8192 .bf16)), { LG : List (View.Piece (Elt F) S512x2048 .f32) //
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ (∃ f, arg9.view.loc (c : Thread nD τ) ↦[arg9.view.set]{fullShare} arg9.view.writes (Elt F) f LG) ∗ owns (c : Thread nD τ) arg10 fullShare xs) -∗ K ⟨⟩))
          ⊢ wp frame (wpE (defs₀ (F := F)) Variants.none c none) Set.univ (cc0_proj i arg1 harg1 arg2 harg2 arg3 harg3 arg4 harg4 arg5 harg5 arg6 harg6 arg7 harg7 arg8 harg8 arg9 harg9 arg10 harg10 alloca_r0 halloca_r0 v673_r0) K } := by
  refine ⟨?_, ?_, fun K => ?run⟩
  case run =>
    simp only [cc0_proj_eq_skeleton]; unfold cc0_proj_skel
    simp only [k0_part20_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%fH1, %eH1, H1⟩, ⟨%fH2, %eH2, H2⟩, ⟨%fH3, %eH3, H3⟩, ⟨%fH4, %eH4, H4⟩, ⟨%fH6, %eH6, H6⟩, ⟨%fH7, %eH7, H7⟩, ⟨%dH8, %fH8, -, H8⟩, ⟨%dH9, %fH9, -, H9⟩, ⟨%fH10, %eH10, H10⟩, Hk⟩
    obtain rfl := harg1.eq_unread eH1; obtain rfl := harg2.eq_unread eH2; obtain rfl := harg3.eq_unread eH3; obtain rfl := harg4.eq_unread eH4; obtain rfl := harg6.eq_unread eH6; obtain rfl := harg7.eq_unread eH7; obtain rfl := harg10.eq_unread eH10
    sl_exec (disch := sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    iexists _; isplitr; · ipureintro; exact harg10.read_unread _
    iexact H10

end Cert.Kernel3Ideal.Proj

end
-- ==== Proof.Proj.Closed.lean ====
/-
What a later point leaves, in closed form. The block of the first output is thirty-two tiles of 256 columns, the block of the
gates' logarithms eight; each tile is a function of the normalized rows and of 256 columns of the rounded weights.
-/
module

public import proofs.«01_k».proof.Proof.Proj.RunB
public import proofs.«01_k».proof.Proof.Common.Slots
public import proofs.«01_k».proof.Proof.Ffn2.Value
public import Idealize.ShloMosaic.Lib.VecWindow
public import Idealize.ShloMosaic.Lib.WholeRead
public import Idealize.ShloMosaic.Lib.Pointwise
public import Idealize.ShloMosaic.Lib.Pipeline.Value

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic

open Cert.KernelIdeal.Ffn2 (ld_all2)

variable {F : FTy → Type} [FloatOps F]

/-- The normalized and modulated rows, rounded. -/
def hB (x0 : Vec F S512x1024 .f32) (x1 : Vec F S1x9x1024 .f32) (x2 : Vec F S3x1024 .f32) : FVec F S512x1024 .bf16 :=
  k0_pay4 x0 (View.ld x2 (Rect.unit (s := S3x1024) ![1, 0] S1x1024.size inb_S3x1024_S1x1024_1_0))
    (View.ld x1 (Rect.unit (s := S1x9x1024) ![0, 3, 0] S1x1x1024.size inb_S1x9x1024_S1x1x1024_0_3_0))
    (View.ld x1 (Rect.unit (s := S1x9x1024) ![0, 4, 0] S1x1x1024.size inb_S1x9x1024_S1x1x1024_0_4_0))

/-- Tile `k` of the first output, of the rows, the tile's columns of the weights and the two rotary tables: the rotated
    queries and keys of the retention, its values, its gate, the queries of the other mixer, its inputs, its gate, and the
    two mixing gates. -/
def actsTile (k : ℕ) (h : FVec F S512x1024 .bf16) (w : Vec F S1024x256 .bf16) (co si : Vec F S512x128 .f32) :
    Vec F S512x256 .bf16 :=
  if k < 2 then k0_pay27 h k0_pay5 w co si co si
  else if k < 4 then k0_pay29 k0_pay5 (k0_pay28 h w) co si co si
  else if k < 8 then k0_pay15 h w
  else if k < 12 then k0_pay16 h w
  else if k < 16 then k0_pay17 h w
  else if k < 20 then k0_pay15 h w
  else if k < 24 then k0_pay16 h w
  else k0_pay24 h w

/-- The first output's columns `[256 k, 256 k + 256)` come from the weights' columns `[actsCol k, actsCol k + 256)`. -/
def actsCol (k : ℕ) : ℕ := 256 * k + 2048 * (k / 16)

theorem actsCol_inb {k : ℕ} (hk : k < 32) : ∀ a : Fin 2, (![0, actsCol k] : Fin 2 → ℕ) a + S1024x256.size a ≤ S1024x10240.size a :=
  Fin.forall_fin_two.mpr ⟨Nat.le_refl 1024, show actsCol k + 256 ≤ 10240 by unfold actsCol; omega⟩

/-- The 256 columns of the weights that tile `k` reads. -/
def actsW (xs : Vec F S1024x10240 .bf16) (k : ℕ) (hk : k < 32) : Vec F S1024x256 .bf16 :=
  View.ld xs (Rect.unit (s := S1024x10240) ![0, actsCol k] S1024x256.size (actsCol_inb hk))

theorem gateW_inb {k : ℕ} (hk : k < 8) : ∀ a : Fin 2, (![0, 4096 + 256 * k] : Fin 2 → ℕ) a + S1024x256.size a ≤ S1024x10240.size a :=
  Fin.forall_fin_two.mpr ⟨Nat.le_refl 1024, show 4096 + 256 * k + 256 ≤ 10240 by omega⟩

theorem gateL_inb {k : ℕ} (hk : k < 8) : ∀ a : Fin 3, (![k / 4, 0, 256 * (k % 4)] : Fin 3 → ℕ) a + S1x2x256.size a ≤ S2x2x1024.size a := by
  intro a
  match a with
  | 0 => show k / 4 + 1 ≤ 2; omega
  | 1 => exact Nat.le_refl 2
  | 2 => show 256 * (k % 4) + 256 ≤ 1024; omega

/-- The 256 columns of the weights, and of the lower bounds' logits of one direction, that tile `k` of the second output
    reads. -/
def gateW (xs : Vec F S1024x10240 .bf16) (k : ℕ) (hk : k < 8) : Vec F S1024x256 .bf16 :=
  View.ld xs (Rect.unit (s := S1024x10240) ![0, 4096 + 256 * k] S1024x256.size (gateW_inb hk))

@[inherit_doc gateW]
def gateL (x3 : Vec F S2x2x1024 .f32) (k : ℕ) (hk : k < 8) : Vec F S1x2x256 .f32 :=
  View.ld x3 (Rect.unit (s := S2x2x1024) ![k / 4, 0, 256 * (k % 4)] S1x2x256.size (gateL_inb hk))

/-- The column tile an index of either output lies in, and its place there. -/
theorem tile_lt {n C : ℕ} (y : Fin C) (h : C = 256 * n) : y.val / 256 < n := by have := y.isLt; omega

theorem tile_idx {x y : S512x256.Idx} (h0 : (x 0).val = (y 0).val) (h1 : (x 1).val = (y 1).val) : x = y := Shape.idx_ext₂ h0 h1

theorem tile_congr {α : Type} {n : ℕ} (f : (k : ℕ) → k < n → S512x256.Idx → α) {k k' : ℕ} (e : k = k') (hk : k < n) (hk' : k' < n)
    {x x' : S512x256.Idx} (ex : x = x') : f k hk x = f k' hk' x' := by
  subst e; subst ex; rfl

/-- The first output's block. -/
def acts (x0 : Vec F S512x1024 .f32) (x1 : Vec F S1x9x1024 .f32) (x2 : Vec F S3x1024 .f32) (x4 x5 : Vec F S512x128 .f32)
    (xs : Vec F S1024x10240 .bf16) : Vec F S512x8192 .bf16 := fun y =>
  actsTile ((y 1).val / 256) (hB x0 x1 x2) (actsW xs ((y 1).val / 256) (tile_lt (y 1) rfl)) x4 x5
    (ix2 (y 0) ⟨(y 1).val % 256, Nat.mod_lt _ (by decide)⟩)

/-- The second output's block. -/
def gates (x0 : Vec F S512x1024 .f32) (x1 : Vec F S1x9x1024 .f32) (x2 : Vec F S3x1024 .f32) (x3 : Vec F S2x2x1024 .f32)
    (xs : Vec F S1024x10240 .bf16) : Vec F S512x2048 .f32 := fun y =>
  k0_pay21 (hB x0 x1 x2) (gateW xs ((y 1).val / 256) (tile_lt (y 1) rfl)) (gateL x3 ((y 1).val / 256) (tile_lt (y 1) rfl))
    (ix2 (y 0) ⟨(y 1).val % 256, Nat.mod_lt _ (by decide)⟩)

/-- A tile of the first output is the block there. -/
theorem acts_tile (x0 : Vec F S512x1024 .f32) (x1 : Vec F S1x9x1024 .f32) (x2 : Vec F S3x1024 .f32) (x4 x5 : Vec F S512x128 .f32)
    (xs : Vec F S1024x10240 .bf16) (k : ℕ) (hk : k < 32) (inb : ∀ a : Fin 2, (![0, 256 * k] : Fin 2 → ℕ) a + S512x256.size a ≤ S512x8192.size a)
    (x : S512x256.Idx) :
    actsTile k (hB x0 x1 x2) (actsW xs k hk) x4 x5 x
      = acts x0 x1 x2 x4 x5 xs ((Rect.unit (s := S512x8192) ![0, 256 * k] S512x256.size inb).emb x) := by
  have hx : (x 1).val < 256 := (x 1).isLt
  have h1 : (((Rect.unit (s := S512x8192) ![0, 256 * k] S512x256.size inb).emb x) 1).val = 256 * k + (x 1).val := by
    show 256 * k + 1 * (x 1).val = _; omega
  have h0 : (((Rect.unit (s := S512x8192) ![0, 256 * k] S512x256.size inb).emb x) 0).val = (x 0).val := by
    show 0 + 1 * (x 0).val = _; omega
  unfold acts
  have hk' : (((Rect.unit (s := S512x8192) ![0, 256 * k] S512x256.size inb).emb x) 1).val / 256 = k := by rw [h1]; omega
  refine tile_congr (fun k (hk : k < 32) x => actsTile k (hB x0 x1 x2) (actsW xs k hk) x4 x5 x) hk'.symm _ _ (tile_idx h0.symm ?_)
  show (x 1).val = (((Rect.unit (s := S512x8192) ![0, 256 * k] S512x256.size inb).emb x) 1).val % 256
  rw [h1]; omega

/-- A tile of the second output is the block there. -/
theorem gates_tile (x0 : Vec F S512x1024 .f32) (x1 : Vec F S1x9x1024 .f32) (x2 : Vec F S3x1024 .f32) (x3 : Vec F S2x2x1024 .f32)
    (xs : Vec F S1024x10240 .bf16) (k : ℕ) (hk : k < 8) (inb : ∀ a : Fin 2, (![0, 256 * k] : Fin 2 → ℕ) a + S512x256.size a ≤ S512x2048.size a)
    (x : S512x256.Idx) :
    k0_pay21 (hB x0 x1 x2) (gateW xs k hk) (gateL x3 k hk) x
      = gates x0 x1 x2 x3 xs ((Rect.unit (s := S512x2048) ![0, 256 * k] S512x256.size inb).emb x) := by
  have hx : (x 1).val < 256 := (x 1).isLt
  have h1 : (((Rect.unit (s := S512x2048) ![0, 256 * k] S512x256.size inb).emb x) 1).val = 256 * k + (x 1).val := by
    show 256 * k + 1 * (x 1).val = _; omega
  have h0 : (((Rect.unit (s := S512x2048) ![0, 256 * k] S512x256.size inb).emb x) 0).val = (x 0).val := by
    show 0 + 1 * (x 0).val = _; omega
  unfold gates
  have hk' : (((Rect.unit (s := S512x2048) ![0, 256 * k] S512x256.size inb).emb x) 1).val / 256 = k := by rw [h1]; omega
  refine tile_congr (fun k (hk : k < 8) x => k0_pay21 (hB x0 x1 x2) (gateW xs k hk) (gateL x3 k hk) x) hk'.symm _ _ (tile_idx h0.symm ?_)
  show (x 1).val = (((Rect.unit (s := S512x2048) ![0, 256 * k] S512x256.size inb).emb x) 1).val % 256
  rw [h1]; omega

section
variable (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S3x1024 .f32) (harg3 : arg3.IsWhole) (arg4 : Memref sig .tc .vmem S2x2x1024 .f32) (harg4 : arg4.IsWhole) (arg5 : Memref sig .tc .hbm S1024x10240 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x8192 .bf16) (harg8 : arg8.IsWhole) (arg9 : Memref sig .tc .vmem S512x2048 .f32) (harg9 : arg9.IsWhole) (arg10 : Memref sig .tc .vmem S1024x10240 .bf16) (harg10 : arg10.IsWhole) (alloca_r0 : Memref sig .tc .vmem S4x16x10240 .f32) (halloca_r0 : alloca_r0.IsWhole) (v673_r0 : DmaSems sig S4) (hc0 : ¬cond0_0 i)
    (x0 : Vec F S512x1024 .f32) (x1 : Vec F S1x9x1024 .f32) (x2 : Vec F S3x1024 .f32) (x3 : Vec F S2x2x1024 .f32) (x4 x5 : Vec F S512x128 .f32) (xs : Vec F S1024x10240 .bf16)

-- (the tiles' terms are large)
set_option maxHeartbeats 4000000 in
/-- Each piece stored into the first output's buffer is the block there. -/
theorem runB_pieces : ∀ p ∈ (runB c i arg1 harg1 arg2 harg2 arg3 harg3 arg4 harg4 arg5 harg5 arg6 harg6 arg7 harg7 arg8 harg8 arg9 harg9 arg10 harg10 alloca_r0 halloca_r0 v673_r0 hc0 x0 x1 x2 x3 x4 x5 xs).1, ∀ x, p.2 x = acts x0 x1 x2 x4 x5 xs (p.1.emb x) := by
  unfold runB; dsimp only
  simp only [List.forall_mem_cons, runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.cst_114, Cert.Common.readAt_ld, ld_all2]
  refine ⟨acts_tile x0 x1 x2 x4 x5 xs 31 (by decide) _, acts_tile x0 x1 x2 x4 x5 xs 27 (by decide) _, acts_tile x0 x1 x2 x4 x5 xs 23 (by decide) _, acts_tile x0 x1 x2 x4 x5 xs 19 (by decide) _, acts_tile x0 x1 x2 x4 x5 xs 15 (by decide) _, acts_tile x0 x1 x2 x4 x5 xs 11 (by decide) _, acts_tile x0 x1 x2 x4 x5 xs 7 (by decide) _, acts_tile x0 x1 x2 x4 x5 xs 30 (by decide) _, acts_tile x0 x1 x2 x4 x5 xs 26 (by decide) _, acts_tile x0 x1 x2 x4 x5 xs 22 (by decide) _, acts_tile x0 x1 x2 x4 x5 xs 18 (by decide) _, acts_tile x0 x1 x2 x4 x5 xs 14 (by decide) _, acts_tile x0 x1 x2 x4 x5 xs 10 (by decide) _, acts_tile x0 x1 x2 x4 x5 xs 6 (by decide) _, acts_tile x0 x1 x2 x4 x5 xs 29 (by decide) _, acts_tile x0 x1 x2 x4 x5 xs 25 (by decide) _, acts_tile x0 x1 x2 x4 x5 xs 21 (by decide) _, acts_tile x0 x1 x2 x4 x5 xs 17 (by decide) _, acts_tile x0 x1 x2 x4 x5 xs 13 (by decide) _, acts_tile x0 x1 x2 x4 x5 xs 9 (by decide) _, acts_tile x0 x1 x2 x4 x5 xs 5 (by decide) _, acts_tile x0 x1 x2 x4 x5 xs 3 (by decide) _, acts_tile x0 x1 x2 x4 x5 xs 1 (by decide) _, acts_tile x0 x1 x2 x4 x5 xs 28 (by decide) _, acts_tile x0 x1 x2 x4 x5 xs 24 (by decide) _, acts_tile x0 x1 x2 x4 x5 xs 20 (by decide) _, acts_tile x0 x1 x2 x4 x5 xs 16 (by decide) _, acts_tile x0 x1 x2 x4 x5 xs 12 (by decide) _, acts_tile x0 x1 x2 x4 x5 xs 8 (by decide) _, acts_tile x0 x1 x2 x4 x5 xs 4 (by decide) _, acts_tile x0 x1 x2 x4 x5 xs 2 (by decide) _, acts_tile x0 x1 x2 x4 x5 xs 0 (by decide) _, fun _ h => absurd h List.not_mem_nil⟩

set_option maxHeartbeats 4000000 in
/-- Each piece stored into the second output's buffer is the block there. -/
theorem runB_piecesG : ∀ p ∈ (runB c i arg1 harg1 arg2 harg2 arg3 harg3 arg4 harg4 arg5 harg5 arg6 harg6 arg7 harg7 arg8 harg8 arg9 harg9 arg10 harg10 alloca_r0 halloca_r0 v673_r0 hc0 x0 x1 x2 x3 x4 x5 xs).2.1, ∀ x, p.2 x = gates x0 x1 x2 x3 xs (p.1.emb x) := by
  unfold runB; dsimp only
  simp only [List.forall_mem_cons, runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.cst_114, Cert.Common.readAt_ld, ld_all2]
  refine ⟨gates_tile x0 x1 x2 x3 xs 7 (by decide) _, gates_tile x0 x1 x2 x3 xs 3 (by decide) _, gates_tile x0 x1 x2 x3 xs 6 (by decide) _, gates_tile x0 x1 x2 x3 xs 2 (by decide) _, gates_tile x0 x1 x2 x3 xs 5 (by decide) _, gates_tile x0 x1 x2 x3 xs 1 (by decide) _, gates_tile x0 x1 x2 x3 xs 4 (by decide) _, gates_tile x0 x1 x2 x3 xs 0 (by decide) _, fun _ h => absurd h List.not_mem_nil⟩

/-- So a later point leaves the two blocks. -/
theorem runB_read (f : arg8.view.ty.Contents (Elt F)) :
    arg8.view.read (Elt F) (arg8.view.writes (Elt F) f (runB c i arg1 harg1 arg2 harg2 arg3 harg3 arg4 harg4 arg5 harg5 arg6 harg6 arg7 harg7 arg8 harg8 arg9 harg9 arg10 harg10 alloca_r0 halloca_r0 v673_r0 hc0 x0 x1 x2 x3 x4 x5 xs).1) = acts x0 x1 x2 x4 x5 xs :=
  funext fun y => View.read_writes_apply_of_pieces _ _ _ _ (runB_pieces c i arg1 harg1 arg2 harg2 arg3 harg3 arg4 harg4 arg5 harg5 arg6 harg6 arg7 harg7 arg8 harg8 arg9 harg9 arg10 harg10 alloca_r0 halloca_r0 v673_r0 hc0 x0 x1 x2 x3 x4 x5 xs) y (View.cover_of_tiledL _ ![512, 256] (by sl_kernel_rfl) y)

@[inherit_doc runB_read]
theorem runB_readG (f : arg9.view.ty.Contents (Elt F)) :
    arg9.view.read (Elt F) (arg9.view.writes (Elt F) f (runB c i arg1 harg1 arg2 harg2 arg3 harg3 arg4 harg4 arg5 harg5 arg6 harg6 arg7 harg7 arg8 harg8 arg9 harg9 arg10 harg10 alloca_r0 halloca_r0 v673_r0 hc0 x0 x1 x2 x3 x4 x5 xs).2.1) = gates x0 x1 x2 x3 xs :=
  funext fun y => View.read_writes_apply_of_pieces _ _ _ _ (runB_piecesG c i arg1 harg1 arg2 harg2 arg3 harg3 arg4 harg4 arg5 harg5 arg6 harg6 arg7 harg7 arg8 harg8 arg9 harg9 arg10 harg10 alloca_r0 halloca_r0 v673_r0 hc0 x0 x1 x2 x3 x4 x5 xs) y (View.cover_of_tiledL _ ![512, 256] (by sl_kernel_rfl) y)

end

end Cert.Kernel3Ideal.Proj

end
-- ==== Proof.Proj.Trip.lean ====
/-
One trip of the loop that stages the weights: the transfer it starts, and the block it waits for, rounds and stores.
-/
module

public import proofs.«01_k».proof.Proof.Proj.Setup
public import proofs.«01_k».proof.Proof.Common.Slots
public import Idealize.ShloMosaic.Lib.WritesUnit
public import Idealize.ShloMosaic.Lib.Pointwise.Index

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Slots, blocks and semaphores by number -/

theorem slot_inb (s : Fin 4) : ∀ a, (![s.val, 0, 0] : Fin 3 → ℕ) a + S1x16x10240.size a ≤ S4x16x10240.size a := by
  revert s; decide
theorem src_inb (b : Fin 64) : ∀ a, (![16 * b.val, 0] : Fin 2 → ℕ) a + S16x10240.size a ≤ S1024x10240.size a := by
  revert b; decide
theorem cell_inb (s : Fin 4) : ∀ a, (![s.val] : Fin 1 → ℕ) a + S1.size a ≤ S4.size a := by
  revert s; decide

/-- The staging slot at offset `o`, -/
abbrev slotAt (o : Fin 3 → ℕ) (h : ∀ a, o a + S1x16x10240.size a ≤ S4x16x10240.size a) : Memref sig .tc .vmem S16x10240 .f32 :=
  (scM0_1.slice (Rect.unit (s := S4x16x10240) o S1x16x10240.size h) (fun _ => rfl)).squeeze S16x10240 squeezes_S1x16x10240_S16x10240
/-- the block of the weights at offset `o`, -/
abbrev srcAt (o : Fin 2 → ℕ) (h : ∀ a, o a + S16x10240.size a ≤ S1024x10240.size a) : Memref sig .tc .hbm S16x10240 .f32 :=
  hbM0_0.slice (Rect.unit (s := S1024x10240) o S16x10240.size h) (fun _ => rfl)
/-- and the semaphore at offset `o`. -/
abbrev cellAt (o : Fin 1 → ℕ) (h : ∀ a, o a + S1.size a ≤ S4.size a) : DmaSem sig :=
  ((cc0_scoped1.slice (Rect.unit (s := S4) o S1.size h)).squeeze S_ squeezes_S1_S_).sem

abbrev slotM (s : Fin 4) := slotAt ![s.val, 0, 0] (slot_inb s)
abbrev srcM (b : Fin 64) := srcAt ![16 * b.val, 0] (src_inb b)
abbrev cellM (s : Fin 4) := cellAt ![s.val] (cell_inb s)

/-! ## The trip's two halves, their offsets as parameters -/

/-- The start of a transfer. -/
def issueP (o1 : Fin 1 → ℕ) (h1 : ∀ a, o1 a + S1.size a ≤ S4.size a) (o2 : Fin 3 → ℕ) (h2 : ∀ a, o2 a + S1x16x10240.size a ≤ S4x16x10240.size a)
    (o3 : Fin 2 → ℕ) (h3 : ∀ a, o3 a + S16x10240.size a ≤ S1024x10240.size a) : Prog (TpuEff nD τ sig (Elt F) Λ₀ .tc) PUnit :=
  Prog.lift (.enqueueDma (srcAt o3 h3) (.here (slotAt o2 h2)) (.dma (cellAt o1 h1)) (View.wordExact_bits rfl) ((View.wordExact_bits rfl).reshape _ _) ⟨Or.inl rfl, trivial⟩)

/-- The wait for a transfer, and its block rounded into the weights' scratch. -/
def collectP (o4 : Fin 1 → ℕ) (h4 : ∀ a, o4 a + S1.size a ≤ S4.size a) (o5 : Fin 3 → ℕ) (h5 : ∀ a, o5 a + S1x16x10240.size a ≤ S4x16x10240.size a)
    (o6 : Fin 2 → ℕ) (h6 : ∀ a, o6 a + S16x10240.size a ≤ S1024x10240.size a) (o7 : Fin 3 → ℕ) (h7 : ∀ a, o7 a + S1x16x10240.size a ≤ S4x16x10240.size a)
    (o8 : Fin 2 → ℕ) (h8 : ∀ a, o8 a + S16x10240.size a ≤ S1024x10240.size a)
    (hp : (Rect.unit (s := S1024x10240) o8 S16x10240.size h8).PackedRows (EltTy.packing .bf16)) : Prog (TpuEff nD τ sig (Elt F) Λ₀ .tc) Unit := do
  Prog.lift (.waitDma2 (cellAt o4 h4) (srcAt o6 h6) (slotAt o5 h5) (View.wordExact_bits rfl) ((View.wordExact_bits rfl).reshape _ _))
  let v721 : Vec F S1x16x10240 .f32 ← Prog.lift (.load scM0_1 (Rect.unit (s := S4x16x10240) o7 S1x16x10240.size h7).toLoadRect (View.loadsAt_vmem h_S1x16x10240))
  let _ : Vec F S16x10240 .bf16 ← Prog.lift (.load scM0_0 (Rect.unit (s := S1024x10240) o8 S16x10240.size h8).toLoadRect (View.loadsAt_vmem h_S16x10240))
  Prog.lift (.store scM0_0 (Rect.unit (s := S1024x10240) o8 S16x10240.size h8) (k0_pay3 (k0_pay2 v721)) Finset.univ (View.stores_vmem h_S16x10240 ((Memref.isWhole_whole cc0_scratch0).storeExact_slice rfl _ hp) (fun _ => rfl)) (.inl rfl))
  pure ⟨⟩

section
variable (i : grid0.Coords) (arg1 : Memref sig .tc .vmem S512x1024 .f32) (harg1 : arg1.IsWhole) (arg2 : Memref sig .tc .vmem S1x9x1024 .f32) (harg2 : arg2.IsWhole) (arg3 : Memref sig .tc .vmem S3x1024 .f32) (harg3 : arg3.IsWhole) (arg4 : Memref sig .tc .vmem S2x2x1024 .f32) (harg4 : arg4.IsWhole) (arg6 : Memref sig .tc .vmem S512x128 .f32) (harg6 : arg6.IsWhole) (arg7 : Memref sig .tc .vmem S512x128 .f32) (harg7 : arg7.IsWhole) (arg8 : Memref sig .tc .vmem S512x8192 .bf16) (harg8 : arg8.IsWhole) (arg9 : Memref sig .tc .vmem S512x2048 .f32) (harg9 : arg9.IsWhole)
  (k0_h1 : k0_cond1 i = 1#1)

/-- A trip that starts a transfer, -/
theorem body_issue (k : Fin k0_t1_loop.trips) (h2 : k0_cond2 k = 1#1) :
    k0_t1_body (F := F) i arg1 harg1 arg2 harg2 arg3 harg3 arg4 harg4 hbM0_0 (Memref.isWhole_whole _) arg6 harg6 arg7 harg7 arg8 harg8 arg9 harg9 scM0_0 (Memref.isWhole_whole _) scM0_1 (Memref.isWhole_whole _) cc0_scoped1 k0_h1 k ⟨⟩
      = (issueP (k0_off1 k) (k0_off1_inb i k k0_h1 h2) (k0_off2 k) (k0_off2_inb i k k0_h1 h2) (k0_off3 k) (k0_off3_inb i k k0_h1 h2) >>= fun _ =>
          collectP (k0_off4 k) (k0_off4_inb i k k0_h1) (k0_off5 k) (k0_off5_inb i k k0_h1) (k0_off6 k) (k0_off6_inb i k k0_h1) (k0_off7 k) (k0_off7_inb i k k0_h1) (k0_off8 k) (k0_off8_inb i k k0_h1) (k0_off8_packedbf16 i k k0_h1)) := by
  unfold k0_t1_body; rw [k0_part1_eq_skeleton]; unfold k0_part1_skel; simp only [dif_pos h2]; rfl

/-- and one of the last three, which doesn't. -/
theorem body_tail (k : Fin k0_t1_loop.trips) (h2 : ¬k0_cond2 k = 1#1) :
    k0_t1_body (F := F) i arg1 harg1 arg2 harg2 arg3 harg3 arg4 harg4 hbM0_0 (Memref.isWhole_whole _) arg6 harg6 arg7 harg7 arg8 harg8 arg9 harg9 scM0_0 (Memref.isWhole_whole _) scM0_1 (Memref.isWhole_whole _) cc0_scoped1 k0_h1 k ⟨⟩
      = collectP (k0_off4 k) (k0_off4_inb i k k0_h1) (k0_off5 k) (k0_off5_inb i k k0_h1) (k0_off6 k) (k0_off6_inb i k k0_h1) (k0_off7 k) (k0_off7_inb i k k0_h1) (k0_off8 k) (k0_off8_inb i k k0_h1) (k0_off8_packedbf16 i k k0_h1) := by
  unfold k0_t1_body; rw [k0_part1_eq_skeleton]; unfold k0_part1_skel; simp only [dif_neg h2]; rfl

end

/-! ## The ring's pieces -/

section
variable (c : Dev nD) (w : HbBuf0 (F := F) c hbM0_0)

/-- Block `b` of the weights' array, held by its own elements; -/
abbrev home (b : Fin 64) : sProp 𝕄 := (srcM b).view.loc (c : Thread nD τ) ↦[(srcM b).view.set]{fullShare} w
/-- slot `s` likewise, at `f`; -/
abbrev slot (s : Fin 4) (f : Buf (Elt F) ((slotM s).view.loc (c : Thread nD τ))) : sProp 𝕄 := (slotM s).view.loc (c : Thread nD τ) ↦[(slotM s).view.set]{fullShare} f
/-- its semaphore at zero; -/
abbrev cell (s : Fin 4) : sProp 𝕄 := semVal ((c : Thread nD τ), SemLoc.dma (cellM s)) 0
/-- what a slot holds once block `b` has arrived; -/
abbrev landed (s : Fin 4) (b : Fin 64) (d : Buf (Elt F) ((slotM s).view.loc (c : Thread nD τ))) : Buf (Elt F) ((slotM s).view.loc (c : Thread nD τ)) :=
  (slotM s).view.writes (Elt F) d [⟨Rect.whole S16x10240, ReadAs.same.apply ((srcM b).view.read (Elt F) w)⟩]
/-- and block `b` on its way into slot `s`. -/
abbrev flight (s : Fin 4) (b : Fin 64) (d : Buf (Elt F) ((slotM s).view.loc (c : Thread nD τ))) : sProp 𝕄 :=
  Transfers.Flight (countersEmb (U := Pipeline.UD sig nD τ)) (c : Thread nD τ) (.dma (cellM s)) () ((slotM s).view.amount (SemLoc.dma (sig := sig) (cellM s)))
    iprop(slot c s (landed c w s b d) ∗ home c w b)

set_option maxHeartbeats 800000 in
/-- The start: block `b` sets out into slot `s`. -/
theorem issue_run (s : Fin 4) (b : Fin 64) (d) (Q : PUnit → sProp 𝕄) :
    iprop(home c w b ∗ slot c s d ∗ cell c s ∗ (flight c w s b d -∗ Q ⟨⟩))
      ⊢ wp frame (wpE (defs₀ (F := F)) Variants.none c none) Set.univ
          (issueP ![s.val] (cell_inb s) ![s.val, 0, 0] (slot_inb s) ![16 * b.val, 0] (src_inb b)) Q := by
  iintro ⟨HC, HD, Hd1, Hk⟩
  unfold issueP
  sl_exec
  sl_step
  iapply Hk
  iexact Hd1

/-- The weights, rounded. -/
def roundW : Vec F S1024x10240 .bf16 := truncf .bf16 (show Vec F S1024x10240 .f32 from w) bitsLt_bf16_f32

/-- A load of one slot, its unit axis dropped, reads what the slot was last filled with. -/
theorem slot_filled {sig : RefSig} {κ sp} {Val : EltTy → Type} {s : Shape} {e : EltTy} {s' : Shape} (v : View sig κ sp s e) (r : Rect s) (hn : s'.numel = r.shape.numel) (hc : r.shape.ShapeCasts s')
    (f : v.ty.Contents Val) (x : s'.Idx → Val e) :
    shapeCast s' (v.readAt Val r.toLoadRect (((v.slice r).reshape s' hn).writes Val f [⟨Rect.whole s', x⟩])) hc = x :=
  View.read_writes_whole ((v.slice r).reshape s' hn) f x

/-- The rounded block read off its slot. -/
theorem pay_eq (s : Fin 4) (b : Fin 64) (d : Buf (Elt F) ((slotM s).view.loc (c : Thread nD τ))) (x : S16x10240.Idx) :
    k0_pay3 (k0_pay2 (View.readAt (Elt F) scM0_1.view (Rect.unit (s := S4x16x10240) ![s.val, 0, 0] S1x16x10240.size (slot_inb s)).toLoadRect (landed c w s b d))) x
      = roundW c w (ix2 (⟨16 * b.val + (x 0).val, by have := (x 0).isLt; have : (x 0).val < 16 := this; omega⟩ : Fin 1024) (x 1)) := by
  have h : shapeCast S16x10240 (View.readAt (Elt F) scM0_1.view (Rect.unit (s := S4x16x10240) ![s.val, 0, 0] S1x16x10240.size (slot_inb s)).toLoadRect (landed c w s b d)) shapeCasts_S1x16x10240_S16x10240
      = (srcM b).view.read (Elt F) w := slot_filled scM0_1.view (Rect.unit (s := S4x16x10240) ![s.val, 0, 0] S1x16x10240.size (slot_inb s)) _ _ d _
  unfold k0_pay3 k0_pay2
  rw [shapeCast_self, h]
  refine congrArg (FloatOps.truncf (F := F) .bf16 bitsLt_bf16_f32) (congrArg w (funext fun a => Fin.ext ?_))
  revert a
  exact Fin.forall_fin_two.mpr ⟨by show 16 * b.val + 1 * (x 0).val = 16 * b.val + (x 0).val; omega, by show 0 + 1 * (x 1).val = (x 1).val; omega⟩

set_option maxHeartbeats 1600000 in
/-- The wait and what follows it: block `b` is home again, its slot and semaphore free, and the scratch holds the rounded weights
    up to that block's end if it held them up to its start. -/
theorem collect_run (s : Fin 4) (b : Fin 64) (d) (hp) (f : Buf (Elt F) (scM0_0.view.loc (c : Thread nD τ)))
    (hf : ∀ y : S1024x10240.Idx, (y 0).val < 16 * b.val → scM0_0.view.read (Elt F) f y = roundW c w y) (W : Waits sig Unit) (Q : Unit → sProp 𝕄) :
    iprop(flight c w s b d ∗ (scM0_0.view.loc (c : Thread nD τ) ↦{fullShare} f) ∗ owes (c : Thread nD τ) 0 W
        ∗ ((home c w b ∗ (∃ f, slot c s f) ∗ cell c s
            ∗ (∃ f', ⌜∀ y : S1024x10240.Idx, (y 0).val < 16 * (b.val + 1) → scM0_0.view.read (Elt F) f' y = roundW c w y⌝ ∗ (scM0_0.view.loc (c : Thread nD τ) ↦{fullShare} f')) ∗ ∃ W', owes (c : Thread nD τ) 0 W') -∗ Q ⟨⟩))
      ⊢ wp frame (wpE (defs₀ (F := F)) Variants.none c none) Set.univ
          (collectP ![s.val] (cell_inb s) ![s.val, 0, 0] (slot_inb s) ![16 * b.val, 0] (src_inb b) ![s.val, 0, 0] (slot_inb s) ![16 * b.val, 0] (src_inb b) hp) Q := by
  iintro ⟨HF, HB, HO, Hk⟩
  unfold collectP
  sl_exec
  sl_step
  iapply Hk
  isplitl [HF_src]; · iexact HF_src
  isplitl [HF_dst]; · iexists _; iexact HF_dst
  isplitl [HF]; · iexact HF
  isplitl [HB]
  · iexists _; isplitr; swap; · iexact HB
    ipureintro
    intro y hy
    by_cases hlt : (y 0).val < 16 * b.val
    · rw [View.read_writes_cons_unit_of_not_mem scM0_0.view f _ _ [] y rfl (0 : Fin 2) (Or.inl hlt), View.writes_nil]
      exact hf y hlt
    · have hx : ∀ a : Fin 2, (y a).val = (![16 * b.val, 0] : Fin 2 → ℕ) a + ((ix2 (⟨(y 0).val - 16 * b.val, by omega⟩ : Fin 16) (y 1) : S16x10240.Idx) a).val :=
        Fin.forall_fin_two.mpr ⟨by show (y 0).val = 16 * b.val + ((y 0).val - 16 * b.val); omega, by show (y 1).val = 0 + (y 1).val; omega⟩
      refine (View.read_writes_cons_unit_of_mem (off := ![16 * b.val, 0]) (size := S16x10240.size) scM0_0.view f (src_inb b) _ [] y (ix2 (⟨(y 0).val - 16 * b.val, by omega⟩ : Fin 16) (y 1)) rfl hx).trans ?_
      refine (pay_eq c w s b _ _).trans (congrArg _ (funext fun a => Fin.ext ?_))
      rw [hx a]
      revert a
      exact Fin.forall_fin_two.mpr ⟨rfl, (Nat.zero_add _).symm⟩
  iexists _; iexact HO

end

end Cert.Kernel3Ideal.Proj

end
-- ==== Proof.Proj.Stage.lean ====
/-
The staging of the weights at the first grid point: three transfers started, then sixty-four trips, each of which starts the
transfer three blocks on and rounds the block that has arrived into the scratch.
-/
module

public import proofs.«01_k».proof.Proof.Proj.Trip
public import Idealize.ShloMosaic.Lib.Ring.AtN

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The trip's offsets -/

theorem trips_eq : k0_t1_loop.trips = 64 := by decide +kernel
theorem off1_eq : ∀ k : Fin k0_t1_loop.trips, k0_off1 k = ![(Ring.sl 4 (k.val + 3)).val] := by decide +kernel
theorem off2_eq : ∀ k : Fin k0_t1_loop.trips, k0_off2 k = ![(Ring.sl 4 (k.val + 3)).val, 0, 0] := by decide +kernel
theorem off4_eq : ∀ k : Fin k0_t1_loop.trips, k0_off4 k = ![(Ring.sl 4 k.val).val] := by decide +kernel
theorem off5_eq : ∀ k : Fin k0_t1_loop.trips, k0_off5 k = ![(Ring.sl 4 k.val).val, 0, 0] := by decide +kernel
theorem off7_eq : ∀ k : Fin k0_t1_loop.trips, k0_off7 k = ![(Ring.sl 4 k.val).val, 0, 0] := by decide +kernel
theorem cond2_iff : ∀ k : Fin k0_t1_loop.trips, k0_cond2 k = 1#1 ↔ k.val + 3 < 64 := by decide +kernel

/-- The halves at their canonical offsets. -/
theorem issue_at (s : Fin 4) (b : Fin 64) (o1 h1 o2 h2 o3 h3) (e1 : o1 = ![s.val]) (e2 : o2 = ![s.val, 0, 0]) (e3 : o3 = ![16 * b.val, 0]) :
    issueP (F := F) o1 h1 o2 h2 o3 h3 = issueP ![s.val] (cell_inb s) ![s.val, 0, 0] (slot_inb s) ![16 * b.val, 0] (src_inb b) := by
  subst e1 e2 e3; rfl

theorem packed_at (b : Fin 64) (o8 : Fin 2 → ℕ) (h8) (hp : (Rect.unit (s := S1024x10240) o8 S16x10240.size h8).PackedRows (EltTy.packing .bf16)) (e : o8 = ![16 * b.val, 0]) :
    (Rect.unit (s := S1024x10240) ![16 * b.val, 0] S16x10240.size (src_inb b)).PackedRows (EltTy.packing .bf16) := by
  subst e; exact hp

theorem collect_at (s : Fin 4) (b : Fin 64) (o4 h4 o5 h5 o6 h6 o7 h7 o8 h8 hp) (e4 : o4 = ![s.val]) (e5 : o5 = ![s.val, 0, 0]) (e6 : o6 = ![16 * b.val, 0])
    (e7 : o7 = ![s.val, 0, 0]) (e8 : o8 = ![16 * b.val, 0]) :
    collectP (F := F) o4 h4 o5 h5 o6 h6 o7 h7 o8 h8 hp
      = collectP ![s.val] (cell_inb s) ![s.val, 0, 0] (slot_inb s) ![16 * b.val, 0] (src_inb b) ![s.val, 0, 0] (slot_inb s) ![16 * b.val, 0] (src_inb b) (packed_at b o8 h8 hp e8) := by
  subst e4 e5 e6 e7 e8; rfl

/-! ## One trip, and the loop -/

section
variable (i : grid0.Coords) (arg1 : Memref sig .tc .vmem S512x1024 .f32) (harg1 : arg1.IsWhole) (arg2 : Memref sig .tc .vmem S1x9x1024 .f32) (harg2 : arg2.IsWhole) (arg3 : Memref sig .tc .vmem S3x1024 .f32) (harg3 : arg3.IsWhole) (arg4 : Memref sig .tc .vmem S2x2x1024 .f32) (harg4 : arg4.IsWhole) (arg6 : Memref sig .tc .vmem S512x128 .f32) (harg6 : arg6.IsWhole) (arg7 : Memref sig .tc .vmem S512x128 .f32) (harg7 : arg7.IsWhole) (arg8 : Memref sig .tc .vmem S512x8192 .bf16) (harg8 : arg8.IsWhole) (arg9 : Memref sig .tc .vmem S512x2048 .f32) (harg9 : arg9.IsWhole)
  (k0_h1 : k0_cond1 i = 1#1) (c : Dev nD) (w : HbBuf0 (F := F) c hbM0_0)

/-- Before trip `k`: blocks `k`, `k + 1`, `k + 2` are on their way, the blocks before them are home again and in the scratch,
    rounded. -/
def Inv (k : ℕ) (_ : Unit) : sProp 𝕄 :=
  iprop(Ring.At 3 (cell c) (slot c) (home c w) (flight c w) k
    ∗ (∃ f, ⌜∀ y : S1024x10240.Idx, (y 0).val < 16 * k → scM0_0.view.read (Elt F) f y = roundW c w y⌝ ∗ (scM0_0.view.loc (c : Thread nD τ) ↦{fullShare} f))
    ∗ ∃ W, owes (c : Thread nD τ) 0 W)

set_option maxHeartbeats 800000 in
theorem trip_run (k : Fin k0_t1_loop.trips) (acc : Unit) :
    Inv c w k.val acc ⊢ wp frame (wpE (defs₀ (F := F)) Variants.none c none) Set.univ (k0_t1_body (F := F) i arg1 harg1 arg2 harg2 arg3 harg3 arg4 harg4 hbM0_0 (Memref.isWhole_whole _) arg6 harg6 arg7 harg7 arg8 harg8 arg9 harg9 scM0_0 (Memref.isWhole_whole _) scM0_1 (Memref.isWhole_whole _) cc0_scoped1 k0_h1 k acc) (Inv c w (k.val + 1)) := by
  have hk : k.val < 64 := trips_eq ▸ k.isLt
  have hb : (Ring.bk 64 k.val).val = k.val := Ring.bk_val hk
  by_cases h2 : k0_cond2 k = 1#1
  · have h3 : k.val + 3 < 64 := (cond2_iff k).mp h2
    have hb3 : (Ring.bk 64 (k.val + 3)).val = k.val + 3 := Ring.bk_val h3
    rw [body_issue (h2 := h2), wp_bind, issue_at (Ring.sl 4 (k.val + 3)) (Ring.bk 64 (k.val + 3)) _ _ _ _ _ _ (off1_eq k) (off2_eq k) (by rw [hb3, k0_off3_eq]; congr 1),
      collect_at (Ring.sl 4 k.val) (Ring.bk 64 k.val) _ _ _ _ _ _ _ _ _ _ _ (off4_eq k) (off5_eq k) (by rw [hb, k0_off6_eq]) (off7_eq k) (by rw [hb, k0_off8_eq])]
    unfold Inv
    rw [Ring.At4_here (home c w) (cell c) (slot c) (flight c w) k.val h3, Ring.At4_next (home c w) (cell c) (slot c) (flight c w) k.val h3, Ring.slotAt4_next0 (cell c) (slot c) (flight c w) k.val (by omega),
      Ring.slotAt4_next1 (cell c) (slot c) (flight c w) k.val (by omega), Ring.slotAt4_next2 (cell c) (slot c) (flight c w) k.val h3]
    unfold Ring.inflight Ring.free
    iintro ⟨⟨⟨Hh3, Hrest⟩, ⟨%d0, Hf0⟩, Hf1, Hf2, ⟨Hc3, %d3, Hs3⟩⟩, ⟨%f, %hf, HB⟩, %W, HO⟩
    iapply (issue_run c w (Ring.sl 4 (k.val + 3)) (Ring.bk 64 (k.val + 3)) d3)
    isplitl [Hh3]; · iexact Hh3
    isplitl [Hs3]; · iexact Hs3
    isplitl [Hc3]; · iexact Hc3
    iintro Hf3
    iapply (collect_run c w (Ring.sl 4 k.val) (Ring.bk 64 k.val) d0 _ f (fun y hy => hf y (by rwa [hb] at hy)) W)
    isplitl [Hf0]; · iexact Hf0
    isplitl [HB]; · iexact HB
    isplitl [HO]; · iexact HO
    iintro ⟨Hh, Hs, Hc, ⟨%f', %hf', HB⟩, HO⟩
    isplitr [HB HO]
    · isplitl [Hh Hrest]; · isplitl [Hh]; · iexact Hh
                            iexact Hrest
      isplitl [Hf1]; · iexact Hf1
      isplitl [Hf2]; · iexact Hf2
      isplitl [Hf3]; · iexists _; iexact Hf3
      isplitl [Hc]; · iexact Hc
      iexact Hs
    isplitl [HB]; · iexists f'; isplitr; · ipureintro; exact fun y hy => hf' y (by rw [hb]; exact hy)
                    iexact HB
    iexact HO
  · have h3 : ¬k.val + 3 < 64 := fun h => h2 ((cond2_iff k).mpr h)
    rw [body_tail (h2 := h2),
      collect_at (Ring.sl 4 k.val) (Ring.bk 64 k.val) _ _ _ _ _ _ _ _ _ _ _ (off4_eq k) (off5_eq k) (by rw [hb, k0_off6_eq]) (off7_eq k) (by rw [hb, k0_off8_eq])]
    unfold Inv
    rw [Ring.At4_here_tail (home c w) (cell c) (slot c) (flight c w) k.val hk, Ring.At4_next_tail (home c w) (cell c) (slot c) (flight c w) k.val (by omega) hk, Ring.slotAt4_tail_role (cell c) (slot c) (flight c w) k.val, Ring.slotAt4_tail_role1 (cell c) (slot c) (flight c w) k.val]
    unfold Ring.inflight
    iintro ⟨⟨Hrest, ⟨%d0, Hf0⟩, Hf1, Hf2, Hfree⟩, ⟨%f, %hf, HB⟩, %W, HO⟩
    iapply (collect_run c w (Ring.sl 4 k.val) (Ring.bk 64 k.val) d0 _ f (fun y hy => hf y (by rwa [hb] at hy)) W)
    isplitl [Hf0]; · iexact Hf0
    isplitl [HB]; · iexact HB
    isplitl [HO]; · iexact HO
    iintro ⟨Hh, Hs, Hc, ⟨%f', %hf', HB⟩, HO⟩
    isplitr [HB HO]
    · isplitl [Hh Hrest]; · isplitl [Hh]; · iexact Hh
                            iexact Hrest
      isplitl [Hf1]; · iexact Hf1
      isplitl [Hf2]; · iexact Hf2
      isplitl [Hfree]; · iexact Hfree
      unfold Ring.free
      isplitl [Hc]; · iexact Hc
      iexact Hs
    isplitl [HB]; · iexists f'; isplitr; · ipureintro; exact fun y hy => hf' y (by rw [hb]; exact hy)
                    iexact HB
    iexact HO

/-! ## The whole of it -/

/-- The staging as a program. -/
def stageP : Prog (TpuEff nD τ sig (Elt F) Λ₀ .tc) PUnit := do
  issueP ![0] inb_S4_S1_0 ![0, 0, 0] inb_S4x16x10240_S1x16x10240_0_0_0 ![0, 0] inb_S1024x10240_S16x10240_0_0
  issueP ![1] inb_S4_S1_1 ![1, 0, 0] inb_S4x16x10240_S1x16x10240_1_0_0 ![16, 0] inb_S1024x10240_S16x10240_16_0
  issueP ![2] inb_S4_S1_2 ![2, 0, 0] inb_S4x16x10240_S1x16x10240_2_0_0 ![32, 0] inb_S1024x10240_S16x10240_32_0
  Scf.Loop.for k0_t1_loop (k0_t1_ok i k0_h1) ⟨⟩ (k0_t1_body (F := F) i arg1 harg1 arg2 harg2 arg3 harg3 arg4 harg4 hbM0_0 (Memref.isWhole_whole _) arg6 harg6 arg7 harg7 arg8 harg8 arg9 harg9 scM0_0 (Memref.isWhole_whole _) scM0_1 (Memref.isWhole_whole _) cc0_scoped1 k0_h1)
  pure ⟨⟩

/-- The first point's body is the staging, then a later point's. -/
theorem body_split (j : grid0.Coords) (hj : ¬k0_cond1 j = 1#1) :
    cc0_proj (F := F) i arg1 harg1 arg2 harg2 arg3 harg3 arg4 harg4 hbM0_0 (Memref.isWhole_whole _) arg6 harg6 arg7 harg7 arg8 harg8 arg9 harg9 scM0_0 (Memref.isWhole_whole _) scM0_1 (Memref.isWhole_whole _) cc0_scoped1
      = (stageP i arg1 harg1 arg2 harg2 arg3 harg3 arg4 harg4 arg6 harg6 arg7 harg7 arg8 harg8 arg9 harg9 k0_h1 >>= fun _ => cc0_proj j arg1 harg1 arg2 harg2 arg3 harg3 arg4 harg4 hbM0_0 (Memref.isWhole_whole _) arg6 harg6 arg7 harg7 arg8 harg8 arg9 harg9 scM0_0 (Memref.isWhole_whole _) scM0_1 (Memref.isWhole_whole _) cc0_scoped1) := by
  simp only [cc0_proj_eq_skeleton]; unfold cc0_proj_skel
  simp only [k0_part20_eq_skeleton]; unfold k0_part20_skel
  simp only [k0_part2_eq_skeleton]; unfold k0_part2_skel stageP
  simp only [dif_pos k0_h1, dif_neg hj, bind_assoc, pure_bind]
  rfl

/-- The blocks' element sets: apart, and together the whole array. -/
abbrev srcSet (b : Fin 64) : Finset (Idx (hbM0_0.view.loc (c : Thread nD τ))) := (Rect.unit (s := S1024x10240) ![16 * b.val, 0] S16x10240.size (src_inb b)).set
theorem srcSet_eq (b : Fin 64) : (srcM b).view.set = srcSet c b := by exact View.set_slice_whole _ _
theorem src_disjoint (b b' : Fin 64) (h : b ≠ b') : Disjoint (srcSet c b) (srcSet c b') :=
  Ring.lead_disjoint (s := S1024x10240) (0 : Fin 2) 16 (fun b : Fin 64 => (![16 * b.val, 0] : Fin 2 → Nat)) S16x10240.size src_inb (fun b => rfl) rfl b b' h
theorem src_cover : Finset.univ.biUnion (srcSet c) = Finset.univ :=
  Ring.lead_cover (s := S1024x10240) (0 : Fin 2) 16 (fun b : Fin 64 => (![16 * b.val, 0] : Fin 2 → Nat)) S16x10240.size src_inb (fun b => rfl) (fun b => by decide +revert) rfl (by decide) rfl
/-- The slots' likewise. -/
abbrev slotSet (s : Fin 4) : Finset (Idx (scM0_1.view.loc (c : Thread nD τ))) := (Rect.unit (s := S4x16x10240) ![s.val, 0, 0] S1x16x10240.size (slot_inb s)).set
theorem slotSet_eq (s : Fin 4) : (slotM s).view.set = slotSet c s := by
  simp only [slotM, slotAt, Memref.view_squeeze, View.set_reshape]; exact View.set_slice_whole _ _
theorem slot_disjoint (b b' : Fin 4) (h : b ≠ b') : Disjoint (slotSet c b) (slotSet c b') :=
  Ring.lead_disjoint (s := S4x16x10240) (0 : Fin 3) 1 (fun b : Fin 4 => (![b.val, 0, 0] : Fin 3 → Nat)) S1x16x10240.size slot_inb (fun b => by simp) rfl b b' h
theorem slot_cover : Finset.univ.biUnion (slotSet c) = Finset.univ :=
  Ring.lead_cover (s := S4x16x10240) (0 : Fin 3) 1 (fun b : Fin 4 => (![b.val, 0, 0] : Fin 3 → Nat)) S1x16x10240.size slot_inb (fun b => by simp) (fun b => by decide +revert) rfl (by decide) rfl

theorem own_scratch (x : Vec F S1024x10240 .bf16) : (owns (c : Thread nD τ) scM0_0 fullShare x : sProp 𝕄) = (scM0_0.view.loc (c : Thread nD τ) ↦{fullShare} x) := owns_whole _ _ _ _
theorem own_slots (x : Vec F S4x16x10240 .f32) : (owns (c : Thread nD τ) scM0_1 fullShare x : sProp 𝕄) = (scM0_1.view.loc (c : Thread nD τ) ↦{fullShare} x) := owns_whole _ _ _ _

/-- What the staging starts from and hands back: the weights' array, the slots and the semaphores. -/
def ground : sProp 𝕄 :=
  iprop(hbPt0 c hbM0_0 w ∗ (∃ d, owns (c : Thread nD τ) scM0_1 fullShare d)
    ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)

theorem home_eq (b : Fin 64) : home c w b = (hbM0_0.view.loc (c : Thread nD τ) ↦[srcSet c b]{fullShare} w) := by
  show ((srcM b).view.loc (c : Thread nD τ) ↦[(srcM b).view.set]{fullShare} w) = _
  rw [srcSet_eq c b]
theorem slot_eq (s : Fin 4) (f : Buf (Elt F) ((slotM s).view.loc (c : Thread nD τ))) : slot c s f = (scM0_1.view.loc (c : Thread nD τ) ↦[slotSet c s]{fullShare} f) := by
  show ((slotM s).view.loc (c : Thread nD τ) ↦[(slotM s).view.set]{fullShare} f) = _
  rw [slotSet_eq c s]
theorem homes_eq : bigSep Finset.univ (home c w) = hbPt0 c hbM0_0 w :=
  ((Ring.pointsTo_blocks (srcSet c) (src_disjoint c) (src_cover c) w).trans (congrArg (bigSep Finset.univ) (funext fun b => (home_eq c w b).symm))).symm

theorem ground_in : ground c w ⊢ Ring.At₀ (cell c) (slot c) (home c w) := by
  unfold ground Ring.At₀
  rw [homes_eq, Ring.bigSep_fin4]
  unfold Ring.free
  simp only [own_slots]
  iintro ⟨HW, HS, H0, H1, H2, H3⟩
  ihave HS := Ring.slots4_split (slotSet c) (slot_disjoint c) (slot_cover c) (slot c 0) (slot c 1) (slot c 2) (slot c 3) (slot_eq c 0) (slot_eq c 1) (slot_eq c 2) (slot_eq c 3) $$ HS
  icases HS with ⟨S0, S1, S2, S3⟩
  isplitl [HW]; · iexact HW
  isplitl [H0 S0]; · isplitl [H0]; · iexact H0
                     iexact S0
  isplitl [H1 S1]; · isplitl [H1]; · iexact H1
                     iexact S1
  isplitl [H2 S2]; · isplitl [H2]; · iexact H2
                     iexact S2
  isplitl [H3]; · iexact H3
  iexact S3
theorem ground_out : iprop(bigSep Finset.univ (home c w) ∗ Ring.free (cell c) (slot c) 0 ∗ Ring.free (cell c) (slot c) 1 ∗ Ring.free (cell c) (slot c) 2 ∗ Ring.free (cell c) (slot c) 3) ⊢ ground c w := by
  unfold ground Ring.free
  rw [homes_eq]
  simp only [own_slots]
  iintro ⟨HW, ⟨H0, S0⟩, ⟨H1, S1⟩, ⟨H2, S2⟩, H3, S3⟩
  isplitl [HW]; · iexact HW
  isplitl [S0 S1 S2 S3]
  · iapply (Ring.slots4_join (slotSet c) (slot_disjoint c) (slot_cover c) (slot c 0) (slot c 1) (slot c 2) (slot c 3) (slot_eq c 0) (slot_eq c 1) (slot_eq c 2) (slot_eq c 3))
    isplitl [S0]; · iexact S0
    isplitl [S1]; · iexact S1
    isplitl [S2]; · iexact S2
    iexact S3
  isplitl [H0]; · iexact H0
  isplitl [H1]; · iexact H1
  isplitl [H2]; · iexact H2
  iexact H3

set_option maxHeartbeats 800000 in
theorem stage_run (W : Waits sig Unit) (Q : PUnit → sProp 𝕄) :
    iprop(ground c w ∗ (∃ d, owns (c : Thread nD τ) scM0_0 fullShare d) ∗ owes (c : Thread nD τ) 0 W
        ∗ ((ground c w ∗ owns (c : Thread nD τ) scM0_0 fullShare (roundW c w) ∗ ∃ W', owes (c : Thread nD τ) 0 W') -∗ Q ⟨⟩))
      ⊢ wp frame (wpE (defs₀ (F := F)) Variants.none c none) Set.univ (stageP (F := F) i arg1 harg1 arg2 harg2 arg3 harg3 arg4 harg4 arg6 harg6 arg7 harg7 arg8 harg8 arg9 harg9 k0_h1) Q := by
  unfold stageP
  rw [wp_bind, wp_bind, wp_bind, wp_bind, issue_at 0 (Ring.bk 64 0) ![0] inb_S4_S1_0 ![0, 0, 0] inb_S4x16x10240_S1x16x10240_0_0_0 ![0, 0] inb_S1024x10240_S16x10240_0_0 rfl rfl rfl,
    issue_at 1 (Ring.bk 64 1) ![1] inb_S4_S1_1 ![1, 0, 0] inb_S4x16x10240_S1x16x10240_1_0_0 ![16, 0] inb_S1024x10240_S16x10240_16_0 rfl rfl rfl,
    issue_at 2 (Ring.bk 64 2) ![2] inb_S4_S1_2 ![2, 0, 0] inb_S4x16x10240_S1x16x10240_2_0_0 ![32, 0] inb_S1024x10240_S16x10240_32_0 rfl rfl rfl]
  simp only [own_scratch]
  iintro ⟨HG, ⟨%f, HB⟩, HO, Hk⟩
  ihave HA := (ground_in c w).trans (Entails.of_eq (Ring.At₀_eq4 (home c w) (cell c) (slot c) (by decide))) $$ HG
  unfold Ring.free
  icases HA with ⟨⟨H0, H1, H2, H3, HR⟩, ⟨Hc0, %d0, Hs0⟩, ⟨Hc1, %d1, Hs1⟩, ⟨Hc2, %d2, Hs2⟩, HF⟩
  iapply (issue_run c w 0 (Ring.bk 64 0) d0)
  isplitl [H0]; · iexact H0
  isplitl [Hs0]; · iexact Hs0
  isplitl [Hc0]; · iexact Hc0
  iintro Hf0
  iapply (issue_run c w 1 (Ring.bk 64 1) d1)
  isplitl [H1]; · iexact H1
  isplitl [Hs1]; · iexact Hs1
  isplitl [Hc1]; · iexact Hc1
  iintro Hf1
  iapply (issue_run c w 2 (Ring.bk 64 2) d2)
  isplitl [H2]; · iexact H2
  isplitl [Hs2]; · iexact Hs2
  isplitl [Hc2]; · iexact Hc2
  iintro Hf2
  iapply (Scf.wp_for frame (wpE (defs₀ (F := F)) Variants.none c none) Set.univ _ _ _ _ _ _ (Inv c w) (trip_run i arg1 harg1 arg2 harg2 arg3 harg3 arg4 harg4 arg6 harg6 arg7 harg7 arg8 harg8 arg9 harg9 k0_h1 c w))
  isplitr [Hk]
  · unfold Inv
    rw [Ring.At4_here (home c w) (cell c) (slot c) (flight c w) 0 (by decide)]
    isplitr [HB HO]
    · isplitl [H3 HR]; · isplitl [H3]; · iexact H3
                         iexact HR
      unfold Ring.inflight
      isplitl [Hf0]; · iexists _; iexact Hf0
      isplitl [Hf1]; · iexists _; iexact Hf1
      isplitl [Hf2]; · iexists _; iexact Hf2
      unfold Ring.free; iexact HF
    isplitl [HB]; · iexists f; isplitr; · ipureintro; exact fun y hy => absurd hy (Nat.not_lt_zero _)
                    iexact HB
    iexists W; iexact HO
  iintro %acc HI
  sl_step
  unfold Inv
  icases HI with ⟨HA, ⟨%f', %hf', HB⟩, HO⟩
  iapply Hk
  have hp : 64 ≤ Scf.trips k0_t1_loop.lb k0_t1_loop.ub k0_t1_loop.st := le_of_eq trips_eq.symm
  isplitl [HA]
  · iapply (ground_out c w); iapply (Ring.free4_of_At4_past (home c w) (cell c) (slot c) (flight c w) _ hp); iexact HA
  isplitl [HB]
  · have e : f' = roundW c w := funext fun y => hf' y (lt_of_lt_of_le (y 0).isLt (Nat.mul_le_mul_left 16 hp))
    rw [← e]; iexact HB
  iexact HO

end

end Cert.Kernel3Ideal.Proj

end
-- ==== Proof.Proj.Frame.lean ====
/-
The kernel's run from its body's: the windows' contents point by point, the body at a generic point, and the whole
program's run, at any values.
-/
module

public import proofs.«01_k».proof.Proof.Proj.Closed
public import proofs.«01_k».proof.Proof.Proj.Stage
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- What the body computes at point `t`: the two outputs' blocks of that point's input blocks and the rounded weights. -/
def blkA (c : Dev nD) (t : Fin cfg0.N) : Vec F S512x8192 .bf16 :=
  acts (iblk m c 0 t) (iblk m c 1 t) (iblk m c 2 t) (iblk m c 4 t) (iblk m c 5 t) (roundW c (V m c main_v2))

@[inherit_doc blkA]
def blkG (c : Dev nD) (t : Fin cfg0.N) : Vec F S512x2048 .f32 :=
  gates (iblk m c 0 t) (iblk m c 1 t) (iblk m c 2 t) (iblk m c 3 t) (roundW c (V m c main_v2))

/-- What is held beside the windows before position `n`: before the first point the launch's; afterwards the scratch at
    the rounded weights, the staging slots at anything, and the generator register, the counters at zero and the
    weights' array. -/
def PhiS (c : Dev nD) : ℕ → sProp 𝕄
  | 0 => Pipeline.ΦD osem0 spec0 H0 (V m) c
  | n + 1 => iprop((owns (c : Thread nD τ) scM0_0 fullShare (roundW c (V m c main_v2)) ∗ (∃ d, owns (c : Thread nD τ) scM0_1 fullShare d)) ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ hbPt0 c hbM0_0 (V m c main_v2))

theorem PhiS_pos (c : Dev nD) (n : ℕ) (hz : n ≠ 0) :
    PhiS m c n = PhiS m c 1 := by
  cases n with
  | zero => exact absurd rfl hz
  | succ n => rfl

/-- The arrays as the region finds them, the inputs' buffers at their blocks and the outputs' at the point's. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkA m c t
    | ⟨7, _⟩ => blkG m c t
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = blkA m c t := by dsimp only [dats]
theorem after0_7 (c : Dev nD) (t : Fin cfg0.N) : (dats m 0 c).after 7 t = blkG m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0 (c : Dev nD) (t : Fin cfg0.N) :
    (dats m 0 c).leavesExact 0 t = owns (c : Thread nD τ) (ms0_0 t) fullShare (iblk m c 0 t) := by
  unfold Dat.leavesExact; rw [live 0 t, after0_0]
theorem leaves1 (c : Dev nD) (t : Fin cfg0.N) :
    (dats m 0 c).leavesExact 1 t = owns (c : Thread nD τ) (ms0_1 t) fullShare (iblk m c 1 t) := by
  unfold Dat.leavesExact; rw [live 1 t, after0_1]
theorem leaves2 (c : Dev nD) (t : Fin cfg0.N) :
    (dats m 0 c).leavesExact 2 t = owns (c : Thread nD τ) (ms0_2 t) fullShare (iblk m c 2 t) := by
  unfold Dat.leavesExact; rw [live 2 t, after0_2]
theorem leaves3 (c : Dev nD) (t : Fin cfg0.N) :
    (dats m 0 c).leavesExact 3 t = owns (c : Thread nD τ) (ms0_3 t) fullShare (iblk m c 3 t) := by
  unfold Dat.leavesExact; rw [live 3 t, after0_3]
theorem leaves4 (c : Dev nD) (t : Fin cfg0.N) :
    (dats m 0 c).leavesExact 4 t = owns (c : Thread nD τ) (ms0_4 t) fullShare (iblk m c 4 t) := by
  unfold Dat.leavesExact; rw [live 4 t, after0_4]
theorem leaves5 (c : Dev nD) (t : Fin cfg0.N) :
    (dats m 0 c).leavesExact 5 t = owns (c : Thread nD τ) (ms0_5 t) fullShare (iblk m c 5 t) := by
  unfold Dat.leavesExact; rw [live 5 t, after0_5]
theorem leaves6 (c : Dev nD) (t : Fin cfg0.N) :
    (dats m 0 c).leavesExact 6 t = owns (c : Thread nD τ) (ms0_6 t) fullShare (blkA m c t) := by
  unfold Dat.leavesExact; rw [live 6 t, after0_6]
theorem leaves7 (c : Dev nD) (t : Fin cfg0.N) :
    (dats m 0 c).leavesExact 7 t = owns (c : Thread nD τ) (ms0_7 t) fullShare (blkG m c t) := by
  unfold Dat.leavesExact; rw [live 7 t, after0_7]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The blocks computed at point `t` by the body at the coordinates `j` of any later point, once the scratch holds the
    rounded weights. -/
theorem later_run (c : Dev nD) (t : Fin cfg0.N) (j : grid0.Coords) (hj : ¬cond0_0 j) (W : Waits sig Unit) (Q : PUnit → sProp 𝕄) :
    iprop(iprop((owns (c : Thread nD τ) scM0_0 fullShare (roundW c (V m c main_v2)) ∗ (∃ d, owns (c : Thread nD τ) scM0_1 fullShare d)) ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ hbPt0 c hbM0_0 (V m c main_v2)) ∗ owes (c : Thread nD τ) 0 W
        ∗ owns (c : Thread nD τ) (ms0_0 t) fullShare (iblk m c 0 t)
        ∗ owns (c : Thread nD τ) (ms0_1 t) fullShare (iblk m c 1 t)
        ∗ owns (c : Thread nD τ) (ms0_2 t) fullShare (iblk m c 2 t)
        ∗ owns (c : Thread nD τ) (ms0_3 t) fullShare (iblk m c 3 t)
        ∗ owns (c : Thread nD τ) (ms0_4 t) fullShare (iblk m c 4 t)
        ∗ owns (c : Thread nD τ) (ms0_5 t) fullShare (iblk m c 5 t)
        ∗ (∃ d, owns (c : Thread nD τ) (ms0_6 t) fullShare d) ∗ (∃ d, owns (c : Thread nD τ) (ms0_7 t) fullShare d)
        ∗ (iprop(iprop((owns (c : Thread nD τ) scM0_0 fullShare (roundW c (V m c main_v2)) ∗ (∃ d, owns (c : Thread nD τ) scM0_1 fullShare d)) ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ hbPt0 c hbM0_0 (V m c main_v2)) ∗ (∃ W', owes (c : Thread nD τ) 0 W')
        ∗ owns (c : Thread nD τ) (ms0_0 t) fullShare (iblk m c 0 t)
        ∗ owns (c : Thread nD τ) (ms0_1 t) fullShare (iblk m c 1 t)
        ∗ owns (c : Thread nD τ) (ms0_2 t) fullShare (iblk m c 2 t)
        ∗ owns (c : Thread nD τ) (ms0_3 t) fullShare (iblk m c 3 t)
        ∗ owns (c : Thread nD τ) (ms0_4 t) fullShare (iblk m c 4 t)
        ∗ owns (c : Thread nD τ) (ms0_5 t) fullShare (iblk m c 5 t)
        ∗ owns (c : Thread nD τ) (ms0_6 t) fullShare (blkA m c t) ∗ owns (c : Thread nD τ) (ms0_7 t) fullShare (blkG m c t)) -∗ Q ⟨⟩))
      ⊢ wp frame (wpE (defs₀ (F := F)) Variants.none c none) Set.univ (cc0_proj j (ms0_0 t) (hs0_0 t) (ms0_1 t) (hs0_1 t) (ms0_2 t) (hs0_2 t) (ms0_3 t) (hs0_3 t) hbM0_0 (Memref.isWhole_whole _) (ms0_4 t) (hs0_4 t) (ms0_5 t) (hs0_5 t) (ms0_6 t) (hs0_6 t) (ms0_7 t) (hs0_7 t) scM0_0 (Memref.isWhole_whole _) scM0_1 (Memref.isWhole_whole _) cc0_scoped1) Q := by
  iintro ⟨⟨⟨HS0, HS1⟩, HR⟩, HW, H0, H1, H2, H3, H4, H5, H6, H7, Hk⟩
  iapply ((runB c j (ms0_0 t) (hs0_0 t) (ms0_1 t) (hs0_1 t) (ms0_2 t) (hs0_2 t) (ms0_3 t) (hs0_3 t) hbM0_0 (Memref.isWhole_whole _) (ms0_4 t) (hs0_4 t) (ms0_5 t) (hs0_5 t) (ms0_6 t) (hs0_6 t) (ms0_7 t) (hs0_7 t) scM0_0 (Memref.isWhole_whole _) scM0_1 (Memref.isWhole_whole _) cc0_scoped1 hj (iblk m c 0 t) (iblk m c 1 t) (iblk m c 2 t) (iblk m c 3 t) (iblk m c 4 t) (iblk m c 5 t) (roundW c (V m c main_v2))).2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, ⟨%e6, H6⟩, ⟨%e7, H7⟩, HS0⟩
  iapply Hk
  isplitl [HS0 HS1 HR]
  · isplitl [HS0 HS1]
    · isplitl [HS0]; · iexact HS0
      iexact HS1
    iexact HR
  isplitl [HW]; · iexists W; iexact HW
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact runB_read c j _ _ _ _ _ _ _ _ _ _ _ _ _ _ _ _ _ _ _ _ _ _ _ _ _ _ _ _ _ _ _ e6
  unfold owns; iexists _; isplitr; swap; · iexact H7
  ipureintro; exact runB_readG c j _ _ _ _ _ _ _ _ _ _ _ _ _ _ _ _ _ _ _ _ _ _ _ _ _ _ _ _ _ _ _ e7

/-- The second point, where the body finds the scratch filled. -/
def second : Fin cfg0.N := ⟨1, by decide⟩

theorem later_coords : ¬cond0_0 (grid0.coords second) := fun h => absurd ((hcond0_0 second).mp h) (by decide)

set_option maxHeartbeats 1600000 in
/-- The body at any point: the first point fills the scratch and then does what every later point does; the scratch holds
    the rounded weights from then on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.castSucc = PhiS m c t.val from rfl, show (dats m 0 c).Φ t.succ = PhiS m c 1 from rfl,
    leaves0, leaves1, leaves2, leaves3, leaves4, leaves5, leaves6, leaves7]
  unfold Dat.owesAt Pipeline.owesWithin
  rw [show (dats m 0 c).owed t.castSucc = 0 from rfl, show (dats m 0 c).owed t.succ = 0 from rfl]
  by_cases h0 : t.val = 0
  · rw [h0, show PhiS m c 0 = Pipeline.ΦD osem0 spec0 H0 (V m) c from rfl, PhiD0_eq]
    unfold PhiS
    rw [body_split (k0_h1 := (hcond0_0 t).mpr h0) (j := grid0.coords second) (hj := later_coords), wp_bind]
    iintro ⟨⟨⟨HS0, HS1⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (stage_run (W := W) (c := c) (w := V m c main_v2))
    isplitl [HS1 Hq Hh]
    · unfold ground
      isplitl [Hh]; · iexact Hh
      isplitl [HS1]; · iexact HS1
      iexact Hq
    isplitl [HS0]; · iexact HS0
    isplitl [HW]; · iexact HW
    unfold ground
    iintro ⟨⟨Hh, HS1, Hq⟩, HS0, ⟨%W', HW⟩⟩
    iapply (later_run m c t (grid0.coords second) later_coords W' _)
    isplitl [HS0 HS1 Hg Hq Hh]
    · isplitl [HS0 HS1]
      · isplitl [HS0]; · iexact HS0
        iexact HS1
      isplitl [Hg]; · iexact Hg
      isplitl [Hq]; · iexact Hq
      iexact Hh
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨HP, ⟨%W', HW⟩, HH⟩
    isplitl [HP]; · iexact HP
    isplitl [HW]
    · iexists W'; isplitr; · ipureintro; exact fun _ _ => Or.inl trivial
      iexact HW
    iexact HH
  · rw [PhiS_pos m c t.val h0]
    unfold PhiS
    iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (later_run m c t (grid0.coords t) (fun h => h0 ((hcond0_0 t).mp h)) W _)
    isplitl [HP]; · iexact HP
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨HP, ⟨%W', HW⟩, HH⟩
    isplitl [HP]; · iexact HP
    isplitl [HW]
    · iexists W'; isplitr; · ipureintro; exact fun _ _ => Or.inl trivial
      iexact HW
    iexact HH

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is held before the first point, -/
theorem hin (c : Dev nD) : Pipeline.ΦD osem0 spec0 H0 (V m) c ⊢ (dats m 0 c).Φ 0 := .rfl

/-- and what is held after the last point gives it back, the scratch's contents forgotten. -/
theorem hout (c : Dev nD) : (dats m 0 c).Φ (Fin.last cfg0.N) ⊢ Pipeline.ΦD osem0 spec0 H0 (V m) c := by
  rw [show (dats m 0 c).Φ (Fin.last cfg0.N) = PhiS m c cfg0.N from rfl, PhiS_pos m c cfg0.N (by rw [show cfg0.N = 24 from N_0]; omega), PhiD0_eq]
  unfold PhiS
  iintro ⟨⟨HS0, HS1⟩, HR⟩
  isplitl [HS0 HS1]
  · isplitl [HS0]; · iexists _; iexact HS0
    iexact HS1
  iexact HR

/-! ## The run and the frame -/

-- `θ_run_frame_dma`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- For any values, from any memory with zero counters, every run ends with every array of the pipeline at what the
    proof data give and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept_args m (dats m) (A_eq m) r h.1 c, h.2⟩) (run_main_quiescent m ρ)

end Cert.Kernel3Ideal.Proj

end
-- ==== Proof.Common.ProjMath.lean ====
/-
The layer's projection step on one row, over the extended reals: the product of the normalized, modulated row with the weights,
what each column of the two results makes of it, and the facts about them the kernel's way of computing needs.
-/
module

public import proofs.«01_k».proof.Proof.Common.RowMath

@[expose] public section

noncomputable section

namespace Cert.Common

open Idealize.ShloMosaic

/-- The reciprocal root of the head size, as the programs write it. -/
abbrev headScale : EReal := Ideal.ofBits .f32 0x3DB504F3#32

/-- One, minus infinity and the base-two logarithm of the exponential's base, as the programs write them. -/
abbrev unit32 : EReal := Ideal.ofBits .f32 0x3F800000#32

@[inherit_doc unit32] abbrev low32 : EReal := Ideal.ofBits .f32 0xFF800000#32

@[inherit_doc unit32] abbrev log2e : EReal := Ideal.ofBits .f32 0x3FB8AA3B#32

theorem unit32_eq : unit32 = 1 := by
  simp [unit32, Ideal.ofBits, Ideal.ieee, -EReal.coe_mul]; norm_num

theorem low32_eq : low32 = ⊥ := by
  simp [low32, Ideal.ofBits, Ideal.ieee, -EReal.coe_mul]

theorem headScale_nonneg : 0 ≤ headScale := by
  simp [headScale, Ideal.ofBits, Ideal.ieee, -EReal.coe_mul]

theorem headScale_ne_top : headScale ≠ ⊤ := by
  simp [headScale, Ideal.ofBits, Ideal.ieee, -EReal.coe_mul]

/-- The greater of the two logits. -/
def greatest (v : Fin 2 → EReal) : EReal := Finset.fold max low32 v Finset.univ

/-- The lower bound of a forget gate: the softmax of its two logits, at the first. -/
def lowerBound (v : Fin 2 → EReal) : EReal :=
  Ideal.div (Ideal.exp (v 0 - greatest v)) (∑ k, Ideal.exp (v k - greatest v))

/-- The base-two logarithm of the forget gate of product `t` with lower bound `b`. -/
def logGate (b t : EReal) : EReal := Ideal.log (b + (1 - b) * Ideal.logistic t) * log2e

/-- The column a rotary pair's column is rotated with: 32 further in the first half of a half head, 32 back in the second. -/
def partner (d : Fin 128) : Fin 128 :=
  if h : d.val / 32 % 2 = 0 then ⟨d.val + 32, by omega⟩ else ⟨d.val - 32, by omega⟩

/-- The rotation of a head `t` by the tables' row. -/
def rotated (t co si : Fin 128 → EReal) (d : Fin 128) : EReal := t d * co d + t (partner d) * si d

/-- The rotation of a scaled head is the scaled rotation. -/
theorem rotated_scaled (t co si : Fin 128 → EReal) (d : Fin 128) :
    rotated (fun e => t e * headScale) co si d = rotated t co si d * headScale := by
  unfold rotated
  rw [EReal.right_distrib_of_nonneg_of_ne_top headScale_nonneg headScale_ne_top]
  simp only [mul_assoc, mul_comm headScale]

/-- The rotation by angle zero. -/
theorem rotated_unit (t co si : Fin 128 → EReal) (d : Fin 128) (hc : co d = 1) (hs : si d = 0) : rotated t co si d = t d := by
  unfold rotated
  rw [hc, hs, mul_one, mul_zero, add_zero]

/-- Column `j` of the first result, of the row's products `p` with the weights and the tables' row. -/
def actOf (p : Fin 10240 → EReal) (co si : Fin 128 → EReal) (j : Fin 8192) : EReal :=
  if j.val < 512 then rotated (fun d => p ⟨128 * (j.val / 128 % 4) + d.val, by omega⟩) co si ⟨j.val % 128, by omega⟩
  else if j.val < 1024 then
    rotated (fun d => p ⟨512 + 128 * (j.val / 128 % 4) + d.val, by omega⟩) co si ⟨j.val % 128, by omega⟩ * headScale
  else if j.val < 2048 then p ⟨j.val, by omega⟩
  else if j.val < 3072 then p ⟨j.val, by omega⟩ * Ideal.logistic (p ⟨j.val, by omega⟩)
  else if j.val < 4096 then p ⟨j.val, by omega⟩ * Ideal.logistic (p ⟨j.val, by omega⟩) * headScale
  else if j.val < 5120 then p ⟨2048 + j.val, by omega⟩
  else if j.val < 6144 then p ⟨2048 + j.val, by omega⟩ * Ideal.logistic (p ⟨2048 + j.val, by omega⟩)
  else Ideal.logistic (p ⟨2048 + j.val, by omega⟩)

/-- Column `j` of the second result, of the row's products and the two gates' logits. -/
def gateOf (p : Fin 10240 → EReal) (lg : Fin 2 → Fin 2 → Fin 1024 → EReal) (j : Fin 2048) : EReal :=
  logGate (lowerBound fun k => lg ⟨j.val / 1024, by omega⟩ k ⟨j.val % 1024, by omega⟩) (p ⟨4096 + j.val, by omega⟩)

/-- A row's products with the weights. -/
def projRow (x w sh sc : Fin 1024 → EReal) (W : Fin 1024 → Fin 10240 → EReal) (j : Fin 10240) : EReal :=
  ∑ k, modulated x w sh sc k * W k j

/-- The angle of rotary frequency `f` at row or column `n` of the grid. -/
def angle (n f : ℕ) : EReal :=
  FloatOps.sitofp (F := Ideal) FTy.f32 (BitVec.ofNat 32 n)
    * Ideal.pow (Ideal.ofBits .f32 0x461C4000#32)
        (Ideal.div (-FloatOps.sitofp (F := Ideal) FTy.f32 (BitVec.ofNat 32 f)) (Ideal.ofBits .f32 0x42000000#32))

/-- The rotary tables at row `q`, column `d`: up to row 2048 a position's, whose first half head is turned by the row of the
    grid and the second by the column; from there the identity's. -/
def cosT (q : ℕ) (d : Fin 128) : EReal :=
  if q < 2048 then Ideal.cos (angle (if d.val < 64 then q / 64 else q % 64) (d.val % 32)) else 1

@[inherit_doc cosT]
def sinT (q : ℕ) (d : Fin 128) : EReal :=
  if q < 2048 then
    if d.val / 32 % 2 = 0 then -Ideal.sin (angle (if d.val < 64 then q / 64 else q % 64) (d.val % 32))
    else Ideal.sin (angle (if d.val < 64 then q / 64 else q % 64) (d.val % 32))
  else 0

/-- The tables' row of row `n` of the input, -/
def tableRow (n : ℕ) : ℕ := if n < 4096 then 2048 + n % 512 else (n - 4096) % 2048

/-- and its modulation row. -/
def streamRow (n : ℕ) : ℕ := if n < 4096 then 0 else 1 + (n - 4096) / 2048

theorem streamRow_lt (n : Fin 12288) : streamRow n.val < 8 := by
  unfold streamRow; split <;> omega

end Cert.Common

end
-- ==== Proof.Proj.Row.lean ====
/-
The two outputs' blocks row by row, over the extended reals: each column of each is what the projection step makes of the row's
products with the weights.
-/
module

public import proofs.«01_k».proof.Proof.Proj.Closed
public import proofs.«01_k».proof.Proof.Common.ProjMath

@[expose] public section

set_option maxRecDepth 16384

noncomputable section

namespace Cert.Kernel3Ideal.Proj

open Cert.Kernel3Ideal Cert.Kernel3Ideal.Gen Cert.Common
open Idealize.ShloMosaic

/-- The normalized, modulated block, an element. -/
theorem pay4_apply (x : Vec Ideal S512x1024 .f32) (w : Vec Ideal S1x1024 .f32) (sh sc : Vec Ideal S1x1x1024 .f32) (r : Fin 512) (l : Fin 1024) :
    k0_pay4 (F := Ideal) x w sh sc (ix2 r l)
      = Common.modulated (fun k => x (ix2 r k)) (fun k => w (ix2 0 k)) (fun k => sh (ix3 0 0 k)) (fun k => sc (ix3 0 0 k)) l := by
  unfold k0_pay4 Common.modulated invRms
  pointwise
  simp only [mul_assoc]

/-- The block's products with a tile's columns of the weights. -/
def prod (h : FVec Ideal S512x1024 .bf16) (w : Vec Ideal S1024x256 .bf16) (r : Fin 512) (j : Fin 256) : EReal :=
  ∑ k : Fin 1024, h (ix2 r k) * w (ix2 k j)

theorem pay28_apply (h : FVec Ideal S512x1024 .bf16) (w : Vec Ideal S1024x256 .bf16) (r : Fin 512) (j : Fin 256) :
    k0_pay28 (F := Ideal) h w (ix2 r j) = prod h w r j := by
  unfold k0_pay28 prod
  pointwise

theorem pay15_apply (h : FVec Ideal S512x1024 .bf16) (w : Vec Ideal S1024x256 .bf16) (r : Fin 512) (j : Fin 256) :
    k0_pay15 (F := Ideal) h w (ix2 r j) = prod h w r j := by
  rw [← pay28_apply]
  unfold k0_pay15 k0_pay28
  pointwise

theorem pay16_apply (h : FVec Ideal S512x1024 .bf16) (w : Vec Ideal S1024x256 .bf16) (r : Fin 512) (j : Fin 256) :
    k0_pay16 (F := Ideal) h w (ix2 r j) = prod h w r j * Ideal.logistic (prod h w r j) := by
  rw [← half_tanh, ← pay28_apply]
  change k0_pay28 h w (ix2 r j) * (half * Ideal.tanh (half * k0_pay28 h w (ix2 r j)) + half) = _
  rfl

theorem pay17_apply (h : FVec Ideal S512x1024 .bf16) (w : Vec Ideal S1024x256 .bf16) (r : Fin 512) (j : Fin 256) :
    k0_pay17 (F := Ideal) h w (ix2 r j) = prod h w r j * Ideal.logistic (prod h w r j) * headScale := by
  rw [← half_tanh, ← pay28_apply]
  rfl

theorem pay24_apply (h : FVec Ideal S512x1024 .bf16) (w : Vec Ideal S1024x256 .bf16) (r : Fin 512) (j : Fin 256) :
    k0_pay24 (F := Ideal) h w (ix2 r j) = Ideal.logistic (prod h w r j) := by
  rw [← half_tanh, ← pay28_apply]
  rfl

/-- The lower bounds of a tile's gates. -/
theorem pay18_apply (v : Vec Ideal S1x2x256 .f32) (j : Fin 256) :
    k0_pay18 (F := Ideal) v (ix2 0 j) = lowerBound fun k => v (ix3 0 k j) := by
  unfold k0_pay18 lowerBound greatest
  pointwise
  rw [Fin.sum_univ_one]

theorem pay21_apply (h : FVec Ideal S512x1024 .bf16) (w : Vec Ideal S1024x256 .bf16) (v : Vec Ideal S1x2x256 .f32) (r : Fin 512) (j : Fin 256) :
    k0_pay21 (F := Ideal) h w v (ix2 r j) = logGate (lowerBound fun k => v (ix3 0 k j)) (prod h w r j) := by
  unfold logGate
  rw [← half_tanh, ← pay28_apply, ← pay18_apply, ← unit32_eq]
  unfold k0_pay21 k0_pay28 k0_pay18
  pointwise

/-- The columns of the first half of each half head. -/
theorem pay5_apply (r : Fin 512) (d : Fin 128) : k0_pay5 (ix2 r d) = if d.val / 32 % 2 = 0 then 1#1 else 0#1 := by
  unfold k0_pay5
  pointwise
  revert d
  decide +kernel

/-- A tile of rotated heads: two heads, each rotated by the tables. -/
def turn (u : FVec Ideal S512x256 .f32) (co si : Vec Ideal S512x128 .f32) (r : Fin 512) (j : Fin 256) : EReal :=
  rotated (fun d => u (ix2 r ⟨128 * (j.val / 128) + d.val, by omega⟩)) (fun d => co (ix2 r d)) (fun d => si (ix2 r d)) ⟨j.val % 128, by omega⟩

/-- The two heads, read where the kernel's shifts along a row read them. -/
theorem picked (u : FVec Ideal S512x256 .f32) (co si : Vec Ideal S512x128 .f32) (r : Fin 512) (j : Fin 256) :
    (if h : j.val < 128 then
      u (ix2 r j) * co (ix2 r ⟨j.val, by omega⟩) +
        Scalar.select (k0_pay5 (ix2 r ⟨j.val, by omega⟩)) (u (ix2 r ⟨(j.val + 128 - 96) % 128, by omega⟩))
            (u (ix2 r ⟨(j.val + 128 - 32) % 128, by omega⟩)) * si (ix2 r ⟨j.val, by omega⟩)
    else
      u (ix2 r ⟨128 + (j.val - 128), by omega⟩) * co (ix2 r ⟨j.val - 128, by omega⟩) +
        Scalar.select (k0_pay5 (ix2 r ⟨j.val - 128, by omega⟩)) (u (ix2 r ⟨128 + (j.val - 128 + 128 - 96) % 128, by omega⟩))
            (u (ix2 r ⟨128 + (j.val - 128 + 128 - 32) % 128, by omega⟩)) * si (ix2 r ⟨j.val - 128, by omega⟩)) =
    u (ix2 r ⟨128 * (j.val / 128) + j.val % 128, by omega⟩) * co (ix2 r ⟨j.val % 128, by omega⟩) +
      u (ix2 r ⟨128 * (j.val / 128) + (partner ⟨j.val % 128, by omega⟩).val, by omega⟩) * si (ix2 r ⟨j.val % 128, by omega⟩) := by
  have hj := j.isLt
  have sel0 : ∀ a b : EReal, Scalar.select 0#1 a b = b := fun _ _ => rfl
  have sel1 : ∀ a b : EReal, Scalar.select 1#1 a b = a := fun _ _ => rfl
  simp only [pay5_apply]
  unfold partner
  by_cases h : j.val < 128 <;> by_cases hd : j.val % 128 / 32 % 2 = 0
  · simp only [h, hd, dif_pos, if_pos (show j.val / 32 % 2 = 0 by omega), sel1]
    refine congrArg₂ (· + ·) (congrArg₂ (· * ·) ?_ ?_) (congrArg₂ (· * ·) ?_ ?_) <;>
      refine congrArg _ (congrArg _ (Fin.ext ?_)) <;> simp only [] <;> omega
  · simp only [h, hd, dif_pos, dif_neg, not_false_iff, if_neg (show ¬ j.val / 32 % 2 = 0 by omega), sel0]
    refine congrArg₂ (· + ·) (congrArg₂ (· * ·) ?_ ?_) (congrArg₂ (· * ·) ?_ ?_) <;>
      refine congrArg _ (congrArg _ (Fin.ext ?_)) <;> simp only [] <;> omega
  · simp only [h, hd, dif_pos, dif_neg, not_false_iff, if_pos (show (j.val - 128) / 32 % 2 = 0 by omega), sel1]
    refine congrArg₂ (· + ·) (congrArg₂ (· * ·) ?_ ?_) (congrArg₂ (· * ·) ?_ ?_) <;>
      refine congrArg _ (congrArg _ (Fin.ext ?_)) <;> simp only [] <;> omega
  · simp only [h, hd, dif_pos, dif_neg, not_false_iff, if_neg (show ¬ (j.val - 128) / 32 % 2 = 0 by omega), sel0]
    refine congrArg₂ (· + ·) (congrArg₂ (· * ·) ?_ ?_) (congrArg₂ (· * ·) ?_ ?_) <;>
      refine congrArg _ (congrArg _ (Fin.ext ?_)) <;> simp only [] <;> omega

theorem pay27_apply (h : FVec Ideal S512x1024 .bf16) (w : Vec Ideal S1024x256 .bf16) (co si : Vec Ideal S512x128 .f32) (r : Fin 512) (j : Fin 256) :
    k0_pay27 (F := Ideal) h k0_pay5 w co si co si (ix2 r j) = turn (k0_pay28 h w) co si r j := by
  unfold k0_pay27 turn rotated
  rw [← k0_pay28]
  pointwise
  exact picked _ _ _ r j

theorem pay29_apply (u : FVec Ideal S512x256 .f32) (co si : Vec Ideal S512x128 .f32) (r : Fin 512) (j : Fin 256) :
    k0_pay29 (F := Ideal) k0_pay5 u co si co si (ix2 r j) = turn u co si r j * headScale := by
  unfold turn
  rw [← rotated_scaled]
  unfold k0_pay29 rotated
  pointwise
  exact picked (fun i => u i * headScale) _ _ r j

/-- A row of the block's products with the whole of the weights. -/
abbrev rowOf (x0 : Vec Ideal S512x1024 .f32) (x1 : Vec Ideal S1x9x1024 .f32) (x2 : Vec Ideal S3x1024 .f32) (xs : Vec Ideal S1024x10240 .bf16)
    (r : Fin 512) : Fin 10240 → EReal :=
  projRow (fun k => x0 (ix2 r k)) (fun k => x2 (ix2 1 k)) (fun k => x1 (ix3 0 3 k)) (fun k => x1 (ix3 0 4 k)) (fun k f => xs (ix2 k f))

theorem hB_apply (x0 : Vec Ideal S512x1024 .f32) (x1 : Vec Ideal S1x9x1024 .f32) (x2 : Vec Ideal S3x1024 .f32) (r : Fin 512) (l : Fin 1024) :
    hB (F := Ideal) x0 x1 x2 (ix2 r l)
      = Common.modulated (fun k => x0 (ix2 r k)) (fun k => x2 (ix2 1 k)) (fun k => x1 (ix3 0 3 k)) (fun k => x1 (ix3 0 4 k)) l := by
  unfold hB
  rw [pay4_apply]
  congr 1 <;> funext k
  · exact congrArg x2 (by idx_ext)
  · exact congrArg x1 (by idx_ext)
  · exact congrArg x1 (by idx_ext)

theorem prod_acts (x0 : Vec Ideal S512x1024 .f32) (x1 : Vec Ideal S1x9x1024 .f32) (x2 : Vec Ideal S3x1024 .f32) (xs : Vec Ideal S1024x10240 .bf16)
    (k : ℕ) (hk : k < 32) (r : Fin 512) (j : Fin 256) :
    prod (hB x0 x1 x2) (actsW xs k hk) r j = rowOf x0 x1 x2 xs r ⟨actsCol k + j.val, by unfold actsCol; omega⟩ := by
  unfold prod rowOf projRow
  refine Finset.sum_congr rfl fun l _ => ?_
  rw [hB_apply]
  exact congrArg _ (congrArg xs (by idx_ext))

theorem prod_gates (x0 : Vec Ideal S512x1024 .f32) (x1 : Vec Ideal S1x9x1024 .f32) (x2 : Vec Ideal S3x1024 .f32) (xs : Vec Ideal S1024x10240 .bf16)
    (k : ℕ) (hk : k < 8) (r : Fin 512) (j : Fin 256) :
    prod (hB x0 x1 x2) (gateW xs k hk) r j = rowOf x0 x1 x2 xs r ⟨4096 + 256 * k + j.val, by omega⟩ := by
  unfold prod rowOf projRow
  refine Finset.sum_congr rfl fun l _ => ?_
  rw [hB_apply]
  exact congrArg _ (congrArg xs (by idx_ext))

/-- An element of a tile of the first output's block. -/
theorem actsTile_apply (x0 : Vec Ideal S512x1024 .f32) (x1 : Vec Ideal S1x9x1024 .f32) (x2 : Vec Ideal S3x1024 .f32) (x4 x5 : Vec Ideal S512x128 .f32)
    (xs : Vec Ideal S1024x10240 .bf16) (k : ℕ) (hk : k < 32) (r : Fin 512) (j : Fin 256) :
    actsTile (F := Ideal) k (hB x0 x1 x2) (actsW xs k hk) x4 x5 (ix2 r j)
      = actOf (rowOf x0 x1 x2 xs r) (fun d => x4 (ix2 r d)) (fun d => x5 (ix2 r d)) ⟨256 * k + j.val, by omega⟩ := by
  have hj := j.isLt
  have e : ∀ (j' : Fin 256) (n : Fin 10240), n.val = actsCol k + j'.val →
      prod (hB x0 x1 x2) (actsW xs k hk) r j' = rowOf x0 x1 x2 xs r n := fun j' n h => by
    rw [prod_acts]; exact congrArg _ (Fin.ext h.symm)
  generalize rowOf x0 x1 x2 xs r = p at e ⊢
  generalize hB x0 x1 x2 = h at e ⊢
  generalize actsW xs k hk = w at e ⊢
  unfold actsTile actOf
  dsimp only
  by_cases h0 : k < 2
  · rw [if_pos h0, if_pos (show 256 * k + j.val < 512 by omega)]
    rw [pay27_apply]
    unfold turn
    simp only [pay28_apply]
    refine (congrFun (congrArg (fun t => rotated t _ _) (funext fun d => e _ ⟨128 * ((256 * k + j.val) / 128 % 4) + d.val, by omega⟩ ?_)) _).trans (congrArg _ (Fin.ext ?_))
    · show 128 * ((256 * k + j.val) / 128 % 4) + d.val = actsCol k + (128 * (j.val / 128) + d.val); unfold actsCol; omega
    · show j.val % 128 = (256 * k + j.val) % 128; omega
  rw [if_neg h0, if_neg (show ¬ 256 * k + j.val < 512 by omega)]
  by_cases h1 : k < 4
  · rw [if_pos h1, if_pos (show 256 * k + j.val < 1024 by omega)]
    rw [pay29_apply]
    unfold turn
    simp only [pay28_apply]
    refine congrArg (· * headScale) ?_
    refine (congrFun (congrArg (fun t => rotated t _ _) (funext fun d => e _ ⟨512 + 128 * ((256 * k + j.val) / 128 % 4) + d.val, by omega⟩ ?_)) _).trans (congrArg _ (Fin.ext ?_))
    · show 512 + 128 * ((256 * k + j.val) / 128 % 4) + d.val = actsCol k + (128 * (j.val / 128) + d.val); unfold actsCol; omega
    · show j.val % 128 = (256 * k + j.val) % 128; omega
  rw [if_neg h1, if_neg (show ¬ 256 * k + j.val < 1024 by omega)]
  by_cases h2 : k < 8
  · rw [if_pos h2, if_pos (show 256 * k + j.val < 2048 by omega)]
    rw [pay15_apply, e j ⟨(256 * k + j.val), by omega⟩ (show (256 * k + j.val) = actsCol k + j.val by unfold actsCol; omega)]
  rw [if_neg h2, if_neg (show ¬ 256 * k + j.val < 2048 by omega)]
  by_cases h3 : k < 12
  · rw [if_pos h3, if_pos (show 256 * k + j.val < 3072 by omega)]
    rw [pay16_apply, e j ⟨(256 * k + j.val), by omega⟩ (show (256 * k + j.val) = actsCol k + j.val by unfold actsCol; omega)]
  rw [if_neg h3, if_neg (show ¬ 256 * k + j.val < 3072 by omega)]
  by_cases h4 : k < 16
  · rw [if_pos h4, if_pos (show 256 * k + j.val < 4096 by omega)]
    rw [pay17_apply, e j ⟨(256 * k + j.val), by omega⟩ (show (256 * k + j.val) = actsCol k + j.val by unfold actsCol; omega)]
  rw [if_neg h4, if_neg (show ¬ 256 * k + j.val < 4096 by omega)]
  by_cases h5 : k < 20
  · rw [if_pos h5, if_pos (show 256 * k + j.val < 5120 by omega)]
    rw [pay15_apply, e j ⟨2048 + (256 * k + j.val), by omega⟩ (show 2048 + (256 * k + j.val) = actsCol k + j.val by unfold actsCol; omega)]
  rw [if_neg h5, if_neg (show ¬ 256 * k + j.val < 5120 by omega)]
  by_cases h6 : k < 24
  · rw [if_pos h6, if_pos (show 256 * k + j.val < 6144 by omega)]
    rw [pay16_apply, e j ⟨2048 + (256 * k + j.val), by omega⟩ (show 2048 + (256 * k + j.val) = actsCol k + j.val by unfold actsCol; omega)]
  rw [if_neg h6, if_neg (show ¬ 256 * k + j.val < 6144 by omega)]
  rw [pay24_apply, e j ⟨2048 + (256 * k + j.val), by omega⟩ (show 2048 + (256 * k + j.val) = actsCol k + j.val by unfold actsCol; omega)]

/-- An element of a tile of the second. -/
theorem gatesTile_apply (x0 : Vec Ideal S512x1024 .f32) (x1 : Vec Ideal S1x9x1024 .f32) (x2 : Vec Ideal S3x1024 .f32) (x3 : Vec Ideal S2x2x1024 .f32)
    (xs : Vec Ideal S1024x10240 .bf16) (k : ℕ) (hk : k < 8) (r : Fin 512) (j : Fin 256) :
    k0_pay21 (F := Ideal) (hB x0 x1 x2) (gateW xs k hk) (gateL x3 k hk) (ix2 r j)
      = gateOf (rowOf x0 x1 x2 xs r) (fun a k l => x3 (ix3 a k l)) ⟨256 * k + j.val, by omega⟩ := by
  have hj := j.isLt
  rw [pay21_apply, prod_gates]
  unfold gateOf
  refine congrArg₂ logGate (congrArg _ (funext fun q => congrArg x3 ?_)) (congrArg _ (Fin.ext ?_))
  · idx_ext
  · show 4096 + 256 * k + j.val = 4096 + (256 * k + j.val); omega

/-- An element of the first output's block. -/
theorem acts_apply (x0 : Vec Ideal S512x1024 .f32) (x1 : Vec Ideal S1x9x1024 .f32) (x2 : Vec Ideal S3x1024 .f32) (x4 x5 : Vec Ideal S512x128 .f32)
    (xs : Vec Ideal S1024x10240 .bf16) (r : Fin 512) (j : Fin 8192) :
    acts (F := Ideal) x0 x1 x2 x4 x5 xs (ix2 r j) = actOf (rowOf x0 x1 x2 xs r) (fun d => x4 (ix2 r d)) (fun d => x5 (ix2 r d)) j :=
  (actsTile_apply x0 x1 x2 x4 x5 xs (j.val / 256) (by omega) r ⟨j.val % 256, by omega⟩).trans
    (congrArg _ (Fin.ext (Nat.div_add_mod j.val 256)))

/-- An element of the second output's block. -/
theorem gates_apply (x0 : Vec Ideal S512x1024 .f32) (x1 : Vec Ideal S1x9x1024 .f32) (x2 : Vec Ideal S3x1024 .f32) (x3 : Vec Ideal S2x2x1024 .f32)
    (xs : Vec Ideal S1024x10240 .bf16) (r : Fin 512) (j : Fin 2048) :
    gates (F := Ideal) x0 x1 x2 x3 xs (ix2 r j) = gateOf (rowOf x0 x1 x2 xs r) (fun a k l => x3 (ix3 a k l)) j :=
  (gatesTile_apply x0 x1 x2 x3 xs (j.val / 256) (by omega) r ⟨j.val % 256, by omega⟩).trans
    (congrArg _ (Fin.ext (Nat.div_add_mod j.val 256)))

end Cert.Kernel3Ideal.Proj

end
-- ==== Proof.Proj.Reference.lean ====
/-
The reference's results row by row, over the extended reals: each column of each is what the projection step makes of the
row's products with the weights, the tables' row being the position's in the second stream and the identity in the first.
-/
module

public import proofs.«01_k».proof.Proof.Gen.Reference3Ideal.Run
public import proofs.«01_k».proof.Proof.Common.ProjMath

@[expose] public section

set_option maxRecDepth 16384

noncomputable section

namespace Cert.Reference3Ideal.Proj

open Cert.Reference3Ideal Cert.Reference3Ideal.Gen Cert.Reference3Ideal.Value Cert.Common
open Idealize.ShloMosaic Idealize.ShloMosaic.TcCoe Idealize.ShloMosaic.StableHlo Idealize.SL.Sem

/-! ## The forget gates' lower bounds -/

section
variable {F : FTy → Type} [FloatOps F]

/-- The logits' exponentials over the greatest, -/
def exps (L : Vec F S2x2x1024 .f32) : FVec F S2x2x1024 .f32 :=
  Host.exp (subf L (broadcastInDim S2x2x1024 ![0, 1, 2] bcast_S2x1x1024_S2x2x1024_0_1_2 (broadcastInDim S2x1x1024 ![0, 2] bcast_S2x1024_S2x1x1024_0_2 (maximumf (broadcastInDim S2x1024 ![] bcast_S_S2x1024 (constant S_ .f32 0xFF800000#32)) (Host.reduce FloatOps.maximumf L (constant S_ .f32 0xFF800000#32) reducesTo_S2x2x1024_S2x1024_d1 h_S_)))))

/-- their shares, -/
def shares (L : Vec F S2x2x1024 .f32) : FVec F S2x2x1024 .f32 :=
  Host.divf (exps L) (broadcastInDim S2x2x1024 ![0, 1, 2] bcast_S2x1x1024_S2x2x1024_0_1_2 (broadcastInDim S2x1x1024 ![0, 2] bcast_S2x1024_S2x1x1024_0_2 (Host.reduceAdd (exps L) (constant S_ .f32 0x00000000#32) reducesTo_S2x2x1024_S2x1024_d1 h_S_)))

/-- and the first of the running sums. -/
def lower (L : Vec F S2x2x1024 .f32) : FVec F S2x1024 .f32 :=
  shapeCast _ (extractStridedSlice S2x1x1024 ![0, 0, 0] (Host.reduceWindowAdd ![1, 2, 1] ![1, 1, 1] ![0, 1, 0] ![0, 0, 0] (shares L) (broadcastInDim S_ ![] bcast_S_S_ (constant S_ .f32 0x00000000#32)) reduceWindows_S2x2x1024_S2x2x1024_w1s1p0_0_w2s1p1_0_w1s1p0_0 h_S_) slices_S2x2x1024_S2x1x1024_0_0_0) shapeCasts_S2x1x1024_S2x1024

end

/-! ## The first stream's rows -/

namespace First

section
variable {F : FTy → Type} [FloatOps F]

/-- The stream's rows, by batch and position. -/
def rows (X : Vec F S12288x1024 .f32) : FVec F S16x256x1024 .f32 :=
  shapeCast _ (extractStridedSlice S4096x1024 ![0, 0] X slices_S12288x1024_S4096x1024_0_0) shapeCasts_S4096x1024_S16x256x1024

/-- Each row over the root of its mean square. -/
def scaled (x : FVec F S16x256x1024 .f32) : FVec F S16x256x1024 .f32 :=
  mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))

/-- The stream's modulation rows. -/
def mods (M : Vec F S8x9216 .f32) : FVec F S1x1x9216 .f32 :=
  broadcastInDim S1x1x9216 ![2] bcast_S9216_S1x1x9216_2 (shapeCast _ (extractStridedSlice S1x9216 ![0, 0] M slices_S8x9216_S1x9216_0_0) shapeCasts_S1x9216_S9216)

/-- The normalized, modulated rows. -/
def hidden (x : FVec F S16x256x1024 .f32) (mo : FVec F S1x1x9216 .f32) (N : Vec F S1x3x1024 .f32) : FVec F S16x256x1024 .f32 :=
  addf (mulf (mulf (scaled x) (broadcastInDim S16x256x1024 ![0, 1, 2] bcast_S1x1x1024_S16x256x1024_0_1_2 (broadcastInDim S1x1x1024 ![2] bcast_S1024_S1x1x1024_2 (shapeCast _ (extractStridedSlice S1x1024 ![1, 0] (shapeCast _ N shapeCasts_S1x3x1024_S3x1024) slices_S3x1024_S1x1024_1_0) shapeCasts_S1x1024_S1024)))) (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 0, 4096] mo slices_S1x1x9216_S1x1x1024_0_0_4096)))) (broadcastInDim S16x256x1024 ![0, 1, 2] bcast_S1x1x1024_S16x256x1024_0_1_2 (extractStridedSlice S1x1x1024 ![0, 0, 3072] mo slices_S1x1x9216_S1x1x1024_0_0_3072))

/-- Their products with the weights. -/
def product (h : FVec F S16x256x1024 .f32) (W : Vec F S1x1024x10240 .f32) : FVec F S16x256x10240 .f32 :=
  Host.dotGeneral dot_S16x256x1024_S1024x10240_S16x256x10240_2_0_01_1_n_n none h (shapeCast _ W shapeCasts_S1x1024x10240_S1024x10240)

/-- The logistic function, as the reference spells it. -/
def sigm (t : FVec F S16x256x1024 .f32) : FVec F S16x256x1024 .f32 :=
  Host.divf (broadcastInDim S16x256x1024 ![] bcast_S_S16x256x1024 (constant S_ .f32 0x3F800000#32)) (addf (broadcastInDim S16x256x1024 ![] bcast_S_S16x256x1024 (constant S_ .f32 0x3F800000#32)) (Host.exp (Host.negf t)))

/-- The base-`e` logarithm of a forget gate with lower bounds `b`. -/
def gate (b : FVec F S1024 .f32) (t : FVec F S16x256x1024 .f32) : FVec F S16x256x1024 .f32 :=
  Host.log (addf (broadcastInDim S16x256x1024 ![0, 1, 2] bcast_S1x1x1024_S16x256x1024_0_1_2 (broadcastInDim S1x1x1024 ![2] bcast_S1024_S1x1x1024_2 b)) (mulf (broadcastInDim S16x256x1024 ![0, 1, 2] bcast_S1x1x1024_S16x256x1024_0_1_2 (broadcastInDim S1x1x1024 ![2] bcast_S1024_S1x1x1024_2 (subf (broadcastInDim S1024 ![] bcast_S_S1024 (constant S_ .f32 0x3F800000#32)) b))) (sigm t)))

/-- The two gates' base-two logarithms side by side. -/
def logs (B : FVec F S2x1024 .f32) (u : FVec F S16x256x10240 .f32) : FVec F S16x256x2048 .f32 :=
  mulf (concatenate S16x256x2048 2 [⟨S16x256x1024, (gate (shapeCast _ (extractStridedSlice S1x1024 ![0, 0] B slices_S2x1024_S1x1024_0_0) shapeCasts_S1x1024_S1024) (extractStridedSlice S16x256x1024 ![0, 0, 4096] u slices_S16x256x10240_S16x256x1024_0_0_4096))⟩, ⟨S16x256x1024, (gate (shapeCast _ (extractStridedSlice S1x1024 ![1, 0] B slices_S2x1024_S1x1024_1_0) shapeCasts_S1x1024_S1024) (extractStridedSlice S16x256x1024 ![0, 0, 5120] u slices_S16x256x10240_S16x256x1024_0_0_5120))⟩] concatenates_S16x256x1024_S16x256x1024_S16x256x2048_d2) (broadcastInDim S16x256x2048 ![] bcast_S_S16x256x2048 (constant S_ .f32 0x3FB8AA3B#32))

/-- The heads of the queries, -/
def heads0 (u : FVec F S16x256x10240 .f32) : FVec F S16x256x4x128 .f32 :=
  shapeCast _ (extractStridedSlice S16x256x512 ![0, 0, 0] u slices_S16x256x10240_S16x256x512_0_0_0) shapeCasts_S16x256x512_S16x256x4x128

/-- and of the keys. -/
def heads1 (u : FVec F S16x256x10240 .f32) : FVec F S16x256x4x128 .f32 :=
  shapeCast _ (extractStridedSlice S16x256x512 ![0, 0, 512] u slices_S16x256x10240_S16x256x512_0_0_512) shapeCasts_S16x256x512_S16x256x4x128

/-- A product times its logistic. -/
def silu (t : FVec F S16x256x1024 .f32) : FVec F S16x256x1024 .f32 := mulf t (sigm t)

/-- Nine groups of columns side by side. -/
def beside (a b : FVec F S16x256x512 .f32) (c d e f g i j : FVec F S16x256x1024 .f32) : FVec F S16x256x8192 .f32 :=
  concatenate S16x256x8192 2 [⟨S16x256x512, a⟩, ⟨S16x256x512, b⟩, ⟨S16x256x1024, c⟩, ⟨S16x256x1024, d⟩, ⟨S16x256x1024, e⟩, ⟨S16x256x1024, f⟩, ⟨S16x256x1024, g⟩, ⟨S16x256x1024, i⟩, ⟨S16x256x1024, j⟩] concatenates_S16x256x512_S16x256x512_S16x256x1024_S16x256x1024_S16x256x1024_S16x256x1024_S16x256x1024_S16x256x1024_S16x256x1024_S16x256x8192_d2

/-- The queries, the scaled keys, -/
def queries (u : FVec F S16x256x10240 .f32) : FVec F S16x256x512 .f32 :=
  shapeCast _ (heads0 u) shapeCasts_S16x256x4x128_S16x256x512

@[inherit_doc queries]
def keys (u : FVec F S16x256x10240 .f32) : FVec F S16x256x512 .f32 :=
  shapeCast _ (mulf (heads1 u) (broadcastInDim S16x256x4x128 ![] bcast_S_S16x256x4x128 (constant S_ .f32 0x3DB504F3#32))) shapeCasts_S16x256x4x128_S16x256x512

/-- and the other mixer's queries. -/
def others (u : FVec F S16x256x10240 .f32) : FVec F S16x256x1024 .f32 :=
  mulf (silu (extractStridedSlice S16x256x1024 ![0, 0, 3072] u slices_S16x256x10240_S16x256x1024_0_0_3072)) (broadcastInDim S16x256x1024 ![] bcast_S_S16x256x1024 (constant S_ .f32 0x3DB504F3#32))

/-- The columns of the first result. -/
def cols (u : FVec F S16x256x10240 .f32) : FVec F S16x256x8192 .f32 :=
  beside (queries u) (keys u) (extractStridedSlice S16x256x1024 ![0, 0, 1024] u slices_S16x256x10240_S16x256x1024_0_0_1024) (silu (extractStridedSlice S16x256x1024 ![0, 0, 2048] u slices_S16x256x10240_S16x256x1024_0_0_2048))
    (others u) (extractStridedSlice S16x256x1024 ![0, 0, 6144] u slices_S16x256x10240_S16x256x1024_0_0_6144) (silu (extractStridedSlice S16x256x1024 ![0, 0, 7168] u slices_S16x256x10240_S16x256x1024_0_0_7168)) (sigm (extractStridedSlice S16x256x1024 ![0, 0, 8192] u slices_S16x256x10240_S16x256x1024_0_0_8192)) (sigm (extractStridedSlice S16x256x1024 ![0, 0, 9216] u slices_S16x256x10240_S16x256x1024_0_0_9216))

end

theorem scaled_apply (x : FVec Ideal S16x256x1024 .f32) (p : Fin 16) (q : Fin 256) (l : Fin 1024) :
    scaled (F := Ideal) x (ix3 p q l) = x (ix3 p q l) * invRms fun k => x (ix3 p q k) := by
  unfold scaled invRms
  pointwise

theorem rows_apply (X : Vec Ideal S12288x1024 .f32) (p : Fin 16) (q : Fin 256) (l : Fin 1024) :
    rows (F := Ideal) X (ix3 p q l) = X (ix2 ⟨0 + (256 * p.val + q.val), by omega⟩ l) := by
  unfold rows
  pointwise
  congr 1
  idx_ext

theorem mods_apply (M : Vec Ideal S8x9216 .f32) (p : Fin 1) (k : Fin 9216) :
    mods (F := Ideal) M (ix3 p 0 k) = M (ix2 0 k) := by
  unfold mods
  pointwise

theorem hidden_apply (x : FVec Ideal S16x256x1024 .f32) (mo : FVec Ideal S1x1x9216 .f32) (N : Vec Ideal S1x3x1024 .f32) (p : Fin 16) (q : Fin 256) (l : Fin 1024) :
    hidden (F := Ideal) x mo N (ix3 p q l)
      = Common.modulated (fun k => x (ix3 p q k)) (fun k => N (ix3 0 1 k)) (fun k => mo (ix3 0 0 ⟨3072 + k.val, by omega⟩)) (fun k => mo (ix3 0 0 ⟨4096 + k.val, by omega⟩)) l := by
  unfold hidden Common.modulated
  rw [← scaled_apply]
  pointwise

theorem product_apply (h : FVec Ideal S16x256x1024 .f32) (W : Vec Ideal S1x1024x10240 .f32) (p : Fin 16) (q : Fin 256) (j : Fin 10240) :
    product (F := Ideal) h W (ix3 p q j) = ∑ k : Fin 1024, h (ix3 p q k) * W (ix3 0 k j) := by
  unfold product
  pointwise

theorem sigm_apply (t : FVec Ideal S16x256x1024 .f32) (i : S16x256x1024.Idx) : sigm (F := Ideal) t i = Ideal.logistic (t i) := by
  unfold sigm Ideal.logistic
  pointwise

theorem silu_apply (t : FVec Ideal S16x256x1024 .f32) (i : S16x256x1024.Idx) : silu (F := Ideal) t i = t i * Ideal.logistic (t i) := by
  unfold silu
  rw [← sigm_apply]
  rfl

theorem gate_apply (b : FVec Ideal S1024 .f32) (t : FVec Ideal S16x256x1024 .f32) (p : Fin 16) (q : Fin 256) (l : Fin 1024) :
    gate (F := Ideal) b t (ix3 p q l) = Ideal.log (b (ix1 l) + (1 - b (ix1 l)) * Ideal.logistic (t (ix3 p q l))) := by
  unfold gate
  rw [← sigm_apply]
  pointwise

theorem logs_apply (B : FVec Ideal S2x1024 .f32) (u : FVec Ideal S16x256x10240 .f32) (p : Fin 16) (q : Fin 256) (j : Fin 2048) :
    logs (F := Ideal) B u (ix3 p q j)
      = logGate (B (ix2 ⟨j.val / 1024, by omega⟩ ⟨j.val % 1024, by omega⟩)) (u (ix3 p q ⟨4096 + j.val, by omega⟩)) := by
  have hj := j.isLt
  unfold logs logGate
  pointwise
  split
  · rename_i h
    rw [gate_apply]
    have e0 : (⟨j.val / 1024, by omega⟩ : Fin 2) = 0 := Fin.ext (by show j.val / 1024 = 0; omega)
    have e1 : (⟨j.val % 1024, by omega⟩ : Fin 1024) = ⟨j.val, h⟩ := Fin.ext (by show j.val % 1024 = j.val; omega)
    rw [e0, e1]
    pointwise
  · rename_i h
    rw [gate_apply]
    have e0 : (⟨j.val / 1024, by omega⟩ : Fin 2) = 1 := Fin.ext (by show j.val / 1024 = 1; omega)
    have e1 : (⟨j.val % 1024, by omega⟩ : Fin 1024) = ⟨j.val - 1024, by omega⟩ := Fin.ext (by show j.val % 1024 = j.val - 1024; omega)
    have e2 : (⟨4096 + j.val, by omega⟩ : Fin 10240) = ⟨5120 + (j.val - 1024), by omega⟩ := Fin.ext (by show 4096 + j.val = 5120 + (j.val - 1024); omega)
    rw [e0, e1, e2]
    pointwise

theorem beside_apply (a b : FVec Ideal S16x256x512 .f32) (c d e f g i j : FVec Ideal S16x256x1024 .f32) (p : Fin 16) (q : Fin 256) (n : Fin 8192) :
    beside (F := Ideal) a b c d e f g i j (ix3 p q n)
      = if h : n.val < 512 then a (ix3 p q ⟨n.val, h⟩)
        else if h : n.val < 1024 then b (ix3 p q ⟨n.val - 512, by omega⟩)
        else if h : n.val < 2048 then c (ix3 p q ⟨n.val - 1024, by omega⟩)
        else if h : n.val < 3072 then d (ix3 p q ⟨n.val - 2048, by omega⟩)
        else if h : n.val < 4096 then e (ix3 p q ⟨n.val - 3072, by omega⟩)
        else if h : n.val < 5120 then f (ix3 p q ⟨n.val - 4096, by omega⟩)
        else if h : n.val < 6144 then g (ix3 p q ⟨n.val - 5120, by omega⟩)
        else if h : n.val < 7168 then i (ix3 p q ⟨n.val - 6144, by omega⟩)
        else j (ix3 p q ⟨n.val - 7168, by omega⟩) := by
  have hn := n.isLt
  unfold beside
  pointwise
  simp only [Nat.sub_sub, Nat.reduceAdd, show (n.val - 512 < 512) = (n.val < 1024) from propext (by omega),
    show (n.val - 1024 < 1024) = (n.val < 2048) from propext (by omega), show (n.val - 2048 < 1024) = (n.val < 3072) from propext (by omega),
    show (n.val - 3072 < 1024) = (n.val < 4096) from propext (by omega), show (n.val - 4096 < 1024) = (n.val < 5120) from propext (by omega),
    show (n.val - 5120 < 1024) = (n.val < 6144) from propext (by omega), show (n.val - 6144 < 1024) = (n.val < 7168) from propext (by omega)]

theorem slice_apply (u : FVec Ideal S16x256x10240 .f32) (o : ℕ) (ho : o + 1024 ≤ 10240) (hs : S16x256x10240.Slices ![0, 0, o] S16x256x1024)
    (p : Fin 16) (q : Fin 256) (l : Fin 1024) :
    extractStridedSlice S16x256x1024 ![0, 0, o] u hs (ix3 p q l) = u (ix3 p q ⟨o + l.val, by omega⟩) :=
  congrArg u (by idx_ext)

theorem others_apply (u : FVec Ideal S16x256x10240 .f32) (p : Fin 16) (q : Fin 256) (l : Fin 1024) :
    others (F := Ideal) u (ix3 p q l)
      = u (ix3 p q ⟨3072 + l.val, by omega⟩) * Ideal.logistic (u (ix3 p q ⟨3072 + l.val, by omega⟩)) * headScale := by
  rw [← slice_apply u 3072 (by omega) slices_S16x256x10240_S16x256x1024_0_0_3072, ← silu_apply]
  rfl

theorem queries_apply (u : FVec Ideal S16x256x10240 .f32) (co si : Fin 128 → EReal) (hc : ∀ d, co d = 1) (hs : ∀ d, si d = 0) (p : Fin 16) (q : Fin 256) (n : Fin 512) :
    queries (F := Ideal) u (ix3 p q n)
      = rotated (fun d => u (ix3 p q ⟨128 * (n.val / 128 % 4) + d.val, by omega⟩)) co si ⟨n.val % 128, by omega⟩ := by
  have hn := n.isLt
  have e : ∀ a b : Fin 10240, a.val = b.val → u (ix3 p q a) = u (ix3 p q b) := fun a b h => by rw [Fin.ext h]
  unfold queries heads0
  rw [rotated_unit _ co si _ (hc _) (hs _)]
  pointwise
  exact e _ _ (by show _ = 128 * (n.val / 128 % 4) + n.val % 128; first | omega | (simp only []; omega))

theorem keys_apply (u : FVec Ideal S16x256x10240 .f32) (co si : Fin 128 → EReal) (hc : ∀ d, co d = 1) (hs : ∀ d, si d = 0) (p : Fin 16) (q : Fin 256) (n : Fin 512) :
    keys (F := Ideal) u (ix3 p q n)
      = rotated (fun d => u (ix3 p q ⟨512 + 128 * (n.val / 128 % 4) + d.val, by omega⟩)) co si ⟨n.val % 128, by omega⟩ * headScale := by
  have hn := n.isLt
  have e : ∀ a b : Fin 10240, a.val = b.val → u (ix3 p q a) = u (ix3 p q b) := fun a b h => by rw [Fin.ext h]
  unfold keys heads1
  rw [rotated_unit _ co si _ (hc _) (hs _)]
  pointwise
  exact congrArg (· * headScale) (e _ _ (by show _ = 512 + 128 * (n.val / 128 % 4) + n.val % 128; first | omega | (simp only []; omega)))

/-- A column of the first result's rows. -/
theorem cols_apply (u : FVec Ideal S16x256x10240 .f32) (co si : Fin 128 → EReal) (hc : ∀ d, co d = 1) (hs : ∀ d, si d = 0) (p : Fin 16) (q : Fin 256) (n : Fin 8192) :
    cols (F := Ideal) u (ix3 p q n) = actOf (fun k => u (ix3 p q k)) co si n := by
  have hn := n.isLt
  have e : ∀ a b : Fin 10240, a.val = b.val → u (ix3 p q a) = u (ix3 p q b) := fun a b h => by rw [Fin.ext h]
  unfold cols
  rw [beside_apply]
  unfold actOf
  by_cases h0 : n.val < 512
  · rw [dif_pos h0, if_pos h0, queries_apply u co si hc hs]
  rw [dif_neg h0, if_neg h0]
  by_cases h1 : n.val < 1024
  · rw [dif_pos h1, if_pos h1, keys_apply u co si hc hs]
    have e2 : (n.val - 512) / 128 % 4 = n.val / 128 % 4 := by omega
    have e3 : (n.val - 512) % 128 = n.val % 128 := by omega
    simp only [e2, e3]
  rw [dif_neg h1, if_neg h1]
  by_cases h2 : n.val < 2048
  · rw [dif_pos h2, if_pos h2, slice_apply u 1024 (by omega), e ⟨1024 + (n.val - 1024), by omega⟩ ⟨n.val, by omega⟩ (by show 1024 + (n.val - 1024) = n.val; omega)]
  rw [dif_neg h2, if_neg h2]
  by_cases h3 : n.val < 3072
  · rw [dif_pos h3, if_pos h3, silu_apply, slice_apply u 2048 (by omega), e ⟨2048 + (n.val - 2048), by omega⟩ ⟨n.val, by omega⟩ (by show 2048 + (n.val - 2048) = n.val; omega)]
  rw [dif_neg h3, if_neg h3]
  by_cases h4 : n.val < 4096
  · rw [dif_pos h4, if_pos h4, others_apply, e ⟨3072 + (n.val - 3072), by omega⟩ ⟨n.val, by omega⟩ (by show 3072 + (n.val - 3072) = n.val; omega)]
  rw [dif_neg h4, if_neg h4]
  by_cases h5 : n.val < 5120
  · rw [dif_pos h5, if_pos h5, slice_apply u 6144 (by omega), e ⟨6144 + (n.val - 4096), by omega⟩ ⟨2048 + n.val, by omega⟩ (by show 6144 + (n.val - 4096) = 2048 + n.val; omega)]
  rw [dif_neg h5, if_neg h5]
  by_cases h6 : n.val < 6144
  · rw [dif_pos h6, if_pos h6, silu_apply, slice_apply u 7168 (by omega), e ⟨7168 + (n.val - 5120), by omega⟩ ⟨2048 + n.val, by omega⟩ (by show 7168 + (n.val - 5120) = 2048 + n.val; omega)]
  rw [dif_neg h6, if_neg h6]
  by_cases h7 : n.val < 7168
  · rw [dif_pos h7, sigm_apply, slice_apply u 8192 (by omega), e ⟨8192 + (n.val - 6144), by omega⟩ ⟨2048 + n.val, by omega⟩ (by show 8192 + (n.val - 6144) = 2048 + n.val; omega)]
  rw [dif_neg h7]
  rw [sigm_apply, slice_apply u 9216 (by omega), e ⟨9216 + (n.val - 7168), by omega⟩ ⟨2048 + n.val, by omega⟩ (by show 9216 + (n.val - 7168) = 2048 + n.val; omega)]

/-- A row of the stream's products. -/
theorem row_apply (X : Vec Ideal S12288x1024 .f32) (M : Vec Ideal S8x9216 .f32) (N : Vec Ideal S1x3x1024 .f32) (W : Vec Ideal S1x1024x10240 .f32)
    (p : Fin 16) (q : Fin 256) (n : Fin 12288) (hn : n.val = 0 + (256 * p.val + q.val)) (j : Fin 10240) :
    product (F := Ideal) (hidden (rows X) (mods M) N) W (ix3 p q j)
      = projRow (fun k => X (ix2 n k)) (fun k => N (ix3 0 1 k)) (fun k => M (ix2 ⟨streamRow n.val, streamRow_lt n⟩ ⟨3072 + k.val, by omega⟩))
          (fun k => M (ix2 ⟨streamRow n.val, streamRow_lt n⟩ ⟨4096 + k.val, by omega⟩)) (fun k f => W (ix3 0 k f)) j := by
  have hb : (⟨streamRow n.val, streamRow_lt n⟩ : Fin 8) = 0 := Fin.ext (by
    show streamRow n.val = 0
    unfold streamRow; rw [if_pos (by omega)])
  have hx : (⟨0 + (256 * p.val + q.val), by omega⟩ : Fin 12288) = n := Fin.ext hn.symm
  rw [hb]
  unfold projRow
  simp only [product_apply, hidden_apply, rows_apply, mods_apply, hx]

theorem merge_apply (y : FVec Ideal S16x256x8192 .f32) (n : Fin 4096) (l : Fin 8192) :
    shapeCast S4096x8192 y shapeCasts_S16x256x8192_S4096x8192 (ix2 n l) = y (ix3 ⟨n.val / 256, by omega⟩ ⟨n.val % 256, by omega⟩ l) := by
  pointwise

theorem mergeG_apply (y : FVec Ideal S16x256x2048 .f32) (n : Fin 4096) (l : Fin 2048) :
    shapeCast S4096x2048 y shapeCasts_S16x256x2048_S4096x2048 (ix2 n l) = y (ix3 ⟨n.val / 256, by omega⟩ ⟨n.val % 256, by omega⟩ l) := by
  pointwise

end First

/-! ## The second stream's rows -/

namespace Second

section
variable {F : FTy → Type} [FloatOps F]

/-- The stream's rows, by batch and position. -/
def rows (X : Vec F S12288x1024 .f32) : FVec F S4x2048x1024 .f32 :=
  shapeCast _ (extractStridedSlice S8192x1024 ![4096, 0] X slices_S12288x1024_S8192x1024_4096_0) shapeCasts_S8192x1024_S4x2048x1024

/-- Each row over the root of its mean square. -/
def scaled (x : FVec F S4x2048x1024 .f32) : FVec F S4x2048x1024 .f32 :=
  mulf x (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf x x) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))

/-- The stream's modulation rows. -/
def mods (M : Vec F S8x9216 .f32) : FVec F S4x1x9216 .f32 :=
  broadcastInDim S4x1x9216 ![0, 2] bcast_S4x9216_S4x1x9216_0_2 (extractStridedSlice S4x9216 ![1, 0] M slices_S8x9216_S4x9216_1_0)

/-- The normalized, modulated rows. -/
def hidden (x : FVec F S4x2048x1024 .f32) (mo : FVec F S4x1x9216 .f32) (N : Vec F S1x3x1024 .f32) : FVec F S4x2048x1024 .f32 :=
  addf (mulf (mulf (scaled x) (broadcastInDim S4x2048x1024 ![0, 1, 2] bcast_S1x1x1024_S4x2048x1024_0_1_2 (broadcastInDim S1x1x1024 ![2] bcast_S1024_S1x1x1024_2 (shapeCast _ (extractStridedSlice S1x1024 ![1, 0] (shapeCast _ N shapeCasts_S1x3x1024_S3x1024) slices_S3x1024_S1x1024_1_0) shapeCasts_S1x1024_S1024)))) (broadcastInDim S4x2048x1024 ![0, 1, 2] bcast_S4x1x1024_S4x2048x1024_0_1_2 (addf (broadcastInDim S4x1x1024 ![] bcast_S_S4x1x1024 (constant S_ .f32 0x3F800000#32)) (extractStridedSlice S4x1x1024 ![0, 0, 4096] mo slices_S4x1x9216_S4x1x1024_0_0_4096)))) (broadcastInDim S4x2048x1024 ![0, 1, 2] bcast_S4x1x1024_S4x2048x1024_0_1_2 (extractStridedSlice S4x1x1024 ![0, 0, 3072] mo slices_S4x1x9216_S4x1x1024_0_0_3072))

/-- Their products with the weights. -/
def product (h : FVec F S4x2048x1024 .f32) (W : Vec F S1x1024x10240 .f32) : FVec F S4x2048x10240 .f32 :=
  Host.dotGeneral dot_S4x2048x1024_S1024x10240_S4x2048x10240_2_0_01_1_n_n none h (shapeCast _ W shapeCasts_S1x1024x10240_S1024x10240)

/-- The logistic function, as the reference spells it. -/
def sigm (t : FVec F S4x2048x1024 .f32) : FVec F S4x2048x1024 .f32 :=
  Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf t)))

/-- The base-`e` logarithm of a forget gate with lower bounds `b`. -/
def gate (b : FVec F S1024 .f32) (t : FVec F S4x2048x1024 .f32) : FVec F S4x2048x1024 .f32 :=
  Host.log (addf (broadcastInDim S4x2048x1024 ![0, 1, 2] bcast_S1x1x1024_S4x2048x1024_0_1_2 (broadcastInDim S1x1x1024 ![2] bcast_S1024_S1x1x1024_2 b)) (mulf (broadcastInDim S4x2048x1024 ![0, 1, 2] bcast_S1x1x1024_S4x2048x1024_0_1_2 (broadcastInDim S1x1x1024 ![2] bcast_S1024_S1x1x1024_2 (subf (broadcastInDim S1024 ![] bcast_S_S1024 (constant S_ .f32 0x3F800000#32)) b))) (sigm t)))

/-- The two gates' base-two logarithms side by side. -/
def logs (B : FVec F S2x1024 .f32) (u : FVec F S4x2048x10240 .f32) : FVec F S4x2048x2048 .f32 :=
  mulf (concatenate S4x2048x2048 2 [⟨S4x2048x1024, (gate (shapeCast _ (extractStridedSlice S1x1024 ![0, 0] B slices_S2x1024_S1x1024_0_0) shapeCasts_S1x1024_S1024) (extractStridedSlice S4x2048x1024 ![0, 0, 4096] u slices_S4x2048x10240_S4x2048x1024_0_0_4096))⟩, ⟨S4x2048x1024, (gate (shapeCast _ (extractStridedSlice S1x1024 ![1, 0] B slices_S2x1024_S1x1024_1_0) shapeCasts_S1x1024_S1024) (extractStridedSlice S4x2048x1024 ![0, 0, 5120] u slices_S4x2048x10240_S4x2048x1024_0_0_5120))⟩] concatenates_S4x2048x1024_S4x2048x1024_S4x2048x2048_d2) (broadcastInDim S4x2048x2048 ![] bcast_S_S4x2048x2048 (constant S_ .f32 0x3FB8AA3B#32))

/-- The heads of the queries, -/
def heads0 (u : FVec F S4x2048x10240 .f32) : FVec F S4x2048x4x128 .f32 :=
  shapeCast _ (extractStridedSlice S4x2048x512 ![0, 0, 0] u slices_S4x2048x10240_S4x2048x512_0_0_0) shapeCasts_S4x2048x512_S4x2048x4x128

/-- and of the keys. -/
def heads1 (u : FVec F S4x2048x10240 .f32) : FVec F S4x2048x4x128 .f32 :=
  shapeCast _ (extractStridedSlice S4x2048x512 ![0, 0, 512] u slices_S4x2048x10240_S4x2048x512_0_0_512) shapeCasts_S4x2048x512_S4x2048x4x128

/-- The rotations' frequencies, -/
def freqs : FVec F S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- their angles at a position's row and column of the grid, -/
def angR : FVec F S2048x32 .f32 :=
  mulf (broadcastInDim S2048x32 ![0, 1] bcast_S2048x1_S2048x32_0_1 (broadcastInDim S2048x1 ![0] bcast_S2048_S2048x1_0 (sitofp .f32 (shapeCast _ (broadcastInDim S32x64 ![0] bcast_S32_S32x64_0 (iotaInDim S32 32 0)) shapeCasts_S32x64_S2048)))) (broadcastInDim S2048x32 ![0, 1] bcast_S1x32_S2048x32_0_1 (broadcastInDim S1x32 ![1] bcast_S32_S1x32_1 freqs))

@[inherit_doc angR]
def angC : FVec F S2048x32 .f32 :=
  mulf (broadcastInDim S2048x32 ![0, 1] bcast_S2048x1_S2048x32_0_1 (broadcastInDim S2048x1 ![0] bcast_S2048_S2048x1_0 (sitofp .f32 (shapeCast _ (broadcastInDim S32x64 ![1] bcast_S64_S32x64_1 (iotaInDim S64 32 0)) shapeCasts_S32x64_S2048)))) (broadcastInDim S2048x32 ![0, 1] bcast_S1x32_S2048x32_0_1 (broadcastInDim S1x32 ![1] bcast_S32_S1x32_1 freqs))

/-- a half head rotated by them, -/
def turnHalf (x : FVec F S4x2048x4x64 .f32) (a : FVec F S2048x32 .f32) : FVec F S4x2048x4x64 .f32 :=
  concatenate S4x2048x4x64 3 [⟨S4x2048x4x32, (subf (mulf (extractStridedSlice S4x2048x4x32 ![0, 0, 0, 0] x slices_S4x2048x4x64_S4x2048x4x32_0_0_0_0) (broadcastInDim S4x2048x4x32 ![0, 1, 2, 3] bcast_S1x2048x1x32_S4x2048x4x32_0_1_2_3 (broadcastInDim S1x2048x1x32 ![1, 3] bcast_S2048x32_S1x2048x1x32_1_3 (Host.cos a)))) (mulf (extractStridedSlice S4x2048x4x32 ![0, 0, 0, 32] x slices_S4x2048x4x64_S4x2048x4x32_0_0_0_32) (broadcastInDim S4x2048x4x32 ![0, 1, 2, 3] bcast_S1x2048x1x32_S4x2048x4x32_0_1_2_3 (broadcastInDim S1x2048x1x32 ![1, 3] bcast_S2048x32_S1x2048x1x32_1_3 (Host.sin a)))))⟩, ⟨S4x2048x4x32, (addf (mulf (extractStridedSlice S4x2048x4x32 ![0, 0, 0, 32] x slices_S4x2048x4x64_S4x2048x4x32_0_0_0_32) (broadcastInDim S4x2048x4x32 ![0, 1, 2, 3] bcast_S1x2048x1x32_S4x2048x4x32_0_1_2_3 (broadcastInDim S1x2048x1x32 ![1, 3] bcast_S2048x32_S1x2048x1x32_1_3 (Host.cos a)))) (mulf (extractStridedSlice S4x2048x4x32 ![0, 0, 0, 0] x slices_S4x2048x4x64_S4x2048x4x32_0_0_0_0) (broadcastInDim S4x2048x4x32 ![0, 1, 2, 3] bcast_S1x2048x1x32_S4x2048x4x32_0_1_2_3 (broadcastInDim S1x2048x1x32 ![1, 3] bcast_S2048x32_S1x2048x1x32_1_3 (Host.sin a)))))⟩] concatenates_S4x2048x4x32_S4x2048x4x32_S4x2048x4x64_d3

/-- and a head: the first half by the row's angles, the second by the column's. -/
def turn (t : FVec F S4x2048x4x128 .f32) : FVec F S4x2048x4x128 .f32 :=
  concatenate S4x2048x4x128 3 [⟨S4x2048x4x64, (turnHalf (extractStridedSlice S4x2048x4x64 ![0, 0, 0, 0] t slices_S4x2048x4x128_S4x2048x4x64_0_0_0_0) angR)⟩, ⟨S4x2048x4x64, (turnHalf (extractStridedSlice S4x2048x4x64 ![0, 0, 0, 64] t slices_S4x2048x4x128_S4x2048x4x64_0_0_0_64) angC)⟩] concatenates_S4x2048x4x64_S4x2048x4x64_S4x2048x4x128_d3

/-- A product times its logistic. -/
def silu (t : FVec F S4x2048x1024 .f32) : FVec F S4x2048x1024 .f32 := mulf t (sigm t)

/-- Nine groups of columns side by side. -/
def beside (a b : FVec F S4x2048x512 .f32) (c d e f g i j : FVec F S4x2048x1024 .f32) : FVec F S4x2048x8192 .f32 :=
  concatenate S4x2048x8192 2 [⟨S4x2048x512, a⟩, ⟨S4x2048x512, b⟩, ⟨S4x2048x1024, c⟩, ⟨S4x2048x1024, d⟩, ⟨S4x2048x1024, e⟩, ⟨S4x2048x1024, f⟩, ⟨S4x2048x1024, g⟩, ⟨S4x2048x1024, i⟩, ⟨S4x2048x1024, j⟩] concatenates_S4x2048x512_S4x2048x512_S4x2048x1024_S4x2048x1024_S4x2048x1024_S4x2048x1024_S4x2048x1024_S4x2048x1024_S4x2048x1024_S4x2048x8192_d2

/-- The queries, the scaled keys, -/
def queries (u : FVec F S4x2048x10240 .f32) : FVec F S4x2048x512 .f32 :=
  shapeCast _ (turn (heads0 u)) shapeCasts_S4x2048x4x128_S4x2048x512

@[inherit_doc queries]
def keys (u : FVec F S4x2048x10240 .f32) : FVec F S4x2048x512 .f32 :=
  shapeCast _ (mulf (turn (heads1 u)) (broadcastInDim S4x2048x4x128 ![] bcast_S_S4x2048x4x128 (constant S_ .f32 0x3DB504F3#32))) shapeCasts_S4x2048x4x128_S4x2048x512

/-- and the other mixer's queries. -/
def others (u : FVec F S4x2048x10240 .f32) : FVec F S4x2048x1024 .f32 :=
  mulf (silu (extractStridedSlice S4x2048x1024 ![0, 0, 3072] u slices_S4x2048x10240_S4x2048x1024_0_0_3072)) (broadcastInDim S4x2048x1024 ![] bcast_S_S4x2048x1024 (constant S_ .f32 0x3DB504F3#32))

/-- The columns of the first result. -/
def cols (u : FVec F S4x2048x10240 .f32) : FVec F S4x2048x8192 .f32 :=
  beside (queries u) (keys u) (extractStridedSlice S4x2048x1024 ![0, 0, 1024] u slices_S4x2048x10240_S4x2048x1024_0_0_1024) (silu (extractStridedSlice S4x2048x1024 ![0, 0, 2048] u slices_S4x2048x10240_S4x2048x1024_0_0_2048))
    (others u) (extractStridedSlice S4x2048x1024 ![0, 0, 6144] u slices_S4x2048x10240_S4x2048x1024_0_0_6144) (silu (extractStridedSlice S4x2048x1024 ![0, 0, 7168] u slices_S4x2048x10240_S4x2048x1024_0_0_7168)) (sigm (extractStridedSlice S4x2048x1024 ![0, 0, 8192] u slices_S4x2048x10240_S4x2048x1024_0_0_8192)) (sigm (extractStridedSlice S4x2048x1024 ![0, 0, 9216] u slices_S4x2048x10240_S4x2048x1024_0_0_9216))

end

theorem scaled_apply (x : FVec Ideal S4x2048x1024 .f32) (p : Fin 4) (q : Fin 2048) (l : Fin 1024) :
    scaled (F := Ideal) x (ix3 p q l) = x (ix3 p q l) * invRms fun k => x (ix3 p q k) := by
  unfold scaled invRms
  pointwise

theorem rows_apply (X : Vec Ideal S12288x1024 .f32) (p : Fin 4) (q : Fin 2048) (l : Fin 1024) :
    rows (F := Ideal) X (ix3 p q l) = X (ix2 ⟨4096 + (2048 * p.val + q.val), by omega⟩ l) := by
  unfold rows
  pointwise
  congr 1
  idx_ext

theorem mods_apply (M : Vec Ideal S8x9216 .f32) (p : Fin 4) (k : Fin 9216) :
    mods (F := Ideal) M (ix3 p 0 k) = M (ix2 ⟨1 + p.val, by omega⟩ k) := by
  unfold mods
  pointwise

theorem hidden_apply (x : FVec Ideal S4x2048x1024 .f32) (mo : FVec Ideal S4x1x9216 .f32) (N : Vec Ideal S1x3x1024 .f32) (p : Fin 4) (q : Fin 2048) (l : Fin 1024) :
    hidden (F := Ideal) x mo N (ix3 p q l)
      = Common.modulated (fun k => x (ix3 p q k)) (fun k => N (ix3 0 1 k)) (fun k => mo (ix3 p 0 ⟨3072 + k.val, by omega⟩)) (fun k => mo (ix3 p 0 ⟨4096 + k.val, by omega⟩)) l := by
  unfold hidden Common.modulated
  rw [← scaled_apply]
  pointwise

theorem product_apply (h : FVec Ideal S4x2048x1024 .f32) (W : Vec Ideal S1x1024x10240 .f32) (p : Fin 4) (q : Fin 2048) (j : Fin 10240) :
    product (F := Ideal) h W (ix3 p q j) = ∑ k : Fin 1024, h (ix3 p q k) * W (ix3 0 k j) := by
  unfold product
  pointwise

theorem sigm_apply (t : FVec Ideal S4x2048x1024 .f32) (i : S4x2048x1024.Idx) : sigm (F := Ideal) t i = Ideal.logistic (t i) := by
  unfold sigm Ideal.logistic
  pointwise

theorem silu_apply (t : FVec Ideal S4x2048x1024 .f32) (i : S4x2048x1024.Idx) : silu (F := Ideal) t i = t i * Ideal.logistic (t i) := by
  unfold silu
  rw [← sigm_apply]
  rfl

theorem gate_apply (b : FVec Ideal S1024 .f32) (t : FVec Ideal S4x2048x1024 .f32) (p : Fin 4) (q : Fin 2048) (l : Fin 1024) :
    gate (F := Ideal) b t (ix3 p q l) = Ideal.log (b (ix1 l) + (1 - b (ix1 l)) * Ideal.logistic (t (ix3 p q l))) := by
  unfold gate
  rw [← sigm_apply]
  pointwise

theorem logs_apply (B : FVec Ideal S2x1024 .f32) (u : FVec Ideal S4x2048x10240 .f32) (p : Fin 4) (q : Fin 2048) (j : Fin 2048) :
    logs (F := Ideal) B u (ix3 p q j)
      = logGate (B (ix2 ⟨j.val / 1024, by omega⟩ ⟨j.val % 1024, by omega⟩)) (u (ix3 p q ⟨4096 + j.val, by omega⟩)) := by
  have hj := j.isLt
  unfold logs logGate
  pointwise
  split
  · rename_i h
    rw [gate_apply]
    have e0 : (⟨j.val / 1024, by omega⟩ : Fin 2) = 0 := Fin.ext (by show j.val / 1024 = 0; omega)
    have e1 : (⟨j.val % 1024, by omega⟩ : Fin 1024) = ⟨j.val, h⟩ := Fin.ext (by show j.val % 1024 = j.val; omega)
    rw [e0, e1]
    pointwise
  · rename_i h
    rw [gate_apply]
    have e0 : (⟨j.val / 1024, by omega⟩ : Fin 2) = 1 := Fin.ext (by show j.val / 1024 = 1; omega)
    have e1 : (⟨j.val % 1024, by omega⟩ : Fin 1024) = ⟨j.val - 1024, by omega⟩ := Fin.ext (by show j.val % 1024 = j.val - 1024; omega)
    have e2 : (⟨4096 + j.val, by omega⟩ : Fin 10240) = ⟨5120 + (j.val - 1024), by omega⟩ := Fin.ext (by show 4096 + j.val = 5120 + (j.val - 1024); omega)
    rw [e0, e1, e2]
    pointwise

theorem beside_apply (a b : FVec Ideal S4x2048x512 .f32) (c d e f g i j : FVec Ideal S4x2048x1024 .f32) (p : Fin 4) (q : Fin 2048) (n : Fin 8192) :
    beside (F := Ideal) a b c d e f g i j (ix3 p q n)
      = if h : n.val < 512 then a (ix3 p q ⟨n.val, h⟩)
        else if h : n.val < 1024 then b (ix3 p q ⟨n.val - 512, by omega⟩)
        else if h : n.val < 2048 then c (ix3 p q ⟨n.val - 1024, by omega⟩)
        else if h : n.val < 3072 then d (ix3 p q ⟨n.val - 2048, by omega⟩)
        else if h : n.val < 4096 then e (ix3 p q ⟨n.val - 3072, by omega⟩)
        else if h : n.val < 5120 then f (ix3 p q ⟨n.val - 4096, by omega⟩)
        else if h : n.val < 6144 then g (ix3 p q ⟨n.val - 5120, by omega⟩)
        else if h : n.val < 7168 then i (ix3 p q ⟨n.val - 6144, by omega⟩)
        else j (ix3 p q ⟨n.val - 7168, by omega⟩) := by
  have hn := n.isLt
  unfold beside
  pointwise
  simp only [Nat.sub_sub, Nat.reduceAdd, show (n.val - 512 < 512) = (n.val < 1024) from propext (by omega),
    show (n.val - 1024 < 1024) = (n.val < 2048) from propext (by omega), show (n.val - 2048 < 1024) = (n.val < 3072) from propext (by omega),
    show (n.val - 3072 < 1024) = (n.val < 4096) from propext (by omega), show (n.val - 4096 < 1024) = (n.val < 5120) from propext (by omega),
    show (n.val - 5120 < 1024) = (n.val < 6144) from propext (by omega), show (n.val - 6144 < 1024) = (n.val < 7168) from propext (by omega)]

theorem angR_apply (q : Fin 2048) (f : Fin 32) : angR (F := Ideal) (ix2 q f) = angle (q.val / 64) f.val := by
  unfold angR freqs angle
  pointwise

theorem angC_apply (q : Fin 2048) (f : Fin 32) : angC (F := Ideal) (ix2 q f) = angle (q.val % 64) f.val := by
  unfold angC freqs angle
  pointwise

theorem turnHalf_apply (x : FVec Ideal S4x2048x4x64 .f32) (a : FVec Ideal S2048x32 .f32) (p : Fin 4) (q : Fin 2048) (h : Fin 4) (d : Fin 64) :
    turnHalf (F := Ideal) x a (ix4 p q h d)
      = if hd : d.val < 32 then
          x (ix4 p q h d) * Ideal.cos (a (ix2 q ⟨d.val, hd⟩)) + x (ix4 p q h ⟨d.val + 32, by omega⟩) * -Ideal.sin (a (ix2 q ⟨d.val, hd⟩))
        else
          x (ix4 p q h d) * Ideal.cos (a (ix2 q ⟨d.val - 32, by omega⟩)) + x (ix4 p q h ⟨d.val - 32, by omega⟩) * Ideal.sin (a (ix2 q ⟨d.val - 32, by omega⟩)) := by
  have hd := d.isLt
  have e : ∀ a b : Fin 64, a.val = b.val → x (ix4 p q h a) = x (ix4 p q h b) := fun a b h => by rw [Fin.ext h]
  unfold turnHalf
  pointwise
  split
  · rw [sub_eq_add_neg, ← mul_neg, e ⟨32 + d.val, by omega⟩ ⟨d.val + 32, by omega⟩ (Nat.add_comm _ _)]
  · rw [e ⟨32 + (d.val - 32), by omega⟩ d (by show 32 + (d.val - 32) = d.val; omega)]

/-- A rotated head, an element. -/
theorem turn_apply (t : FVec Ideal S4x2048x4x128 .f32) (p : Fin 4) (q : Fin 2048) (h : Fin 4) (d : Fin 128) :
    turn (F := Ideal) t (ix4 p q h d) = rotated (fun d => t (ix4 p q h d)) (cosT q.val) (sinT q.val) d := by
  have hd := d.isLt
  have hq := q.isLt
  have e : ∀ a b : Fin 128, a.val = b.val → t (ix4 p q h a) = t (ix4 p q h b) := fun a b h => by rw [Fin.ext h]
  unfold turn
  pointwise
  unfold rotated partner cosT sinT
  simp only [turnHalf_apply, angR_apply, angC_apply, if_pos hq]
  by_cases h1 : d.val < 64 <;> by_cases h2 : d.val / 32 % 2 = 0
  · have h3 : d.val < 32 := by omega
    simp only [h1, h2, h3, dif_pos, if_pos, show d.val % 32 = d.val by omega]
    pointwise
  · have h3 : ¬ d.val < 32 := by omega
    simp only [h1, h2, h3, dif_pos, if_pos, dif_neg, if_neg, not_false_iff, show d.val % 32 = d.val - 32 by omega]
    pointwise
  · have h3 : d.val - 64 < 32 := by omega
    simp only [h1, h2, h3, dif_pos, if_pos, dif_neg, if_neg, not_false_iff, show d.val % 32 = d.val - 64 by omega]
    pointwise
    rw [e ⟨64 + (d.val - 64), by omega⟩ d (by show 64 + (d.val - 64) = d.val; omega),
      e ⟨64 + (d.val - 64 + 32), by omega⟩ ⟨d.val + 32, by omega⟩ (by show 64 + (d.val - 64 + 32) = d.val + 32; omega)]
  · have h3 : ¬ d.val - 64 < 32 := by omega
    simp only [h1, h2, h3, dif_pos, if_pos, dif_neg, if_neg, not_false_iff, show d.val % 32 = d.val - 64 - 32 by omega]
    pointwise
    rw [e ⟨64 + (d.val - 64), by omega⟩ d (by show 64 + (d.val - 64) = d.val; omega),
      e ⟨64 + (d.val - 64 - 32), by omega⟩ ⟨d.val - 32, by omega⟩ (by show 64 + (d.val - 64 - 32) = d.val - 32; omega)]

theorem slice_apply (u : FVec Ideal S4x2048x10240 .f32) (o : ℕ) (ho : o + 1024 ≤ 10240) (hs : S4x2048x10240.Slices ![0, 0, o] S4x2048x1024)
    (p : Fin 4) (q : Fin 2048) (l : Fin 1024) :
    extractStridedSlice S4x2048x1024 ![0, 0, o] u hs (ix3 p q l) = u (ix3 p q ⟨o + l.val, by omega⟩) :=
  congrArg u (by idx_ext)

theorem others_apply (u : FVec Ideal S4x2048x10240 .f32) (p : Fin 4) (q : Fin 2048) (l : Fin 1024) :
    others (F := Ideal) u (ix3 p q l)
      = u (ix3 p q ⟨3072 + l.val, by omega⟩) * Ideal.logistic (u (ix3 p q ⟨3072 + l.val, by omega⟩)) * headScale := by
  rw [← slice_apply u 3072 (by omega) slices_S4x2048x10240_S4x2048x1024_0_0_3072, ← silu_apply]
  rfl

theorem queries_apply (u : FVec Ideal S4x2048x10240 .f32) (p : Fin 4) (q : Fin 2048) (n : Fin 512) :
    queries (F := Ideal) u (ix3 p q n)
      = rotated (fun d => u (ix3 p q ⟨128 * (n.val / 128 % 4) + d.val, by omega⟩)) (cosT q.val) (sinT q.val) ⟨n.val % 128, by omega⟩ := by
  have hn := n.isLt
  have e : ∀ a b : Fin 10240, a.val = b.val → u (ix3 p q a) = u (ix3 p q b) := fun a b h => by rw [Fin.ext h]
  have e' : ∀ d : Fin 128, heads0 u (ix4 p q ⟨n.val / 128, by omega⟩ d) = u (ix3 p q ⟨128 * (n.val / 128 % 4) + d.val, by omega⟩) := fun d => by
    unfold heads0
    pointwise
    exact e _ _ (by show _ = 128 * (n.val / 128 % 4) + d.val; first | omega | (simp only []; omega))
  simp only [← e']
  rw [← turn_apply]
  unfold queries
  pointwise

theorem keys_apply (u : FVec Ideal S4x2048x10240 .f32) (p : Fin 4) (q : Fin 2048) (n : Fin 512) :
    keys (F := Ideal) u (ix3 p q n)
      = rotated (fun d => u (ix3 p q ⟨512 + 128 * (n.val / 128 % 4) + d.val, by omega⟩)) (cosT q.val) (sinT q.val) ⟨n.val % 128, by omega⟩ * headScale := by
  have hn := n.isLt
  have e : ∀ a b : Fin 10240, a.val = b.val → u (ix3 p q a) = u (ix3 p q b) := fun a b h => by rw [Fin.ext h]
  have e' : ∀ d : Fin 128, heads1 u (ix4 p q ⟨n.val / 128, by omega⟩ d) = u (ix3 p q ⟨512 + 128 * (n.val / 128 % 4) + d.val, by omega⟩) := fun d => by
    unfold heads1
    pointwise
    exact e _ _ (by show _ = 512 + 128 * (n.val / 128 % 4) + d.val; first | omega | (simp only []; omega))
  simp only [← e']
  rw [← turn_apply]
  unfold keys
  pointwise

/-- A column of the first result's rows. -/
theorem cols_apply (u : FVec Ideal S4x2048x10240 .f32) (p : Fin 4) (q : Fin 2048) (n : Fin 8192) :
    cols (F := Ideal) u (ix3 p q n) = actOf (fun k => u (ix3 p q k)) (cosT q.val) (sinT q.val) n := by
  have hn := n.isLt
  have e : ∀ a b : Fin 10240, a.val = b.val → u (ix3 p q a) = u (ix3 p q b) := fun a b h => by rw [Fin.ext h]
  unfold cols
  rw [beside_apply]
  unfold actOf
  by_cases h0 : n.val < 512
  · rw [dif_pos h0, if_pos h0, queries_apply u]
  rw [dif_neg h0, if_neg h0]
  by_cases h1 : n.val < 1024
  · rw [dif_pos h1, if_pos h1, keys_apply u]
    have e2 : (n.val - 512) / 128 % 4 = n.val / 128 % 4 := by omega
    have e3 : (n.val - 512) % 128 = n.val % 128 := by omega
    simp only [e2, e3]
  rw [dif_neg h1, if_neg h1]
  by_cases h2 : n.val < 2048
  · rw [dif_pos h2, if_pos h2, slice_apply u 1024 (by omega), e ⟨1024 + (n.val - 1024), by omega⟩ ⟨n.val, by omega⟩ (by show 1024 + (n.val - 1024) = n.val; omega)]
  rw [dif_neg h2, if_neg h2]
  by_cases h3 : n.val < 3072
  · rw [dif_pos h3, if_pos h3, silu_apply, slice_apply u 2048 (by omega), e ⟨2048 + (n.val - 2048), by omega⟩ ⟨n.val, by omega⟩ (by show 2048 + (n.val - 2048) = n.val; omega)]
  rw [dif_neg h3, if_neg h3]
  by_cases h4 : n.val < 4096
  · rw [dif_pos h4, if_pos h4, others_apply, e ⟨3072 + (n.val - 3072), by omega⟩ ⟨n.val, by omega⟩ (by show 3072 + (n.val - 3072) = n.val; omega)]
  rw [dif_neg h4, if_neg h4]
  by_cases h5 : n.val < 5120
  · rw [dif_pos h5, if_pos h5, slice_apply u 6144 (by omega), e ⟨6144 + (n.val - 4096), by omega⟩ ⟨2048 + n.val, by omega⟩ (by show 6144 + (n.val - 4096) = 2048 + n.val; omega)]
  rw [dif_neg h5, if_neg h5]
  by_cases h6 : n.val < 6144
  · rw [dif_pos h6, if_pos h6, silu_apply, slice_apply u 7168 (by omega), e ⟨7168 + (n.val - 5120), by omega⟩ ⟨2048 + n.val, by omega⟩ (by show 7168 + (n.val - 5120) = 2048 + n.val; omega)]
  rw [dif_neg h6, if_neg h6]
  by_cases h7 : n.val < 7168
  · rw [dif_pos h7, sigm_apply, slice_apply u 8192 (by omega), e ⟨8192 + (n.val - 6144), by omega⟩ ⟨2048 + n.val, by omega⟩ (by show 8192 + (n.val - 6144) = 2048 + n.val; omega)]
  rw [dif_neg h7]
  rw [sigm_apply, slice_apply u 9216 (by omega), e ⟨9216 + (n.val - 7168), by omega⟩ ⟨2048 + n.val, by omega⟩ (by show 9216 + (n.val - 7168) = 2048 + n.val; omega)]

/-- A row of the stream's products. -/
theorem row_apply (X : Vec Ideal S12288x1024 .f32) (M : Vec Ideal S8x9216 .f32) (N : Vec Ideal S1x3x1024 .f32) (W : Vec Ideal S1x1024x10240 .f32)
    (p : Fin 4) (q : Fin 2048) (n : Fin 12288) (hn : n.val = 4096 + (2048 * p.val + q.val)) (j : Fin 10240) :
    product (F := Ideal) (hidden (rows X) (mods M) N) W (ix3 p q j)
      = projRow (fun k => X (ix2 n k)) (fun k => N (ix3 0 1 k)) (fun k => M (ix2 ⟨streamRow n.val, streamRow_lt n⟩ ⟨3072 + k.val, by omega⟩))
          (fun k => M (ix2 ⟨streamRow n.val, streamRow_lt n⟩ ⟨4096 + k.val, by omega⟩)) (fun k f => W (ix3 0 k f)) j := by
  have hb : (⟨streamRow n.val, streamRow_lt n⟩ : Fin 8) = ⟨1 + p.val, by omega⟩ := Fin.ext (by
    show streamRow n.val = 1 + p.val
    unfold streamRow; rw [if_neg (by omega)]; omega)
  have hx : (⟨4096 + (2048 * p.val + q.val), by omega⟩ : Fin 12288) = n := Fin.ext hn.symm
  rw [hb]
  unfold projRow
  simp only [product_apply, hidden_apply, rows_apply, mods_apply, hx]

theorem merge_apply (y : FVec Ideal S4x2048x8192 .f32) (n : Fin 8192) (l : Fin 8192) :
    shapeCast S8192x8192 y shapeCasts_S4x2048x8192_S8192x8192 (ix2 n l) = y (ix3 ⟨n.val / 2048, by omega⟩ ⟨n.val % 2048, by omega⟩ l) := by
  pointwise

theorem mergeG_apply (y : FVec Ideal S4x2048x2048 .f32) (n : Fin 8192) (l : Fin 2048) :
    shapeCast S8192x2048 y shapeCasts_S4x2048x2048_S8192x2048 (ix2 n l) = y (ix3 ⟨n.val / 2048, by omega⟩ ⟨n.val % 2048, by omega⟩ l) := by
  pointwise

end Second

/-! ## The results -/

/-- A row's products with the weights. -/
def rowOf (X : Vec Ideal S12288x1024 .f32) (M : Vec Ideal S8x9216 .f32) (N : Vec Ideal S1x3x1024 .f32) (W : Vec Ideal S1x1024x10240 .f32)
    (n : Fin 12288) : Fin 10240 → EReal :=
  projRow (fun k => X (ix2 n k)) (fun k => N (ix3 0 1 k)) (fun k => M (ix2 ⟨streamRow n.val, streamRow_lt n⟩ ⟨3072 + k.val, by omega⟩))
    (fun k => M (ix2 ⟨streamRow n.val, streamRow_lt n⟩ ⟨4096 + k.val, by omega⟩)) (fun k f => W (ix3 0 k f))

section
variable {F : FTy → Type} [FloatOps F]

/-- The first result, -/
def outA (X : Vec F S12288x1024 .f32) (M : Vec F S8x9216 .f32) (N : Vec F S1x3x1024 .f32) (W : Vec F S1x1024x10240 .f32) : Vec F S12288x8192 .bf16 :=
  truncf .bf16 (concatenate S12288x8192 0 [⟨S4096x8192, (shapeCast _ (First.cols (First.product (First.hidden (First.rows X) (First.mods M) N) W)) shapeCasts_S16x256x8192_S4096x8192)⟩,
    ⟨S8192x8192, (shapeCast _ (Second.cols (Second.product (Second.hidden (Second.rows X) (Second.mods M) N) W)) shapeCasts_S4x2048x8192_S8192x8192)⟩] concatenates_S4096x8192_S8192x8192_S12288x8192_d0) bitsLt_bf16_f32

/-- and the second. -/
def outG (X : Vec F S12288x1024 .f32) (M : Vec F S8x9216 .f32) (N : Vec F S1x3x1024 .f32) (L : Vec F S2x2x1024 .f32) (W : Vec F S1x1024x10240 .f32) : Vec F S12288x2048 .f32 :=
  concatenate S12288x2048 0 [⟨S4096x2048, (shapeCast _ (First.logs (lower L) (First.product (First.hidden (First.rows X) (First.mods M) N) W)) shapeCasts_S16x256x2048_S4096x2048)⟩,
    ⟨S8192x2048, (shapeCast _ (Second.logs (lower L) (Second.product (Second.hidden (Second.rows X) (Second.mods M) N) W)) shapeCasts_S4x2048x2048_S8192x2048)⟩] concatenates_S4096x2048_S8192x2048_S12288x2048_d0

theorem first_eq (V0 : Valuation τ sig (Elt F)) :
    res_main_v53 V0 = First.product (First.hidden (First.rows (V0 (Proc.devRef .tc main_arg0))) (First.mods (V0 (Proc.devRef .tc main_arg1))) (V0 (Proc.devRef .tc main_arg2))) (V0 (Proc.devRef .tc main_arg4)) := by
  unfold res_main_v53 First.product First.hidden First.scaled res_main_v21 res_main_v2 res_main_v5 First.mods First.rows
  rfl

theorem second_eq (V0 : Valuation τ sig (Elt F)) :
    res_main_v165 V0 = Second.product (Second.hidden (Second.rows (V0 (Proc.devRef .tc main_arg0))) (Second.mods (V0 (Proc.devRef .tc main_arg1))) (V0 (Proc.devRef .tc main_arg2))) (V0 (Proc.devRef .tc main_arg4)) := by
  unfold res_main_v165 Second.product Second.hidden Second.scaled res_main_v133 res_main_v4 res_main_v5 Second.mods Second.rows
  rfl

theorem lower_eq (V0 : Valuation τ sig (Elt F)) : res_main_v19 V0 = lower (V0 (Proc.devRef .tc main_arg3)) := by
  unfold res_main_v19 res_main_v12 lower shares exps
  rfl

theorem secondCols_eq (V0 : Valuation τ sig (Elt F)) : res_main_v358 V0 = Second.cols (res_main_v165 V0) := by
  unfold res_main_v358 res_main_v169 res_main_v170 res_main_v174 res_main_v203 res_main_v204 res_main_v226 res_main_v227 res_main_v264 res_main_v265 res_main_v287 res_main_v288 res_main_v193 res_main_v216 res_main_v254 res_main_v277 res_main_v177 res_main_v178 res_main_v200 res_main_v202 res_main_v223 res_main_v225 res_main_v261 res_main_v263 res_main_v284 res_main_v286 res_main_v198 res_main_v221 res_main_v259 res_main_v282 res_main_v192 res_main_v253
  unfold Second.cols Second.beside Second.queries Second.keys Second.others Second.silu Second.sigm Second.turn Second.turnHalf Second.angR Second.angC Second.freqs Second.heads0 Second.heads1
  rfl

theorem outG_eq (V0 : Valuation τ sig (Elt F)) : res_main_v368 V0 = outG (V0 (Proc.devRef .tc main_arg0)) (V0 (Proc.devRef .tc main_arg1)) (V0 (Proc.devRef .tc main_arg2)) (V0 (Proc.devRef .tc main_arg3)) (V0 (Proc.devRef .tc main_arg4)) := by
  unfold outG
  rw [← first_eq, ← second_eq, ← lower_eq]
  unfold res_main_v368 First.logs Second.logs First.gate Second.gate First.sigm Second.sigm
  rfl

/-- The run, its results named. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v367)
          = outA (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v368)
          = outG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans (outG_eq (launchContents m c)), (h c).2.2⟩) (Value.run m ρ)
  refine Eq.trans ?_ (congrArg₂ (fun u v => truncf .bf16 (concatenate S12288x8192 0 [⟨S4096x8192, (shapeCast _ (First.cols u) shapeCasts_S16x256x8192_S4096x8192)⟩,
    ⟨S8192x8192, (shapeCast _ (Second.cols v) shapeCasts_S4x2048x8192_S8192x8192)⟩] concatenates_S4096x8192_S8192x8192_S12288x8192_d0) bitsLt_bf16_f32) (first_eq (launchContents m c)) (second_eq (launchContents m c)))
  dsimp only
  rw [← secondCols_eq]
  unfold First.cols First.beside First.queries First.keys First.others First.silu First.sigm First.heads0 First.heads1 res_main_v57 res_main_v58 res_main_v62
  rfl

end

/-- An element of the first result, -/
theorem outA_apply (X : Vec Ideal S12288x1024 .f32) (M : Vec Ideal S8x9216 .f32) (N : Vec Ideal S1x3x1024 .f32) (W : Vec Ideal S1x1024x10240 .f32)
    (n : Fin 12288) (j : Fin 8192) :
    outA (F := Ideal) X M N W (ix2 n j) = actOf (rowOf X M N W n) (cosT (tableRow n.val)) (sinT (tableRow n.val)) j := by
  have hn := n.isLt
  unfold outA
  generalize ha : First.cols (First.product (First.hidden (First.rows X) (First.mods M) N) W) = a
  generalize hb : Second.cols (Second.product (Second.hidden (Second.rows X) (Second.mods M) N) W) = b
  pointwise
  subst ha hb
  split
  · rename_i h
    have ht : tableRow n.val = 2048 + n.val % 512 := by unfold tableRow; rw [if_pos h]
    rw [First.cols_apply _ (cosT (tableRow n.val)) (sinT (tableRow n.val)) (fun d => by unfold cosT; rw [if_neg (by omega)])
      (fun d => by unfold sinT; rw [if_neg (by omega)])]
    refine congrArg (fun p => actOf p _ _ j) (funext fun k => ?_)
    exact First.row_apply X M N W _ _ n (by first | omega | (simp only []; omega)) k
  · rename_i h
    have ht : tableRow n.val = (n.val - 4096) % 2048 := by unfold tableRow; rw [if_neg h]
    rw [Second.cols_apply, ht]
    refine congrArg (fun p => actOf p (cosT ((n.val - 4096) % 2048)) (sinT ((n.val - 4096) % 2048)) j) (funext fun k => ?_)
    exact Second.row_apply X M N W _ _ n (by first | omega | (simp only []; omega)) k

theorem exps_apply (L : Vec Ideal S2x2x1024 .f32) (a k : Fin 2) (l : Fin 1024) :
    exps (F := Ideal) L (ix3 a k l) = Ideal.exp (L (ix3 a k l) - greatest fun k => L (ix3 a k l)) := by
  unfold exps greatest
  have hl := low32_eq
  unfold low32 at hl ⊢
  pointwise
  simp only [hl, bot_sup_eq]

theorem shares_apply (L : Vec Ideal S2x2x1024 .f32) (a : Fin 2) (l : Fin 1024) :
    shares (F := Ideal) L (ix3 a 0 l) = lowerBound fun k => L (ix3 a k l) := by
  have he : ∀ k, exps L (ix3 a k l) = _ := fun k => exps_apply L a k l
  unfold shares lowerBound
  generalize exps L = e at he ⊢
  pointwise
  simp only [he]

/-- The first running sum along the slots is the first slot. -/
theorem running_apply (x : FVec Ideal S2x2x1024 .f32) (v : FVec Ideal S_ .f32) (hv : ∀ i, v i = 0) (a : Fin 2) (l : Fin 1024) :
    Host.reduceWindowAdd (F := Ideal) ![1, 2, 1] ![1, 1, 1] ![0, 1, 0] ![0, 0, 0] x v reduceWindows_S2x2x1024_S2x2x1024_w1s1p0_0_w2s1p1_0_w1s1p0_0 h_S_ (ix3 a 0 l)
      = x (ix3 a 0 l) := by
  unfold Host.reduceWindowAdd
  rw [Ideal.hostReduceWindowAdd_def]
  unfold Ideal.hostReduceWindowAdd Host.reduceWindow
  rw [hv]
  dsimp only
  rw [show List.finRange (Shape.mk 3 ![1, 2, 1]).numel = [(0 : Fin 2), (1 : Fin 2)] from rfl]
  simp only [List.foldl]
  have h0 : (((Shape.mk 3 ![1, 2, 1]).rowMajor.symm (0 : Fin 2)) 1).val = 0 := by decide
  have h1 : ∀ b : Fin 3, (((Shape.mk 3 ![1, 2, 1]).rowMajor.symm (1 : Fin 2)) b).val = (![0, 1, 0] : Fin 3 → ℕ) b := by decide
  have ha := a.isLt
  have hl := l.isLt
  rw [dif_neg (fun hin => by
      have h := (hin 1).1
      rw [h0] at h
      exact absurd h (by show ¬ 1 ≤ 0 * 1 + 0; omega)),
    dif_pos (fun b => by
      rw [h1]
      match b with
      | 0 => exact ⟨by show 0 ≤ _; omega, by show a.val * 1 + 0 - 0 < 2; omega⟩
      | 1 => exact ⟨by show 1 ≤ 0 * 1 + 1; omega, by show 0 * 1 + 1 - 1 < 2; omega⟩
      | 2 => exact ⟨by show 0 ≤ _; omega, by show l.val * 1 + 0 - 0 < 1024; omega⟩),
    zero_add, zero_add]
  refine congrArg x (funext fun b => Fin.ext ?_)
  show _ + (((Shape.mk 3 ![1, 2, 1]).rowMajor.symm (1 : Fin 2)) b).val - _ = _
  rw [h1]
  match b with
  | 0 => show a.val * 1 + 0 - 0 = a.val; omega
  | 1 => rfl
  | 2 => show l.val * 1 + 0 - 0 = l.val; omega

theorem lower_apply (L : Vec Ideal S2x2x1024 .f32) (a : Fin 2) (l : Fin 1024) :
    lower (F := Ideal) L (ix2 a l) = lowerBound fun k => L (ix3 a k l) := by
  unfold lower
  rw [← shares_apply]
  generalize shares L = x
  rw [← running_apply x (broadcastInDim S_ ![] bcast_S_S_ (constant S_ .f32 0x00000000#32)) (fun i => by pointwise) a l]
  generalize Host.reduceWindowAdd (F := Ideal) ![1, 2, 1] ![1, 1, 1] ![0, 1, 0] ![0, 0, 0] x _ _ _ = y
  pointwise

/-- and of the second. -/
theorem outG_apply (X : Vec Ideal S12288x1024 .f32) (M : Vec Ideal S8x9216 .f32) (N : Vec Ideal S1x3x1024 .f32) (L : Vec Ideal S2x2x1024 .f32)
    (W : Vec Ideal S1x1024x10240 .f32) (n : Fin 12288) (j : Fin 2048) :
    outG (F := Ideal) X M N L W (ix2 n j) = gateOf (rowOf X M N W n) (fun a k l => L (ix3 a k l)) j := by
  have hn := n.isLt
  unfold outG
  generalize ha : First.logs (lower L) (First.product (First.hidden (First.rows X) (First.mods M) N) W) = a
  generalize hb : Second.logs (lower L) (Second.product (Second.hidden (Second.rows X) (Second.mods M) N) W) = b
  pointwise
  subst ha hb
  unfold gateOf
  split
  · rw [First.logs_apply, lower_apply]
    exact congrArg _ (First.row_apply X M N W _ _ n (by first | omega | (simp only []; omega)) _)
  · rw [Second.logs_apply, lower_apply]
    exact congrArg _ (Second.row_apply X M N W _ _ n (by first | omega | (simp only []; omega)) _)

end Cert.Reference3Ideal.Proj

end
-- ==== Proof.Proj.Blocks.lean ====
/-
The kernel's two results row by row, over the extended reals: the blocks the launch reads and writes are rows of the
arrays, so each result row is the projection of its stream's row, turned by its position's tables.
-/
module

public import proofs.«01_k».proof.Proof.Proj.Frame
public import proofs.«01_k».proof.Proof.Proj.Row
public import proofs.«01_k».proof.Proof.Proj.Reference
public import proofs.«01_k».proof.Proof.Ffn2.Blocks
public import Idealize.ShloMosaic.Lib.Pipeline.ValueKit

@[expose] public section

set_option maxRecDepth 16384

noncomputable section

namespace Cert.Kernel3Ideal.Proj

open Cert.Kernel3Ideal Cert.Kernel3Ideal.Gen Cert.Common
open Idealize.ShloMosaic Idealize.ShloMosaic.TcCoe Idealize.SL Idealize.SL.Sem
open Cert.KernelIdeal.Ffn2 (split_apply norms_apply)

/-! ## What the host operations before the launch leave -/

section
variable {F : FTy → Type} [FloatOps F]

/-- The frequencies. -/
def freqs : FVec F S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- A number for each position times each frequency. -/
def times (n : IVec S2048 32) : FVec F S2048x32 .f32 :=
  mulf (broadcastInDim S2048x32 ![0, 1] bcast_S2048x1_S2048x32_0_1 (broadcastInDim S2048x1 ![0] bcast_S2048_S2048x1_0 (sitofp .f32 n)))
    (broadcastInDim S2048x32 ![0, 1] bcast_S1x32_S2048x32_0_1 (broadcastInDim S1x32 ![1] bcast_S32_S1x32_1 freqs))

/-- The angles of the positions' rows, and of their columns. -/
def rowAngles : FVec F S2048x32 .f32 := times (shapeCast S2048 (iotaInDim S32x64 32 0) shapeCasts_S32x64_S2048)
def colAngles : FVec F S2048x32 .f32 := times (shapeCast S2048 (iotaInDim S32x64 32 1) shapeCasts_S32x64_S2048)

/-- Four arrays side by side. -/
def four (a b u v : FVec F S2048x32 .f32) : FVec F S2048x128 .f32 :=
  concatenate S2048x128 1 [⟨S2048x32, a⟩, ⟨S2048x32, b⟩, ⟨S2048x32, u⟩, ⟨S2048x32, v⟩] concatenates_S2048x32_S2048x32_S2048x32_S2048x32_S2048x128_d1

/-- One array below another. -/
def below (a : FVec F S2048x128 .f32) (b : FVec F S512x128 .f32) : FVec F S2560x128 .f32 :=
  concatenate S2560x128 0 [⟨S2048x128, a⟩, ⟨S512x128, b⟩] concatenates_S2048x128_S512x128_S2560x128_d0

/-- A table of the positions' rows, and below it rows of one value. -/
def tableOf (a : FVec F S2048x128 .f32) (b : FVec F S_ .f32) : FVec F S2560x128 .f32 :=
  below a (broadcastInDim S512x128 ![] bcast_S_S512x128 b)

theorem below_eq (a : FVec F S2048x128 .f32) (b : FVec F S512x128 .f32) :
    concatenate S2560x128 0 [⟨S2048x128, a⟩, ⟨S512x128, b⟩] concatenates_S2048x128_S512x128_S2560x128_d0 = below a b := rfl

/-- The table of cosines, and the table of sines. -/
def cosines : FVec F S2560x128 .f32 :=
  tableOf (four (Host.cos rowAngles) (Host.cos rowAngles) (Host.cos colAngles) (Host.cos colAngles)) (constant S_ .f32 0x3F800000#32)
def sines : FVec F S2560x128 .f32 :=
  tableOf (four (Host.negf (Host.sin rowAngles)) (Host.sin rowAngles) (Host.negf (Host.sin colAngles)) (Host.sin colAngles)) (constant S_ .f32 0x00000000#32)

variable (m : (ℓ : Loc nD τ sig) → Buf (Elt F) ℓ) (c : Dev nD)

/-- The stream's rows are the input. -/
theorem V_main_arg0 : V m c main_arg0 = m ((c : Thread nD τ).loc main_arg0) := by
  simp only [V, hostOps0]; after_results_simp
/-- So are the logits of the gate's floor. -/
theorem V_main_arg3 : V m c main_arg3 = m ((c : Thread nD τ).loc main_arg3) := by
  simp only [V, hostOps0]; after_results_simp
/-- The modulation rows, their nine parts apart. -/
theorem V_main_v0 : V m c main_v0 = shapeCast S8x9x1024 (m ((c : Thread nD τ).loc main_arg1)) shapeCasts_S8x9216_S8x9x1024 := by
  simp only [V, hostOps0]; after_results_simp <;> rfl
/-- The norm weights, without the leading axis. -/
theorem V_main_v1 : V m c main_v1 = shapeCast S3x1024 (m ((c : Thread nD τ).loc main_arg2)) shapeCasts_S1x3x1024_S3x1024 := by
  simp only [V, hostOps0]; after_results_simp <;> rfl
/-- The matrix, without the leading axis. -/
theorem V_main_v2 : V m c main_v2 = shapeCast S1024x10240 (m ((c : Thread nD τ).loc main_arg4)) shapeCasts_S1x1024x10240_S1024x10240 := by
  simp only [V, hostOps0]; after_results_simp <;> rfl
/-- The cosines. -/
theorem V_main_v36 : V m c main_v36 = cosines := by
  simp only [V, hostOps0, below_eq]; after_results_simp
  rfl
/-- The sines. -/
theorem V_main_v38 : V m c main_v38 = sines := by
  simp only [V, hostOps0, below_eq]; after_results_simp
  rfl
end

/-! ## The tables, entry by entry -/

theorem rowAngles_apply (q : Fin 2048) (f : Fin 32) : rowAngles (F := Ideal) (ix2 q f) = angle (q.val / 64) f.val := by
  unfold rowAngles times freqs angle
  pointwise

theorem colAngles_apply (q : Fin 2048) (f : Fin 32) : colAngles (F := Ideal) (ix2 q f) = angle (q.val % 64) f.val := by
  unfold colAngles times freqs angle
  pointwise

/-- The first two of four arrays side by side hold columns below 64, the others those above. -/
theorem four_apply (a b u v : FVec Ideal S2048x32 .f32) (q : Fin 2048) (d : Fin 128) :
    four a b u v (ix2 q d)
      = if d.val < 64 then (if d.val / 32 % 2 = 0 then a (ix2 q ⟨d.val % 32, by omega⟩) else b (ix2 q ⟨d.val % 32, by omega⟩))
        else (if d.val / 32 % 2 = 0 then u (ix2 q ⟨d.val % 32, by omega⟩) else v (ix2 q ⟨d.val % 32, by omega⟩)) := by
  have e : four a b u v (ix2 q d)
      = if h : d.val < 32 then a (ix2 q ⟨d.val, h⟩) else if h : d.val - 32 < 32 then b (ix2 q ⟨d.val - 32, h⟩)
        else if h : d.val - 32 - 32 < 32 then u (ix2 q ⟨d.val - 32 - 32, h⟩) else v (ix2 q ⟨d.val - 32 - 32 - 32, by omega⟩) := by
    unfold four
    pointwise
  rw [e]
  by_cases h1 : d.val < 64 <;> by_cases h2 : d.val / 32 % 2 = 0
  · rw [if_pos h1, if_pos h2, dif_pos (by omega)]
    exact congrArg (fun k => a (ix2 q k)) (Fin.ext (by show d.val = d.val % 32; omega))
  · rw [if_pos h1, if_neg h2, dif_neg (by omega), dif_pos (by omega)]
    exact congrArg (fun k => b (ix2 q k)) (Fin.ext (by show d.val - 32 = d.val % 32; omega))
  · rw [if_neg h1, if_pos h2, dif_neg (by omega), dif_neg (by omega), dif_pos (by omega)]
    exact congrArg (fun k => u (ix2 q k)) (Fin.ext (by show d.val - 32 - 32 = d.val % 32; omega))
  · rw [if_neg h1, if_neg h2, dif_neg (by omega), dif_neg (by omega), dif_neg (by omega)]
    exact congrArg (fun k => v (ix2 q k)) (Fin.ext (by show d.val - 32 - 32 - 32 = d.val % 32; omega))

/-- A table's row is its position's below row 2048, and the one value from there on. -/
theorem tableOf_low (a : FVec Ideal S2048x128 .f32) (b : FVec Ideal S_ .f32) (q : Fin 2560) (d : Fin 128) (hq : q.val < 2048) :
    tableOf a b (ix2 q d) = a (ix2 ⟨q.val, hq⟩ d) := by
  unfold tableOf below
  pointwise
  exact dif_pos hq
theorem tableOf_high (a : FVec Ideal S2048x128 .f32) (v : BitVec 32) (q : Fin 2560) (d : Fin 128) (hq : ¬ q.val < 2048) :
    tableOf a (constant S_ .f32 v) (ix2 q d) = Ideal.ofBits .f32 v := by
  unfold tableOf below
  pointwise
  exact dif_neg hq

/-- A cosine, a sine and a sine with the sign changed, entry by entry. -/
theorem cos_at (x : FVec Ideal S2048x32 .f32) (i : S2048x32.Idx) : Host.cos x i = Ideal.cos (x i) := rfl
theorem sin_at (x : FVec Ideal S2048x32 .f32) (i : S2048x32.Idx) : Host.sin x i = Ideal.sin (x i) := rfl
theorem neg_sin_at (x : FVec Ideal S2048x32 .f32) (i : S2048x32.Idx) : Host.negf (Host.sin x) i = -Ideal.sin (x i) := rfl

theorem cosines_apply (q : Fin 2560) (d : Fin 128) : cosines (F := Ideal) (ix2 q d) = cosT q.val d := by
  unfold cosines cosT
  by_cases hq : q.val < 2048
  · rw [tableOf_low _ _ q d hq, four_apply, if_pos hq]
    simp only [cos_at, rowAngles_apply, colAngles_apply]
    by_cases h1 : d.val < 64 <;> simp only [h1, if_true, if_false, ite_self]
  · rw [tableOf_high _ _ q d hq, if_neg hq]
    pointwise

theorem sines_apply (q : Fin 2560) (d : Fin 128) : sines (F := Ideal) (ix2 q d) = sinT q.val d := by
  unfold sines sinT
  by_cases hq : q.val < 2048
  · rw [tableOf_low _ _ q d hq, four_apply, if_pos hq]
    simp only [sin_at, neg_sin_at, rowAngles_apply, colAngles_apply]
    by_cases h1 : d.val < 64 <;> simp only [h1, if_true, if_false]
  · rw [tableOf_high _ _ q d hq, if_neg hq]
    pointwise

/-! ## The windows' blocks as parts of the arrays -/

/-- The modulation row point `t` reads: the first for the first stream's eight points, then one for every four. -/
def modRow (t : Fin cfg0.N) : ℕ := if t.val < 8 then 0 else 1 + (t.val - 8) / 4

/-- The tables' block point `t` reads: the last for the first stream's eight points, then the four others in turn. -/
def tableBlock (t : Fin cfg0.N) : ℕ := if t.val < 8 then 4 else (t.val - 8) % 4

theorem index0 : ∀ t : Fin cfg0.N, win0_0.index t = ![t.val, 0] := (by decide +kernel : ∀ t : Fin grid0.N, _)
theorem index1 : ∀ t : Fin cfg0.N, win0_1.index t = ![modRow t, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![tableBlock t, 0] := (by decide +kernel : ∀ t : Fin grid0.N, _)
theorem index5 : ∀ t : Fin cfg0.N, win0_5.index t = ![tableBlock t, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- A row of a point's block is a row of its stream, and of its tables. -/
theorem streamRow_at (t : Fin cfg0.N) (r n : ℕ) (hr : r < 512) (hn : n = 512 * t.val + r) : streamRow n = modRow t := by
  unfold streamRow modRow
  split <;> split <;> omega
theorem tableRow_at (t : Fin cfg0.N) (r n : ℕ) (hr : r < 512) (hn : n = 512 * t.val + r) : tableRow n = 512 * tableBlock t + r := by
  unfold tableRow tableBlock
  split <;> split <;> omega

/-- The projection of a row depends on its operands' entries only. -/
theorem row_congr {x x' w w' sh sh' sc sc' : Fin 1024 → EReal} {W W' : Fin 1024 → Fin 10240 → EReal}
    (hx : ∀ k, x k = x' k) (hw : ∀ k, w k = w' k) (hsh : ∀ k, sh k = sh' k) (hsc : ∀ k, sc k = sc' k) (hW : ∀ k f, W k f = W' k f) :
    projRow x w sh sc W = projRow x' w' sh' sc' W' := by
  obtain rfl : x = x' := funext hx
  obtain rfl : w = w' := funext hw
  obtain rfl : sh = sh' := funext hsh
  obtain rfl : sc = sc' := funext hsc
  obtain rfl : W = W' := funext fun k => funext (hW k)
  rfl

/-- So do the two results on their tables and logits. -/
theorem act_congr {p p' : Fin 10240 → EReal} {co co' si si' : Fin 128 → EReal} (hp : p = p') (hc : ∀ d, co d = co' d) (hs : ∀ d, si d = si' d)
    (j : Fin 8192) : actOf p co si j = actOf p' co' si' j := by
  obtain rfl := hp
  obtain rfl : co = co' := funext hc
  obtain rfl : si = si' := funext hs
  rfl
theorem gate_congr {p p' : Fin 10240 → EReal} {lg lg' : Fin 2 → Fin 2 → Fin 1024 → EReal} (hp : p = p') (hl : ∀ a b k, lg a b k = lg' a b k)
    (j : Fin 2048) : gateOf p lg j = gateOf p' lg' j := by
  obtain rfl := hp
  obtain rfl : lg = lg' := funext fun a => funext fun b => funext (hl a b)
  rfl

/-- The matrix without its leading axis, entry by entry. -/
theorem matrix_apply (W : Vec Ideal S1x1024x10240 .f32) (k : Fin 1024) (f : Fin 10240) :
    shapeCast S1024x10240 W shapeCasts_S1x1024x10240_S1024x10240 (ix2 k f) = W (ix3 0 k f) := by pointwise

section
variable (m : (ℓ : Loc nD τ sig) → Buf (Elt Ideal) ℓ) (c : Dev nD)

/-- Point `t` finds rows `512 t` to `512 t + 511` of the input. -/
theorem iblk0_apply (t : Fin cfg0.N) (r : Fin 512) (k : Fin 1024) (n : Fin 12288) (hn : n.val = 512 * t.val + r.val) :
    iblk m c 0 t (ix2 r k) = m ((c : Thread nD τ).loc main_arg0) (ix2 n k) := by
  have e : (((cfg0.win 0).blk t).view.emb (ix2 r k) : S12288x1024.Idx) = ix2 n k := by blk_ext [index0 t]
  show V m c main_arg0 _ = _
  rw [V_main_arg0]
  exact congrArg _ e

/-- Its modulation row is row `modRow t`; part `j` of it starts at column `1024 j`. -/
theorem iblk1_apply (t : Fin cfg0.N) (j : Fin 9) (k : Fin 1024) (b : Fin 8) (hb : b.val = modRow t) (p : Fin 9216) (hp : p.val = 1024 * j.val + k.val) :
    iblk m c 1 t (ix3 0 j k) = m ((c : Thread nD τ).loc main_arg1) (ix2 b p) := by
  have e : (((cfg0.win 1).blk t).view.emb (ix3 0 j k) : S8x9x1024.Idx) = ix3 b j k := by blk_ext [index1 t]
  show V m c main_v0 _ = _
  rw [V_main_v0]
  exact (congrArg _ e).trans ((split_apply _ _ _ _).trans (congrArg _ (congrArg (ix2 b) (Fin.ext hp.symm))))

/-- Its norm weights are the input's. -/
theorem iblk2_apply (t : Fin cfg0.N) (j : Fin 3) (k : Fin 1024) :
    iblk m c 2 t (ix2 j k) = m ((c : Thread nD τ).loc main_arg2) (ix3 0 j k) := by
  have e : (((cfg0.win 2).blk t).view.emb (ix2 j k) : S3x1024.Idx) = ix2 j k := by blk_ext [index2 t]
  show V m c main_v1 _ = _
  rw [V_main_v1]
  exact (congrArg _ e).trans (norms_apply _ _ _)

/-- So are its logits. -/
theorem iblk3_apply (t : Fin cfg0.N) (a b : Fin 2) (k : Fin 1024) :
    iblk m c 3 t (ix3 a b k) = m ((c : Thread nD τ).loc main_arg3) (ix3 a b k) := by
  have e : (((cfg0.win 3).blk t).view.emb (ix3 a b k) : S2x2x1024.Idx) = ix3 a b k := by blk_ext [index3 t]
  show V m c main_arg3 _ = _
  rw [V_main_arg3]
  exact congrArg _ e

/-- Its cosines are those of the rows' positions, -/
theorem iblk4_apply (t : Fin cfg0.N) (r : Fin 512) (d : Fin 128) :
    iblk m c 4 t (ix2 r d) = cosT (512 * tableBlock t + r.val) d := by
  have h : 512 * tableBlock t + r.val < 2560 := by unfold tableBlock; split <;> omega
  have e : (((cfg0.win 4).blk t).view.emb (ix2 r d) : S2560x128.Idx) = ix2 ⟨512 * tableBlock t + r.val, h⟩ d := by blk_ext [index4 t]
  show V m c main_v36 _ = _
  rw [V_main_v36]
  exact (congrArg _ e).trans (cosines_apply _ _)

/-- and so are its sines. -/
theorem iblk5_apply (t : Fin cfg0.N) (r : Fin 512) (d : Fin 128) :
    iblk m c 5 t (ix2 r d) = sinT (512 * tableBlock t + r.val) d := by
  have h : 512 * tableBlock t + r.val < 2560 := by unfold tableBlock; split <;> omega
  have e : (((cfg0.win 5).blk t).view.emb (ix2 r d) : S2560x128.Idx) = ix2 ⟨512 * tableBlock t + r.val, h⟩ d := by blk_ext [index5 t]
  show V m c main_v38 _ = _
  rw [V_main_v38]
  exact (congrArg _ e).trans (sines_apply _ _)

/-- The matrix is the input's: over the extended reals narrowing its entries changes nothing. -/
theorem matrix_entry (k : Fin 1024) (f : Fin 10240) :
    roundW c (V m c main_v2) (ix2 k f) = m ((c : Thread nD τ).loc main_arg4) (ix3 0 k f) := by
  rw [V_main_v2]
  exact matrix_apply _ _ _

/-- Row `r` of point `t` is projected as row `512 t + r` of the input is. -/
theorem rowOf_at (t : Fin cfg0.N) (r : Fin 512) (n : Fin 12288) (hn : n.val = 512 * t.val + r.val) :
    rowOf (iblk m c 0 t) (iblk m c 1 t) (iblk m c 2 t) (roundW c (V m c main_v2)) r
      = Cert.Reference3Ideal.Proj.rowOf (m ((c : Thread nD τ).loc main_arg0)) (m ((c : Thread nD τ).loc main_arg1)) (m ((c : Thread nD τ).loc main_arg2)) (m ((c : Thread nD τ).loc main_arg4)) n := by
  have hs := streamRow_at t r.val n.val r.isLt hn
  unfold rowOf Cert.Reference3Ideal.Proj.rowOf
  exact row_congr (fun k => iblk0_apply m c t r k n hn) (fun k => iblk2_apply m c t 1 k)
    (fun k => iblk1_apply m c t 3 k ⟨streamRow n.val, streamRow_lt n⟩ hs ⟨3072 + k.val, by omega⟩ rfl)
    (fun k => iblk1_apply m c t 4 k ⟨streamRow n.val, streamRow_lt n⟩ hs ⟨4096 + k.val, by omega⟩ rfl) (fun k f => matrix_entry m c k f)

/-- What point `t` computes is rows `512 t` to `512 t + 511` of the first result, -/
theorem blkA_at (t : Fin cfg0.N) (y : S512x8192.Idx) (i : S12288x8192.Idx) (hn : (i 0).val = 512 * t.val + (y 0).val) (hl : (i 1).val = (y 1).val) :
    blkA m c t y = Cert.Reference3Ideal.Proj.outA (F := Ideal) (m ((c : Thread nD τ).loc main_arg0)) (m ((c : Thread nD τ).loc main_arg1)) (m ((c : Thread nD τ).loc main_arg2)) (m ((c : Thread nD τ).loc main_arg4)) i := by
  have e : y = ix2 (y 0) (i 1) := by idx_ext
  have ei : i = ix2 (i 0) (i 1) := by idx_ext
  have hy : (y 0).val < 512 := (y 0).isLt
  have ht := tableRow_at t (y 0).val (i 0).val hy hn
  refine ((congrArg (blkA m c t) e).trans ?_).trans ((Cert.Reference3Ideal.Proj.outA_apply _ _ _ _ (i 0) (i 1)).symm.trans (congrArg _ ei.symm))
  unfold blkA
  exact (acts_apply _ _ _ _ _ _ (y 0) (i 1)).trans (act_congr (rowOf_at m c t (y 0) (i 0) hn)
    (fun d => (iblk4_apply m c t (y 0) d).trans (by rw [ht])) (fun d => (iblk5_apply m c t (y 0) d).trans (by rw [ht])) (i 1))

/-- and of the second. -/
theorem blkG_at (t : Fin cfg0.N) (y : S512x2048.Idx) (i : S12288x2048.Idx) (hn : (i 0).val = 512 * t.val + (y 0).val) (hl : (i 1).val = (y 1).val) :
    blkG m c t y = Cert.Reference3Ideal.Proj.outG (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  have e : y = ix2 (y 0) (i 1) := by idx_ext
  have ei : i = ix2 (i 0) (i 1) := by idx_ext
  refine ((congrArg (blkG m c t) e).trans ?_).trans ((Cert.Reference3Ideal.Proj.outG_apply _ _ _ _ _ (i 0) (i 1)).symm.trans (congrArg _ ei.symm))
  unfold blkG
  exact (gates_apply _ _ _ _ _ (y 0) (i 1)).trans (gate_congr (rowOf_at m c t (y 0) (i 0) hn)
    (fun a b k => iblk3_apply m c t a b k) (i 1))

/-- The first result is the reference's, -/
theorem first_eq : (dats m 0 c).arrAt 6 cfg0.N =
    Cert.Reference3Ideal.Proj.outA (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6]
  refine blkA_at m c t y _ ?_ ?_
  · blk_simp [index6 t]
    show t.val * 512 + (y 0).val = 512 * t.val + (y 0).val
    omega
  · blk_simp [index6 t]

/-- and so is the second. -/
theorem second_eq : (dats m 0 c).arrAt 7 cfg0.N =
    Cert.Reference3Ideal.Proj.outG (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  refine blkG_at m c t y _ ?_ ?_
  · blk_simp [index7 t]
    show t.val * 512 + (y 0).val = 512 * t.val + (y 0).val
    omega
  · blk_simp [index7 t]

end

end Cert.Kernel3Ideal.Proj

end
-- ==== Proof.Merge.Setup.lean ====
/-
What the runs of the kernel's body share: the windows' staging buffers at their blocks, the arguments after a run, the body's
branch conditions in closed form over the grid's points, the staging and scratch buffers, and what is held beside the windows.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.Kernel4Ideal.Frame

@[expose] public section

-- membership in a rectangle of production extents (`View.cover_of_tiled`): the elaborator's structural look
-- recurses once per coordinate of the long axes
set_option maxRecDepth 16384

noncomputable section

namespace Cert.Kernel4Ideal.Merge

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region, and the inputs' buffers -/

set_option maxHeartbeats 800000 in
/-- The program up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's staging buffer holds its block at every point, for any proof data over the arrays the region finds
    whose body leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over the arrays the region finds
    whose body leaves the block in place. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over the arrays the region finds
    whose body leaves the block in place. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data over the arrays the region finds
    whose body leaves the block in place. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data over the arrays the region finds
    whose body leaves the block in place. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data over the arrays the region finds
    whose body leaves the block in place. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data over the arrays the region finds
    whose body leaves the block in place. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data over the arrays the region finds
    whose body leaves the block in place. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- After a run that ends as the pipeline's proof data say, the argument arrays are as launched: some are staged inputs, and no
    window stages the others. -/
theorem kept_args (dats : (p : Fin 1) → (c : Dev nD) → Dat τ (Elt F) Unit ℕ (Pipeline.UD sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 7).trans (((dats 0 c).arrAt_in 7 rfl _).trans ((hA c 7).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩

/-! ## The body's branch conditions -/

/-- The first branch's condition, from the grid coordinates. The second's and the third's are the same. -/
abbrev cond0_0 (i : grid0.Coords) : Prop := k0_cond1 i = 1#1
abbrev cond0_1 (i : grid0.Coords) : Prop := k0_cond3 i = 1#1
abbrev cond0_2 (i : grid0.Coords) : Prop := k0_cond5 i = 1#1
/-- They hold at the first point only. -/
theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, cond0_2 (grid0.coords t) ↔ t.val = 0 :=
  (by decide +kernel : ∀ t : Fin grid0.N, cond0_2 (grid0.coords t) ↔ t.val = 0)

/-- No window is idle at any point: the output's is written at every one. -/
theorem live : ∀ (w : Fin 9) (t : Fin cfg0.N), cfg0.idle w (grid0.coords t) = false :=
  fun _ _ => rfl

/-! ## The staging and scratch buffers -/

/-- Each window's staging buffer at point `t`, as the pipeline passes it, and that it is a whole buffer. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x9x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2
abbrev scM0_3 : Memref sig .tc .vmem S4x512x1024 .f32 := Memref.whole cc0_scoped0
abbrev scM0_4 : Memref sig .tc .vmem S4x512x1024 .f32 := Memref.whole cc0_scoped2
abbrev scM0_5 : Memref sig .tc .vmem S4x512x1024 .f32 := Memref.whole cc0_scoped4
/-- The operands left in HBM that the body copies into scratch itself, whole. -/
abbrev hbM0_0 : Memref sig .tc .hbm S1024x1024 .f32 := Memref.whole main_v1
abbrev hbM0_1 : Memref sig .tc .hbm S1024x1024 .f32 := Memref.whole main_v2
abbrev hbM0_2 : Memref sig .tc .hbm S1024x1024 .f32 := Memref.whole main_v3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 12 → SemLoc sig := fun j => (![SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29] : Fin 12 → SemLoc sig) j
theorem ownSemFacts0 : Pipeline.OwnSemFacts spec0 osem0 := by decide
/-- The cells at zero, listed. -/
def cells (c : Dev nD) : sProp 𝕄 := iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0)
theorem ownSems00_eq (c : Dev nD) :
    (Pipeline.ownSems0 (Ix := Unit) (Name := ℕ) (U := Pipeline.UD sig nD τ) (Lvl := ℕ) (Val := Elt F) (τ := τ) osem0 c : sProp 𝕄) = cells c := by
  unfold cells; rw [Pipeline.ownSems0_eq_of_list c osem0 [0, 1, 2, 3, 4, 5, 6, 7, 8, 9, 10, 11] (by decide) (by decide)]; rfl
/-- The HBM operands the body moves, as references: unscoped, no window's array (`Pipeline.restRefs`). -/
def H0 : Finset (Ref sig .tc) := {main_v1, main_v2, main_v3}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v1) ∗ hbPt0 c hbM0_1 (V m c main_v2) ∗ hbPt0 c hbM0_2 (V m c main_v3)) := by
  rw [BI.bigSep_eq_bigSepL_of_eq [main_v1, main_v2, main_v3] (by decide) (by decide)]; rfl

/-- What is held beside the windows, conjunct by conjunct: the scratch operands owned at some contents, the generator
    register at some state, the own cells at zero, the HBM operands at their launch contents — what the body obligation hands
    the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ cells c ∗ iprop(hbPt0 c hbM0_0 (V m c main_v1) ∗ hbPt0 c hbM0_1 (V m c main_v2) ∗ hbPt0 c hbM0_2 (V m c main_v3))) := by
  rw [Pipeline.ΦD_eq, scopedRest0_eq, ownSems00_eq, hbmPts0_eq]; simp only [scM0_0, scM0_1, scM0_2, scM0_3, scM0_4, scM0_5, owns_whole]; try rfl

end Cert.Kernel4Ideal.Merge

end
-- ==== Proof.Merge.RunA.lean ====
/-
The kernel's body run at the first grid point.
-/
module

public import proofs.«01_k».proof.Proof.Merge.Setup

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's term is large)
set_option maxHeartbeats 3200000 in set_option sl_exec.dmaWindow true in set_option sl_exec.dmaWindowSet true in set_option sl_exec.unrollTrips 2 in
/-- The first grid point: the body copies the three weights into the scratch, each in two halves through the first two slots of its
    staging buffer, and then computes the output's block. The four witnesses are what its stores leave, last first: in the output's
    buffer (`L`) and in each weight's scratch (`L0`, `L1`, `L2`). Everything else is handed back as it was, the staging slots at
    some contents. The slots' contents at the start are parameters, so that the pieces may name them. -/
noncomputable def runA (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg12 : Memref sig .tc .vmem S512x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (alloca_r0 : Memref sig .tc .vmem S4x512x1024 .f32) (halloca_r0 : alloca_r0.IsWhole) (alloca_r1 : Memref sig .tc .vmem S4x512x1024 .f32) (halloca_r1 : alloca_r1.IsWhole) (alloca_r2 : Memref sig .tc .vmem S4x512x1024 .f32) (halloca_r2 : alloca_r2.IsWhole) (hc0 : cond0_0 i) (hc1 : cond0_1 i) (hc2 : cond0_2 i)
    (x0 : Vec F S512x1024 .f32) (x1 : Vec F S1x9x1024 .f32) (x2 : Vec F S512x1024 .bf16) (x3 : Vec F S512x1024 .bf16) (x4 : Vec F S512x1024 .bf16) (x5 : Vec F S512x1024 .bf16) (x6 : Vec F S512x1024 .bf16) (x7 : Vec F S512x1024 .bf16) (fh0 : HbBuf0 (F := F) c hbM0_0) (fh1 : HbBuf0 (F := F) c hbM0_1) (fh2 : HbBuf0 (F := F) c hbM0_2) (z0 : Vec F S4x512x1024 .f32) (z1 : Vec F S4x512x1024 .f32) (z2 : Vec F S4x512x1024 .f32) :
    Σ' (L : List (View.Piece (Elt F) S512x1024 .f32)), Σ' (L0 : List (View.Piece (Elt F) S1024x1024 .bf16)), Σ' (L1 : List (View.Piece (Elt F) S1024x1024 .bf16)), { L2 : List (View.Piece (Elt F) S1024x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) alloca_r0 fullShare z0 ∗ owns (c : Thread nD τ) alloca_r1 fullShare z1 ∗ owns (c : Thread nD τ) alloca_r2 fullShare z2 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg12.view.loc (c : Thread nD τ) ↦[arg12.view.set]{fullShare} arg12.view.writes (Elt F) f L) ∗ (∃ f, arg13.view.loc (c : Thread nD τ) ↦[arg13.view.set]{fullShare} arg13.view.writes (Elt F) f L0) ∗ (∃ f, arg14.view.loc (c : Thread nD τ) ↦[arg14.view.set]{fullShare} arg14.view.writes (Elt F) f L1) ∗ (∃ f, arg15.view.loc (c : Thread nD τ) ↦[arg15.view.set]{fullShare} arg15.view.writes (Elt F) f L2) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_merge i arg1 harg1 arg2 harg2 arg3 harg3 arg4 harg4 arg5 harg5 arg6 harg6 arg7 harg7 arg8 harg8 (Memref.whole main_v1) (Memref.isWhole_whole _) (Memref.whole main_v2) (Memref.isWhole_whole _) (Memref.whole main_v3) (Memref.isWhole_whole _) arg12 harg12 arg13 harg13 arg14 harg14 arg15 harg15 alloca_r0 halloca_r0 cc0_scoped1 alloca_r1 halloca_r1 cc0_scoped3 alloca_r2 halloca_r2 cc0_scoped5) K } := by
  refine ⟨?_, ?_, ?_, ?_, fun W K => ?run⟩
  case run =>
    simp only [cc0_merge_eq_skeleton]; unfold cc0_merge_skel
    simp only [k0_part4_eq_skeleton, k0_part1_eq_skeleton, k0_part2_eq_skeleton, k0_part3_eq_skeleton]
    unfold owns
    iintro ⟨⟨%fH0, %eH0, H0⟩, ⟨%fH1, %eH1, H1⟩, ⟨%fH2, %eH2, H2⟩, ⟨%fH3, %eH3, H3⟩, ⟨%fH4, %eH4, H4⟩, ⟨%fH5, %eH5, H5⟩, ⟨%fH6, %eH6, H6⟩, ⟨%fH7, %eH7, H7⟩, ⟨%dH8, %fH8, -, H8⟩, ⟨%dS0, %fS0, -, S0⟩, ⟨%dS1, %fS1, -, S1⟩, ⟨%dS2, %fS2, -, S2⟩, ⟨%fA0, %eA0, A0⟩, ⟨%fA1, %eA1, A1⟩, ⟨%fA2, %eA2, A2⟩, Hq0, Hq1, Hq2, Hq3, Hq4, Hq5, Hq6, Hq7, Hq8, Hq9, Hq10, Hq11, Hh0, Hh1, Hh2, HW, Hk⟩
    obtain rfl := harg1.eq_unread eH0; obtain rfl := harg2.eq_unread eH1; obtain rfl := harg3.eq_unread eH2; obtain rfl := harg4.eq_unread eH3; obtain rfl := harg5.eq_unread eH4; obtain rfl := harg6.eq_unread eH5; obtain rfl := harg7.eq_unread eH6; obtain rfl := harg8.eq_unread eH7; obtain rfl := halloca_r0.eq_unread eA0; obtain rfl := halloca_r1.eq_unread eA1; obtain rfl := halloca_r2.eq_unread eA2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [S0]; · iexists _; iexact S0
    isplitl [S1]; · iexists _; iexact S1
    isplitl [S2]; · iexists _; iexact S2
    isplitl [A0]
    · iexists _, _; isplitr; swap; · iexact A0
      ipureintro; rfl
    isplitl [A1]
    · iexists _, _; isplitr; swap; · iexact A1
      ipureintro; rfl
    isplitl [A2]
    · iexists _, _; isplitr; swap; · iexact A2
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    iexists _; iexact HW

end Cert.Kernel4Ideal.Merge

end
-- ==== Proof.Merge.RunB.lean ====
/-
The kernel's body run at a later grid point.
-/
module

public import proofs.«01_k».proof.Proof.Merge.Setup

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's term is large)
set_option maxHeartbeats 3200000 in
/-- A later grid point: the body finds the rounded weights in the scratch and computes the output's block from them. The witness
    is what its stores leave in the output's buffer, last first; everything else is handed back as it was. The weights' arrays,
    the staging slots and their semaphores aren't touched. -/
noncomputable def runB (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg12 : Memref sig .tc .vmem S512x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (alloca_r0 : Memref sig .tc .vmem S4x512x1024 .f32) (halloca_r0 : alloca_r0.IsWhole) (alloca_r1 : Memref sig .tc .vmem S4x512x1024 .f32) (halloca_r1 : alloca_r1.IsWhole) (alloca_r2 : Memref sig .tc .vmem S4x512x1024 .f32) (halloca_r2 : alloca_r2.IsWhole) (hc0 : ¬cond0_0 i) (hc1 : ¬cond0_1 i) (hc2 : ¬cond0_2 i)
    (x0 : Vec F S512x1024 .f32) (x1 : Vec F S1x9x1024 .f32) (x2 : Vec F S512x1024 .bf16) (x3 : Vec F S512x1024 .bf16) (x4 : Vec F S512x1024 .bf16) (x5 : Vec F S512x1024 .bf16) (x6 : Vec F S512x1024 .bf16) (x7 : Vec F S512x1024 .bf16) (xs0 : Vec F S1024x1024 .bf16) (xs1 : Vec F S1024x1024 .bf16) (xs2 : Vec F S1024x1024 .bf16) :
    { L : List (View.Piece (Elt F) S512x1024 .f32) //
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg12 fullShare d) ∗ owns (c : Thread nD τ) arg13 fullShare xs0 ∗ owns (c : Thread nD τ) arg14 fullShare xs1 ∗ owns (c : Thread nD τ) arg15 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg12.view.loc (c : Thread nD τ) ↦[arg12.view.set]{fullShare} arg12.view.writes (Elt F) f L) ∗ owns (c : Thread nD τ) arg13 fullShare xs0 ∗ owns (c : Thread nD τ) arg14 fullShare xs1 ∗ owns (c : Thread nD τ) arg15 fullShare xs2) -∗ K ⟨⟩))
          ⊢ wp frame (wpE (defs₀ (F := F)) Variants.none c none) Set.univ (cc0_merge i arg1 harg1 arg2 harg2 arg3 harg3 arg4 harg4 arg5 harg5 arg6 harg6 arg7 harg7 arg8 harg8 (Memref.whole main_v1) (Memref.isWhole_whole _) (Memref.whole main_v2) (Memref.isWhole_whole _) (Memref.whole main_v3) (Memref.isWhole_whole _) arg12 harg12 arg13 harg13 arg14 harg14 arg15 harg15 alloca_r0 halloca_r0 cc0_scoped1 alloca_r1 halloca_r1 cc0_scoped3 alloca_r2 halloca_r2 cc0_scoped5) K } := by
  refine ⟨?_, fun K => ?run⟩
  case run =>
    simp only [cc0_merge_eq_skeleton]; unfold cc0_merge_skel
    simp only [k0_part4_eq_skeleton, k0_part1_eq_skeleton, k0_part2_eq_skeleton, k0_part3_eq_skeleton]
    unfold owns
    iintro ⟨⟨%fH0, %eH0, H0⟩, ⟨%fH1, %eH1, H1⟩, ⟨%fH2, %eH2, H2⟩, ⟨%fH3, %eH3, H3⟩, ⟨%fH4, %eH4, H4⟩, ⟨%fH5, %eH5, H5⟩, ⟨%fH6, %eH6, H6⟩, ⟨%fH7, %eH7, H7⟩, ⟨%dH8, %fH8, -, H8⟩, ⟨%fS0, %eS0, S0⟩, ⟨%fS1, %eS1, S1⟩, ⟨%fS2, %eS2, S2⟩, Hk⟩
    obtain rfl := harg1.eq_unread eH0; obtain rfl := harg2.eq_unread eH1; obtain rfl := harg3.eq_unread eH2; obtain rfl := harg4.eq_unread eH3; obtain rfl := harg5.eq_unread eH4; obtain rfl := harg6.eq_unread eH5; obtain rfl := harg7.eq_unread eH6; obtain rfl := harg8.eq_unread eH7; obtain rfl := harg13.eq_unread eS0; obtain rfl := harg14.eq_unread eS1; obtain rfl := harg15.eq_unread eS2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [S0]
    · iexists _; isplitr; · ipureintro; exact harg13.read_unread _
      iexact S0
    isplitl [S1]
    · iexists _; isplitr; · ipureintro; exact harg14.read_unread _
      iexact S1
    iexists _; isplitr; · ipureintro; exact harg15.read_unread _
    iexact S2

end Cert.Kernel4Ideal.Merge

end
-- ==== Proof.Merge.Value.lean ====
/-
What the kernel's body computes, as functions of what it is given: the output's block from a block of the residual, the
modulation rows, a block of each branch's outputs and gates, and the three weights the scratch holds.
-/
module

public import proofs.«01_k».proof.Proof.Merge.Setup
public import Idealize.ShloMosaic.Lib.VecWindow

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A weight rounded, as the scratch holds it. -/
def castW (W : Vec F S1024x1024 .f32) : Vec F S1024x1024 .bf16 := truncf .bf16 W bitsLt_bf16_f32

/-- The output's block: the two branches' products with their weights, each times its gate, summed and rounded; that times the
    last weight, scaled by the modulation row and added to the residual. -/
def block (i : grid0.Coords) (x : Vec F S512x1024 .f32) (mo : Vec F S1x9x1024 .f32) (oa ob ha hb gr gh : Vec F S512x1024 .bf16)
    (Wr Wh Wo : Vec F S1024x1024 .bf16) : Vec F S512x1024 .f32 :=
  k0_pay1 (k0_pay8 i oa ob ha hb gr Wr gh Wh) Wo x (View.ld mo (Rect.unit ![0, 5, 0] S1x1x1024.size inb_S1x9x1024_S1x1x1024_0_5_0))

end Cert.Kernel4Ideal.Merge

end
-- ==== Proof.Merge.Closed.lean ====
/-
What the runs leave, in closed form: the output's block is the block of the input blocks and of the weights the scratch
holds, and the scratch after the first point is the rounded weights.
-/
module

public import proofs.«01_k».proof.Proof.Merge.RunA
public import proofs.«01_k».proof.Proof.Merge.RunB
public import proofs.«01_k».proof.Proof.Merge.Value
public import proofs.«01_k».proof.Proof.Ffn2.Value
public import proofs.«01_k».proof.Proof.Common.Slots
public import Idealize.ShloMosaic.Lib.VecWindow
public import Idealize.ShloMosaic.Lib.WholeRead
public import Idealize.ShloMosaic.Lib.Pointwise.Reshape

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Ffn2 (ld_all2)

variable {F : FTy → Type} [FloatOps F]

local notation "𝕄" => MT nD τ sig Unit (Elt F) ℕ (Pipeline.UD sig nD τ) ℕ

/-- A load of a whole matrix after stores that cover it, each a part of `G`, is `G`. -/
theorem readCov_all {a b : ℕ} {e : EltTy} {sp : Space} (v : View sig .tc sp ⟨2, ![a, b]⟩ e) (G : (⟨2, ![a, b]⟩ : Shape).Idx → Elt F e)
    (L : List (View.Piece (Elt F) ⟨2, ![a, b]⟩ e)) (hL : ∀ p ∈ L, ∀ x, p.2 x = G (p.1.emb x)) (hc : ∀ y, ∃ p ∈ L, y ∈ p.1.set) (inb) :
    v.readCov L (Rect.unit (s := ⟨2, ![a, b]⟩) ![0, 0] ![a, b] inb).toLoadRect = G := by
  rw [View.readCov_eq_canon_ld v L _ hc, show View.canon L = G from funext fun y => View.canon_apply_of_pieces G L hL y (hc y)]
  exact ld_all2 G inb

section
variable (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg12 : Memref sig .tc .vmem S512x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (alloca_r0 : Memref sig .tc .vmem S4x512x1024 .f32) (halloca_r0 : alloca_r0.IsWhole) (alloca_r1 : Memref sig .tc .vmem S4x512x1024 .f32) (halloca_r1 : alloca_r1.IsWhole) (alloca_r2 : Memref sig .tc .vmem S4x512x1024 .f32) (halloca_r2 : alloca_r2.IsWhole)
  (x0 : Vec F S512x1024 .f32) (x1 : Vec F S1x9x1024 .f32) (x2 x3 x4 x5 x6 x7 : Vec F S512x1024 .bf16) (fh0 : HbBuf0 (F := F) c hbM0_0) (fh1 : HbBuf0 (F := F) c hbM0_1) (fh2 : HbBuf0 (F := F) c hbM0_2)
  (xs0 xs1 xs2 : Vec F S1024x1024 .bf16)

set_option maxHeartbeats 2000000 in
/-- A later point leaves its block in the output's buffer. -/
theorem runB_read (hc0 : ¬cond0_0 i) (hc1 : ¬cond0_1 i) (hc2 : ¬cond0_2 i) (f : arg12.view.ty.Contents (Elt F)) :
    arg12.view.read (Elt F) (arg12.view.writes (Elt F) f (runB c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 hc0 hc1 hc2 x0 x1 x2 x3 x4 x5 x6 x7 xs0 xs1 xs2).1)
      = block i x0 x1 x2 x3 x4 x5 x6 x7 xs0 xs1 xs2 := by
  refine (View.read_writes_full arg12.view f (s := ⟨2, ![512, 1024]⟩) _ _ []).trans ?_
  simp only [runB.sl.r, Cert.Common.readAt_ld]
  repeat rw [ld_all2]
  rfl

variable (z0 z1 z2 : Vec F S4x512x1024 .f32)

set_option maxHeartbeats 1000000 in
/-- Each piece the first point stores into the first weight's scratch is the rounded weight's there, -/
theorem runA_pieces0 (hc0 : cond0_0 i) (hc1 : cond0_1 i) (hc2 : cond0_2 i) :
    ∀ p ∈ (runA c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 hc0 hc1 hc2 x0 x1 x2 x3 x4 x5 x6 x7 fh0 fh1 fh2 z0 z1 z2).2.1, ∀ x, p.2 x = castW fh0 (p.1.emb x) := by
  unfold runA
  simp only [runA.sl.S0_2, List.forall_mem_cons]
  refine ⟨?_, ?_, fun _ h => absurd h List.not_mem_nil⟩
  all_goals
    intro x
    simp (disch := decide) only [k0_pay2, k0_pay5, runA.sl.r, runA.sl.r_1, runA.sl.v81_r0, runA.sl.v81_r0_1,
      Cert.Common.slot_hit, shapeCast_id]
  · rfl
  · exact (congrFun (congrArg (fun w => truncf FTy.bf16 w bitsLt_bf16_f32) ((congrArg (fun w => shapeCast S512x1024 w shapeCasts_S1x512x1024_S512x1024)
      (Cert.Common.slot_miss_unit alloca_r0.view _ _ _ _ _ (.inl (by decide)))).trans (Cert.Common.slot_hit _ _ _ _ _ _))) x).trans rfl

set_option maxHeartbeats 1000000 in
/-- the second's likewise, -/
theorem runA_pieces1 (hc0 : cond0_0 i) (hc1 : cond0_1 i) (hc2 : cond0_2 i) :
    ∀ p ∈ (runA c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 hc0 hc1 hc2 x0 x1 x2 x3 x4 x5 x6 x7 fh0 fh1 fh2 z0 z1 z2).2.2.1, ∀ x, p.2 x = castW fh1 (p.1.emb x) := by
  unfold runA
  simp only [runA.sl.S1_2, List.forall_mem_cons]
  refine ⟨?_, ?_, fun _ h => absurd h List.not_mem_nil⟩
  all_goals
    intro x
    simp (disch := decide) only [k0_pay3, k0_pay6, runA.sl.r_2, runA.sl.r_3, runA.sl.v81_r1, runA.sl.v81_r1_1,
      Cert.Common.slot_hit, shapeCast_id]
  · rfl
  · exact (congrFun (congrArg (fun w => truncf FTy.bf16 w bitsLt_bf16_f32) ((congrArg (fun w => shapeCast S512x1024 w shapeCasts_S1x512x1024_S512x1024)
      (Cert.Common.slot_miss_unit alloca_r1.view _ _ _ _ _ (.inl (by decide)))).trans (Cert.Common.slot_hit _ _ _ _ _ _))) x).trans rfl

set_option maxHeartbeats 1000000 in
/-- and the third's. -/
theorem runA_pieces2 (hc0 : cond0_0 i) (hc1 : cond0_1 i) (hc2 : cond0_2 i) :
    ∀ p ∈ (runA c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 hc0 hc1 hc2 x0 x1 x2 x3 x4 x5 x6 x7 fh0 fh1 fh2 z0 z1 z2).2.2.2.1, ∀ x, p.2 x = castW fh2 (p.1.emb x) := by
  unfold runA
  simp only [runA.sl.S2_2, List.forall_mem_cons]
  refine ⟨?_, ?_, fun _ h => absurd h List.not_mem_nil⟩
  all_goals
    intro x
    simp (disch := decide) only [k0_pay4, k0_pay7, runA.sl.r_4, runA.sl.r_5, runA.sl.v81_r2, runA.sl.v81_r2_1,
      Cert.Common.slot_hit, shapeCast_id]
  · rfl
  · exact (congrFun (congrArg (fun w => truncf FTy.bf16 w bitsLt_bf16_f32) ((congrArg (fun w => shapeCast S512x1024 w shapeCasts_S1x512x1024_S512x1024)
      (Cert.Common.slot_miss_unit alloca_r2.view _ _ _ _ _ (.inl (by decide)))).trans (Cert.Common.slot_hit _ _ _ _ _ _))) x).trans rfl

/-- So after the first point the first scratch holds the rounded first weight, -/
theorem runA_read0 (hc0 : cond0_0 i) (hc1 : cond0_1 i) (hc2 : cond0_2 i) (f : arg13.view.ty.Contents (Elt F)) :
    arg13.view.read (Elt F) (arg13.view.writes (Elt F) f (runA c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 hc0 hc1 hc2 x0 x1 x2 x3 x4 x5 x6 x7 fh0 fh1 fh2 z0 z1 z2).2.1) = castW fh0 :=
  funext fun y' => View.read_writes_apply_of_pieces _ _ _ _ (runA_pieces0 c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 x0 x1 x2 x3 x4 x5 x6 x7 fh0 fh1 fh2 z0 z1 z2 hc0 hc1 hc2) y'
    (View.cover_of_tiledL _ ![512, 1024] (by sl_kernel_rfl) y')

/-- the second the second, -/
theorem runA_read1 (hc0 : cond0_0 i) (hc1 : cond0_1 i) (hc2 : cond0_2 i) (f : arg14.view.ty.Contents (Elt F)) :
    arg14.view.read (Elt F) (arg14.view.writes (Elt F) f (runA c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 hc0 hc1 hc2 x0 x1 x2 x3 x4 x5 x6 x7 fh0 fh1 fh2 z0 z1 z2).2.2.1) = castW fh1 :=
  funext fun y' => View.read_writes_apply_of_pieces _ _ _ _ (runA_pieces1 c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 x0 x1 x2 x3 x4 x5 x6 x7 fh0 fh1 fh2 z0 z1 z2 hc0 hc1 hc2) y'
    (View.cover_of_tiledL _ ![512, 1024] (by sl_kernel_rfl) y')

/-- and the third the third. -/
theorem runA_read2 (hc0 : cond0_0 i) (hc1 : cond0_1 i) (hc2 : cond0_2 i) (f : arg15.view.ty.Contents (Elt F)) :
    arg15.view.read (Elt F) (arg15.view.writes (Elt F) f (runA c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 hc0 hc1 hc2 x0 x1 x2 x3 x4 x5 x6 x7 fh0 fh1 fh2 z0 z1 z2).2.2.2.1) = castW fh2 :=
  funext fun y' => View.read_writes_apply_of_pieces _ _ _ _ (runA_pieces2 c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 x0 x1 x2 x3 x4 x5 x6 x7 fh0 fh1 fh2 z0 z1 z2 hc0 hc1 hc2) y'
    (View.cover_of_tiledL _ ![512, 1024] (by sl_kernel_rfl) y')

set_option maxHeartbeats 4000000 in
/-- The first point leaves its block in the output's buffer, computed from the rounded weights. -/
theorem runA_read (hc0 : cond0_0 i) (hc1 : cond0_1 i) (hc2 : cond0_2 i) (f : arg12.view.ty.Contents (Elt F)) :
    arg12.view.read (Elt F) (arg12.view.writes (Elt F) f (runA c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 hc0 hc1 hc2 x0 x1 x2 x3 x4 x5 x6 x7 fh0 fh1 fh2 z0 z1 z2).1) = block i x0 x1 x2 x3 x4 x5 x6 x7 (castW fh0) (castW fh1) (castW fh2) := by
  refine (View.read_writes_full arg12.view f (s := ⟨2, ![512, 1024]⟩) _ _ []).trans ?_
  simp only [runA.sl.r_6, runA.sl.v18, runA.sl.v23, runA.sl.v29, Cert.Common.readAt_ld]
  rw [readCov_all arg13.view (castW fh0) (runA.sl.S0_2 c i alloca_r0 halloca_r0 hc0 fh0 z0) (runA_pieces0 c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 x0 x1 x2 x3 x4 x5 x6 x7 fh0 fh1 fh2 z0 z1 z2 hc0 hc1 hc2) (View.cover_of_tiledL _ ![512, 1024] (by sl_kernel_rfl)),
    readCov_all arg14.view (castW fh1) (runA.sl.S1_2 c i alloca_r1 halloca_r1 hc1 fh1 z1) (runA_pieces1 c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 x0 x1 x2 x3 x4 x5 x6 x7 fh0 fh1 fh2 z0 z1 z2 hc0 hc1 hc2) (View.cover_of_tiledL _ ![512, 1024] (by sl_kernel_rfl)),
    readCov_all arg15.view (castW fh2) (runA.sl.S2_2 c i alloca_r2 halloca_r2 hc2 fh2 z2) (runA_pieces2 c i arg1 harg1 arg2 harg2 arg3 harg3 arg4 harg4 arg5 harg5 arg6 harg6 arg7 harg7 arg8 harg8 arg12 harg12 arg13 harg13 arg14 harg14 arg15 harg15 alloca_r0 halloca_r0 alloca_r1 halloca_r1 alloca_r2 halloca_r2 x0 x1 x2 x3 x4 x5 x6 x7 fh0 fh1 fh2 z0 z1 z2 hc0 hc1 hc2) (View.cover_of_tiledL _ ![512, 1024] (by sl_kernel_rfl))]
  repeat rw [ld_all2]
  rfl
end

end Cert.Kernel4Ideal.Merge

end
-- ==== Proof.Merge.Frame.lean ====
/-
The kernel's run from its body's: the windows' contents point by point, the body at a generic point, and the whole
program's run, at any values.
-/
module

public import proofs.«01_k».proof.Proof.Merge.Closed
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.Kernel4Ideal.Merge

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- What the body computes at point `t`: the output's block of that point's input blocks and the rounded weights. -/
def blk (c : Dev nD) (t : Fin cfg0.N) : Vec F S512x1024 .f32 :=
  block (grid0.coords t) (iblk m c 0 t) (iblk m c 1 t) (iblk m c 2 t) (iblk m c 3 t) (iblk m c 4 t) (iblk m c 5 t) (iblk m c 6 t) (iblk m c 7 t) (castW (V m c main_v1)) (castW (V m c main_v2)) (castW (V m c main_v3))

/-- What is held beside the windows before position `n`: before the first point the launch's; afterwards the scratch at
    the rounded weights, the staging buffers at anything, and the generator register, the counters at zero and the
    weights' arrays. -/
def PhiS (c : Dev nD) : ℕ → sProp 𝕄
  | 0 => Pipeline.ΦD osem0 spec0 H0 (V m) c
  | n + 1 => iprop((owns (c : Thread nD τ) scM0_0 fullShare (castW (V m c main_v1)) ∗ owns (c : Thread nD τ) scM0_1 fullShare (castW (V m c main_v2)) ∗ owns (c : Thread nD τ) scM0_2 fullShare (castW (V m c main_v3)) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ cells c ∗ (hbPt0 c hbM0_0 (V m c main_v1) ∗ hbPt0 c hbM0_1 (V m c main_v2) ∗ hbPt0 c hbM0_2 (V m c main_v3)))

theorem PhiS_pos (c : Dev nD) (n : ℕ) (hz : n ≠ 0) :
    PhiS m c n = PhiS m c 1 := by
  cases n with
  | zero => exact absurd rfl hz
  | succ n => rfl

/-- The arrays as the region finds them, the inputs' buffers at their blocks and the output's at the point's. The gates' array,
    which two windows read, is shared between them. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blk m c t
  Φ t := PhiS m c t.val
  q := Pipeline.shareOf spec0
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = blk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem leaves0 (c : Dev nD) (t : Fin cfg0.N) :
    (dats m 0 c).leavesExact 0 t = owns (c : Thread nD τ) (ms0_0 t) fullShare (iblk m c 0 t) := by
  unfold Dat.leavesExact; rw [live 0 t, after0_0]
theorem leaves1 (c : Dev nD) (t : Fin cfg0.N) :
    (dats m 0 c).leavesExact 1 t = owns (c : Thread nD τ) (ms0_1 t) fullShare (iblk m c 1 t) := by
  unfold Dat.leavesExact; rw [live 1 t, after0_1]
theorem leaves2 (c : Dev nD) (t : Fin cfg0.N) :
    (dats m 0 c).leavesExact 2 t = owns (c : Thread nD τ) (ms0_2 t) fullShare (iblk m c 2 t) := by
  unfold Dat.leavesExact; rw [live 2 t, after0_2]
theorem leaves3 (c : Dev nD) (t : Fin cfg0.N) :
    (dats m 0 c).leavesExact 3 t = owns (c : Thread nD τ) (ms0_3 t) fullShare (iblk m c 3 t) := by
  unfold Dat.leavesExact; rw [live 3 t, after0_3]
theorem leaves4 (c : Dev nD) (t : Fin cfg0.N) :
    (dats m 0 c).leavesExact 4 t = owns (c : Thread nD τ) (ms0_4 t) fullShare (iblk m c 4 t) := by
  unfold Dat.leavesExact; rw [live 4 t, after0_4]
theorem leaves5 (c : Dev nD) (t : Fin cfg0.N) :
    (dats m 0 c).leavesExact 5 t = owns (c : Thread nD τ) (ms0_5 t) fullShare (iblk m c 5 t) := by
  unfold Dat.leavesExact; rw [live 5 t, after0_5]
theorem leaves6 (c : Dev nD) (t : Fin cfg0.N) :
    (dats m 0 c).leavesExact 6 t = owns (c : Thread nD τ) (ms0_6 t) fullShare (iblk m c 6 t) := by
  unfold Dat.leavesExact; rw [live 6 t, after0_6]
theorem leaves7 (c : Dev nD) (t : Fin cfg0.N) :
    (dats m 0 c).leavesExact 7 t = owns (c : Thread nD τ) (ms0_7 t) fullShare (iblk m c 7 t) := by
  unfold Dat.leavesExact; rw [live 7 t, after0_7]
theorem leaves8 (c : Dev nD) (t : Fin cfg0.N) :
    (dats m 0 c).leavesExact 8 t = owns (c : Thread nD τ) (ms0_8 t) fullShare (blk m c t) := by
  unfold Dat.leavesExact; rw [live 8 t, after0_8]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 6400000 in
/-- The body at any point: the inputs' buffers hold their blocks, the point's case decides which run applies, and the scratch
    holds the rounded weights from the first point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = PhiS m c t.val from rfl, show (dats m 0 c).Φ t.succ = PhiS m c 1 from rfl,
    leaves0, leaves1, leaves2, leaves3, leaves4, leaves5, leaves6, leaves7, leaves8]
  unfold Dat.owesAt Pipeline.owesWithin
  rw [show (dats m 0 c).owed t.castSucc = 0 from rfl, show (dats m 0 c).owed t.succ = 0 from rfl]
  by_cases h0 : t.val = 0
  · rw [h0, show PhiS m c 0 = Pipeline.ΦD osem0 spec0 H0 (V m) c from rfl, PhiD0_eq]
    unfold PhiS cells
    iintro ⟨⟨⟨HS0, HS1, HS2, ⟨%z0, HS3⟩, ⟨%z1, HS4⟩, ⟨%z2, HS5⟩⟩, Hg, ⟨Hq0, Hq1, Hq2, Hq3, Hq4, Hq5, Hq6, Hq7, Hq8, Hq9, Hq10, Hq11⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ _ _ _ _ _ _ _ _ _ _ ((hcond0_0 t).mpr h0) ((hcond0_1 t).mpr h0) ((hcond0_2 t).mpr h0) (iblk m c 0 t) (iblk m c 1 t) (iblk m c 2 t) (iblk m c 3 t) (iblk m c 4 t) (iblk m c 5 t) (iblk m c 6 t) (iblk m c 7 t) (V m c main_v1) (V m c main_v2) (V m c main_v3) z0 z1 z2).2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [HW]; · iexact HW
    iintro ⟨H0, H1, H2, H3, H4, H5, H6, H7, ⟨%e8, H8⟩, ⟨%es0, HS0⟩, ⟨%es1, HS1⟩, ⟨%es2, HS2⟩, HS3, HS4, HS5, Hq0, Hq1, Hq2, Hq3, Hq4, Hq5, Hq6, Hq7, Hq8, Hq9, Hq10, Hq11, Hh0, Hh1, Hh2, ⟨%W', HW'⟩⟩
    isplitl [HS0 HS1 HS2 HS3 HS4 HS5 Hq0 Hq1 Hq2 Hq3 Hq4 Hq5 Hq6 Hq7 Hq8 Hq9 Hq10 Hq11 Hh0 Hh1 Hh2 Hg]
    · isplitl [HS0 HS1 HS2 HS3 HS4 HS5]
      · isplitl [HS0]
        · unfold owns; iexists _; isplitr; swap; · iexact HS0
          ipureintro; exact runA_read0 c _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ z0 z1 z2 _ _ _ _
        isplitl [HS1]
        · unfold owns; iexists _; isplitr; swap; · iexact HS1
          ipureintro; exact runA_read1 c _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ z0 z1 z2 _ _ _ _
        isplitl [HS2]
        · unfold owns; iexists _; isplitr; swap; · iexact HS2
          ipureintro; exact runA_read2 c _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ z0 z1 z2 _ _ _ _
        isplitl [HS3]; · iexact HS3
        isplitl [HS4]; · iexact HS4
        iexact HS5
      isplitl [Hg]; · iexact Hg
      isplitl [Hq0 Hq1 Hq2 Hq3 Hq4 Hq5 Hq6 Hq7 Hq8 Hq9 Hq10 Hq11]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        iexact Hq11
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr; swap; · iexact H8
    ipureintro; exact runA_read c _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ z0 z1 z2 _ _ _ _
  · rw [PhiS_pos m c t.val h0]
    unfold PhiS
    iintro ⟨⟨⟨HS0, HS1, HS2, HS3⟩, HR⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ _ _ _ _ _ _ _ _ _ _ _ _ (fun h => h0 ((hcond0_0 t).mp h)) (fun h => h0 ((hcond0_1 t).mp h)) (fun h => h0 ((hcond0_2 t).mp h)) (iblk m c 0 t) (iblk m c 1 t) (iblk m c 2 t) (iblk m c 3 t) (iblk m c 4 t) (iblk m c 5 t) (iblk m c 6 t) (iblk m c 7 t) (castW (V m c main_v1)) (castW (V m c main_v2)) (castW (V m c main_v3))).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, ⟨%e8, H8⟩, HS0, HS1, HS2⟩
    isplitl [HS0 HS1 HS2 HS3 HR]
    · isplitl [HS0 HS1 HS2 HS3]
      · isplitl [HS0]; · iexact HS0
        isplitl [HS1]; · iexact HS1
        isplitl [HS2]; · iexact HS2
        iexact HS3
      iexact HR
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr; swap; · iexact H8
    ipureintro; exact runB_read c _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is held before the first point, -/
theorem hin (c : Dev nD) : Pipeline.ΦD osem0 spec0 H0 (V m) c ⊢ (dats m 0 c).Φ 0 := .rfl

/-- and what is held after the last point gives it back, the scratch's contents forgotten. -/
theorem hout (c : Dev nD) : (dats m 0 c).Φ (Fin.last cfg0.N) ⊢ Pipeline.ΦD osem0 spec0 H0 (V m) c := by
  rw [show (dats m 0 c).Φ (Fin.last cfg0.N) = PhiS m c cfg0.N from rfl, PhiS_pos m c cfg0.N (by rw [show cfg0.N = 24 from N_0]; omega), PhiD0_eq]
  unfold PhiS
  iintro ⟨⟨HS0, HS1, HS2, HS3⟩, HR⟩
  isplitl [HS0 HS1 HS2 HS3]
  · isplitl [HS0]; · iexists _; iexact HS0
    isplitl [HS1]; · iexists _; iexact HS1
    isplitl [HS2]; · iexists _; iexact HS2
    iexact HS3
  iexact HR

/-! ## The run and the frame -/

-- `θ_run_frame_dma_shared`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

/-- For any values, from any memory with zero counters, every run ends with every array of the pipeline at what the
    proof data give and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => kept_args m (dats m) (A_eq m) r h.1 c, h.2⟩) (run_main_quiescent m ρ)

end Cert.Kernel4Ideal.Merge

end
-- ==== Proof.Common.Merge.lean ====
/-
The layer's merge step on one row, over the extended reals: each branch's output through its weight, times its gate; their sum
through the last weight, scaled by the modulation row and added to the residual.
-/
module

public import Idealize.ShloMosaic.Lib.Pointwise

@[expose] public section

noncomputable section

namespace Cert.Common

/-- The merge step of one row. -/
def mergeRow (x o o' g g' m : Fin 1024 → EReal) (A B C : Fin 1024 → Fin 1024 → EReal) (l : Fin 1024) : EReal :=
  x l + m l * ∑ k : Fin 1024, (g k * ∑ j : Fin 1024, o j * A j k + g' k * ∑ j : Fin 1024, o' j * B j k) * C k l

end Cert.Common

end
-- ==== Proof.Merge.Row.lean ====
/-
The output's block row by row, over the extended reals: each row is the layer's merge step.
-/
module

public import proofs.«01_k».proof.Proof.Merge.Value
public import proofs.«01_k».proof.Proof.Common.Merge

@[expose] public section

set_option maxRecDepth 16384

noncomputable section

namespace Cert.Kernel4Ideal.Merge

open Cert.Kernel4Ideal Cert.Kernel4Ideal.Gen Cert.Common
open Idealize.ShloMosaic

/-- The block of the point's stream: the first stream's at the first eight points, then the second's. -/
def taken {F : FTy → Type} (i : grid0.Coords) (a b : Vec F S512x1024 .bf16) : Vec F S512x1024 .bf16 :=
  Scalar.select (Scalar.cmpi .slt (BitVec.ofNat 32 (i 0).val) 8#32) a b

theorem taken_coords {F : FTy → Type} (t : Fin cfg0.N) (a b : Vec F S512x1024 .bf16) :
    taken (grid0.coords t) a b = if t.val < 8 then a else b := by
  unfold taken
  rw [(by decide +kernel : ∀ t : Fin grid0.N, Scalar.cmpi .slt (BitVec.ofNat 32 ((grid0.coords t) 0).val) 8#32 = if t.val < 8 then 1#1 else 0#1) t]
  split <;> rfl

/-- The two branches' gated sum, an element. -/
theorem sum_apply (i : grid0.Coords) (oa ob ha hb gr gh : Vec Ideal S512x1024 .bf16) (Wr Wh : Vec Ideal S1024x1024 .f32) (r : Fin 512) (k : Fin 1024) :
    k0_pay8 (F := Ideal) i oa ob ha hb gr (castW Wr) gh (castW Wh) (ix2 r k)
      = gr (ix2 r k) * ∑ j : Fin 1024, taken i oa ob (ix2 r j) * Wr (ix2 j k) + gh (ix2 r k) * ∑ j : Fin 1024, taken i ha hb (ix2 r j) * Wh (ix2 j k) := by
  unfold k0_pay8
  rw [← taken, ← taken]
  generalize taken i oa ob = o
  generalize taken i ha hb = o'
  unfold castW
  pointwise

/-- The output's block, an element: the row's merge step. -/
theorem block_apply (i : grid0.Coords) (x : Vec Ideal S512x1024 .f32) (mo : Vec Ideal S1x9x1024 .f32) (oa ob ha hb gr gh : Vec Ideal S512x1024 .bf16)
    (Wr Wh Wo : Vec Ideal S1024x1024 .f32) (r : Fin 512) (l : Fin 1024) :
    block (F := Ideal) i x mo oa ob ha hb gr gh (castW Wr) (castW Wh) (castW Wo) (ix2 r l)
      = mergeRow (fun k => x (ix2 r k)) (fun k => taken i oa ob (ix2 r k)) (fun k => taken i ha hb (ix2 r k)) (fun k => gr (ix2 r k)) (fun k => gh (ix2 r k))
          (fun k => mo (ix3 0 5 k)) (fun j k => Wr (ix2 j k)) (fun j k => Wh (ix2 j k)) (fun k l => Wo (ix2 k l)) l := by
  unfold block mergeRow
  have h := sum_apply i oa ob ha hb gr gh Wr Wh r
  generalize k0_pay8 (F := Ideal) i oa ob ha hb gr (castW Wr) gh (castW Wh) = s at h ⊢
  unfold k0_pay1 castW
  pointwise
  simp only [h]

end Cert.Kernel4Ideal.Merge

end
-- ==== Proof.Merge.Reference.lean ====
/-
The reference's result row by row, over the extended reals: each row is the layer's merge step of that row's entries, with the
modulation row of the row's stream.
-/
module

public import proofs.«01_k».proof.Proof.Gen.Reference4Ideal.Run
public import proofs.«01_k».proof.Proof.Ffn2.Reference
public import proofs.«01_k».proof.Proof.Common.Merge

@[expose] public section

set_option maxRecDepth 16384

noncomputable section

namespace Cert.Reference4Ideal.Merge

open Cert.Reference4Ideal Cert.Reference4Ideal.Gen Cert.Reference4Ideal.Value Cert.Common
open Idealize.ShloMosaic Idealize.ShloMosaic.TcCoe Idealize.SL.Sem

/-- What the merge step makes of row `n`, its branches' outputs `o` and `o'`, with modulation row `b`. -/
def rowOf (X : Vec Ideal S12288x1024 .f32) (M : Vec Ideal S8x9216 .f32) (o o' : Fin 1024 → EReal) (G : Vec Ideal S12288x8192 .bf16)
    (A B C : Vec Ideal S1x1024x1024 .f32) (n : Fin 12288) (b : Fin 8) (l : Fin 1024) : EReal :=
  mergeRow (fun k => X (ix2 n k)) o o' (fun k => G (ix2 n ⟨6144 + k.val, by omega⟩)) (fun k => G (ix2 n ⟨7168 + k.val, by omega⟩))
    (fun k => M (ix2 b ⟨5120 + k.val, by omega⟩)) (fun j k => A (ix3 0 j k)) (fun j k => B (ix3 0 j k)) (fun k l => C (ix3 0 k l)) l

/-- The whole result: the first stream's rows take their branches' outputs from the first stream's arrays, the others from the
    second's. -/
def resultOf (X : Vec Ideal S12288x1024 .f32) (M : Vec Ideal S8x9216 .f32) (Oc : Vec Ideal S4096x1024 .bf16) (Ol : Vec Ideal S8192x1024 .bf16)
    (Hc : Vec Ideal S4096x1024 .bf16) (Hl : Vec Ideal S8192x1024 .bf16) (G : Vec Ideal S12288x8192 .bf16) (A B C : Vec Ideal S1x1024x1024 .f32)
    (i : S12288x1024.Idx) : EReal :=
  if h : (i 0).val < 4096 then
    rowOf X M (fun k => Oc (ix2 ⟨(i 0).val, h⟩ k)) (fun k => Hc (ix2 ⟨(i 0).val, h⟩ k)) G A B C (i 0) 0 (i 1)
  else
    have h' : (i 0).val - 4096 < 8192 := by have : (i 0).val < 12288 := (i 0).isLt; omega
    rowOf X M (fun k => Ol (ix2 ⟨(i 0).val - 4096, h'⟩ k)) (fun k => Hl (ix2 ⟨(i 0).val - 4096, h'⟩ k)) G A B C (i 0)
      ⟨1 + ((i 0).val - 4096) / 2048, by omega⟩ (i 1)

/-! ## The first stream's rows -/

namespace First

open Cert.ReferenceIdeal.Ffn2.First (rows rows_apply mods mods_apply merge_apply)

section
variable {F : FTy → Type} [FloatOps F]

/-- Rows, their batches apart. -/
def spread (y : FVec F S4096x1024 .f32) : FVec F S16x256x1024 .f32 := shapeCast _ y shapeCasts_S4096x1024_S16x256x1024

/-- The first branch's gates, -/
def gateR (G : Vec F S12288x8192 .bf16) : FVec F S16x256x1024 .f32 :=
  spread (extf .f32 (extractStridedSlice S4096x1024 ![0, 0] (extractStridedSlice S12288x1024 ![0, 6144] G slices_S12288x8192_S12288x1024_0_6144) slices_S12288x1024_S4096x1024_0_0) bitsLt_bf16_f32)

/-- and the second's. -/
def gateH (G : Vec F S12288x8192 .bf16) : FVec F S16x256x1024 .f32 :=
  spread (extf .f32 (extractStridedSlice S4096x1024 ![0, 0] (extractStridedSlice S12288x1024 ![0, 7168] G slices_S12288x8192_S12288x1024_0_7168) slices_S12288x1024_S4096x1024_0_0) bitsLt_bf16_f32)

/-- Rows times a weight. -/
def through (y : FVec F S16x256x1024 .f32) (W : Vec F S1x1024x1024 .f32) : FVec F S16x256x1024 .f32 :=
  Host.dotGeneral dot_S16x256x1024_S1024x1024_S16x256x1024_2_0_01_1_n_n none y (shapeCast _ W shapeCasts_S1x1024x1024_S1024x1024)

/-- The step's last part. -/
def stepped (x : FVec F S16x256x1024 .f32) (mo : FVec F S1x1x9216 .f32) (y : FVec F S16x256x1024 .f32) : FVec F S16x256x1024 .f32 :=
  addf x (mulf (broadcastInDim S16x256x1024 ![0, 1, 2] bcast_S1x1x1024_S16x256x1024_0_1_2 (extractStridedSlice S1x1x1024 ![0, 0, 5120] mo slices_S1x1x9216_S1x1x1024_0_0_5120)) y)

/-- The stream's rows of the result. -/
def result (X : Vec F S12288x1024 .f32) (M : Vec F S8x9216 .f32) (O O' : Vec F S4096x1024 .bf16) (G : Vec F S12288x8192 .bf16) (A B C : Vec F S1x1024x1024 .f32) : FVec F S4096x1024 .f32 :=
  shapeCast _ (stepped (rows X) (mods M) (through (addf (mulf (gateR G) (through (spread (extf .f32 O bitsLt_bf16_f32)) A))
    (mulf (gateH G) (through (spread (extf .f32 O' bitsLt_bf16_f32)) B))) C)) shapeCasts_S16x256x1024_S4096x1024

end

theorem spread_apply (y : FVec Ideal S4096x1024 .f32) (p : Fin 16) (q : Fin 256) (l : Fin 1024) :
    spread (F := Ideal) y (ix3 p q l) = y (ix2 ⟨256 * p.val + q.val, by omega⟩ l) := by
  unfold spread
  pointwise
  congr 1
  idx_ext

theorem gateR_apply (G : Vec Ideal S12288x8192 .bf16) (p : Fin 16) (q : Fin 256) (l : Fin 1024) :
    gateR (F := Ideal) G (ix3 p q l) = G (ix2 ⟨0 + (256 * p.val + q.val), by omega⟩ ⟨6144 + l.val, by omega⟩) := by
  unfold gateR
  rw [spread_apply]
  pointwise

theorem gateH_apply (G : Vec Ideal S12288x8192 .bf16) (p : Fin 16) (q : Fin 256) (l : Fin 1024) :
    gateH (F := Ideal) G (ix3 p q l) = G (ix2 ⟨0 + (256 * p.val + q.val), by omega⟩ ⟨7168 + l.val, by omega⟩) := by
  unfold gateH
  rw [spread_apply]
  pointwise

theorem through_apply (y : FVec Ideal S16x256x1024 .f32) (W : Vec Ideal S1x1024x1024 .f32) (p : Fin 16) (q : Fin 256) (l : Fin 1024) :
    through (F := Ideal) y W (ix3 p q l) = ∑ k : Fin 1024, y (ix3 p q k) * W (ix3 0 k l) := by
  unfold through
  pointwise

theorem stepped_apply (x : FVec Ideal S16x256x1024 .f32) (mo : FVec Ideal S1x1x9216 .f32) (y : FVec Ideal S16x256x1024 .f32) (p : Fin 16) (q : Fin 256) (l : Fin 1024) :
    stepped (F := Ideal) x mo y (ix3 p q l) = x (ix3 p q l) + mo (ix3 0 0 ⟨5120 + l.val, by omega⟩) * y (ix3 p q l) := by
  unfold stepped
  pointwise

theorem sum_apply (a b c d : FVec Ideal S16x256x1024 .f32) (p : Fin 16) (q : Fin 256) (l : Fin 1024) :
    addf (F := Ideal) (mulf a b) (mulf c d) (ix3 p q l) = a (ix3 p q l) * b (ix3 p q l) + c (ix3 p q l) * d (ix3 p q l) := by
  pointwise

theorem wide_apply (O : Vec Ideal S4096x1024 .bf16) (n : Fin 4096) (l : Fin 1024) :
    extf (F := Ideal) .f32 O bitsLt_bf16_f32 (ix2 n l) = O (ix2 n l) := rfl

/-- Each is the merge step of the row. -/
theorem result_apply (X : Vec Ideal S12288x1024 .f32) (M : Vec Ideal S8x9216 .f32) (O O' : Vec Ideal S4096x1024 .bf16) (G : Vec Ideal S12288x8192 .bf16)
    (A B C : Vec Ideal S1x1024x1024 .f32) (n : Fin 4096) (l : Fin 1024) :
    result (F := Ideal) X M O O' G A B C (ix2 n l)
      = rowOf X M (fun k => O (ix2 n k)) (fun k => O' (ix2 n k)) G A B C ⟨0 + n.val, by omega⟩ 0 l := by
  have e : 256 * (n.val / 256) + n.val % 256 = n.val := Nat.div_add_mod _ _
  unfold result
  rw [merge_apply]
  unfold rowOf mergeRow
  simp only [stepped_apply, through_apply, sum_apply, spread_apply, wide_apply, gateR_apply, gateH_apply, rows_apply, mods_apply, e]

end First

/-! ## The second stream's rows -/

namespace Second

open Cert.ReferenceIdeal.Ffn2.Second (rows rows_apply mods mods_apply merge_apply)

section
variable {F : FTy → Type} [FloatOps F]

/-- Rows, their batches apart. -/
def spread (y : FVec F S8192x1024 .f32) : FVec F S4x2048x1024 .f32 := shapeCast _ y shapeCasts_S8192x1024_S4x2048x1024

/-- The first branch's gates, -/
def gateR (G : Vec F S12288x8192 .bf16) : FVec F S4x2048x1024 .f32 :=
  spread (extf .f32 (extractStridedSlice S8192x1024 ![4096, 0] (extractStridedSlice S12288x1024 ![0, 6144] G slices_S12288x8192_S12288x1024_0_6144) slices_S12288x1024_S8192x1024_4096_0) bitsLt_bf16_f32)

/-- and the second's. -/
def gateH (G : Vec F S12288x8192 .bf16) : FVec F S4x2048x1024 .f32 :=
  spread (extf .f32 (extractStridedSlice S8192x1024 ![4096, 0] (extractStridedSlice S12288x1024 ![0, 7168] G slices_S12288x8192_S12288x1024_0_7168) slices_S12288x1024_S8192x1024_4096_0) bitsLt_bf16_f32)

/-- Rows times a weight. -/
def through (y : FVec F S4x2048x1024 .f32) (W : Vec F S1x1024x1024 .f32) : FVec F S4x2048x1024 .f32 :=
  Host.dotGeneral dot_S4x2048x1024_S1024x1024_S4x2048x1024_2_0_01_1_n_n none y (shapeCast _ W shapeCasts_S1x1024x1024_S1024x1024)

/-- The step's last part. -/
def stepped (x : FVec F S4x2048x1024 .f32) (mo : FVec F S4x1x9216 .f32) (y : FVec F S4x2048x1024 .f32) : FVec F S4x2048x1024 .f32 :=
  addf x (mulf (broadcastInDim S4x2048x1024 ![0, 1, 2] bcast_S4x1x1024_S4x2048x1024_0_1_2 (extractStridedSlice S4x1x1024 ![0, 0, 5120] mo slices_S4x1x9216_S4x1x1024_0_0_5120)) y)

/-- The stream's rows of the result. -/
def result (X : Vec F S12288x1024 .f32) (M : Vec F S8x9216 .f32) (O O' : Vec F S8192x1024 .bf16) (G : Vec F S12288x8192 .bf16) (A B C : Vec F S1x1024x1024 .f32) : FVec F S8192x1024 .f32 :=
  shapeCast _ (stepped (rows X) (mods M) (through (addf (mulf (gateR G) (through (spread (extf .f32 O bitsLt_bf16_f32)) A))
    (mulf (gateH G) (through (spread (extf .f32 O' bitsLt_bf16_f32)) B))) C)) shapeCasts_S4x2048x1024_S8192x1024

end

theorem spread_apply (y : FVec Ideal S8192x1024 .f32) (p : Fin 4) (q : Fin 2048) (l : Fin 1024) :
    spread (F := Ideal) y (ix3 p q l) = y (ix2 ⟨2048 * p.val + q.val, by omega⟩ l) := by
  unfold spread
  pointwise
  congr 1
  idx_ext

theorem gateR_apply (G : Vec Ideal S12288x8192 .bf16) (p : Fin 4) (q : Fin 2048) (l : Fin 1024) :
    gateR (F := Ideal) G (ix3 p q l) = G (ix2 ⟨4096 + (2048 * p.val + q.val), by omega⟩ ⟨6144 + l.val, by omega⟩) := by
  unfold gateR
  rw [spread_apply]
  pointwise

theorem gateH_apply (G : Vec Ideal S12288x8192 .bf16) (p : Fin 4) (q : Fin 2048) (l : Fin 1024) :
    gateH (F := Ideal) G (ix3 p q l) = G (ix2 ⟨4096 + (2048 * p.val + q.val), by omega⟩ ⟨7168 + l.val, by omega⟩) := by
  unfold gateH
  rw [spread_apply]
  pointwise

theorem through_apply (y : FVec Ideal S4x2048x1024 .f32) (W : Vec Ideal S1x1024x1024 .f32) (p : Fin 4) (q : Fin 2048) (l : Fin 1024) :
    through (F := Ideal) y W (ix3 p q l) = ∑ k : Fin 1024, y (ix3 p q k) * W (ix3 0 k l) := by
  unfold through
  pointwise

theorem stepped_apply (x : FVec Ideal S4x2048x1024 .f32) (mo : FVec Ideal S4x1x9216 .f32) (y : FVec Ideal S4x2048x1024 .f32) (p : Fin 4) (q : Fin 2048) (l : Fin 1024) :
    stepped (F := Ideal) x mo y (ix3 p q l) = x (ix3 p q l) + mo (ix3 p 0 ⟨5120 + l.val, by omega⟩) * y (ix3 p q l) := by
  unfold stepped
  pointwise

theorem sum_apply (a b c d : FVec Ideal S4x2048x1024 .f32) (p : Fin 4) (q : Fin 2048) (l : Fin 1024) :
    addf (F := Ideal) (mulf a b) (mulf c d) (ix3 p q l) = a (ix3 p q l) * b (ix3 p q l) + c (ix3 p q l) * d (ix3 p q l) := by
  pointwise

theorem wide_apply (O : Vec Ideal S8192x1024 .bf16) (n : Fin 8192) (l : Fin 1024) :
    extf (F := Ideal) .f32 O bitsLt_bf16_f32 (ix2 n l) = O (ix2 n l) := rfl

/-- Each is the merge step of the row. -/
theorem result_apply (X : Vec Ideal S12288x1024 .f32) (M : Vec Ideal S8x9216 .f32) (O O' : Vec Ideal S8192x1024 .bf16) (G : Vec Ideal S12288x8192 .bf16)
    (A B C : Vec Ideal S1x1024x1024 .f32) (n : Fin 8192) (l : Fin 1024) :
    result (F := Ideal) X M O O' G A B C (ix2 n l)
      = rowOf X M (fun k => O (ix2 n k)) (fun k => O' (ix2 n k)) G A B C ⟨4096 + n.val, by omega⟩ ⟨1 + n.val / 2048, by omega⟩ l := by
  have e : 2048 * (n.val / 2048) + n.val % 2048 = n.val := Nat.div_add_mod _ _
  unfold result
  rw [merge_apply]
  unfold rowOf mergeRow
  simp only [stepped_apply, through_apply, sum_apply, spread_apply, wide_apply, gateR_apply, gateH_apply, rows_apply, mods_apply, e]

end Second

/-! ## The result -/

/-- The two streams' rows, one after the other. -/
def stacked {F : FTy → Type} [FloatOps F] (X : Vec F S12288x1024 .f32) (M : Vec F S8x9216 .f32) (Oc : Vec F S4096x1024 .bf16) (Ol : Vec F S8192x1024 .bf16)
    (Hc : Vec F S4096x1024 .bf16) (Hl : Vec F S8192x1024 .bf16) (G : Vec F S12288x8192 .bf16) (A B C : Vec F S1x1024x1024 .f32) : FVec F S12288x1024 .f32 :=
  concatenate S12288x1024 0 [⟨S4096x1024, First.result X M Oc Hc G A B C⟩, ⟨S8192x1024, Second.result X M Ol Hl G A B C⟩] concatenates_S4096x1024_S8192x1024_S12288x1024_d0

/-- The run, its result named. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = stacked (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans rfl, (h c).2⟩) (Value.run m ρ)

/-- Two blocks of rows one after the other, a row. -/
theorem concat_apply (x : Vec Ideal S4096x1024 .f32) (y : Vec Ideal S8192x1024 .f32) (n : Fin 12288) (l : Fin 1024) :
    concatenate S12288x1024 0 [⟨S4096x1024, x⟩, ⟨S8192x1024, y⟩] concatenates_S4096x1024_S8192x1024_S12288x1024_d0 (ix2 n l)
      = if h : n.val < 4096 then x (ix2 ⟨n.val, h⟩ l) else y (ix2 ⟨n.val - 4096, by omega⟩ l) := by
  pointwise

/-- The reference's result, from the arguments. -/
theorem stacked_eq (X : Vec Ideal S12288x1024 .f32) (M : Vec Ideal S8x9216 .f32) (Oc : Vec Ideal S4096x1024 .bf16) (Ol : Vec Ideal S8192x1024 .bf16)
    (Hc : Vec Ideal S4096x1024 .bf16) (Hl : Vec Ideal S8192x1024 .bf16) (G : Vec Ideal S12288x8192 .bf16) (A B C : Vec Ideal S1x1024x1024 .f32) :
    stacked X M Oc Ol Hc Hl G A B C = resultOf X M Oc Ol Hc Hl G A B C := by
  funext i
  have e : i = ix2 (i 0) (i 1) := by idx_ext
  unfold stacked
  refine (congrArg _ e).trans ((concat_apply _ _ (i 0) (i 1)).trans ?_)
  unfold resultOf
  split
  · rename_i h
    refine (First.result_apply X M Oc Hc G A B C ⟨(i 0).val, h⟩ (i 1)).trans ?_
    exact congrArg (fun n => rowOf X M _ _ G A B C n 0 (i 1)) (Fin.ext (Nat.zero_add _))
  · rename_i h
    refine (Second.result_apply X M Ol Hl G A B C ⟨(i 0).val - 4096, _⟩ (i 1)).trans ?_
    exact congrArg (fun n => rowOf X M _ _ G A B C n _ (i 1)) (Fin.ext (Nat.add_sub_cancel' (Nat.le_of_not_lt h)))

end Cert.Reference4Ideal.Merge

end
-- ==== Proof.Merge.Blocks.lean ====
/-
The kernel's result row by row, over the extended reals: the blocks the launch reads and writes are rows of the arrays, so each
result row is the layer's merge step of that row.
-/
module

public import proofs.«01_k».proof.Proof.Merge.Frame
public import proofs.«01_k».proof.Proof.Merge.Row
public import proofs.«01_k».proof.Proof.Merge.Reference
public import proofs.«01_k».proof.Proof.Ffn2.Blocks
public import Idealize.ShloMosaic.Lib.Pipeline.ValueKit

@[expose] public section

set_option maxRecDepth 16384

noncomputable section

namespace Cert.Kernel4Ideal.Merge

open Cert.Kernel4Ideal Cert.Kernel4Ideal.Gen Cert.Common
open Idealize.ShloMosaic Idealize.ShloMosaic.TcCoe Idealize.SL Idealize.SL.Sem
open Cert.Reference4Ideal.Merge (rowOf resultOf)
open Cert.KernelIdeal.Ffn2 (split_apply)

/-! ## What the host operations before the launch leave -/

section
variable {F : FTy → Type} [FloatOps F] (m : (ℓ : Loc nD τ sig) → Buf (Elt F) ℓ) (c : Dev nD)

/-- The modulation rows, their nine parts apart. -/
theorem V_main_v0 : V m c main_v0 = shapeCast S8x9x1024 (m ((c : Thread nD τ).loc main_arg1)) shapeCasts_S8x9216_S8x9x1024 := by
  simp only [V, hostOps0]; after_results_simp <;> rfl
/-- The three weights, without their leading axis. -/
theorem V_main_v1 : V m c main_v1 = shapeCast S1024x1024 (m ((c : Thread nD τ).loc main_arg7)) shapeCasts_S1x1024x1024_S1024x1024 := by
  simp only [V, hostOps0]; after_results_simp <;> rfl
theorem V_main_v2 : V m c main_v2 = shapeCast S1024x1024 (m ((c : Thread nD τ).loc main_arg8)) shapeCasts_S1x1024x1024_S1024x1024 := by
  simp only [V, hostOps0]; after_results_simp <;> rfl
theorem V_main_v3 : V m c main_v3 = shapeCast S1024x1024 (m ((c : Thread nD τ).loc main_arg9)) shapeCasts_S1x1024x1024_S1024x1024 := by
  simp only [V, hostOps0]; after_results_simp <;> rfl
end

/-- A weight without its leading axis. -/
theorem weight_apply (W : Vec Ideal S1x1024x1024 .f32) (j k : Fin 1024) :
    shapeCast S1024x1024 W shapeCasts_S1x1024x1024_S1024x1024 (ix2 j k) = W (ix3 0 j k) := by
  pointwise

/-! ## The windows' blocks as parts of the arrays -/

/-- The modulation row point `t` reads: the first for the first stream's eight points, then one for every four. -/
def modRow (t : Fin cfg0.N) : Fin 8 := ⟨if t.val < 8 then 0 else 1 + (t.val - 8) / 4, by have := t.isLt; have : cfg0.N = 24 := rfl; split <;> omega⟩

theorem index0 : ∀ t : Fin cfg0.N, win0_0.index t = ![t.val, 0] := (by decide +kernel : ∀ t : Fin grid0.N, _)
theorem index1 : ∀ t : Fin cfg0.N, win0_1.index t = ![(modRow t).val, 0, 0] := (by decide +kernel : ∀ t : Fin grid0.N, _)
theorem index2 : ∀ t : Fin cfg0.N, win0_2.index t = ![min t.val 7, 0] := (by decide +kernel : ∀ t : Fin grid0.N, _)
theorem index3 : ∀ t : Fin cfg0.N, win0_3.index t = ![t.val - 8, 0] := (by decide +kernel : ∀ t : Fin grid0.N, _)
theorem index4 : ∀ t : Fin cfg0.N, win0_4.index t = ![min t.val 7, 0] := (by decide +kernel : ∀ t : Fin grid0.N, _)
theorem index5 : ∀ t : Fin cfg0.N, win0_5.index t = ![t.val - 8, 0] := (by decide +kernel : ∀ t : Fin grid0.N, _)
theorem index6 : ∀ t : Fin cfg0.N, win0_6.index t = ![t.val, 6] := (by decide +kernel : ∀ t : Fin grid0.N, _)
theorem index7 : ∀ t : Fin cfg0.N, win0_7.index t = ![t.val, 7] := (by decide +kernel : ∀ t : Fin grid0.N, _)
theorem index8 : ∀ t : Fin cfg0.N, win0_8.index t = ![t.val, 0] := (by decide +kernel : ∀ t : Fin grid0.N, _)

/-- A row's step depends on its operands' entries only. -/
theorem row_congr {x x' o o' p p' g g' h h' y y' : Fin 1024 → EReal} {A A' B B' C C' : Fin 1024 → Fin 1024 → EReal}
    (hx : ∀ k, x k = x' k) (ho : ∀ k, o k = o' k) (hp : ∀ k, p k = p' k) (hg : ∀ k, g k = g' k) (hh : ∀ k, h k = h' k) (hy : ∀ k, y k = y' k)
    (hA : ∀ j k, A j k = A' j k) (hB : ∀ j k, B j k = B' j k) (hC : ∀ j k, C j k = C' j k) (l : Fin 1024) :
    mergeRow x o p g h y A B C l = mergeRow x' o' p' g' h' y' A' B' C' l := by
  obtain rfl : x = x' := funext hx
  obtain rfl : o = o' := funext ho
  obtain rfl : p = p' := funext hp
  obtain rfl : g = g' := funext hg
  obtain rfl : h = h' := funext hh
  obtain rfl : y = y' := funext hy
  obtain rfl : A = A' := funext fun j => funext (hA j)
  obtain rfl : B = B' := funext fun j => funext (hB j)
  obtain rfl : C = C' := funext fun j => funext (hC j)
  rfl

section
variable (m : (ℓ : Loc nD τ sig) → Buf (Elt Ideal) ℓ) (c : Dev nD)

/-- Point `t` finds rows `512 t` to `512 t + 511` of the residual, -/
theorem iblk0_apply (t : Fin cfg0.N) (r : Fin 512) (k : Fin 1024) (n : Fin 12288) (hn : n.val = 512 * t.val + r.val) :
    iblk m c 0 t (ix2 r k) = m ((c : Thread nD τ).loc main_arg0) (ix2 n k) := by
  have e : (((cfg0.win 0).blk t).view.emb (ix2 r k) : S12288x1024.Idx) = ix2 n k := by blk_ext [index0 t]
  show V m c main_arg0 _ = _
  rw [V_main_arg0]
  exact congrArg _ e

/-- and modulation row `modRow t`; part `j` of it starts at column `1024 j`. -/
theorem iblk1_apply (t : Fin cfg0.N) (j : Fin 9) (k : Fin 1024) (p : Fin 9216) (hp : p.val = 1024 * j.val + k.val) :
    iblk m c 1 t (ix3 0 j k) = m ((c : Thread nD τ).loc main_arg1) (ix2 (modRow t) p) := by
  have e : (((cfg0.win 1).blk t).view.emb (ix3 0 j k) : S8x9x1024.Idx) = ix3 (modRow t) j k := by blk_ext [index1 t]
  show V m c main_v0 _ = _
  rw [V_main_v0]
  exact (congrArg _ e).trans ((split_apply _ _ _ _).trans (congrArg _ (congrArg (ix2 (modRow t)) (Fin.ext hp.symm))))

/-- A point before the eighth finds those rows of the first branch's output for the first stream, -/
theorem iblk2_apply (t : Fin cfg0.N) (h8 : t.val < 8) (r : Fin 512) (k : Fin 1024) (n : Fin 4096) (hn : n.val = 512 * t.val + r.val) :
    iblk m c 2 t (ix2 r k) = m ((c : Thread nD τ).loc main_arg2) (ix2 n k) := by
  have e : (((cfg0.win 2).blk t).view.emb (ix2 r k) : S4096x1024.Idx) = ix2 n k := by blk_ext [index2 t]
  show V m c main_arg2 _ = _
  rw [V_main_arg2]
  exact congrArg _ e

/-- and of the second branch's; -/
theorem iblk4_apply (t : Fin cfg0.N) (h8 : t.val < 8) (r : Fin 512) (k : Fin 1024) (n : Fin 4096) (hn : n.val = 512 * t.val + r.val) :
    iblk m c 4 t (ix2 r k) = m ((c : Thread nD τ).loc main_arg4) (ix2 n k) := by
  have e : (((cfg0.win 4).blk t).view.emb (ix2 r k) : S4096x1024.Idx) = ix2 n k := by blk_ext [index4 t]
  show V m c main_arg4 _ = _
  rw [V_main_arg4]
  exact congrArg _ e

/-- one from the eighth on finds, of the outputs for the second stream, the rows from `512 (t - 8)`, -/
theorem iblk3_apply (t : Fin cfg0.N) (h8 : 8 ≤ t.val) (r : Fin 512) (k : Fin 1024) (n : Fin 8192) (hn : n.val + 4096 = 512 * t.val + r.val) :
    iblk m c 3 t (ix2 r k) = m ((c : Thread nD τ).loc main_arg3) (ix2 n k) := by
  have e : (((cfg0.win 3).blk t).view.emb (ix2 r k) : S8192x1024.Idx) = ix2 n k := by blk_ext [index3 t]
  show V m c main_arg3 _ = _
  rw [V_main_arg3]
  exact congrArg _ e

/-- for either branch. -/
theorem iblk5_apply (t : Fin cfg0.N) (h8 : 8 ≤ t.val) (r : Fin 512) (k : Fin 1024) (n : Fin 8192) (hn : n.val + 4096 = 512 * t.val + r.val) :
    iblk m c 5 t (ix2 r k) = m ((c : Thread nD τ).loc main_arg5) (ix2 n k) := by
  have e : (((cfg0.win 5).blk t).view.emb (ix2 r k) : S8192x1024.Idx) = ix2 n k := by blk_ext [index5 t]
  show V m c main_arg5 _ = _
  rw [V_main_arg5]
  exact congrArg _ e

/-- The first branch's gates are the columns from 6144, -/
theorem iblk6_apply (t : Fin cfg0.N) (r : Fin 512) (k : Fin 1024) (n : Fin 12288) (hn : n.val = 512 * t.val + r.val) :
    iblk m c 6 t (ix2 r k) = m ((c : Thread nD τ).loc main_arg6) (ix2 n ⟨6144 + k.val, by omega⟩) := by
  have e : (((cfg0.win 6).blk t).view.emb (ix2 r k) : S12288x8192.Idx) = ix2 n ⟨6144 + k.val, by omega⟩ := by blk_ext [index6 t]
  show V m c main_arg6 _ = _
  rw [V_main_arg6]
  exact congrArg _ e

/-- the second's those from 7168. -/
theorem iblk7_apply (t : Fin cfg0.N) (r : Fin 512) (k : Fin 1024) (n : Fin 12288) (hn : n.val = 512 * t.val + r.val) :
    iblk m c 7 t (ix2 r k) = m ((c : Thread nD τ).loc main_arg6) (ix2 n ⟨7168 + k.val, by omega⟩) := by
  have e : (((cfg0.win 7).blk t).view.emb (ix2 r k) : S12288x8192.Idx) = ix2 n ⟨7168 + k.val, by omega⟩ := by blk_ext [index7 t]
  show V m c main_arg6 _ = _
  rw [V_main_arg6]
  exact congrArg _ e

/-- The weights are the inputs'. -/
theorem V1_apply (j k : Fin 1024) : V m c main_v1 (ix2 j k) = m ((c : Thread nD τ).loc main_arg7) (ix3 0 j k) := by
  rw [V_main_v1]
  exact weight_apply _ _ _
theorem V2_apply (j k : Fin 1024) : V m c main_v2 (ix2 j k) = m ((c : Thread nD τ).loc main_arg8) (ix3 0 j k) := by
  rw [V_main_v2]
  exact weight_apply _ _ _
theorem V3_apply (j k : Fin 1024) : V m c main_v3 (ix2 j k) = m ((c : Thread nD τ).loc main_arg9) (ix3 0 j k) := by
  rw [V_main_v3]
  exact weight_apply _ _ _

/-- Row `r` of what point `t` computes is the step of row `n`, from the branches' outputs the point takes. -/
theorem blk_apply (t : Fin cfg0.N) (r : Fin 512) (l : Fin 1024) (n : Fin 12288) (hn : n.val = 512 * t.val + r.val) (o p : Fin 1024 → EReal) (b : Fin 8) (hb : modRow t = b)
    (ho : ∀ k, taken (grid0.coords t) (iblk m c 2 t) (iblk m c 3 t) (ix2 r k) = o k) (hp : ∀ k, taken (grid0.coords t) (iblk m c 4 t) (iblk m c 5 t) (ix2 r k) = p k) :
    blk m c t (ix2 r l) = rowOf (m ((c : Thread nD τ).loc main_arg0)) (m ((c : Thread nD τ).loc main_arg1)) o p (m ((c : Thread nD τ).loc main_arg6)) (m ((c : Thread nD τ).loc main_arg7)) (m ((c : Thread nD τ).loc main_arg8)) (m ((c : Thread nD τ).loc main_arg9)) n b l := by
  subst hb
  unfold blk rowOf
  exact (block_apply _ _ _ _ _ _ _ _ _ _ _ _ r l).trans (row_congr (fun k => iblk0_apply m c t r k n hn) ho hp (fun k => iblk6_apply m c t r k n hn)
    (fun k => iblk7_apply m c t r k n hn) (fun k => iblk1_apply m c t 5 k _ rfl) (V1_apply m c) (V2_apply m c) (V3_apply m c) l)

/-- What point `t` computes is rows `512 t` to `512 t + 511` of the result. -/
theorem blk_at (t : Fin cfg0.N) (y : S512x1024.Idx) (i : S12288x1024.Idx) (hn : (i 0).val = 512 * t.val + (y 0).val) (hl : (i 1).val = (y 1).val) :
    blk m c t y = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i := by
  have e : y = ix2 (y 0) (i 1) := by idx_ext
  have hy : (y 0).val < 512 := (y 0).isLt
  refine (congrArg (blk m c t) e).trans ?_
  unfold resultOf
  split
  · rename_i h
    have h8 : t.val < 8 := by omega
    refine blk_apply m c t (y 0) (i 1) (i 0) hn _ _ 0 (Fin.ext (if_pos h8)) (fun k => ?_) (fun k => ?_)
    · rw [taken_coords, if_pos h8]
      exact iblk2_apply m c t h8 (y 0) k ⟨(i 0).val, h⟩ hn
    · rw [taken_coords, if_pos h8]
      exact iblk4_apply m c t h8 (y 0) k ⟨(i 0).val, h⟩ hn
  · rename_i h
    have h8 : 8 ≤ t.val := by omega
    have hn' : (i 0).val - 4096 + 4096 = 512 * t.val + (y 0).val := by omega
    refine blk_apply m c t (y 0) (i 1) (i 0) hn _ _ _ (Fin.ext ((if_neg (by omega)).trans (by show 1 + (t.val - 8) / 4 = 1 + ((i 0).val - 4096) / 2048; omega))) (fun k => ?_) (fun k => ?_)
    · rw [taken_coords, if_neg (by omega)]
      exact iblk3_apply m c t h8 (y 0) k ⟨(i 0).val - 4096, _⟩ hn'
    · rw [taken_coords, if_neg (by omega)]
      exact iblk5_apply m c t h8 (y 0) k ⟨(i 0).val - 4096, _⟩ hn'

/-- The result: every row is the merge step of that row. -/
theorem result_eq : (dats m 0 c).arrAt 8 cfg0.N = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 8 _ (by decide +kernel) fun t hf y => ?_
  blk_simp
  rw [after0_8]
  refine blk_at m c t y _ ?_ ?_
  · blk_simp [index8 t]
    show t.val * 512 + (y 0).val = 512 * t.val + (y 0).val
    omega
  · blk_simp [index8 t]

end

end Cert.Kernel4Ideal.Merge

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ffn2.Blocks
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Ffn1.Blocks
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Proj.Blocks
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Merge.Blocks
public import Idealize.ShloMosaic.Lib.Quiescent

@[expose] public section

set_option maxRecDepth 16384

noncomputable section

namespace Cert.Proof

open Idealize.ShloMosaic Idealize.SL.Sem

/-- The kernel's body table is the idealized kernel's: the same body. -/
theorem bodies_eq : Cert.Kernel.defs₀ (F := Bits) = Cert.KernelIdeal.defs₀ (F := Bits) :=
  congrArg Defs.onTc (funext fun l => funext fun a => match l, a with
    | 0, (_, _) => rfl
    | ⟨_ + 1, h⟩, _ => absurd h (Nat.not_lt.2 (Nat.le_add_left _ _)))

/-- So is its whole table. -/
theorem tables_eq : Cert.Kernel.defs (F := Bits) = Cert.KernelIdeal.defs (F := Bits) :=
  congrArg (Pipeline.defs (Cert.KernelIdeal.pcfgs (F := Bits))) bodies_eq

/-- The kernel runs, its arguments unchanged and its counters at zero: the idealized program is the same text, and its
run is proved at any float values. -/
theorem frame_kernel : Cert.quiescent_Kernel := fun m ρ _ => by
  rw [tables_eq]
  exact Cert.KernelIdeal.Ffn2.frame (F := Bits) m ρ

/-- So does the idealized kernel. -/
theorem frame_ideal : Cert.quiescent_KernelIdeal := fun m ρ _ => Cert.KernelIdeal.Ffn2.frame m ρ

/-- And the reference, which has no semaphore. -/
theorem frame_reference : Cert.quiescent_ReferenceIdeal := fun m ρ _ =>
  (θ_run Cert.ReferenceIdeal.defs _ _).mono
    (fun r h => ⟨fun c => (h c).2.2, sem_eq_zero_of_no_sems rfl r.2⟩) (Cert.ReferenceIdeal.Value.run m ρ)

/-- The reference's first result, from the arguments. -/
theorem reference_first (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v66 m c = fun i : Cert.ReferenceIdeal.S4096x1024.Idx =>
      Cert.ReferenceIdeal.Ffn2.rowOf (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        ⟨0 + (i 0).val, by have : (i 0).val < 4096 := (i 0).isLt; omega⟩ 0 (i 1) := by
  funext i
  have e : i = ix2 (i 0) (i 1) := by idx_ext
  exact (congrArg _ e).trans (Cert.ReferenceIdeal.Ffn2.First.result_apply m c (i 0) (i 1))

/-- The reference's second result, from the arguments. -/
theorem reference_second (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v123 m c = fun i : Cert.ReferenceIdeal.S8192x1024.Idx =>
      Cert.ReferenceIdeal.Ffn2.rowOf (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        ⟨4096 + (i 0).val, by have : (i 0).val < 8192 := (i 0).isLt; omega⟩ ⟨1 + (i 0).val / 2048, by have : (i 0).val < 8192 := (i 0).isLt; omega⟩ (i 1) := by
  funext i
  have e : i = ix2 (i 0) (i 1) := by idx_ext
  exact (congrArg _ e).trans (Cert.ReferenceIdeal.Ffn2.Second.result_apply m c (i 0) (i 1))

/-- From equal arguments, kernel and reference end with equal results. -/
theorem results_agree : Cert.algebraic_KernelIdeal_ReferenceIdeal := fun m g m' g' _ hargs => by
  refine ⟨fun c => (Cert.KernelIdeal.Ffn2.dats m 0 c).arrAt 4 Cert.KernelIdeal.cfg0.N, fun c => (Cert.KernelIdeal.Ffn2.dats m 0 c).arrAt 5 Cert.KernelIdeal.cfg0.N, ?_, ?_⟩
  · exact (θ_run Cert.KernelIdeal.defs _ _).mono
      (fun r h c => ⟨(h c).1 4, (h c).1 5, Cert.KernelIdeal.Ffn2.kept_args m (Cert.KernelIdeal.Ffn2.dats m) (Cert.KernelIdeal.Ffn2.A_eq m) r h c⟩)
      (Cert.KernelIdeal.Ffn2.run_main m g)
  · refine (θ_run Cert.ReferenceIdeal.defs _ _).mono (fun r h c => ⟨(h c).1.trans ?_, (h c).2.1.trans ?_, (h c).2.2⟩) (Cert.ReferenceIdeal.Value.run m' g')
    · obtain ⟨h0, h1, h2, h3, h4, h5⟩ := hargs c
      refine (reference_first m' c).trans (Eq.trans ?_ (Cert.KernelIdeal.Ffn2.first_eq m c).symm)
      funext i
      rw [h0, h1, h2, h3, h4, h5]
    · obtain ⟨h0, h1, h2, h3, h4, h5⟩ := hargs c
      refine (reference_second m' c).trans (Eq.trans ?_ (Cert.KernelIdeal.Ffn2.second_eq m c).symm)
      funext i
      rw [h0, h1, h2, h3, h4, h5]

/-! ## The other feed-forward call -/

/-- Its body table is the idealized kernel's: the same body. -/
theorem bodies_eq2 : Cert.Kernel2.defs₀ (F := Bits) = Cert.Kernel2Ideal.defs₀ (F := Bits) :=
  congrArg Defs.onTc (funext fun l => funext fun a => match l, a with
    | 0, (_, _) => rfl
    | ⟨_ + 1, h⟩, _ => absurd h (Nat.not_lt.2 (Nat.le_add_left _ _)))

/-- So is its whole table. -/
theorem tables_eq2 : Cert.Kernel2.defs (F := Bits) = Cert.Kernel2Ideal.defs (F := Bits) :=
  congrArg (Pipeline.defs (Cert.Kernel2Ideal.pcfgs (F := Bits))) bodies_eq2

/-- The kernel runs, its arguments unchanged and its counters at zero. -/
theorem frame_kernel2 : Cert.quiescent_Kernel2 := fun m ρ _ => by
  rw [tables_eq2]
  exact Cert.Kernel2Ideal.Ffn1.frame (F := Bits) m ρ

/-- So does the idealized kernel. -/
theorem frame_ideal2 : Cert.quiescent_Kernel2Ideal := fun m ρ _ => Cert.Kernel2Ideal.Ffn1.frame m ρ

/-- And the reference, which has no semaphore. -/
theorem frame_reference2 : Cert.quiescent_Reference2Ideal := fun m ρ _ =>
  (θ_run Cert.Reference2Ideal.defs _ _).mono
    (fun r h => ⟨fun c => (h c).2, sem_eq_zero_of_no_sems rfl r.2⟩) (Cert.Reference2Ideal.Value.run m ρ)

/-- From equal arguments, kernel and reference end with equal results. -/
theorem results_agree2 : Cert.algebraic_Kernel2Ideal_Reference2Ideal := fun m g m' g' _ hargs => by
  refine ⟨fun c => (Cert.Kernel2Ideal.Ffn1.dats m 0 c).arrAt 5 Cert.Kernel2Ideal.cfg0.N, ?_, ?_⟩
  · exact (θ_run Cert.Kernel2Ideal.defs _ _).mono
      (fun r h c => ⟨(h c).1 5, Cert.Kernel2Ideal.Ffn1.kept_args m (Cert.Kernel2Ideal.Ffn1.dats m) r h c⟩)
      (Cert.Kernel2Ideal.Ffn1.run_main m g)
  · refine (θ_run Cert.Reference2Ideal.defs _ _).mono (fun r h c => ⟨(h c).1.trans ?_, (h c).2⟩) (Cert.Reference2Ideal.Value.run m' g')
    obtain ⟨h0, h1, h2, h3, h4, h5, h6⟩ := hargs c
    refine (Cert.Reference2Ideal.Ffn1.result m' c).trans (Eq.trans ?_ (Cert.Kernel2Ideal.Ffn1.result_eq m c).symm)
    rw [h0, h1, h2, h3, h4, h5]

/-! ## The projection call -/

/-- Its body table is the idealized kernel's: the same body. -/
theorem bodies_eq3 : Cert.Kernel3.defs₀ (F := Bits) = Cert.Kernel3Ideal.defs₀ (F := Bits) :=
  congrArg Defs.onTc (funext fun l => funext fun a => match l, a with
    | 0, (_, _) => rfl
    | ⟨_ + 1, h⟩, _ => absurd h (Nat.not_lt.2 (Nat.le_add_left _ _)))

/-- So is its whole table. -/
theorem tables_eq3 : Cert.Kernel3.defs (F := Bits) = Cert.Kernel3Ideal.defs (F := Bits) :=
  congrArg (Pipeline.defs (Cert.Kernel3Ideal.pcfgs (F := Bits))) bodies_eq3

/-- And its host program: the same operations. -/
theorem mains_eq3 : Cert.Kernel3.main (F := Bits) = Cert.Kernel3Ideal.main (F := Bits) := by
  unfold Cert.Kernel3.main Cert.Kernel3Ideal.main
  rfl

/-- The kernel runs, its arguments unchanged and its counters at zero. -/
theorem frame_kernel3 : Cert.quiescent_Kernel3 := fun m ρ _ => by
  rw [tables_eq3, mains_eq3]
  exact Cert.Kernel3Ideal.Proj.frame (F := Bits) m ρ

/-- So does the idealized kernel. -/
theorem frame_ideal3 : Cert.quiescent_Kernel3Ideal := fun m ρ _ => Cert.Kernel3Ideal.Proj.frame m ρ

/-- And the reference, which has no semaphore. -/
theorem frame_reference3 : Cert.quiescent_Reference3Ideal := fun m ρ _ =>
  (θ_run Cert.Reference3Ideal.defs _ _).mono
    (fun r h => ⟨fun c => (h c).2.2, sem_eq_zero_of_no_sems rfl r.2⟩) (Cert.Reference3Ideal.Value.run m ρ)

/-- From equal arguments, kernel and reference end with equal results. -/
theorem results_agree3 : Cert.algebraic_Kernel3Ideal_Reference3Ideal := fun m g m' g' _ hargs => by
  refine ⟨fun c => (Cert.Kernel3Ideal.Proj.dats m 0 c).arrAt 6 Cert.Kernel3Ideal.cfg0.N, fun c => (Cert.Kernel3Ideal.Proj.dats m 0 c).arrAt 7 Cert.Kernel3Ideal.cfg0.N, ?_, ?_⟩
  · exact (θ_run Cert.Kernel3Ideal.defs _ _).mono
      (fun r h c => ⟨(h c).1 6, (h c).1 7, Cert.Kernel3Ideal.Proj.kept_args m (Cert.Kernel3Ideal.Proj.dats m) (Cert.Kernel3Ideal.Proj.A_eq m) r h c⟩)
      (Cert.Kernel3Ideal.Proj.run_main m g)
  · refine (θ_run Cert.Reference3Ideal.defs _ _).mono (fun r h c => ⟨(h c).1.trans ?_, (h c).2.1.trans ?_, (h c).2.2⟩) (Cert.Reference3Ideal.Proj.run m' g')
    · obtain ⟨h0, h1, h2, h3, h4⟩ := hargs c
      refine Eq.trans ?_ (Cert.Kernel3Ideal.Proj.first_eq m c).symm
      rw [h0, h1, h2, h4]
    · obtain ⟨h0, h1, h2, h3, h4⟩ := hargs c
      refine Eq.trans ?_ (Cert.Kernel3Ideal.Proj.second_eq m c).symm
      rw [h0, h1, h2, h3, h4]

/-! ## The merge call -/

/-- Its body table is the idealized kernel's: the same body. -/
theorem bodies_eq4 : Cert.Kernel4.defs₀ (F := Bits) = Cert.Kernel4Ideal.defs₀ (F := Bits) :=
  congrArg Defs.onTc (funext fun l => funext fun a => match l, a with
    | 0, (_, _) => rfl
    | ⟨_ + 1, h⟩, _ => absurd h (Nat.not_lt.2 (Nat.le_add_left _ _)))

/-- So is its whole table. -/
theorem tables_eq4 : Cert.Kernel4.defs (F := Bits) = Cert.Kernel4Ideal.defs (F := Bits) :=
  congrArg (Pipeline.defs (Cert.Kernel4Ideal.pcfgs (F := Bits))) bodies_eq4

/-- And its host program: the same operations. -/
theorem mains_eq4 : Cert.Kernel4.main (F := Bits) = Cert.Kernel4Ideal.main (F := Bits) := by
  unfold Cert.Kernel4.main Cert.Kernel4Ideal.main
  rfl

/-- The kernel runs, its arguments unchanged and its counters at zero. -/
theorem frame_kernel4 : Cert.quiescent_Kernel4 := fun m ρ _ => by
  rw [tables_eq4, mains_eq4]
  exact Cert.Kernel4Ideal.Merge.frame (F := Bits) m ρ

/-- So does the idealized kernel. -/
theorem frame_ideal4 : Cert.quiescent_Kernel4Ideal := fun m ρ _ => Cert.Kernel4Ideal.Merge.frame m ρ

/-- And the reference, which has no semaphore. -/
theorem frame_reference4 : Cert.quiescent_Reference4Ideal := fun m ρ _ =>
  (θ_run Cert.Reference4Ideal.defs _ _).mono
    (fun r h => ⟨fun c => (h c).2, sem_eq_zero_of_no_sems rfl r.2⟩) (Cert.Reference4Ideal.Value.run m ρ)

/-- From equal arguments, kernel and reference end with equal results. -/
theorem results_agree4 : Cert.algebraic_Kernel4Ideal_Reference4Ideal := fun m g m' g' _ hargs => by
  refine ⟨fun c => (Cert.Kernel4Ideal.Merge.dats m 0 c).arrAt 8 Cert.Kernel4Ideal.cfg0.N, ?_, ?_⟩
  · exact (θ_run Cert.Kernel4Ideal.defs _ _).mono
      (fun r h c => ⟨(h c).1 8, Cert.Kernel4Ideal.Merge.kept_args m (Cert.Kernel4Ideal.Merge.dats m) (Cert.Kernel4Ideal.Merge.A_eq m) r h c⟩)
      (Cert.Kernel4Ideal.Merge.run_main m g)
  · refine (θ_run Cert.Reference4Ideal.defs _ _).mono (fun r h c => ⟨(h c).1.trans ?_, (h c).2⟩) (Cert.Reference4Ideal.Merge.run m' g')
    obtain ⟨h0, h1, h2, h3, h4, h5, h6, h7, h8, h9⟩ := hargs c
    refine (Cert.Reference4Ideal.Merge.stacked_eq _ _ _ _ _ _ _ _ _ _).trans (Eq.trans ?_ (Cert.Kernel4Ideal.Merge.result_eq m c).symm)
    rw [h0, h1, h2, h3, h4, h5, h6, h7, h8, h9]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  frame_kernel, frame_ideal, frame_reference, frame_kernel2, frame_ideal2, frame_reference2,
  frame_kernel3, frame_ideal3, frame_reference3, frame_kernel4, frame_ideal4, frame_reference4,
  trivial, results_agree, trivial, results_agree2, trivial, results_agree3, trivial, results_agree4⟩

end Cert.Proof

end
